-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v50)) (v1 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_v53) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v21_7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v31) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v15)) (v1 : (c : Dev Cert.Kernel3Ideal.nD) → Buf (Elt Ideal) ((c.tc : Thread Cert.Kernel3Ideal.nD Cert.Kernel3Ideal.τ).loc Cert.Kernel3Ideal.main_v16)) (v2 : (c : Dev Cert.Kernel3Ideal.nD) → Buf (Elt Ideal) ((c.tc : Thread Cert.Kernel3Ideal.nD Cert.Kernel3Ideal.τ).loc Cert.Kernel3Ideal.main_v18)) (v3 : (c : Dev Cert.Kernel3Ideal.nD) → Buf (Elt Ideal) ((c.tc : Thread Cert.Kernel3Ideal.nD Cert.Kernel3Ideal.τ).loc Cert.Kernel3Ideal.main_v19)) (v4 : (c : Dev Cert.Kernel3Ideal.nD) → Buf (Elt Ideal) ((c.tc : Thread Cert.Kernel3Ideal.nD Cert.Kernel3Ideal.τ).loc Cert.Kernel3Ideal.main_v20)) (v5 : (c : Dev Cert.Kernel3Ideal.nD) → Buf (Elt Ideal) ((c.tc : Thread Cert.Kernel3Ideal.nD Cert.Kernel3Ideal.τ).loc Cert.Kernel3Ideal.main_v21)) (v6 : (c : Dev Cert.Kernel3Ideal.nD) → Buf (Elt Ideal) ((c.tc : Thread Cert.Kernel3Ideal.nD Cert.Kernel3Ideal.τ).loc Cert.Kernel3Ideal.main_v22)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v15) = v0 c
          ∧ r.2.mem ((c.tc : Thread Cert.Kernel3Ideal.nD Cert.Kernel3Ideal.τ).loc Cert.Kernel3Ideal.main_v16) = v1 c
          ∧ r.2.mem ((c.tc : Thread Cert.Kernel3Ideal.nD Cert.Kernel3Ideal.τ).loc Cert.Kernel3Ideal.main_v18) = v2 c
          ∧ r.2.mem ((c.tc : Thread Cert.Kernel3Ideal.nD Cert.Kernel3Ideal.τ).loc Cert.Kernel3Ideal.main_v19) = v3 c
          ∧ r.2.mem ((c.tc : Thread Cert.Kernel3Ideal.nD Cert.Kernel3Ideal.τ).loc Cert.Kernel3Ideal.main_v20) = v4 c
          ∧ r.2.mem ((c.tc : Thread Cert.Kernel3Ideal.nD Cert.Kernel3Ideal.τ).loc Cert.Kernel3Ideal.main_v21) = v5 c
          ∧ r.2.mem ((c.tc : Thread Cert.Kernel3Ideal.nD Cert.Kernel3Ideal.τ).loc Cert.Kernel3Ideal.main_v22) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_v20) = v1 c
          ∧ r.2.mem ((c.tc : Thread Cert.Reference3Ideal.nD Cert.Reference3Ideal.τ).loc Cert.Reference3Ideal.main_v23) = v2 c
          ∧ r.2.mem ((c.tc : Thread Cert.Reference3Ideal.nD Cert.Reference3Ideal.τ).loc Cert.Reference3Ideal.main_v24) = v3 c
          ∧ r.2.mem ((c.tc : Thread Cert.Reference3Ideal.nD Cert.Reference3Ideal.τ).loc Cert.Reference3Ideal.main_v25) = v4 c
          ∧ r.2.mem ((c.tc : Thread Cert.Reference3Ideal.nD Cert.Reference3Ideal.τ).loc Cert.Reference3Ideal.main_v26) = v5 c
          ∧ r.2.mem ((c.tc : Thread Cert.Reference3Ideal.nD Cert.Reference3Ideal.τ).loc Cert.Reference3Ideal.main_v27) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v7)) (v1 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_v8) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_v28) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v17)) (v1 : (c : Dev Cert.Kernel5Ideal.nD) → Buf (Elt Ideal) ((c.tc : Thread Cert.Kernel5Ideal.nD Cert.Kernel5Ideal.τ).loc Cert.Kernel5Ideal.main_v18)) (v2 : (c : Dev Cert.Kernel5Ideal.nD) → Buf (Elt Ideal) ((c.tc : Thread Cert.Kernel5Ideal.nD Cert.Kernel5Ideal.τ).loc Cert.Kernel5Ideal.main_v16)) (v3 : (c : Dev Cert.Kernel5Ideal.nD) → Buf (Elt Ideal) ((c.tc : Thread Cert.Kernel5Ideal.nD Cert.Kernel5Ideal.τ).loc Cert.Kernel5Ideal.main_v19)) (v4 : (c : Dev Cert.Kernel5Ideal.nD) → Buf (Elt Ideal) ((c.tc : Thread Cert.Kernel5Ideal.nD Cert.Kernel5Ideal.τ).loc Cert.Kernel5Ideal.main_v20)) (v5 : (c : Dev Cert.Kernel5Ideal.nD) → Buf (Elt Ideal) ((c.tc : Thread Cert.Kernel5Ideal.nD Cert.Kernel5Ideal.τ).loc Cert.Kernel5Ideal.main_v21)) (v6 : (c : Dev Cert.Kernel5Ideal.nD) → Buf (Elt Ideal) ((c.tc : Thread Cert.Kernel5Ideal.nD Cert.Kernel5Ideal.τ).loc Cert.Kernel5Ideal.main_v22)) (v7 : (c : Dev Cert.Kernel5Ideal.nD) → Buf (Elt Ideal) ((c.tc : Thread Cert.Kernel5Ideal.nD Cert.Kernel5Ideal.τ).loc Cert.Kernel5Ideal.main_v23)) (v8 : (c : Dev Cert.Kernel5Ideal.nD) → Buf (Elt Ideal) ((c.tc : Thread Cert.Kernel5Ideal.nD Cert.Kernel5Ideal.τ).loc Cert.Kernel5Ideal.main_v24)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v17) = v0 c
          ∧ r.2.mem ((c.tc : Thread Cert.Kernel5Ideal.nD Cert.Kernel5Ideal.τ).loc Cert.Kernel5Ideal.main_v18) = v1 c
          ∧ r.2.mem ((c.tc : Thread Cert.Kernel5Ideal.nD Cert.Kernel5Ideal.τ).loc Cert.Kernel5Ideal.main_v16) = v2 c
          ∧ r.2.mem ((c.tc : Thread Cert.Kernel5Ideal.nD Cert.Kernel5Ideal.τ).loc Cert.Kernel5Ideal.main_v19) = v3 c
          ∧ r.2.mem ((c.tc : Thread Cert.Kernel5Ideal.nD Cert.Kernel5Ideal.τ).loc Cert.Kernel5Ideal.main_v20) = v4 c
          ∧ r.2.mem ((c.tc : Thread Cert.Kernel5Ideal.nD Cert.Kernel5Ideal.τ).loc Cert.Kernel5Ideal.main_v21) = v5 c
          ∧ r.2.mem ((c.tc : Thread Cert.Kernel5Ideal.nD Cert.Kernel5Ideal.τ).loc Cert.Kernel5Ideal.main_v22) = v6 c
          ∧ r.2.mem ((c.tc : Thread Cert.Kernel5Ideal.nD Cert.Kernel5Ideal.τ).loc Cert.Kernel5Ideal.main_v23) = v7 c
          ∧ r.2.mem ((c.tc : Thread Cert.Kernel5Ideal.nD Cert.Kernel5Ideal.τ).loc Cert.Kernel5Ideal.main_v24) = v8 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_v9) = v1 c
          ∧ r.2.mem ((c.tc : Thread Cert.Reference5Ideal.nD Cert.Reference5Ideal.τ).loc Cert.Reference5Ideal.main_v13) = v2 c
          ∧ r.2.mem ((c.tc : Thread Cert.Reference5Ideal.nD Cert.Reference5Ideal.τ).loc Cert.Reference5Ideal.main_v14) = v3 c
          ∧ r.2.mem ((c.tc : Thread Cert.Reference5Ideal.nD Cert.Reference5Ideal.τ).loc Cert.Reference5Ideal.main_v15) = v4 c
          ∧ r.2.mem ((c.tc : Thread Cert.Reference5Ideal.nD Cert.Reference5Ideal.τ).loc Cert.Reference5Ideal.main_v16) = v5 c
          ∧ r.2.mem ((c.tc : Thread Cert.Reference5Ideal.nD Cert.Reference5Ideal.τ).loc Cert.Reference5Ideal.main_v17) = v6 c
          ∧ r.2.mem ((c.tc : Thread Cert.Reference5Ideal.nD Cert.Reference5Ideal.τ).loc Cert.Reference5Ideal.main_v18) = v7 c
          ∧ r.2.mem ((c.tc : Thread Cert.Reference5Ideal.nD Cert.Reference5Ideal.τ).loc Cert.Reference5Ideal.main_v19) = v8 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v31) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)) →
    ∃ (v0 : (c : Dev Cert.Kernel8Ideal.nD) → Buf (Elt Ideal) ((c.tc : Thread Cert.Kernel8Ideal.nD Cert.Kernel8Ideal.τ).loc Cert.Kernel8Ideal.main_v51)) (v1 : (c : Dev Cert.Kernel8Ideal.nD) → Buf (Elt Ideal) ((c.tc : Thread Cert.Kernel8Ideal.nD Cert.Kernel8Ideal.τ).loc Cert.Kernel8Ideal.main_v53)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v51) = v0 c
          ∧ r.2.mem ((c.tc : Thread Cert.Kernel8Ideal.nD Cert.Kernel8Ideal.τ).loc Cert.Kernel8Ideal.main_v53) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v68) = v0 c
          ∧ r.2.mem ((c.tc : Thread Cert.Reference8Ideal.nD Cert.Reference8Ideal.τ).loc Cert.Reference8Ideal.main_v31) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v22) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v15)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v15) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Kernel.lean ====
abbrev S4x2048x1024 : Shape := ⟨3, ![4, 2048, 1024]⟩
abbrev S4x16x64x64 : Shape := ⟨4, ![4, 16, 64, 64]⟩
abbrev S1024 : Shape := ⟨1, ![1024]⟩
abbrev S4x2048x16x64 : Shape := ⟨4, ![4, 2048, 16, 64]⟩
abbrev S2048x64x4x16 : Shape := ⟨4, ![2048, 64, 4, 16]⟩
abbrev S2048x64x64 : Shape := ⟨3, ![2048, 64, 64]⟩
abbrev S2048x64x128 : Shape := ⟨3, ![2048, 64, 128]⟩
abbrev S1x2048x64x128 : Shape := ⟨4, ![1, 2048, 64, 128]⟩
abbrev S4x2048x16x2x32 : Shape := ⟨5, ![4, 2048, 16, 2, 32]⟩
abbrev S2048x32x2x4x16 : Shape := ⟨5, ![2048, 32, 2, 4, 16]⟩
abbrev S1x2048x32x128 : Shape := ⟨4, ![1, 2048, 32, 128]⟩
abbrev S4x16x2x32x64 : Shape := ⟨5, ![4, 16, 2, 32, 64]⟩
abbrev S32x64x2x4x16 : Shape := ⟨5, ![32, 64, 2, 4, 16]⟩
abbrev S1x32x64x128 : Shape := ⟨4, ![1, 32, 64, 128]⟩
abbrev S1x16x64 : Shape := ⟨3, ![1, 16, 64]⟩
abbrev S4x16x64 : Shape := ⟨3, ![4, 16, 64]⟩
abbrev S64x4x16 : Shape := ⟨3, ![64, 4, 16]⟩
abbrev S64x64 : Shape := ⟨2, ![64, 64]⟩
abbrev S64x128 : Shape := ⟨2, ![64, 128]⟩
abbrev S1x64x128 : Shape := ⟨3, ![1, 64, 128]⟩
abbrev S4x16x2x32 : Shape := ⟨4, ![4, 16, 2, 32]⟩
abbrev S32x2x4x16 : Shape := ⟨4, ![32, 2, 4, 16]⟩
abbrev S1x32x128 : Shape := ⟨3, ![1, 32, 128]⟩
abbrev S1x64x64x128 : Shape := ⟨4, ![1, 64, 64, 128]⟩
abbrev S1x64x32x128 : Shape := ⟨4, ![1, 64, 32, 128]⟩
abbrev S32x64x128 : Shape := ⟨3, ![32, 64, 128]⟩
abbrev S64x64x128 : Shape := ⟨3, ![64, 64, 128]⟩
abbrev S64x32x128 : Shape := ⟨3, ![64, 32, 128]⟩
abbrev S64x1x128 : Shape := ⟨3, ![64, 1, 128]⟩
abbrev S1x1x64x128 : Shape := ⟨4, ![1, 1, 64, 128]⟩
abbrev S128 : Shape := ⟨1, ![128]⟩
abbrev S1x128 : Shape := ⟨2, ![1, 128]⟩
abbrev S1x1x1x128 : Shape := ⟨4, ![1, 1, 1, 128]⟩
abbrev S1x1x128 : Shape := ⟨3, ![1, 1, 128]⟩
abbrev S32x128 : Shape := ⟨2, ![32, 128]⟩

abbrev nBuf : Space → Nat
  | .hbm => 65
  | .vmem => 23
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S4x2048x1024, .f32⟩
  | .hbm, ⟨4, _⟩ => ⟨S4x2048x1024, .f32⟩
  | .hbm, ⟨5, _⟩ => ⟨S4x2048x1024, .f32⟩
  | .hbm, ⟨6, _⟩ => ⟨S4x16x64x64, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S4x2048x16x64, .f32⟩
  | .hbm, ⟨11, _⟩ => ⟨S2048x64x4x16, .f32⟩
  | .hbm, ⟨12, _⟩ => ⟨S2048x64x64, .f32⟩
  | .hbm, ⟨13, _⟩ => ⟨S2048x64x128, .f32⟩
  | .hbm, ⟨14, _⟩ => ⟨S1x2048x64x128, .f32⟩
  | .hbm, ⟨15, _⟩ => ⟨S4x2048x16x64, .f32⟩
  | .hbm, ⟨16, _⟩ => ⟨S2048x64x4x16, .f32⟩
  | .hbm, ⟨17, _⟩ => ⟨S2048x64x64, .f32⟩
  | .hbm, ⟨18, _⟩ => ⟨S2048x64x128, .f32⟩
  | .hbm, ⟨19, _⟩ => ⟨S1x2048x64x128, .f32⟩
  | .hbm, ⟨20, _⟩ => ⟨S4x2048x16x64, .f32⟩
  | .hbm, ⟨21, _⟩ => ⟨S2048x64x4x16, .f32⟩
  | .hbm, ⟨22, _⟩ => ⟨S2048x64x64, .f32⟩
  | .hbm, ⟨23, _⟩ => ⟨S2048x64x128, .f32⟩
  | .hbm, ⟨24, _⟩ => ⟨S1x2048x64x128, .f32⟩
  | .hbm, ⟨25, _⟩ => ⟨S4x2048x16x64, .f32⟩
  | .hbm, ⟨26, _⟩ => ⟨S2048x64x4x16, .f32⟩
  | .hbm, ⟨27, _⟩ => ⟨S2048x64x64, .f32⟩
  | .hbm, ⟨28, _⟩ => ⟨S2048x64x128, .f32⟩
  | .hbm, ⟨29, _⟩ => ⟨S1x2048x64x128, .f32⟩
  | .hbm, ⟨30, _⟩ => ⟨S4x2048x16x64, .f32⟩
  | .hbm, ⟨31, _⟩ => ⟨S2048x64x4x16, .f32⟩
  | .hbm, ⟨32, _⟩ => ⟨S2048x64x64, .f32⟩
  | .hbm, ⟨33, _⟩ => ⟨S2048x64x128, .f32⟩
  | .hbm, ⟨34, _⟩ => ⟨S1x2048x64x128, .f32⟩
  | .hbm, ⟨35, _⟩ => ⟨S4x2048x16x2x32, .f32⟩
  | .hbm, ⟨36, _⟩ => ⟨S2048x32x2x4x16, .f32⟩
  | .hbm, ⟨37, _⟩ => ⟨S1x2048x32x128, .f32⟩
  | .hbm, ⟨38, _⟩ => ⟨S4x16x2x32x64, .f32⟩
  | .hbm, ⟨39, _⟩ => ⟨S32x64x2x4x16, .f32⟩
  | .hbm, ⟨40, _⟩ => ⟨S1x32x64x128, .f32⟩
  | .hbm, ⟨41, _⟩ => ⟨S1x16x64, .f32⟩
  | .hbm, ⟨42, _⟩ => ⟨S4x16x64, .f32⟩
  | .hbm, ⟨43, _⟩ => ⟨S64x4x16, .f32⟩
  | .hbm, ⟨44, _⟩ => ⟨S64x64, .f32⟩
  | .hbm, ⟨45, _⟩ => ⟨S64x128, .f32⟩
  | .hbm, ⟨46, _⟩ => ⟨S1x64x128, .f32⟩
  | .hbm, ⟨47, _⟩ => ⟨S1x16x64, .f32⟩
  | .hbm, ⟨48, _⟩ => ⟨S4x16x64, .f32⟩
  | .hbm, ⟨49, _⟩ => ⟨S4x16x2x32, .f32⟩
  | .hbm, ⟨50, _⟩ => ⟨S32x2x4x16, .f32⟩
  | .hbm, ⟨51, _⟩ => ⟨S1x32x128, .f32⟩
  | .hbm, ⟨52, _⟩ => ⟨S1x16x64, .f32⟩
  | .hbm, ⟨53, _⟩ => ⟨S4x16x64, .f32⟩
  | .hbm, ⟨54, _⟩ => ⟨S4x16x2x32, .f32⟩
  | .hbm, ⟨55, _⟩ => ⟨S32x2x4x16, .f32⟩
  | .hbm, ⟨56, _⟩ => ⟨S1x32x128, .f32⟩
  | .hbm, ⟨57, _⟩ => ⟨S1x2048x32x128, .f32⟩
  | .hbm, ⟨58, _⟩ => ⟨S1x32x64x128, .f32⟩
  | .hbm, ⟨59, _⟩ => ⟨S2048x32x2x4x16, .f32⟩
  | .hbm, ⟨60, _⟩ => ⟨S4x2048x16x2x32, .f32⟩
  | .hbm, ⟨61, _⟩ => ⟨S4x2048x1024, .f32⟩
  | .hbm, ⟨62, _⟩ => ⟨S32x64x2x4x16, .f32⟩
  | .hbm, ⟨63, _⟩ => ⟨S4x16x2x32x64, .f32⟩
  | .hbm, ⟨64, _⟩ => ⟨S4x16x64x64, .f32⟩
  | .local _ .vmem, ⟨0, _⟩ => ⟨S1x64x64x128, .f32⟩
  | .local _ .vmem, ⟨1, _⟩ => ⟨S1x64x64x128, .f32⟩
  | .local _ .vmem, ⟨2, _⟩ => ⟨S1x64x64x128, .f32⟩
  | .local _ .vmem, ⟨3, _⟩ => ⟨S1x64x64x128, .f32⟩
  | .local _ .vmem, ⟨4, _⟩ => ⟨S1x64x64x128, .f32⟩
  | .local _ .vmem, ⟨5, _⟩ => ⟨S1x64x64x128, .f32⟩
  | .local _ .vmem, ⟨6, _⟩ => ⟨S1x64x64x128, .f32⟩
  | .local _ .vmem, ⟨7, _⟩ => ⟨S1x64x64x128, .f32⟩
  | .local _ .vmem, ⟨8, _⟩ => ⟨S1x64x64x128, .f32⟩
  | .local _ .vmem, ⟨9, _⟩ => ⟨S1x64x64x128, .f32⟩
  | .local _ .vmem, ⟨10, _⟩ => ⟨S1x64x32x128, .f32⟩
  | .local _ .vmem, ⟨11, _⟩ => ⟨S1x64x32x128, .f32⟩
  | .local _ .vmem, ⟨12, _⟩ => ⟨S1x32x64x128, .f32⟩
  | .local _ .vmem, ⟨13, _⟩ => ⟨S1x64x128, .f32⟩
  | .local _ .vmem, ⟨14, _⟩ => ⟨S1x32x128, .f32⟩
  | .local _ .vmem, ⟨15, _⟩ => ⟨S1x32x128, .f32⟩
  | .local _ .vmem, ⟨16, _⟩ => ⟨S1x64x32x128, .f32⟩
  | .local _ .vmem, ⟨17, _⟩ => ⟨S1x64x32x128, .f32⟩
  | .local _ .vmem, ⟨18, _⟩ => ⟨S1x32x64x128, .f32⟩
  | .local _ .vmem, ⟨19, _⟩ => ⟨S32x64x128, .f32⟩
  | .local _ .vmem, ⟨20, _⟩ => ⟨S64x64x128, .f32⟩
  | .local _ .vmem, ⟨21, _⟩ => ⟨S64x64x128, .f32⟩
  | .local _ .vmem, ⟨22, _⟩ => ⟨S64x32x128, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47_0 : Ref sig .tc := ⟨.hbm, 57, rfl⟩
abbrev main_v47_1 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨2, ![1, 32], ![false, false]⟩

@[reducible] def k0_t1_loop : Scf.Loop 32 :=
  let c0_i32_15 : BitVec 32 := 0#32
  let c64_i32 : BitVec 32 := 64#32
  let v22 : BitVec 32 := Scalar.addi c0_i32_15 c64_i32
  let c1_i32 : BitVec 32 := 1#32
  ⟨c0_i32_15, v22, c1_i32⟩
def k0_off1 (k0_t1 : Fin k0_t1_loop.trips) : Fin 4 → Nat :=
  let c0_54 : Index := 0#32
  let c0_i32_15 : BitVec 32 := 0#32
  let c1_i32 : BitVec 32 := 1#32
  let arg18 : BitVec 32 := Scf.iv c0_i32_15 c1_i32 k0_t1
  let v77 : Index := Scalar.indexCast arg18
  let c0_55 : Index := 0#32
  let c0_56 : Index := 0#32
  ![0, v77.toNat, 0, 0]
def k0_off2 (k0_t1 : Fin k0_t1_loop.trips) : Fin 3 → Nat :=
  let c0_i32_15 : BitVec 32 := 0#32
  let c1_i32 : BitVec 32 := 1#32
  let arg18 : BitVec 32 := Scf.iv c0_i32_15 c1_i32 k0_t1
  let v86 : Index := Scalar.indexCast arg18
  let c0_63 : Index := 0#32
  let c0_64 : Index := 0#32
  ![v86.toNat, 0, 0]
def k0_off3 (k0_t1 : Fin k0_t1_loop.trips) : Fin 4 → Nat :=
  let c0_72 : Index := 0#32
  let c0_i32_15 : BitVec 32 := 0#32
  let c1_i32 : BitVec 32 := 1#32
  let arg18 : BitVec 32 := Scf.iv c0_i32_15 c1_i32 k0_t1
  let v99 : Index := Scalar.indexCast arg18
  let c0_73 : Index := 0#32
  let c0_74 : Index := 0#32
  ![0, v99.toNat, 0, 0]
def k0_off4 (k0_t1 : Fin k0_t1_loop.trips) : Fin 3 → Nat :=
  let c0_i32_15 : BitVec 32 := 0#32
  let c1_i32 : BitVec 32 := 1#32
  let arg18 : BitVec 32 := Scf.iv c0_i32_15 c1_i32 k0_t1
  let v112 : Index := Scalar.indexCast arg18
  let c0_76 : Index := 0#32
  let c0_77 : Index := 0#32
  ![v112.toNat, 0, 0]
def k0_off5 (k0_t1 : Fin k0_t1_loop.trips) : Fin 4 → Nat :=
  let c0_85 : Index := 0#32
  let c0_i32_15 : BitVec 32 := 0#32
  let c1_i32 : BitVec 32 := 1#32
  let arg18 : BitVec 32 := Scf.iv c0_i32_15 c1_i32 k0_t1
  let v126 : Index := Scalar.indexCast arg18
  let c1_86 : Index := 1#32
  let c0_87 : Index := 0#32
  ![0, v126.toNat, 1, 0]
def k0_off6 (k0_t1 : Fin k0_t1_loop.trips) : Fin 3 → Nat :=
  let c0_i32_15 : BitVec 32 := 0#32
  let c1_i32 : BitVec 32 := 1#32
  let arg18 : BitVec 32 := Scf.iv c0_i32_15 c1_i32 k0_t1
  let v139 : Index := Scalar.indexCast arg18
  let c1_89 : Index := 1#32
  let c0_90 : Index := 0#32
  ![v139.toNat, 1, 0]
def k0_off7 (k0_t1 : Fin k0_t1_loop.trips) : Fin 4 → Nat :=
  let c0_98 : Index := 0#32
  let c0_i32_15 : BitVec 32 := 0#32
  let c1_i32 : BitVec 32 := 1#32
  let arg18 : BitVec 32 := Scf.iv c0_i32_15 c1_i32 k0_t1
  let v153 : Index := Scalar.indexCast arg18
  let c2_99 : Index := 2#32
  let c0_100 : Index := 0#32
  ![0, v153.toNat, 2, 0]
def k0_off8 (k0_t1 : Fin k0_t1_loop.trips) : Fin 3 → Nat :=
  let c0_i32_15 : BitVec 32 := 0#32
  let c1_i32 : BitVec 32 := 1#32
  let arg18 : BitVec 32 := Scf.iv c0_i32_15 c1_i32 k0_t1
  let v166 : Index := Scalar.indexCast arg18
  let c2_102 : Index := 2#32
  let c0_103 : Index := 0#32
  ![v166.toNat, 2, 0]
def k0_off9 (k0_t1 : Fin k0_t1_loop.trips) : Fin 4 → Nat :=
  let c0_111 : Index := 0#32
  let c0_i32_15 : BitVec 32 := 0#32
  let c1_i32 : BitVec 32 := 1#32
  let arg18 : BitVec 32 := Scf.iv c0_i32_15 c1_i32 k0_t1
  let v180 : Index := Scalar.indexCast arg18
  let c3_112 : Index := 3#32
  let c0_113 : Index := 0#32
  ![0, v180.toNat, 3, 0]
def k0_off10 (k0_t1 : Fin k0_t1_loop.trips) : Fin 3 → Nat :=
  let c0_i32_15 : BitVec 32 := 0#32
  let c1_i32 : BitVec 32 := 1#32
  let arg18 : BitVec 32 := Scf.iv c0_i32_15 c1_i32 k0_t1
  let v193 : Index := Scalar.indexCast arg18
  let c3_115 : Index := 3#32
  let c0_116 : Index := 0#32
  ![v193.toNat, 3, 0]
def k0_off11 (k0_t1 : Fin k0_t1_loop.trips) : Fin 4 → Nat :=
  let c0_124 : Index := 0#32
  let c0_i32_15 : BitVec 32 := 0#32
  let c1_i32 : BitVec 32 := 1#32
  let arg18 : BitVec 32 := Scf.iv c0_i32_15 c1_i32 k0_t1
  let v207 : Index := Scalar.indexCast arg18
  let c4_125 : Index := 4#32
  let c0_126 : Index := 0#32
  ![0, v207.toNat, 4, 0]
def k0_off12 (k0_t1 : Fin k0_t1_loop.trips) : Fin 3 → Nat :=
  let c0_i32_15 : BitVec 32 := 0#32
  let c1_i32 : BitVec 32 := 1#32
  let arg18 : BitVec 32 := Scf.iv c0_i32_15 c1_i32 k0_t1
  let v220 : Index := Scalar.indexCast arg18
  let c4_128 : Index := 4#32
  let c0_129 : Index := 0#32
  ![v220.toNat, 4, 0]
def k0_off13 (k0_t1 : Fin k0_t1_loop.trips) : Fin 4 → Nat :=
  let c0_137 : Index := 0#32
  let c0_i32_15 : BitVec 32 := 0#32
  let c1_i32 : BitVec 32 := 1#32
  let arg18 : BitVec 32 := Scf.iv c0_i32_15 c1_i32 k0_t1
  let v234 : Index := Scalar.indexCast arg18
  let c5_138 : Index := 5#32
  let c0_139 : Index := 0#32
  ![0, v234.toNat, 5, 0]
def k0_off14 (k0_t1 : Fin k0_t1_loop.trips) : Fin 3 → Nat :=
  let c0_i32_15 : BitVec 32 := 0#32
  let c1_i32 : BitVec 32 := 1#32
  let arg18 : BitVec 32 := Scf.iv c0_i32_15 c1_i32 k0_t1
  let v247 : Index := Scalar.indexCast arg18
  let c5_141 : Index := 5#32
  let c0_142 : Index := 0#32
  ![v247.toNat, 5, 0]
def k0_off15 (k0_t1 : Fin k0_t1_loop.trips) : Fin 4 → Nat :=
  let c0_150 : Index := 0#32
  let c0_i32_15 : BitVec 32 := 0#32
  let c1_i32 : BitVec 32 := 1#32
  let arg18 : BitVec 32 := Scf.iv c0_i32_15 c1_i32 k0_t1
  let v261 : Index := Scalar.indexCast arg18
  let c6_151 : Index := 6#32
  let c0_152 : Index := 0#32
  ![0, v261.toNat, 6, 0]
def k0_off16 (k0_t1 : Fin k0_t1_loop.trips) : Fin 3 → Nat :=
  let c0_i32_15 : BitVec 32 := 0#32
  let c1_i32 : BitVec 32 := 1#32
  let arg18 : BitVec 32 := Scf.iv c0_i32_15 c1_i32 k0_t1
  let v274 : Index := Scalar.indexCast arg18
  let c6_154 : Index := 6#32
  let c0_155 : Index := 0#32
  ![v274.toNat, 6, 0]
def k0_off17 (k0_t1 : Fin k0_t1_loop.trips) : Fin 4 → Nat :=
  let c0_163 : Index := 0#32
  let c0_i32_15 : BitVec 32 := 0#32
  let c1_i32 : BitVec 32 := 1#32
  let arg18 : BitVec 32 := Scf.iv c0_i32_15 c1_i32 k0_t1
  let v288 : Index := Scalar.indexCast arg18
  let c7_164 : Index := 7#32
  let c0_165 : Index := 0#32
  ![0, v288.toNat, 7, 0]
def k0_off18 (k0_t1 : Fin k0_t1_loop.trips) : Fin 3 → Nat :=
  let c0_i32_15 : BitVec 32 := 0#32
  let c1_i32 : BitVec 32 := 1#32
  let arg18 : BitVec 32 := Scf.iv c0_i32_15 c1_i32 k0_t1
  let v301 : Index := Scalar.indexCast arg18
  let c7_167 : Index := 7#32
  let c0_168 : Index := 0#32
  ![v301.toNat, 7, 0]
def k0_off19 (k0_t1 : Fin k0_t1_loop.trips) : Fin 4 → Nat :=
  let c0_176 : Index := 0#32
  let c0_i32_15 : BitVec 32 := 0#32
  let c1_i32 : BitVec 32 := 1#32
  let arg18 : BitVec 32 := Scf.iv c0_i32_15 c1_i32 k0_t1
  let v315 : Index := Scalar.indexCast arg18
  let c8_177 : Index := 8#32
  let c0_178 : Index := 0#32
  ![0, v315.toNat, 8, 0]
def k0_off20 (k0_t1 : Fin k0_t1_loop.trips) : Fin 3 → Nat :=
  let c0_i32_15 : BitVec 32 := 0#32
  let c1_i32 : BitVec 32 := 1#32
  let arg18 : BitVec 32 := Scf.iv c0_i32_15 c1_i32 k0_t1
  let v328 : Index := Scalar.indexCast arg18
  let c8_180 : Index := 8#32
  let c0_181 : Index := 0#32
  ![v328.toNat, 8, 0]
def k0_off21 (k0_t1 : Fin k0_t1_loop.trips) : Fin 4 → Nat :=
  let c0_189 : Index := 0#32
  let c0_i32_15 : BitVec 32 := 0#32
  let c1_i32 : BitVec 32 := 1#32
  let arg18 : BitVec 32 := Scf.iv c0_i32_15 c1_i32 k0_t1
  let v342 : Index := Scalar.indexCast arg18
  let c9_190 : Index := 9#32
  let c0_191 : Index := 0#32
  ![0, v342.toNat, 9, 0]
def k0_off22 (k0_t1 : Fin k0_t1_loop.trips) : Fin 3 → Nat :=
  let c0_i32_15 : BitVec 32 := 0#32
  let c1_i32 : BitVec 32 := 1#32
  let arg18 : BitVec 32 := Scf.iv c0_i32_15 c1_i32 k0_t1
  let v355 : Index := Scalar.indexCast arg18
  let c9_193 : Index := 9#32
  let c0_194 : Index := 0#32
  ![v355.toNat, 9, 0]
def k0_off23 (k0_t1 : Fin k0_t1_loop.trips) : Fin 4 → Nat :=
  let c0_202 : Index := 0#32
  let c0_i32_15 : BitVec 32 := 0#32
  let c1_i32 : BitVec 32 := 1#32
  let arg18 : BitVec 32 := Scf.iv c0_i32_15 c1_i32 k0_t1
  let v369 : Index := Scalar.indexCast arg18
  let c10_203 : Index := 10#32
  let c0_204 : Index := 0#32
  ![0, v369.toNat, 10, 0]
def k0_off24 (k0_t1 : Fin k0_t1_loop.trips) : Fin 3 → Nat :=
  let c0_i32_15 : BitVec 32 := 0#32
  let c1_i32 : BitVec 32 := 1#32
  let arg18 : BitVec 32 := Scf.iv c0_i32_15 c1_i32 k0_t1
  let v382 : Index := Scalar.indexCast arg18
  let c10_206 : Index := 10#32
  let c0_207 : Index := 0#32
  ![v382.toNat, 10, 0]
def k0_off25 (k0_t1 : Fin k0_t1_loop.trips) : Fin 4 → Nat :=
  let c0_215 : Index := 0#32
  let c0_i32_15 : BitVec 32 := 0#32
  let c1_i32 : BitVec 32 := 1#32
  let arg18 : BitVec 32 := Scf.iv c0_i32_15 c1_i32 k0_t1
  let v396 : Index := Scalar.indexCast arg18
  let c11_216 : Index := 11#32
  let c0_217 : Index := 0#32
  ![0, v396.toNat, 11, 0]
def k0_off26 (k0_t1 : Fin k0_t1_loop.trips) : Fin 3 → Nat :=
  let c0_i32_15 : BitVec 32 := 0#32
  let c1_i32 : BitVec 32 := 1#32
  let arg18 : BitVec 32 := Scf.iv c0_i32_15 c1_i32 k0_t1
  let v409 : Index := Scalar.indexCast arg18
  let c11_219 : Index := 11#32
  let c0_220 : Index := 0#32
  ![v409.toNat, 11, 0]
def k0_off27 (k0_t1 : Fin k0_t1_loop.trips) : Fin 4 → Nat :=
  let c0_228 : Index := 0#32
  let c0_i32_15 : BitVec 32 := 0#32
  let c1_i32 : BitVec 32 := 1#32
  let arg18 : BitVec 32 := Scf.iv c0_i32_15 c1_i32 k0_t1
  let v423 : Index := Scalar.indexCast arg18
  let c12_229 : Index := 12#32
  let c0_230 : Index := 0#32
  ![0, v423.toNat, 12, 0]
def k0_off28 (k0_t1 : Fin k0_t1_loop.trips) : Fin 3 → Nat :=
  let c0_i32_15 : BitVec 32 := 0#32
  let c1_i32 : BitVec 32 := 1#32
  let arg18 : BitVec 32 := Scf.iv c0_i32_15 c1_i32 k0_t1
  let v436 : Index := Scalar.indexCast arg18
  let c12_232 : Index := 12#32
  let c0_233 : Index := 0#32
  ![v436.toNat, 12, 0]
def k0_off29 (k0_t1 : Fin k0_t1_loop.trips) : Fin 4 → Nat :=
  let c0_241 : Index := 0#32
  let c0_i32_15 : BitVec 32 := 0#32
  let c1_i32 : BitVec 32 := 1#32
  let arg18 : BitVec 32 := Scf.iv c0_i32_15 c1_i32 k0_t1
  let v450 : Index := Scalar.indexCast arg18
  let c13_242 : Index := 13#32
  let c0_243 : Index := 0#32
  ![0, v450.toNat, 13, 0]
def k0_off30 (k0_t1 : Fin k0_t1_loop.trips) : Fin 3 → Nat :=
  let c0_i32_15 : BitVec 32 := 0#32
  let c1_i32 : BitVec 32 := 1#32
  let arg18 : BitVec 32 := Scf.iv c0_i32_15 c1_i32 k0_t1
  let v463 : Index := Scalar.indexCast arg18
  let c13_245 : Index := 13#32
  let c0_246 : Index := 0#32
  ![v463.toNat, 13, 0]
def k0_off31 (k0_t1 : Fin k0_t1_loop.trips) : Fin 4 → Nat :=
  let c0_254 : Index := 0#32
  let c0_i32_15 : BitVec 32 := 0#32
  let c1_i32 : BitVec 32 := 1#32
  let arg18 : BitVec 32 := Scf.iv c0_i32_15 c1_i32 k0_t1
  let v477 : Index := Scalar.indexCast arg18
  let c14_255 : Index := 14#32
  let c0_256 : Index := 0#32
  ![0, v477.toNat, 14, 0]
def k0_off32 (k0_t1 : Fin k0_t1_loop.trips) : Fin 3 → Nat :=
  let c0_i32_15 : BitVec 32 := 0#32
  let c1_i32 : BitVec 32 := 1#32
  let arg18 : BitVec 32 := Scf.iv c0_i32_15 c1_i32 k0_t1
  let v490 : Index := Scalar.indexCast arg18
  let c14_258 : Index := 14#32
  let c0_259 : Index := 0#32
  ![v490.toNat, 14, 0]
def k0_off33 (k0_t1 : Fin k0_t1_loop.trips) : Fin 4 → Nat :=
  let c0_267 : Index := 0#32
  let c0_i32_15 : BitVec 32 := 0#32
  let c1_i32 : BitVec 32 := 1#32
  let arg18 : BitVec 32 := Scf.iv c0_i32_15 c1_i32 k0_t1
  let v504 : Index := Scalar.indexCast arg18
  let c15_268 : Index := 15#32
  let c0_269 : Index := 0#32
  ![0, v504.toNat, 15, 0]
def k0_off34 (k0_t1 : Fin k0_t1_loop.trips) : Fin 3 → Nat :=
  let c0_i32_15 : BitVec 32 := 0#32
  let c1_i32 : BitVec 32 := 1#32
  let arg18 : BitVec 32 := Scf.iv c0_i32_15 c1_i32 k0_t1
  let v517 : Index := Scalar.indexCast arg18
  let c15_271 : Index := 15#32
  let c0_272 : Index := 0#32
  ![v517.toNat, 15, 0]
def k0_off35 (k0_t1 : Fin k0_t1_loop.trips) : Fin 4 → Nat :=
  let c0_280 : Index := 0#32
  let c0_i32_15 : BitVec 32 := 0#32
  let c1_i32 : BitVec 32 := 1#32
  let arg18 : BitVec 32 := Scf.iv c0_i32_15 c1_i32 k0_t1
  let v531 : Index := Scalar.indexCast arg18
  let c16_281 : Index := 16#32
  let c0_282 : Index := 0#32
  ![0, v531.toNat, 16, 0]
def k0_off36 (k0_t1 : Fin k0_t1_loop.trips) : Fin 3 → Nat :=
  let c0_i32_15 : BitVec 32 := 0#32
  let c1_i32 : BitVec 32 := 1#32
  let arg18 : BitVec 32 := Scf.iv c0_i32_15 c1_i32 k0_t1
  let v544 : Index := Scalar.indexCast arg18
  let c16_284 : Index := 16#32
  let c0_285 : Index := 0#32
  ![v544.toNat, 16, 0]
def k0_off37 (k0_t1 : Fin k0_t1_loop.trips) : Fin 4 → Nat :=
  let c0_293 : Index := 0#32
  let c0_i32_15 : BitVec 32 := 0#32
  let c1_i32 : BitVec 32 := 1#32
  let arg18 : BitVec 32 := Scf.iv c0_i32_15 c1_i32 k0_t1
  let v558 : Index := Scalar.indexCast arg18
  let c17_294 : Index := 17#32
  let c0_295 : Index := 0#32
  ![0, v558.toNat, 17, 0]
def k0_off38 (k0_t1 : Fin k0_t1_loop.trips) : Fin 3 → Nat :=
  let c0_i32_15 : BitVec 32 := 0#32
  let c1_i32 : BitVec 32 := 1#32
  let arg18 : BitVec 32 := Scf.iv c0_i32_15 c1_i32 k0_t1
  let v571 : Index := Scalar.indexCast arg18
  let c17_297 : Index := 17#32
  let c0_298 : Index := 0#32
  ![v571.toNat, 17, 0]
def k0_off39 (k0_t1 : Fin k0_t1_loop.trips) : Fin 4 → Nat :=
  let c0_306 : Index := 0#32
  let c0_i32_15 : BitVec 32 := 0#32
  let c1_i32 : BitVec 32 := 1#32
  let arg18 : BitVec 32 := Scf.iv c0_i32_15 c1_i32 k0_t1
  let v585 : Index := Scalar.indexCast arg18
  let c18_307 : Index := 18#32
  let c0_308 : Index := 0#32
  ![0, v585.toNat, 18, 0]
def k0_off40 (k0_t1 : Fin k0_t1_loop.trips) : Fin 3 → Nat :=
  let c0_i32_15 : BitVec 32 := 0#32
  let c1_i32 : BitVec 32 := 1#32
  let arg18 : BitVec 32 := Scf.iv c0_i32_15 c1_i32 k0_t1
  let v598 : Index := Scalar.indexCast arg18
  let c18_310 : Index := 18#32
  let c0_311 : Index := 0#32
  ![v598.toNat, 18, 0]
def k0_off41 (k0_t1 : Fin k0_t1_loop.trips) : Fin 4 → Nat :=
  let c0_319 : Index := 0#32
  let c0_i32_15 : BitVec 32 := 0#32
  let c1_i32 : BitVec 32 := 1#32
  let arg18 : BitVec 32 := Scf.iv c0_i32_15 c1_i32 k0_t1
  let v612 : Index := Scalar.indexCast arg18
  let c19_320 : Index := 19#32
  let c0_321 : Index := 0#32
  ![0, v612.toNat, 19, 0]
def k0_off42 (k0_t1 : Fin k0_t1_loop.trips) : Fin 3 → Nat :=
  let c0_i32_15 : BitVec 32 := 0#32
  let c1_i32 : BitVec 32 := 1#32
  let arg18 : BitVec 32 := Scf.iv c0_i32_15 c1_i32 k0_t1
  let v625 : Index := Scalar.indexCast arg18
  let c19_323 : Index := 19#32
  let c0_324 : Index := 0#32
  ![v625.toNat, 19, 0]
def k0_off43 (k0_t1 : Fin k0_t1_loop.trips) : Fin 4 → Nat :=
  let c0_332 : Index := 0#32
  let c0_i32_15 : BitVec 32 := 0#32
  let c1_i32 : BitVec 32 := 1#32
  let arg18 : BitVec 32 := Scf.iv c0_i32_15 c1_i32 k0_t1
  let v639 : Index := Scalar.indexCast arg18
  let c20_333 : Index := 20#32
  let c0_334 : Index := 0#32
  ![0, v639.toNat, 20, 0]
def k0_off44 (k0_t1 : Fin k0_t1_loop.trips) : Fin 3 → Nat :=
  let c0_i32_15 : BitVec 32 := 0#32
  let c1_i32 : BitVec 32 := 1#32
  let arg18 : BitVec 32 := Scf.iv c0_i32_15 c1_i32 k0_t1
  let v652 : Index := Scalar.indexCast arg18
  let c20_336 : Index := 20#32
  let c0_337 : Index := 0#32
  ![v652.toNat, 20, 0]
def k0_off45 (k0_t1 : Fin k0_t1_loop.trips) : Fin 4 → Nat :=
  let c0_345 : Index := 0#32
  let c0_i32_15 : BitVec 32 := 0#32
  let c1_i32 : BitVec 32 := 1#32
  let arg18 : BitVec 32 := Scf.iv c0_i32_15 c1_i32 k0_t1
  let v666 : Index := Scalar.indexCast arg18
  let c21_346 : Index := 21#32
  let c0_347 : Index := 0#32
  ![0, v666.toNat, 21, 0]
def k0_off46 (k0_t1 : Fin k0_t1_loop.trips) : Fin 3 → Nat :=
  let c0_i32_15 : BitVec 32 := 0#32
  let c1_i32 : BitVec 32 := 1#32
  let arg18 : BitVec 32 := Scf.iv c0_i32_15 c1_i32 k0_t1
  let v679 : Index := Scalar.indexCast arg18
  let c21_349 : Index := 21#32
  let c0_350 : Index := 0#32
  ![v679.toNat, 21, 0]
def k0_off47 (k0_t1 : Fin k0_t1_loop.trips) : Fin 4 → Nat :=
  let c0_358 : Index := 0#32
  let c0_i32_15 : BitVec 32 := 0#32
  let c1_i32 : BitVec 32 := 1#32
  let arg18 : BitVec 32 := Scf.iv c0_i32_15 c1_i32 k0_t1
  let v693 : Index := Scalar.indexCast arg18
  let c22_359 : Index := 22#32
  let c0_360 : Index := 0#32
  ![0, v693.toNat, 22, 0]
def k0_off48 (k0_t1 : Fin k0_t1_loop.trips) : Fin 3 → Nat :=
  let c0_i32_15 : BitVec 32 := 0#32
  let c1_i32 : BitVec 32 := 1#32
  let arg18 : BitVec 32 := Scf.iv c0_i32_15 c1_i32 k0_t1
  let v706 : Index := Scalar.indexCast arg18
  let c22_362 : Index := 22#32
  let c0_363 : Index := 0#32
  ![v706.toNat, 22, 0]
def k0_off49 (k0_t1 : Fin k0_t1_loop.trips) : Fin 4 → Nat :=
  let c0_371 : Index := 0#32
  let c0_i32_15 : BitVec 32 := 0#32
  let c1_i32 : BitVec 32 := 1#32
  let arg18 : BitVec 32 := Scf.iv c0_i32_15 c1_i32 k0_t1
  let v720 : Index := Scalar.indexCast arg18
  let c23_372 : Index := 23#32
  let c0_373 : Index := 0#32
  ![0, v720.toNat, 23, 0]
def k0_off50 (k0_t1 : Fin k0_t1_loop.trips) : Fin 3 → Nat :=
  let c0_i32_15 : BitVec 32 := 0#32
  let c1_i32 : BitVec 32 := 1#32
  let arg18 : BitVec 32 := Scf.iv c0_i32_15 c1_i32 k0_t1
  let v733 : Index := Scalar.indexCast arg18
  let c23_375 : Index := 23#32
  let c0_376 : Index := 0#32
  ![v733.toNat, 23, 0]
def k0_off51 (k0_t1 : Fin k0_t1_loop.trips) : Fin 4 → Nat :=
  let c0_384 : Index := 0#32
  let c0_i32_15 : BitVec 32 := 0#32
  let c1_i32 : BitVec 32 := 1#32
  let arg18 : BitVec 32 := Scf.iv c0_i32_15 c1_i32 k0_t1
  let v747 : Index := Scalar.indexCast arg18
  let c24_385 : Index := 24#32
  let c0_386 : Index := 0#32
  ![0, v747.toNat, 24, 0]
def k0_off52 (k0_t1 : Fin k0_t1_loop.trips) : Fin 3 → Nat :=
  let c0_i32_15 : BitVec 32 := 0#32
  let c1_i32 : BitVec 32 := 1#32
  let arg18 : BitVec 32 := Scf.iv c0_i32_15 c1_i32 k0_t1
  let v760 : Index := Scalar.indexCast arg18
  let c24_388 : Index := 24#32
  let c0_389 : Index := 0#32
  ![v760.toNat, 24, 0]
def k0_off53 (k0_t1 : Fin k0_t1_loop.trips) : Fin 4 → Nat :=
  let c0_397 : Index := 0#32
  let c0_i32_15 : BitVec 32 := 0#32
  let c1_i32 : BitVec 32 := 1#32
  let arg18 : BitVec 32 := Scf.iv c0_i32_15 c1_i32 k0_t1
  let v774 : Index := Scalar.indexCast arg18
  let c25_398 : Index := 25#32
  let c0_399 : Index := 0#32
  ![0, v774.toNat, 25, 0]
def k0_off54 (k0_t1 : Fin k0_t1_loop.trips) : Fin 3 → Nat :=
  let c0_i32_15 : BitVec 32 := 0#32
  let c1_i32 : BitVec 32 := 1#32
  let arg18 : BitVec 32 := Scf.iv c0_i32_15 c1_i32 k0_t1
  let v787 : Index := Scalar.indexCast arg18
  let c25_401 : Index := 25#32
  let c0_402 : Index := 0#32
  ![v787.toNat, 25, 0]
def k0_off55 (k0_t1 : Fin k0_t1_loop.trips) : Fin 4 → Nat :=
  let c0_410 : Index := 0#32
  let c0_i32_15 : BitVec 32 := 0#32
  let c1_i32 : BitVec 32 := 1#32
  let arg18 : BitVec 32 := Scf.iv c0_i32_15 c1_i32 k0_t1
  let v801 : Index := Scalar.indexCast arg18
  let c26_411 : Index := 26#32
  let c0_412 : Index := 0#32
  ![0, v801.toNat, 26, 0]
def k0_off56 (k0_t1 : Fin k0_t1_loop.trips) : Fin 3 → Nat :=
  let c0_i32_15 : BitVec 32 := 0#32
  let c1_i32 : BitVec 32 := 1#32
  let arg18 : BitVec 32 := Scf.iv c0_i32_15 c1_i32 k0_t1
  let v814 : Index := Scalar.indexCast arg18
  let c26_414 : Index := 26#32
  let c0_415 : Index := 0#32
  ![v814.toNat, 26, 0]
def k0_off57 (k0_t1 : Fin k0_t1_loop.trips) : Fin 4 → Nat :=
  let c0_423 : Index := 0#32
  let c0_i32_15 : BitVec 32 := 0#32
  let c1_i32 : BitVec 32 := 1#32
  let arg18 : BitVec 32 := Scf.iv c0_i32_15 c1_i32 k0_t1
  let v828 : Index := Scalar.indexCast arg18
  let c27_424 : Index := 27#32
  let c0_425 : Index := 0#32
  ![0, v828.toNat, 27, 0]
def k0_off58 (k0_t1 : Fin k0_t1_loop.trips) : Fin 3 → Nat :=
  let c0_i32_15 : BitVec 32 := 0#32
  let c1_i32 : BitVec 32 := 1#32
  let arg18 : BitVec 32 := Scf.iv c0_i32_15 c1_i32 k0_t1
  let v841 : Index := Scalar.indexCast arg18
  let c27_427 : Index := 27#32
  let c0_428 : Index := 0#32
  ![v841.toNat, 27, 0]
def k0_off59 (k0_t1 : Fin k0_t1_loop.trips) : Fin 4 → Nat :=
  let c0_436 : Index := 0#32
  let c0_i32_15 : BitVec 32 := 0#32
  let c1_i32 : BitVec 32 := 1#32
  let arg18 : BitVec 32 := Scf.iv c0_i32_15 c1_i32 k0_t1
  let v855 : Index := Scalar.indexCast arg18
  let c28_437 : Index := 28#32
  let c0_438 : Index := 0#32
  ![0, v855.toNat, 28, 0]
def k0_off60 (k0_t1 : Fin k0_t1_loop.trips) : Fin 3 → Nat :=
  let c0_i32_15 : BitVec 32 := 0#32
  let c1_i32 : BitVec 32 := 1#32
  let arg18 : BitVec 32 := Scf.iv c0_i32_15 c1_i32 k0_t1
  let v868 : Index := Scalar.indexCast arg18
  let c28_440 : Index := 28#32
  let c0_441 : Index := 0#32
  ![v868.toNat, 28, 0]
def k0_off61 (k0_t1 : Fin k0_t1_loop.trips) : Fin 4 → Nat :=
  let c0_449 : Index := 0#32
  let c0_i32_15 : BitVec 32 := 0#32
  let c1_i32 : BitVec 32 := 1#32
  let arg18 : BitVec 32 := Scf.iv c0_i32_15 c1_i32 k0_t1
  let v882 : Index := Scalar.indexCast arg18
  let c29_450 : Index := 29#32
  let c0_451 : Index := 0#32
  ![0, v882.toNat, 29, 0]
def k0_off62 (k0_t1 : Fin k0_t1_loop.trips) : Fin 3 → Nat :=
  let c0_i32_15 : BitVec 32 := 0#32
  let c1_i32 : BitVec 32 := 1#32
  let arg18 : BitVec 32 := Scf.iv c0_i32_15 c1_i32 k0_t1
  let v895 : Index := Scalar.indexCast arg18
  let c29_453 : Index := 29#32
  let c0_454 : Index := 0#32
  ![v895.toNat, 29, 0]
def k0_off63 (k0_t1 : Fin k0_t1_loop.trips) : Fin 4 → Nat :=
  let c0_462 : Index := 0#32
  let c0_i32_15 : BitVec 32 := 0#32
  let c1_i32 : BitVec 32 := 1#32
  let arg18 : BitVec 32 := Scf.iv c0_i32_15 c1_i32 k0_t1
  let v909 : Index := Scalar.indexCast arg18
  let c30_463 : Index := 30#32
  let c0_464 : Index := 0#32
  ![0, v909.toNat, 30, 0]
def k0_off64 (k0_t1 : Fin k0_t1_loop.trips) : Fin 3 → Nat :=
  let c0_i32_15 : BitVec 32 := 0#32
  let c1_i32 : BitVec 32 := 1#32
  let arg18 : BitVec 32 := Scf.iv c0_i32_15 c1_i32 k0_t1
  let v922 : Index := Scalar.indexCast arg18
  let c30_466 : Index := 30#32
  let c0_467 : Index := 0#32
  ![v922.toNat, 30, 0]
def k0_off65 (k0_t1 : Fin k0_t1_loop.trips) : Fin 4 → Nat :=
  let c0_475 : Index := 0#32
  let c0_i32_15 : BitVec 32 := 0#32
  let c1_i32 : BitVec 32 := 1#32
  let arg18 : BitVec 32 := Scf.iv c0_i32_15 c1_i32 k0_t1
  let v936 : Index := Scalar.indexCast arg18
  let c31_476 : Index := 31#32
  let c0_477 : Index := 0#32
  ![0, v936.toNat, 31, 0]
def k0_off66 (k0_t1 : Fin k0_t1_loop.trips) : Fin 3 → Nat :=
  let c0_i32_15 : BitVec 32 := 0#32
  let c1_i32 : BitVec 32 := 1#32
  let arg18 : BitVec 32 := Scf.iv c0_i32_15 c1_i32 k0_t1
  let v949 : Index := Scalar.indexCast arg18
  let c31_479 : Index := 31#32
  let c0_480 : Index := 0#32
  ![v949.toNat, 31, 0]
def k0_cond2 (i : grid0.Coords) : BitVec 1 :=
  let arg1 : BitVec 32 := BitVec.ofNat 32 (i 1).val
  let c31_i32 : BitVec 32 := 31#32
  let v74 : BitVec 1 := Scalar.cmpi .eq arg1 c31_i32
  let v75 : BitVec 32 := Scalar.extui v74
  let c0_i32_53 : BitVec 32 := 0#32
  let v76 : BitVec 1 := Scalar.cmpi .ne v75 c0_i32_53
  v76

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x32x64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S1x64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S1x32x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S1x32x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

abbrev stage0_10 : Fin 2 → Memref sig .tc .vmem S1x64x32x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S1x32x64x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false]
-- ==== ReferenceIdeal.lean ====
abbrev S4x2048x1024 : Shape := ⟨3, ![4, 2048, 1024]⟩
abbrev S4x16x64x64 : Shape := ⟨4, ![4, 16, 64, 64]⟩
abbrev S1024 : Shape := ⟨1, ![1024]⟩
abbrev S4x2048x16x64 : Shape := ⟨4, ![4, 2048, 16, 64]⟩
abbrev S_ : Shape := ⟨0, ![]⟩
abbrev S4x2048x16 : Shape := ⟨3, ![4, 2048, 16]⟩
abbrev S4x2048x16x1 : Shape := ⟨4, ![4, 2048, 16, 1]⟩
abbrev S2048x4x16x64 : Shape := ⟨4, ![2048, 4, 16, 64]⟩
abbrev S1x4x16x64 : Shape := ⟨4, ![1, 4, 16, 64]⟩
abbrev S4x16x64 : Shape := ⟨3, ![4, 16, 64]⟩
abbrev S4x16x1x64 : Shape := ⟨4, ![4, 16, 1, 64]⟩
abbrev S4x16x64x1 : Shape := ⟨4, ![4, 16, 64, 1]⟩
abbrev S1x1x1024 : Shape := ⟨3, ![1, 1, 1024]⟩

abbrev nBuf : Space → Nat
  | .hbm => 145
  | .vmem => 0
  | .smem => 0
  | _ => 0

abbrev hbmTy0_0 (i : Nat) : BufTy := match i % 128 with
  | 0 => ⟨S4x2048x1024, .f32⟩
  | 1 => ⟨S4x2048x1024, .f32⟩
  | 2 => ⟨S4x2048x1024, .f32⟩
  | 3 => ⟨S4x2048x1024, .f32⟩
  | 4 => ⟨S4x2048x1024, .f32⟩
  | 5 => ⟨S4x2048x1024, .f32⟩
  | 6 => ⟨S4x16x64x64, .f32⟩
  | 7 => ⟨S1024, .f32⟩
  | 8 => ⟨S1024, .f32⟩
  | 9 => ⟨S1024, .f32⟩
  | 10 => ⟨S4x2048x16x64, .f32⟩
  | 11 => ⟨S4x2048x16x64, .f32⟩
  | 12 => ⟨S_, .f32⟩
  | 13 => ⟨S4x2048x16, .f32⟩
  | 14 => ⟨S4x2048x16x1, .f32⟩
  | 15 => ⟨S4x2048x16x1, .f32⟩
  | 16 => ⟨S_, .f32⟩
  | 17 => ⟨S4x2048x16x1, .f32⟩
  | 18 => ⟨S4x2048x16x1, .f32⟩
  | 19 => ⟨S4x2048x16x64, .f32⟩
  | 20 => ⟨S4x2048x16x64, .f32⟩
  | 21 => ⟨S4x2048x16x64, .f32⟩
  | 22 => ⟨S4x2048x16x64, .f32⟩
  | 23 => ⟨S4x2048x16x64, .f32⟩
  | 24 => ⟨S4x2048x16x64, .f32⟩
  | 25 => ⟨S4x2048x16x64, .f32⟩
  | 26 => ⟨S2048x4x16x64, .f32⟩
  | 27 => ⟨S2048x4x16x64, .f32⟩
  | 28 => ⟨S2048x4x16x64, .f32⟩
  | 29 => ⟨S2048x4x16x64, .f32⟩
  | 30 => ⟨S2048x4x16x64, .f32⟩
  | 31 => ⟨S2048x4x16x64, .f32⟩
  | 32 => ⟨S_, .f32⟩
  | 33 => ⟨S2048x4x16x64, .f32⟩
  | 34 => ⟨S_, .i32⟩
  | 35 => ⟨S2048x4x16x64, .f32⟩
  | 36 => ⟨S2048x4x16x64, .f32⟩
  | 37 => ⟨S2048x4x16x64, .f32⟩
  | 38 => ⟨S2048x4x16x64, .f32⟩
  | 39 => ⟨S2048x4x16x64, .f32⟩
  | 40 => ⟨S2048x4x16x64, .f32⟩
  | 41 => ⟨S_, .i32⟩
  | 42 => ⟨S4x16x64x64, .f32⟩
  | 43 => ⟨S2048x4x16x64, .f32⟩
  | 44 => ⟨S_, .i32⟩
  | 45 => ⟨S_, .i1⟩
  | 46 => ⟨S_, .i32⟩
  | 47 => ⟨S_, .i32⟩
  | 48 => ⟨S_, .i32⟩
  | 49 => ⟨S1x4x16x64, .f32⟩
  | 50 => ⟨S4x16x64, .f32⟩
  | 51 => ⟨S_, .i32⟩
  | 52 => ⟨S_, .i32⟩
  | 53 => ⟨S_, .i32⟩
  | 54 => ⟨S1x4x16x64, .f32⟩
  | 55 => ⟨S4x16x64, .f32⟩
  | 56 => ⟨S_, .i32⟩
  | 57 => ⟨S_, .i32⟩
  | 58 => ⟨S_, .i32⟩
  | 59 => ⟨S1x4x16x64, .f32⟩
  | 60 => ⟨S4x16x64, .f32⟩
  | 61 => ⟨S_, .i32⟩
  | 62 => ⟨S_, .i32⟩
  | 63 => ⟨S_, .i32⟩
  | 64 => ⟨S1x4x16x64, .f32⟩
  | 65 => ⟨S4x16x64, .f32⟩
  | 66 => ⟨S_, .i32⟩
  | 67 => ⟨S_, .i32⟩
  | 68 => ⟨S_, .i32⟩
  | 69 => ⟨S1x4x16x64, .f32⟩
  | 70 => ⟨S4x16x64, .f32⟩
  | 71 => ⟨S_, .i32⟩
  | 72 => ⟨S_, .i32⟩
  | 73 => ⟨S_, .i32⟩
  | 74 => ⟨S1x4x16x64, .f32⟩
  | 75 => ⟨S4x16x64, .f32⟩
  | 76 => ⟨S4x16x64, .f32⟩
  | 77 => ⟨S4x16x64, .f32⟩
  | 78 => ⟨S4x16x1x64, .f32⟩
  | 79 => ⟨S4x16x64x64, .f32⟩
  | 80 => ⟨S4x16x64x64, .f32⟩
  | 81 => ⟨S4x16x64x1, .f32⟩
  | 82 => ⟨S4x16x64, .f32⟩
  | 83 => ⟨S4x16x1x64, .f32⟩
  | 84 => ⟨S4x16x64x64, .f32⟩
  | 85 => ⟨S4x16x64x64, .f32⟩
  | 86 => ⟨S4x16x64x64, .f32⟩
  | 87 => ⟨S4x16x64x64, .f32⟩
  | 88 => ⟨S4x16x64x1, .f32⟩
  | 89 => ⟨S4x16x1x64, .f32⟩
  | 90 => ⟨S4x16x64x64, .f32⟩
  | 91 => ⟨S4x16x64x64, .f32⟩
  | 92 => ⟨S4x16x64x64, .f32⟩
  | 93 => ⟨S4x16x64x64, .f32⟩
  | 94 => ⟨S4x16x64, .f32⟩
  | 95 => ⟨S1x4x16x64, .f32⟩
  | 96 => ⟨S_, .i32⟩
  | 97 => ⟨S_, .i32⟩
  | 98 => ⟨S_, .i32⟩
  | 99 => ⟨S2048x4x16x64, .f32⟩
  | 100 => ⟨S_, .i32⟩
  | 101 => ⟨S_, .i32⟩
  | 102 => ⟨S4x2048x16x64, .f32⟩
  | 103 => ⟨S_, .f32⟩
  | 104 => ⟨S4x2048x16, .f32⟩
  | 105 => ⟨S4x2048x16x1, .f32⟩
  | 106 => ⟨S_, .f32⟩
  | 107 => ⟨S4x2048x16x1, .f32⟩
  | 108 => ⟨S4x2048x16x1, .f32⟩
  | 109 => ⟨S4x2048x16x64, .f32⟩
  | 110 => ⟨S4x2048x16x64, .f32⟩
  | 111 => ⟨S4x2048x16x64, .f32⟩
  | 112 => ⟨S_, .f32⟩
  | 113 => ⟨S4x2048x16, .f32⟩
  | 114 => ⟨S4x2048x16x1, .f32⟩
  | 115 => ⟨S_, .f32⟩
  | 116 => ⟨S4x2048x16x1, .f32⟩
  | 117 => ⟨S4x2048x16x1, .f32⟩
  | 118 => ⟨S4x2048x16x64, .f32⟩
  | 119 => ⟨S4x2048x16x64, .f32⟩
  | 120 => ⟨S_, .f32⟩
  | 121 => ⟨S4x2048x16x1, .f32⟩
  | 122 => ⟨S4x2048x16x1, .f32⟩
  | 123 => ⟨S4x2048x16x1, .f32⟩
  | 124 => ⟨S4x2048x16x64, .f32⟩
  | 125 => ⟨S4x2048x16x64, .f32⟩
  | 126 => ⟨S4x2048x1024, .f32⟩
  | 127 => ⟨S1x1x1024, .f32⟩
  | _ => ⟨S4x2048x1024, .f32⟩

abbrev hbmTy0_1 (i : Nat) : BufTy := match i % 128 with
  | 0 => ⟨S4x2048x1024, .f32⟩
  | 1 => ⟨S4x2048x1024, .f32⟩
  | 2 => ⟨S1x1x1024, .f32⟩
  | 3 => ⟨S4x2048x1024, .f32⟩
  | 4 => ⟨S4x2048x1024, .f32⟩
  | 5 => ⟨S4x2048x1024, .f32⟩
  | 6 => ⟨S1x1x1024, .f32⟩
  | 7 => ⟨S4x2048x1024, .f32⟩
  | 8 => ⟨S4x2048x1024, .f32⟩
  | 9 => ⟨S4x2048x16x64, .f32⟩
  | 10 => ⟨S_, .f32⟩
  | 11 => ⟨S4x2048x16, .f32⟩
  | 12 => ⟨S4x2048x16x1, .f32⟩
  | 13 => ⟨S4x2048x16x64, .f32⟩
  | 14 => ⟨S4x2048x1024, .f32⟩
  | 15 => ⟨S4x2048x1024, .f32⟩
  | 16 => ⟨S4x2048x1024, .f32⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_c : Ref sig .tc := ⟨.hbm, 34, rfl⟩
abbrev main_v21_0 : Ref sig .tc := ⟨.hbm, 35, rfl⟩
abbrev main_v21_1 : Ref sig .tc := ⟨.hbm, 36, rfl⟩
abbrev main_v21_2 : Ref sig .tc := ⟨.hbm, 37, rfl⟩
abbrev main_v21_3 : Ref sig .tc := ⟨.hbm, 38, rfl⟩
abbrev main_v21_4 : Ref sig .tc := ⟨.hbm, 39, rfl⟩
abbrev main_v21_5 : Ref sig .tc := ⟨.hbm, 40, rfl⟩
abbrev main_v21_6 : Ref sig .tc := ⟨.hbm, 41, rfl⟩
abbrev main_v21_7 : Ref sig .tc := ⟨.hbm, 42, rfl⟩
abbrev main_v21_8 : Ref sig .tc := ⟨.hbm, 43, rfl⟩
abbrev main_while0c_c_16 : Ref sig .tc := ⟨.hbm, 44, rfl⟩
abbrev main_while0c_v59 : Ref sig .tc := ⟨.hbm, 45, rfl⟩
abbrev main_while0b_call0_c : Ref sig .tc := ⟨.hbm, 46, rfl⟩
abbrev main_while0b_call0_c_0 : Ref sig .tc := ⟨.hbm, 47, rfl⟩
abbrev main_while0b_call0_c_1 : Ref sig .tc := ⟨.hbm, 48, rfl⟩
abbrev main_while0b_call0_v0 : Ref sig .tc := ⟨.hbm, 49, rfl⟩
abbrev main_while0b_v59 : Ref sig .tc := ⟨.hbm, 50, rfl⟩
abbrev main_while0b_call1_c : Ref sig .tc := ⟨.hbm, 51, rfl⟩
abbrev main_while0b_call1_c_0 : Ref sig .tc := ⟨.hbm, 52, rfl⟩
abbrev main_while0b_call1_c_1 : Ref sig .tc := ⟨.hbm, 53, rfl⟩
abbrev main_while0b_call1_v0 : Ref sig .tc := ⟨.hbm, 54, rfl⟩
abbrev main_while0b_v60 : Ref sig .tc := ⟨.hbm, 55, rfl⟩
abbrev main_while0b_call2_c : Ref sig .tc := ⟨.hbm, 56, rfl⟩
abbrev main_while0b_call2_c_0 : Ref sig .tc := ⟨.hbm, 57, rfl⟩
abbrev main_while0b_call2_c_1 : Ref sig .tc := ⟨.hbm, 58, rfl⟩
abbrev main_while0b_call2_v0 : Ref sig .tc := ⟨.hbm, 59, rfl⟩
abbrev main_while0b_v61 : Ref sig .tc := ⟨.hbm, 60, rfl⟩
abbrev main_while0b_call3_c : Ref sig .tc := ⟨.hbm, 61, rfl⟩
abbrev main_while0b_call3_c_0 : Ref sig .tc := ⟨.hbm, 62, rfl⟩
abbrev main_while0b_call3_c_1 : Ref sig .tc := ⟨.hbm, 63, rfl⟩
abbrev main_while0b_call3_v0 : Ref sig .tc := ⟨.hbm, 64, rfl⟩
abbrev main_while0b_v62 : Ref sig .tc := ⟨.hbm, 65, rfl⟩
abbrev main_while0b_call4_c : Ref sig .tc := ⟨.hbm, 66, rfl⟩
abbrev main_while0b_call4_c_0 : Ref sig .tc := ⟨.hbm, 67, rfl⟩
abbrev main_while0b_call4_c_1 : Ref sig .tc := ⟨.hbm, 68, rfl⟩
abbrev main_while0b_call4_v0 : Ref sig .tc := ⟨.hbm, 69, rfl⟩
abbrev main_while0b_v63 : Ref sig .tc := ⟨.hbm, 70, rfl⟩
abbrev main_while0b_call5_c : Ref sig .tc := ⟨.hbm, 71, rfl⟩
abbrev main_while0b_call5_c_0 : Ref sig .tc := ⟨.hbm, 72, rfl⟩
abbrev main_while0b_call5_c_1 : Ref sig .tc := ⟨.hbm, 73, rfl⟩
abbrev main_while0b_call5_v0 : Ref sig .tc := ⟨.hbm, 74, rfl⟩
abbrev main_while0b_v64 : Ref sig .tc := ⟨.hbm, 75, rfl⟩
abbrev main_while0b_v65 : Ref sig .tc := ⟨.hbm, 76, rfl⟩
abbrev main_while0b_v66 : Ref sig .tc := ⟨.hbm, 77, rfl⟩
abbrev main_while0b_v67 : Ref sig .tc := ⟨.hbm, 78, rfl⟩
abbrev main_while0b_v68 : Ref sig .tc := ⟨.hbm, 79, rfl⟩
abbrev main_while0b_v69 : Ref sig .tc := ⟨.hbm, 80, rfl⟩
abbrev main_while0b_v70 : Ref sig .tc := ⟨.hbm, 81, rfl⟩
abbrev main_while0b_v71 : Ref sig .tc := ⟨.hbm, 82, rfl⟩
abbrev main_while0b_v72 : Ref sig .tc := ⟨.hbm, 83, rfl⟩
abbrev main_while0b_v73 : Ref sig .tc := ⟨.hbm, 84, rfl⟩
abbrev main_while0b_v74 : Ref sig .tc := ⟨.hbm, 85, rfl⟩
abbrev main_while0b_v75 : Ref sig .tc := ⟨.hbm, 86, rfl⟩
abbrev main_while0b_v76 : Ref sig .tc := ⟨.hbm, 87, rfl⟩
abbrev main_while0b_v77 : Ref sig .tc := ⟨.hbm, 88, rfl⟩
abbrev main_while0b_v78 : Ref sig .tc := ⟨.hbm, 89, rfl⟩
abbrev main_while0b_v79 : Ref sig .tc := ⟨.hbm, 90, rfl⟩
abbrev main_while0b_v80 : Ref sig .tc := ⟨.hbm, 91, rfl⟩
abbrev main_while0b_v81 : Ref sig .tc := ⟨.hbm, 92, rfl⟩
abbrev main_while0b_v82 : Ref sig .tc := ⟨.hbm, 93, rfl⟩
abbrev main_while0b_v83 : Ref sig .tc := ⟨.hbm, 94, rfl⟩
abbrev main_while0b_call6_v0 : Ref sig .tc := ⟨.hbm, 95, rfl⟩
abbrev main_while0b_call6_c : Ref sig .tc := ⟨.hbm, 96, rfl⟩
abbrev main_while0b_call6_c_0 : Ref sig .tc := ⟨.hbm, 97, rfl⟩
abbrev main_while0b_call6_c_1 : Ref sig .tc := ⟨.hbm, 98, rfl⟩
abbrev main_while0b_v84 : Ref sig .tc := ⟨.hbm, 99, rfl⟩
abbrev main_while0b_c_16 : Ref sig .tc := ⟨.hbm, 100, rfl⟩
abbrev main_while0b_v85 : Ref sig .tc := ⟨.hbm, 101, rfl⟩
abbrev main_v22 : Ref sig .tc := ⟨.hbm, 102, rfl⟩
abbrev main_cst_2 : Ref sig .tc := ⟨.hbm, 103, rfl⟩
abbrev main_v23 : Ref sig .tc := ⟨.hbm, 104, rfl⟩
abbrev main_v24 : Ref sig .tc := ⟨.hbm, 105, rfl⟩
abbrev main_cst_3 : Ref sig .tc := ⟨.hbm, 106, rfl⟩
abbrev main_v25 : Ref sig .tc := ⟨.hbm, 107, rfl⟩
abbrev main_v26 : Ref sig .tc := ⟨.hbm, 108, rfl⟩
abbrev main_v27 : Ref sig .tc := ⟨.hbm, 109, rfl⟩
abbrev main_v28 : Ref sig .tc := ⟨.hbm, 110, rfl⟩
abbrev main_v29 : Ref sig .tc := ⟨.hbm, 111, rfl⟩
abbrev main_cst_4 : Ref sig .tc := ⟨.hbm, 112, rfl⟩
abbrev main_v30 : Ref sig .tc := ⟨.hbm, 113, rfl⟩
abbrev main_v31 : Ref sig .tc := ⟨.hbm, 114, rfl⟩
abbrev main_cst_5 : Ref sig .tc := ⟨.hbm, 115, rfl⟩
abbrev main_v32 : Ref sig .tc := ⟨.hbm, 116, rfl⟩
abbrev main_v33 : Ref sig .tc := ⟨.hbm, 117, rfl⟩
abbrev main_v34 : Ref sig .tc := ⟨.hbm, 118, rfl⟩
abbrev main_v35 : Ref sig .tc := ⟨.hbm, 119, rfl⟩
abbrev main_cst_6 : Ref sig .tc := ⟨.hbm, 120, rfl⟩
abbrev main_v36 : Ref sig .tc := ⟨.hbm, 121, rfl⟩
abbrev main_v37 : Ref sig .tc := ⟨.hbm, 122, rfl⟩
abbrev main_v38 : Ref sig .tc := ⟨.hbm, 123, rfl⟩
abbrev main_v39 : Ref sig .tc := ⟨.hbm, 124, rfl⟩
abbrev main_v40 : Ref sig .tc := ⟨.hbm, 125, rfl⟩
abbrev main_v41 : Ref sig .tc := ⟨.hbm, 126, rfl⟩
abbrev main_v42 : Ref sig .tc := ⟨.hbm, 127, rfl⟩
abbrev main_v43 : Ref sig .tc := ⟨.hbm, 128, rfl⟩
abbrev main_v44 : Ref sig .tc := ⟨.hbm, 129, rfl⟩
abbrev main_v45 : Ref sig .tc := ⟨.hbm, 130, rfl⟩
abbrev main_v46 : Ref sig .tc := ⟨.hbm, 131, rfl⟩
abbrev main_v47 : Ref sig .tc := ⟨.hbm, 132, rfl⟩
abbrev main_v48 : Ref sig .tc := ⟨.hbm, 133, rfl⟩
abbrev main_v49 : Ref sig .tc := ⟨.hbm, 134, rfl⟩
abbrev main_v50 : Ref sig .tc := ⟨.hbm, 135, rfl⟩
abbrev main_v51 : Ref sig .tc := ⟨.hbm, 136, rfl⟩
abbrev main_v52 : Ref sig .tc := ⟨.hbm, 137, rfl⟩
abbrev main_cst_7 : Ref sig .tc := ⟨.hbm, 138, rfl⟩
abbrev main_v53 : Ref sig .tc := ⟨.hbm, 139, rfl⟩
abbrev main_v54 : Ref sig .tc := ⟨.hbm, 140, rfl⟩
abbrev main_v55 : Ref sig .tc := ⟨.hbm, 141, rfl⟩
abbrev main_v56 : Ref sig .tc := ⟨.hbm, 142, rfl⟩
abbrev main_v57 : Ref sig .tc := ⟨.hbm, 143, rfl⟩
abbrev main_v58 : Ref sig .tc := ⟨.hbm, 144, rfl⟩

abbrev nD : Nat := 1
abbrev τ : Topo := Topo.v7x

variable {F : FTy → Type} [FloatOps F]

abbrev main_while0_count : Scf.Loop 32 := ⟨0#32, 2048#32, 1#32⟩
-- ==== Kernel2.lean ====
abbrev S8192x2048 : Shape := ⟨2, ![8192, 2048]⟩
abbrev S2048 : Shape := ⟨1, ![2048]⟩
abbrev S2048x5632 : Shape := ⟨2, ![2048, 5632]⟩
abbrev S5632x2048 : Shape := ⟨2, ![5632, 2048]⟩
abbrev S1x2048 : Shape := ⟨2, ![1, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 12
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S2048x5632, .bf16⟩
  | .hbm, ⟨7, _⟩ => ⟨S2048x5632, .bf16⟩
  | .hbm, ⟨8, _⟩ => ⟨S5632x2048, .bf16⟩
  | .hbm, ⟨9, _⟩ => ⟨S1x2048, .f32⟩
  | .hbm, ⟨10, _⟩ => ⟨S1x2048, .f32⟩
  | .hbm, ⟨11, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg1 : BitVec 32 := BitVec.ofNat 32 (i 1).val
  let c10_i32 : BitVec 32 := 10#32
  let v28 : BitVec 1 := Scalar.cmpi .eq arg1 c10_i32
  let v29 : BitVec 32 := Scalar.extui v28
  let c0_i32_17 : BitVec 32 := 0#32
  let v30 : BitVec 1 := Scalar.cmpi .ne v29 c0_i32_17
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S8192x2048 : Shape := ⟨2, ![8192, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x5632 : Shape := ⟨2, ![8192, 5632]⟩

abbrev nBuf : Space → Nat
  | .hbm => 52
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S_, .f32⟩
  | .hbm, ⟨26, _⟩ => ⟨S8192x5632, .f32⟩
  | .hbm, ⟨27, _⟩ => ⟨S8192x5632, .f32⟩
  | .hbm, ⟨28, _⟩ => ⟨S_, .f32⟩
  | .hbm, ⟨29, _⟩ => ⟨S8192x5632, .f32⟩
  | .hbm, ⟨30, _⟩ => ⟨S8192x5632, .f32⟩
  | .hbm, ⟨31, _⟩ => ⟨S8192x5632, .f32⟩
  | .hbm, ⟨32, _⟩ => ⟨S8192x5632, .f32⟩
  | .hbm, ⟨33, _⟩ => ⟨S8192x5632, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x1, .f32⟩
  | .hbm, ⟨47, _⟩ => ⟨S8192x2048, .f32⟩
  | .hbm, ⟨48, _⟩ => ⟨S8192x2048, .f32⟩
  | .hbm, ⟨49, _⟩ => ⟨S1x2048, .f32⟩
  | .hbm, ⟨50, _⟩ => ⟨S8192x2048, .f32⟩
  | .hbm, ⟨51, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]
-- ==== Kernel3.lean ====
abbrev S4x2048x2048 : Shape := ⟨3, ![4, 2048, 2048]⟩
abbrev S2048 : Shape := ⟨1, ![2048]⟩
abbrev S2048x5936 : Shape := ⟨2, ![2048, 5936]⟩
abbrev S2048x1024 : Shape := ⟨2, ![2048, 1024]⟩
abbrev S2048x3072 : Shape := ⟨2, ![2048, 3072]⟩
abbrev S2048x1536 : Shape := ⟨2, ![2048, 1536]⟩
abbrev S2048x256 : Shape := ⟨2, ![2048, 256]⟩
abbrev S2048x48 : Shape := ⟨2, ![2048, 48]⟩
abbrev S_ : Shape := ⟨0, ![]⟩
abbrev S2048x208 : Shape := ⟨2, ![2048, 208]⟩
abbrev S2048x6144 : Shape := ⟨2, ![2048, 6144]⟩
abbrev S8192x2048 : Shape := ⟨2, ![8192, 2048]⟩
abbrev S1x2048 : Shape := ⟨2, ![1, 2048]⟩
abbrev S8192x6144 : Shape := ⟨2, ![8192, 6144]⟩
abbrev S1024x2048 : Shape := ⟨2, ![1024, 2048]⟩
abbrev S1024x1024 : Shape := ⟨2, ![1024, 1024]⟩
abbrev S1024 : Shape := ⟨1, ![1024]⟩
abbrev S1024x1 : Shape := ⟨2, ![1024, 1]⟩
abbrev S4x2048x6144 : Shape := ⟨3, ![4, 2048, 6144]⟩
abbrev S4x2048x512 : Shape := ⟨3, ![4, 2048, 512]⟩
abbrev S4x2048x2x4x64 : Shape := ⟨5, ![4, 2048, 2, 4, 64]⟩
abbrev S4x512x2x4x64 : Shape := ⟨5, ![4, 512, 2, 4, 64]⟩
abbrev S4x2048x1024 : Shape := ⟨3, ![4, 2048, 1024]⟩
abbrev S4x2048x3072 : Shape := ⟨3, ![4, 2048, 3072]⟩
abbrev S4x2048x256 : Shape := ⟨3, ![4, 2048, 256]⟩
abbrev S4x2048x48 : Shape := ⟨3, ![4, 2048, 48]⟩

abbrev nBuf : Space → Nat
  | .hbm => 27
  | .vmem => 8
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S2048x5936, .f32⟩
  | .hbm, ⟨3, _⟩ => ⟨S2048x1024, .f32⟩
  | .hbm, ⟨4, _⟩ => ⟨S2048x3072, .f32⟩
  | .hbm, ⟨5, _⟩ => ⟨S2048x1536, .f32⟩
  | .hbm, ⟨6, _⟩ => ⟨S2048x256, .f32⟩
  | .hbm, ⟨7, _⟩ => ⟨S2048x48, .f32⟩
  | .hbm, ⟨8, _⟩ => ⟨S_, .f32⟩
  | .hbm, ⟨9, _⟩ => ⟨S2048x208, .f32⟩
  | .hbm, ⟨10, _⟩ => ⟨S2048x6144, .f32⟩
  | .hbm, ⟨11, _⟩ => ⟨S2048x6144, .bf16⟩
  | .hbm, ⟨12, _⟩ => ⟨S8192x2048, .f32⟩
  | .hbm, ⟨13, _⟩ => ⟨S1x2048, .f32⟩
  | .hbm, ⟨14, _⟩ => ⟨S8192x6144, .f32⟩
  | .hbm, ⟨15, _⟩ => ⟨S4x2048x6144, .f32⟩
  | .hbm, ⟨16, _⟩ => ⟨S4x2048x512, .f32⟩
  | .hbm, ⟨17, _⟩ => ⟨S4x2048x512, .f32⟩
  | .hbm, ⟨18, _⟩ => ⟨S4x2048x512, .f32⟩
  | .hbm, ⟨19, _⟩ => ⟨S4x2048x2x4x64, .f32⟩
  | .hbm, ⟨20, _⟩ => ⟨S4x2048x2x4x64, .f32⟩
  | .hbm, ⟨21, _⟩ => ⟨S4x2048x2x4x64, .f32⟩
  | .hbm, ⟨22, _⟩ => ⟨S4x512x2x4x64, .f32⟩
  | .hbm, ⟨23, _⟩ => ⟨S4x2048x1024, .f32⟩
  | .hbm, ⟨24, _⟩ => ⟨S4x2048x3072, .f32⟩
  | .hbm, ⟨25, _⟩ => ⟨S4x2048x256, .f32⟩
  | .hbm, ⟨26, _⟩ => ⟨S4x2048x48, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S4x2048x2048 : Shape := ⟨3, ![4, 2048, 2048]⟩
abbrev S2048 : Shape := ⟨1, ![2048]⟩
abbrev S2048x5936 : Shape := ⟨2, ![2048, 5936]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S4x2048x5936 : Shape := ⟨3, ![4, 2048, 5936]⟩
abbrev S4x2048x2608 : Shape := ⟨3, ![4, 2048, 2608]⟩
abbrev S4x2048x1536 : Shape := ⟨3, ![4, 2048, 1536]⟩
abbrev S4x2048x3x2x4x64 : Shape := ⟨6, ![4, 2048, 3, 2, 4, 64]⟩
abbrev S4x2048x1x2x4x64 : Shape := ⟨6, ![4, 2048, 1, 2, 4, 64]⟩
abbrev S4x2048x2x4x64 : Shape := ⟨5, ![4, 2048, 2, 4, 64]⟩
abbrev S4x512x2x4x64 : Shape := ⟨5, ![4, 512, 2, 4, 64]⟩
abbrev S4x2048x1024 : Shape := ⟨3, ![4, 2048, 1024]⟩
abbrev S4x2048x3072 : Shape := ⟨3, ![4, 2048, 3072]⟩
abbrev S4x2048x256 : Shape := ⟨3, ![4, 2048, 256]⟩
abbrev S4x2048x48 : Shape := ⟨3, ![4, 2048, 48]⟩

abbrev nBuf : Space → Nat
  | .hbm => 34
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S2048x5936, .f32⟩
  | .hbm, ⟨3, _⟩ => ⟨S4x2048x2048, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x1, .f32⟩
  | .hbm, ⟨14, _⟩ => ⟨S4x2048x2048, .f32⟩
  | .hbm, ⟨15, _⟩ => ⟨S4x2048x2048, .f32⟩
  | .hbm, ⟨16, _⟩ => ⟨S1x1x2048, .f32⟩
  | .hbm, ⟨17, _⟩ => ⟨S4x2048x2048, .f32⟩
  | .hbm, ⟨18, _⟩ => ⟨S4x2048x2048, .f32⟩
  | .hbm, ⟨19, _⟩ => ⟨S4x2048x5936, .f32⟩
  | .hbm, ⟨20, _⟩ => ⟨S4x2048x2608, .f32⟩
  | .hbm, ⟨21, _⟩ => ⟨S4x2048x1536, .f32⟩
  | .hbm, ⟨22, _⟩ => ⟨S4x2048x3x2x4x64, .f32⟩
  | .hbm, ⟨23, _⟩ => ⟨S4x2048x1x2x4x64, .f32⟩
  | .hbm, ⟨24, _⟩ => ⟨S4x2048x2x4x64, .f32⟩
  | .hbm, ⟨25, _⟩ => ⟨S4x2048x1x2x4x64, .f32⟩
  | .hbm, ⟨26, _⟩ => ⟨S4x2048x2x4x64, .f32⟩
  | .hbm, ⟨27, _⟩ => ⟨S4x2048x1x2x4x64, .f32⟩
  | .hbm, ⟨28, _⟩ => ⟨S4x2048x2x4x64, .f32⟩
  | .hbm, ⟨29, _⟩ => ⟨S4x512x2x4x64, .f32⟩
  | .hbm, ⟨30, _⟩ => ⟨S4x2048x1024, .f32⟩
  | .hbm, ⟨31, _⟩ => ⟨S4x2048x3072, .f32⟩
  | .hbm, ⟨32, _⟩ => ⟨S4x2048x256, .f32⟩
  | .hbm, ⟨33, _⟩ => ⟨S4x2048x48, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩

abbrev nD : Nat := 1
abbrev τ : Topo := Topo.v7x

variable {F : FTy → Type} [FloatOps F]
-- ==== Kernel4.lean ====
abbrev S4x2048x2048 : Shape := ⟨3, ![4, 2048, 2048]⟩
abbrev S32x1x2048 : Shape := ⟨3, ![32, 1, 2048]⟩
abbrev S2048 : Shape := ⟨1, ![2048]⟩
abbrev S32x2048 : Shape := ⟨2, ![32, 2048]⟩
abbrev S4x1x2048 : Shape := ⟨3, ![4, 1, 2048]⟩
abbrev S4x2048 : Shape := ⟨2, ![4, 2048]⟩
abbrev S36x2048 : Shape := ⟨2, ![36, 2048]⟩
abbrev S_ : Shape := ⟨0, ![]⟩
abbrev S40x2048 : Shape := ⟨2, ![40, 2048]⟩
abbrev S1x2048 : Shape := ⟨2, ![1, 2048]⟩
abbrev S40 : Shape := ⟨1, ![40]⟩
abbrev S40x1 : Shape := ⟨2, ![40, 1]⟩

abbrev nBuf : Space → Nat
  | .hbm => 14
  | .vmem => 3
  | .smem => 0
  | _ => 0

abbrev bufTy : (tb : Table) → Fin (tcTables nBuf tb) → BufTy
  | .hbm, ⟨0, _⟩ => ⟨S4x2048x2048, .f32⟩
  | .hbm, ⟨1, _⟩ => ⟨S32x1x2048, .f32⟩
  | .hbm, ⟨2, _⟩ => ⟨S2048, .f32⟩
  | .hbm, ⟨3, _⟩ => ⟨S32x2048, .f32⟩
  | .hbm, ⟨4, _⟩ => ⟨S4x1x2048, .f32⟩
  | .hbm, ⟨5, _⟩ => ⟨S4x2048, .f32⟩
  | .hbm, ⟨6, _⟩ => ⟨S36x2048, .f32⟩
  | .hbm, ⟨7, _⟩ => ⟨S_, .i32⟩
  | .hbm, ⟨8, _⟩ => ⟨S_, .f32⟩
  | .hbm, ⟨9, _⟩ => ⟨S40x2048, .f32⟩
  | .hbm, ⟨10, _⟩ => ⟨S1x2048, .f32⟩
  | .hbm, ⟨11, _⟩ => ⟨S40x2048, .f32⟩
  | .hbm, ⟨12, _⟩ => ⟨S32x2048, .f32⟩
  | .hbm, ⟨13, _⟩ => ⟨S4x2048, .f32⟩
  | .local _ .vmem, ⟨0, _⟩ => ⟨S40x2048, .f32⟩
  | .local _ .vmem, ⟨1, _⟩ => ⟨S1x2048, .f32⟩
  | .local _ .vmem, ⟨2, _⟩ => ⟨S40x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S40x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S40x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference4Ideal.lean ====
abbrev S4x2048x2048 : Shape := ⟨3, ![4, 2048, 2048]⟩
abbrev S32x1x2048 : Shape := ⟨3, ![32, 1, 2048]⟩
abbrev S2048 : Shape := ⟨1, ![2048]⟩
abbrev S_ : Shape := ⟨0, ![]⟩
abbrev S32x1 : Shape := ⟨2, ![32, 1]⟩
abbrev S32x1x1 : Shape := ⟨3, ![32, 1, 1]⟩
abbrev S1x1x2048 : Shape := ⟨3, ![1, 1, 2048]⟩
abbrev S32x2048 : Shape := ⟨2, ![32, 2048]⟩
abbrev S4x2048 : Shape := ⟨2, ![4, 2048]⟩
abbrev S4x2048x1 : Shape := ⟨3, ![4, 2048, 1]⟩
abbrev S4x1x2048 : Shape := ⟨3, ![4, 1, 2048]⟩

abbrev nBuf : Space → Nat
  | .hbm => 38
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S32x1x2048, .f32⟩
  | .hbm, ⟨2, _⟩ => ⟨S2048, .f32⟩
  | .hbm, ⟨3, _⟩ => ⟨S32x1x2048, .f32⟩
  | .hbm, ⟨4, _⟩ => ⟨S_, .f32⟩
  | .hbm, ⟨5, _⟩ => ⟨S32x1, .f32⟩
  | .hbm, ⟨6, _⟩ => ⟨S32x1x1, .f32⟩
  | .hbm, ⟨7, _⟩ => ⟨S_, .f32⟩
  | .hbm, ⟨8, _⟩ => ⟨S32x1x1, .f32⟩
  | .hbm, ⟨9, _⟩ => ⟨S32x1x1, .f32⟩
  | .hbm, ⟨10, _⟩ => ⟨S_, .f32⟩
  | .hbm, ⟨11, _⟩ => ⟨S32x1x1, .f32⟩
  | .hbm, ⟨12, _⟩ => ⟨S32x1x1, .f32⟩
  | .hbm, ⟨13, _⟩ => ⟨S32x1x1, .f32⟩
  | .hbm, ⟨14, _⟩ => ⟨S32x1x2048, .f32⟩
  | .hbm, ⟨15, _⟩ => ⟨S32x1x2048, .f32⟩
  | .hbm, ⟨16, _⟩ => ⟨S1x1x2048, .f32⟩
  | .hbm, ⟨17, _⟩ => ⟨S32x1x2048, .f32⟩
  | .hbm, ⟨18, _⟩ => ⟨S32x1x2048, .f32⟩
  | .hbm, ⟨19, _⟩ => ⟨S32x2048, .f32⟩
  | .hbm, ⟨20, _⟩ => ⟨S4x2048x2048, .f32⟩
  | .hbm, ⟨21, _⟩ => ⟨S_, .f32⟩
  | .hbm, ⟨22, _⟩ => ⟨S4x2048, .f32⟩
  | .hbm, ⟨23, _⟩ => ⟨S4x2048x1, .f32⟩
  | .hbm, ⟨24, _⟩ => ⟨S_, .f32⟩
  | .hbm, ⟨25, _⟩ => ⟨S4x2048x1, .f32⟩
  | .hbm, ⟨26, _⟩ => ⟨S4x2048x1, .f32⟩
  | .hbm, ⟨27, _⟩ => ⟨S_, .f32⟩
  | .hbm, ⟨28, _⟩ => ⟨S4x2048x1, .f32⟩
  | .hbm, ⟨29, _⟩ => ⟨S4x2048x1, .f32⟩
  | .hbm, ⟨30, _⟩ => ⟨S4x2048x1, .f32⟩
  | .hbm, ⟨31, _⟩ => ⟨S4x2048x2048, .f32⟩
  | .hbm, ⟨32, _⟩ => ⟨S4x2048x2048, .f32⟩
  | .hbm, ⟨33, _⟩ => ⟨S1x1x2048, .f32⟩
  | .hbm, ⟨34, _⟩ => ⟨S4x2048x2048, .f32⟩
  | .hbm, ⟨35, _⟩ => ⟨S4x2048x2048, .f32⟩
  | .hbm, ⟨36, _⟩ => ⟨S4x1x2048, .f32⟩
  | .hbm, ⟨37, _⟩ => ⟨S4x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Kernel5.lean ====
abbrev S32x2048 : Shape := ⟨2, ![32, 2048]⟩
abbrev S32x512x2x4x64 : Shape := ⟨5, ![32, 512, 2, 4, 64]⟩
abbrev S2048 : Shape := ⟨1, ![2048]⟩
abbrev S2048x5936 : Shape := ⟨2, ![2048, 5936]⟩
abbrev S2048x1024 : Shape := ⟨2, ![2048, 1024]⟩
abbrev S2048x3072 : Shape := ⟨2, ![2048, 3072]⟩
abbrev S2048x1536 : Shape := ⟨2, ![2048, 1536]⟩
abbrev S2048x256 : Shape := ⟨2, ![2048, 256]⟩
abbrev S2048x48 : Shape := ⟨2, ![2048, 48]⟩
abbrev S_ : Shape := ⟨0, ![]⟩
abbrev S2048x208 : Shape := ⟨2, ![2048, 208]⟩
abbrev S2048x6144 : Shape := ⟨2, ![2048, 6144]⟩
abbrev S64x2048 : Shape := ⟨2, ![64, 2048]⟩
abbrev S1x2048 : Shape := ⟨2, ![1, 2048]⟩
abbrev S64x6144 : Shape := ⟨2, ![64, 6144]⟩
abbrev S64x1024 : Shape := ⟨2, ![64, 1024]⟩
abbrev S32x512 : Shape := ⟨2, ![32, 512]⟩
abbrev S32x1x2x4x64 : Shape := ⟨5, ![32, 1, 2, 4, 64]⟩
abbrev S32x513x2x4x64 : Shape := ⟨5, ![32, 513, 2, 4, 64]⟩
abbrev S32x1024 : Shape := ⟨2, ![32, 1024]⟩
abbrev S32x3072 : Shape := ⟨2, ![32, 3072]⟩
abbrev S32x256 : Shape := ⟨2, ![32, 256]⟩
abbrev S32x48 : Shape := ⟨2, ![32, 48]⟩

abbrev nBuf : Space → Nat
  | .hbm => 31
  | .vmem => 7
  | .smem => 0
  | _ => 0

abbrev bufTy : (tb : Table) → Fin (tcTables nBuf tb) → BufTy
  | .hbm, ⟨0, _⟩ => ⟨S32x2048, .f32⟩
  | .hbm, ⟨1, _⟩ => ⟨S32x2048, .f32⟩
  | .hbm, ⟨2, _⟩ => ⟨S32x512x2x4x64, .f32⟩
  | .hbm, ⟨3, _⟩ => ⟨S2048, .f32⟩
  | .hbm, ⟨4, _⟩ => ⟨S2048x5936, .f32⟩
  | .hbm, ⟨5, _⟩ => ⟨S2048x1024, .f32⟩
  | .hbm, ⟨6, _⟩ => ⟨S2048x3072, .f32⟩
  | .hbm, ⟨7, _⟩ => ⟨S2048x1536, .f32⟩
  | .hbm, ⟨8, _⟩ => ⟨S2048x256, .f32⟩
  | .hbm, ⟨9, _⟩ => ⟨S2048x48, .f32⟩
  | .hbm, ⟨10, _⟩ => ⟨S_, .f32⟩
  | .hbm, ⟨11, _⟩ => ⟨S2048x208, .f32⟩
  | .hbm, ⟨12, _⟩ => ⟨S2048x6144, .f32⟩
  | .hbm, ⟨13, _⟩ => ⟨S2048x6144, .bf16⟩
  | .hbm, ⟨14, _⟩ => ⟨S64x2048, .f32⟩
  | .hbm, ⟨15, _⟩ => ⟨S1x2048, .f32⟩
  | .hbm, ⟨16, _⟩ => ⟨S64x6144, .f32⟩
  | .hbm, ⟨17, _⟩ => ⟨S32x512, .f32⟩
  | .hbm, ⟨18, _⟩ => ⟨S32x512, .f32⟩
  | .hbm, ⟨19, _⟩ => ⟨S32x512, .f32⟩
  | .hbm, ⟨20, _⟩ => ⟨S32x1x2x4x64, .f32⟩
  | .hbm, ⟨21, _⟩ => ⟨S32x513x2x4x64, .f32⟩
  | .hbm, ⟨22, _⟩ => ⟨S32x512x2x4x64, .f32⟩
  | .hbm, ⟨23, _⟩ => ⟨S32x1x2x4x64, .f32⟩
  | .hbm, ⟨24, _⟩ => ⟨S32x1x2x4x64, .f32⟩
  | .hbm, ⟨25, _⟩ => ⟨S32x1024, .f32⟩
  | .hbm, ⟨26, _⟩ => ⟨S32x3072, .f32⟩
  | .hbm, ⟨27, _⟩ => ⟨S32x256, .f32⟩
  | .hbm, ⟨28, _⟩ => ⟨S32x48, .f32⟩
  | .hbm, ⟨29, _⟩ => ⟨S32x3072, .f32⟩
  | .hbm, ⟨30, _⟩ => ⟨S32x256, .f32⟩
  | .local _ .vmem, ⟨0, _⟩ => ⟨S64x2048, .f32⟩
  | .local _ .vmem, ⟨1, _⟩ => ⟨S1x2048, .f32⟩
  | .local _ .vmem, ⟨2, _⟩ => ⟨S2048x1024, .bf16⟩
  | .local _ .vmem, ⟨3, _⟩ => ⟨S2048x1024, .bf16⟩
  | .local _ .vmem, ⟨4, _⟩ => ⟨S64x1024, .f32⟩
  | .local _ .vmem, ⟨5, _⟩ => ⟨S64x1024, .f32⟩
  | .local _ .vmem, ⟨6, _⟩ => ⟨S64x2048, .bf16⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S32x2048 : Shape := ⟨2, ![32, 2048]⟩
abbrev S32x512x2x4x64 : Shape := ⟨5, ![32, 512, 2, 4, 64]⟩
abbrev S2048 : Shape := ⟨1, ![2048]⟩
abbrev S2048x5936 : Shape := ⟨2, ![2048, 5936]⟩
abbrev S32x5936 : Shape := ⟨2, ![32, 5936]⟩
abbrev S2048x3328 : Shape := ⟨2, ![2048, 3328]⟩
abbrev S32x3328 : Shape := ⟨2, ![32, 3328]⟩
abbrev S32x2608 : Shape := ⟨2, ![32, 2608]⟩
abbrev S32x1536 : Shape := ⟨2, ![32, 1536]⟩
abbrev S32x1x3x2x4x64 : Shape := ⟨6, ![32, 1, 3, 2, 4, 64]⟩
abbrev S32x1x1x2x4x64 : Shape := ⟨6, ![32, 1, 1, 2, 4, 64]⟩
abbrev S32x1x2x4x64 : Shape := ⟨5, ![32, 1, 2, 4, 64]⟩
abbrev S32x513x2x4x64 : Shape := ⟨5, ![32, 513, 2, 4, 64]⟩
abbrev S32x1024 : Shape := ⟨2, ![32, 1024]⟩
abbrev S32x3072 : Shape := ⟨2, ![32, 3072]⟩
abbrev S32x256 : Shape := ⟨2, ![32, 256]⟩
abbrev S32x48 : Shape := ⟨2, ![32, 48]⟩

abbrev nBuf : Space → Nat
  | .hbm => 25
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S32x2048, .f32⟩
  | .hbm, ⟨2, _⟩ => ⟨S32x512x2x4x64, .f32⟩
  | .hbm, ⟨3, _⟩ => ⟨S2048, .f32⟩
  | .hbm, ⟨4, _⟩ => ⟨S2048x5936, .f32⟩
  | .hbm, ⟨5, _⟩ => ⟨S32x5936, .f32⟩
  | .hbm, ⟨6, _⟩ => ⟨S2048x3328, .f32⟩
  | .hbm, ⟨7, _⟩ => ⟨S32x3328, .f32⟩
  | .hbm, ⟨8, _⟩ => ⟨S32x2608, .f32⟩
  | .hbm, ⟨9, _⟩ => ⟨S32x1536, .f32⟩
  | .hbm, ⟨10, _⟩ => ⟨S32x1x3x2x4x64, .f32⟩
  | .hbm, ⟨11, _⟩ => ⟨S32x1x1x2x4x64, .f32⟩
  | .hbm, ⟨12, _⟩ => ⟨S32x1x2x4x64, .f32⟩
  | .hbm, ⟨13, _⟩ => ⟨S32x1x1x2x4x64, .f32⟩
  | .hbm, ⟨14, _⟩ => ⟨S32x1x2x4x64, .f32⟩
  | .hbm, ⟨15, _⟩ => ⟨S32x1x1x2x4x64, .f32⟩
  | .hbm, ⟨16, _⟩ => ⟨S32x1x2x4x64, .f32⟩
  | .hbm, ⟨17, _⟩ => ⟨S32x513x2x4x64, .f32⟩
  | .hbm, ⟨18, _⟩ => ⟨S32x512x2x4x64, .f32⟩
  | .hbm, ⟨19, _⟩ => ⟨S32x1024, .f32⟩
  | .hbm, ⟨20, _⟩ => ⟨S32x3072, .f32⟩
  | .hbm, ⟨21, _⟩ => ⟨S32x256, .f32⟩
  | .hbm, ⟨22, _⟩ => ⟨S32x48, .f32⟩
  | .hbm, ⟨23, _⟩ => ⟨S32x3072, .f32⟩
  | .hbm, ⟨24, _⟩ => ⟨S32x256, .f32⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩

abbrev nD : Nat := 1
abbrev τ : Topo := Topo.v7x

variable {F : FTy → Type} [FloatOps F]
-- ==== Kernel6.lean ====
abbrev S32x2048 : Shape := ⟨2, ![32, 2048]⟩
abbrev S2048 : Shape := ⟨1, ![2048]⟩
abbrev S2048x5632 : Shape := ⟨2, ![2048, 5632]⟩
abbrev S5632x2048 : Shape := ⟨2, ![5632, 2048]⟩
abbrev S1x2048 : Shape := ⟨2, ![1, 2048]⟩
abbrev S2048x512 : Shape := ⟨2, ![2048, 512]⟩
abbrev S512x2048 : Shape := ⟨2, ![512, 2048]⟩
abbrev S32 : Shape := ⟨1, ![32]⟩
abbrev S32x1 : Shape := ⟨2, ![32, 1]⟩
abbrev S32x512 : Shape := ⟨2, ![32, 512]⟩

abbrev nBuf : Space → Nat
  | .hbm => 12
  | .vmem => 12
  | .smem => 0
  | _ => 0

abbrev bufTy : (tb : Table) → Fin (tcTables nBuf tb) → BufTy
  | .hbm, ⟨0, _⟩ => ⟨S32x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S2048x5632, .bf16⟩
  | .hbm, ⟨7, _⟩ => ⟨S2048x5632, .bf16⟩
  | .hbm, ⟨8, _⟩ => ⟨S5632x2048, .bf16⟩
  | .hbm, ⟨9, _⟩ => ⟨S1x2048, .f32⟩
  | .hbm, ⟨10, _⟩ => ⟨S1x2048, .f32⟩
  | .hbm, ⟨11, _⟩ => ⟨S32x2048, .f32⟩
  | .local _ .vmem, ⟨0, _⟩ => ⟨S32x2048, .f32⟩
  | .local _ .vmem, ⟨1, _⟩ => ⟨S1x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S32x2048, .f32⟩
  | .local _ .vmem, ⟨10, _⟩ => ⟨S32x2048, .bf16⟩
  | .local _ .vmem, ⟨11, _⟩ => ⟨S32x2048, .f32⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨2, ![1, 11], ![false, false]⟩

def k0_cond2 (i : grid0.Coords) : BitVec 1 :=
  let arg1 : BitVec 32 := BitVec.ofNat 32 (i 1).val
  let c10_i32 : BitVec 32 := 10#32
  let v28 : BitVec 1 := Scalar.cmpi .eq arg1 c10_i32
  let v29 : BitVec 32 := Scalar.extui v28
  let c0_i32_17 : BitVec 32 := 0#32
  let v30 : BitVec 1 := Scalar.cmpi .ne v29 c0_i32_17
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S32x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== Reference6Ideal.lean ====
abbrev S32x2048 : Shape := ⟨2, ![32, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S32 : Shape := ⟨1, ![32]⟩
abbrev S32x1 : Shape := ⟨2, ![32, 1]⟩
abbrev S1x2048 : Shape := ⟨2, ![1, 2048]⟩
abbrev S32x5632 : Shape := ⟨2, ![32, 5632]⟩

abbrev nBuf : Space → Nat
  | .hbm => 52
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S32x2048, .f32⟩
  | .hbm, ⟨7, _⟩ => ⟨S_, .f32⟩
  | .hbm, ⟨8, _⟩ => ⟨S32, .f32⟩
  | .hbm, ⟨9, _⟩ => ⟨S32x1, .f32⟩
  | .hbm, ⟨10, _⟩ => ⟨S_, .f32⟩
  | .hbm, ⟨11, _⟩ => ⟨S32x1, .f32⟩
  | .hbm, ⟨12, _⟩ => ⟨S32x1, .f32⟩
  | .hbm, ⟨13, _⟩ => ⟨S_, .f32⟩
  | .hbm, ⟨14, _⟩ => ⟨S32x1, .f32⟩
  | .hbm, ⟨15, _⟩ => ⟨S32x1, .f32⟩
  | .hbm, ⟨16, _⟩ => ⟨S32x1, .f32⟩
  | .hbm, ⟨17, _⟩ => ⟨S32x2048, .f32⟩
  | .hbm, ⟨18, _⟩ => ⟨S32x2048, .f32⟩
  | .hbm, ⟨19, _⟩ => ⟨S1x2048, .f32⟩
  | .hbm, ⟨20, _⟩ => ⟨S32x2048, .f32⟩
  | .hbm, ⟨21, _⟩ => ⟨S32x2048, .f32⟩
  | .hbm, ⟨22, _⟩ => ⟨S32x5632, .f32⟩
  | .hbm, ⟨23, _⟩ => ⟨S32x5632, .f32⟩
  | .hbm, ⟨24, _⟩ => ⟨S32x5632, .f32⟩
  | .hbm, ⟨25, _⟩ => ⟨S_, .f32⟩
  | .hbm, ⟨26, _⟩ => ⟨S32x5632, .f32⟩
  | .hbm, ⟨27, _⟩ => ⟨S32x5632, .f32⟩
  | .hbm, ⟨28, _⟩ => ⟨S_, .f32⟩
  | .hbm, ⟨29, _⟩ => ⟨S32x5632, .f32⟩
  | .hbm, ⟨30, _⟩ => ⟨S32x5632, .f32⟩
  | .hbm, ⟨31, _⟩ => ⟨S32x5632, .f32⟩
  | .hbm, ⟨32, _⟩ => ⟨S32x5632, .f32⟩
  | .hbm, ⟨33, _⟩ => ⟨S32x5632, .f32⟩
  | .hbm, ⟨34, _⟩ => ⟨S32x2048, .f32⟩
  | .hbm, ⟨35, _⟩ => ⟨S32x2048, .f32⟩
  | .hbm, ⟨36, _⟩ => ⟨S32x2048, .f32⟩
  | .hbm, ⟨37, _⟩ => ⟨S_, .f32⟩
  | .hbm, ⟨38, _⟩ => ⟨S32, .f32⟩
  | .hbm, ⟨39, _⟩ => ⟨S32x1, .f32⟩
  | .hbm, ⟨40, _⟩ => ⟨S_, .f32⟩
  | .hbm, ⟨41, _⟩ => ⟨S32x1, .f32⟩
  | .hbm, ⟨42, _⟩ => ⟨S32x1, .f32⟩
  | .hbm, ⟨43, _⟩ => ⟨S_, .f32⟩
  | .hbm, ⟨44, _⟩ => ⟨S32x1, .f32⟩
  | .hbm, ⟨45, _⟩ => ⟨S32x1, .f32⟩
  | .hbm, ⟨46, _⟩ => ⟨S32x1, .f32⟩
  | .hbm, ⟨47, _⟩ => ⟨S32x2048, .f32⟩
  | .hbm, ⟨48, _⟩ => ⟨S32x2048, .f32⟩
  | .hbm, ⟨49, _⟩ => ⟨S1x2048, .f32⟩
  | .hbm, ⟨50, _⟩ => ⟨S32x2048, .f32⟩
  | .hbm, ⟨51, _⟩ => ⟨S32x2048, .f32⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]
-- ==== Kernel7.lean ====
abbrev S8192x1024 : Shape := ⟨2, ![8192, 1024]⟩
abbrev S8192x2048 : Shape := ⟨2, ![8192, 2048]⟩
abbrev S2048x2048 : Shape := ⟨2, ![2048, 2048]⟩
abbrev S512x1024 : Shape := ⟨2, ![512, 1024]⟩
abbrev S2048x1024 : Shape := ⟨2, ![2048, 1024]⟩
abbrev S512x2048 : Shape := ⟨2, ![512, 2048]⟩

abbrev nBuf : Space → Nat
  | .hbm => 7
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x2048, .f32⟩
  | .hbm, ⟨4, _⟩ => ⟨S2048x2048, .f32⟩
  | .hbm, ⟨5, _⟩ => ⟨S2048x2048, .bf16⟩
  | .hbm, ⟨6, _⟩ => ⟨S8192x2048, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S2048x1024, .bf16⟩
  | .local _ .vmem, ⟨9, _⟩ => ⟨S2048x1024, .bf16⟩
  | .local _ .vmem, ⟨10, _⟩ => ⟨S512x1024, .f32⟩
  | .local _ .vmem, ⟨11, _⟩ => ⟨S512x1024, .f32⟩
  | .local _ .vmem, ⟨12, _⟩ => ⟨S512x2048, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference7Ideal.lean ====
abbrev S8192x1024 : Shape := ⟨2, ![8192, 1024]⟩
abbrev S8192x2048 : Shape := ⟨2, ![8192, 2048]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x2048, .f32⟩
  | .hbm, ⟨4, _⟩ => ⟨S2048x2048, .f32⟩
  | .hbm, ⟨5, _⟩ => ⟨S8192x1024, .f32⟩
  | .hbm, ⟨6, _⟩ => ⟨S8192x1024, .f32⟩
  | .hbm, ⟨7, _⟩ => ⟨S8192x2048, .f32⟩
  | .hbm, ⟨8, _⟩ => ⟨S8192x2048, .f32⟩
  | .hbm, ⟨9, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== Kernel8.lean ====
abbrev S32x1x1024 : Shape := ⟨3, ![32, 1, 1024]⟩
abbrev S32x16x64x64 : Shape := ⟨4, ![32, 16, 64, 64]⟩
abbrev S1024 : Shape := ⟨1, ![1024]⟩
abbrev S32x1x16x64 : Shape := ⟨4, ![32, 1, 16, 64]⟩
abbrev S1x64x32x16 : Shape := ⟨4, ![1, 64, 32, 16]⟩
abbrev S1x64x512 : Shape := ⟨3, ![1, 64, 512]⟩
abbrev S1x64x4x128 : Shape := ⟨4, ![1, 64, 4, 128]⟩
abbrev S4x1x64x128 : Shape := ⟨4, ![4, 1, 64, 128]⟩
abbrev S4x128x64x64 : Shape := ⟨4, ![4, 128, 64, 64]⟩
abbrev S4x64x64x128 : Shape := ⟨4, ![4, 64, 64, 128]⟩
abbrev S1x16x64 : Shape := ⟨3, ![1, 16, 64]⟩
abbrev S32x16x64 : Shape := ⟨3, ![32, 16, 64]⟩
abbrev S64x32x16 : Shape := ⟨3, ![64, 32, 16]⟩
abbrev S64x512 : Shape := ⟨2, ![64, 512]⟩
abbrev S64x4x128 : Shape := ⟨3, ![64, 4, 128]⟩
abbrev S4x64x128 : Shape := ⟨3, ![4, 64, 128]⟩
abbrev S1x1x64x128 : Shape := ⟨4, ![1, 1, 64, 128]⟩
abbrev S1x64x64x128 : Shape := ⟨4, ![1, 64, 64, 128]⟩
abbrev S1x64x128 : Shape := ⟨3, ![1, 64, 128]⟩
abbrev S64x64x128 : Shape := ⟨3, ![64, 64, 128]⟩
abbrev S1x128 : Shape := ⟨2, ![1, 128]⟩
abbrev S1x1x128 : Shape := ⟨3, ![1, 1, 128]⟩
abbrev S64x128 : Shape := ⟨2, ![64, 128]⟩
abbrev S128 : Shape := ⟨1, ![128]⟩
abbrev S1x1x1x128 : Shape := ⟨4, ![1, 1, 1, 128]⟩

abbrev nBuf : Space → Nat
  | .hbm => 65
  | .vmem => 28
  | .smem => 0
  | _ => 0

abbrev bufTy : (tb : Table) → Fin (tcTables nBuf tb) → BufTy
  | .hbm, ⟨0, _⟩ => ⟨S32x1x1024, .f32⟩
  | .hbm, ⟨1, _⟩ => ⟨S32x1x1024, .f32⟩
  | .hbm, ⟨2, _⟩ => ⟨S32x1x1024, .f32⟩
  | .hbm, ⟨3, _⟩ => ⟨S32x1x1024, .f32⟩
  | .hbm, ⟨4, _⟩ => ⟨S32x1x1024, .f32⟩
  | .hbm, ⟨5, _⟩ => ⟨S32x1x1024, .f32⟩
  | .hbm, ⟨6, _⟩ => ⟨S32x16x64x64, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S32x1x16x64, .f32⟩
  | .hbm, ⟨11, _⟩ => ⟨S1x64x32x16, .f32⟩
  | .hbm, ⟨12, _⟩ => ⟨S1x64x512, .f32⟩
  | .hbm, ⟨13, _⟩ => ⟨S1x64x4x128, .f32⟩
  | .hbm, ⟨14, _⟩ => ⟨S4x1x64x128, .f32⟩
  | .hbm, ⟨15, _⟩ => ⟨S32x1x16x64, .f32⟩
  | .hbm, ⟨16, _⟩ => ⟨S1x64x32x16, .f32⟩
  | .hbm, ⟨17, _⟩ => ⟨S1x64x512, .f32⟩
  | .hbm, ⟨18, _⟩ => ⟨S1x64x4x128, .f32⟩
  | .hbm, ⟨19, _⟩ => ⟨S4x1x64x128, .f32⟩
  | .hbm, ⟨20, _⟩ => ⟨S32x1x16x64, .f32⟩
  | .hbm, ⟨21, _⟩ => ⟨S1x64x32x16, .f32⟩
  | .hbm, ⟨22, _⟩ => ⟨S1x64x512, .f32⟩
  | .hbm, ⟨23, _⟩ => ⟨S1x64x4x128, .f32⟩
  | .hbm, ⟨24, _⟩ => ⟨S4x1x64x128, .f32⟩
  | .hbm, ⟨25, _⟩ => ⟨S32x1x16x64, .f32⟩
  | .hbm, ⟨26, _⟩ => ⟨S1x64x32x16, .f32⟩
  | .hbm, ⟨27, _⟩ => ⟨S1x64x512, .f32⟩
  | .hbm, ⟨28, _⟩ => ⟨S1x64x4x128, .f32⟩
  | .hbm, ⟨29, _⟩ => ⟨S4x1x64x128, .f32⟩
  | .hbm, ⟨30, _⟩ => ⟨S32x1x16x64, .f32⟩
  | .hbm, ⟨31, _⟩ => ⟨S1x64x32x16, .f32⟩
  | .hbm, ⟨32, _⟩ => ⟨S1x64x512, .f32⟩
  | .hbm, ⟨33, _⟩ => ⟨S1x64x4x128, .f32⟩
  | .hbm, ⟨34, _⟩ => ⟨S4x1x64x128, .f32⟩
  | .hbm, ⟨35, _⟩ => ⟨S32x1x16x64, .f32⟩
  | .hbm, ⟨36, _⟩ => ⟨S1x64x32x16, .f32⟩
  | .hbm, ⟨37, _⟩ => ⟨S1x64x4x128, .f32⟩
  | .hbm, ⟨38, _⟩ => ⟨S4x1x64x128, .f32⟩
  | .hbm, ⟨39, _⟩ => ⟨S4x128x64x64, .f32⟩
  | .hbm, ⟨40, _⟩ => ⟨S4x64x64x128, .f32⟩
  | .hbm, ⟨41, _⟩ => ⟨S1x16x64, .f32⟩
  | .hbm, ⟨42, _⟩ => ⟨S32x16x64, .f32⟩
  | .hbm, ⟨43, _⟩ => ⟨S64x32x16, .f32⟩
  | .hbm, ⟨44, _⟩ => ⟨S64x512, .f32⟩
  | .hbm, ⟨45, _⟩ => ⟨S64x4x128, .f32⟩
  | .hbm, ⟨46, _⟩ => ⟨S4x64x128, .f32⟩
  | .hbm, ⟨47, _⟩ => ⟨S1x16x64, .f32⟩
  | .hbm, ⟨48, _⟩ => ⟨S32x16x64, .f32⟩
  | .hbm, ⟨49, _⟩ => ⟨S64x32x16, .f32⟩
  | .hbm, ⟨50, _⟩ => ⟨S64x4x128, .f32⟩
  | .hbm, ⟨51, _⟩ => ⟨S4x64x128, .f32⟩
  | .hbm, ⟨52, _⟩ => ⟨S1x16x64, .f32⟩
  | .hbm, ⟨53, _⟩ => ⟨S32x16x64, .f32⟩
  | .hbm, ⟨54, _⟩ => ⟨S64x32x16, .f32⟩
  | .hbm, ⟨55, _⟩ => ⟨S64x4x128, .f32⟩
  | .hbm, ⟨56, _⟩ => ⟨S4x64x128, .f32⟩
  | .hbm, ⟨57, _⟩ => ⟨S4x1x64x128, .f32⟩
  | .hbm, ⟨58, _⟩ => ⟨S4x64x64x128, .f32⟩
  | .hbm, ⟨59, _⟩ => ⟨S1x64x4x128, .f32⟩
  | .hbm, ⟨60, _⟩ => ⟨S1x64x32x16, .f32⟩
  | .hbm, ⟨61, _⟩ => ⟨S32x1x16x64, .f32⟩
  | .hbm, ⟨62, _⟩ => ⟨S32x1x1024, .f32⟩
  | .hbm, ⟨63, _⟩ => ⟨S4x128x64x64, .f32⟩
  | .hbm, ⟨64, _⟩ => ⟨S32x16x64x64, .f32⟩
  | .local _ .vmem, ⟨0, _⟩ => ⟨S1x1x64x128, .f32⟩
  | .local _ .vmem, ⟨1, _⟩ => ⟨S1x1x64x128, .f32⟩
  | .local _ .vmem, ⟨2, _⟩ => ⟨S1x1x64x128, .f32⟩
  | .local _ .vmem, ⟨3, _⟩ => ⟨S1x1x64x128, .f32⟩
  | .local _ .vmem, ⟨4, _⟩ => ⟨S1x1x64x128, .f32⟩
  | .local _ .vmem, ⟨5, _⟩ => ⟨S1x1x64x128, .f32⟩
  | .local _ .vmem, ⟨6, _⟩ => ⟨S1x1x64x128, .f32⟩
  | .local _ .vmem, ⟨7, _⟩ => ⟨S1x1x64x128, .f32⟩
  | .local _ .vmem, ⟨8, _⟩ => ⟨S1x1x64x128, .f32⟩
  | .local _ .vmem, ⟨9, _⟩ => ⟨S1x1x64x128, .f32⟩
  | .local _ .vmem, ⟨10, _⟩ => ⟨S1x1x64x128, .f32⟩
  | .local _ .vmem, ⟨11, _⟩ => ⟨S1x1x64x128, .f32⟩
  | .local _ .vmem, ⟨12, _⟩ => ⟨S1x64x64x128, .f32⟩
  | .local _ .vmem, ⟨13, _⟩ => ⟨S1x64x64x128, .f32⟩
  | .local _ .vmem, ⟨14, _⟩ => ⟨S1x64x128, .f32⟩
  | .local _ .vmem, ⟨15, _⟩ => ⟨S1x64x128, .f32⟩
  | .local _ .vmem, ⟨16, _⟩ => ⟨S1x64x128, .f32⟩
  | .local _ .vmem, ⟨17, _⟩ => ⟨S1x64x128, .f32⟩
  | .local _ .vmem, ⟨18, _⟩ => ⟨S1x64x128, .f32⟩
  | .local _ .vmem, ⟨19, _⟩ => ⟨S1x64x128, .f32⟩
  | .local _ .vmem, ⟨20, _⟩ => ⟨S1x1x64x128, .f32⟩
  | .local _ .vmem, ⟨21, _⟩ => ⟨S1x1x64x128, .f32⟩
  | .local _ .vmem, ⟨22, _⟩ => ⟨S1x64x64x128, .f32⟩
  | .local _ .vmem, ⟨23, _⟩ => ⟨S1x64x64x128, .f32⟩
  | .local _ .vmem, ⟨24, _⟩ => ⟨S64x64x128, .f32⟩
  | .local _ .vmem, ⟨25, _⟩ => ⟨S1x64x128, .f32⟩
  | .local _ .vmem, ⟨26, _⟩ => ⟨S1x64x128, .f32⟩
  | .local _ .vmem, ⟨27, _⟩ => ⟨S1x64x128, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47_0 : Ref sig .tc := ⟨.hbm, 57, rfl⟩
abbrev main_v47_1 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![4, 1], ![false, false]⟩

def k0_cond2 (i : grid0.Coords) : BitVec 1 :=
  let arg1 : BitVec 32 := BitVec.ofNat 32 (i 1).val
  let c0_i32_896 : BitVec 32 := 0#32
  let v1809 : BitVec 1 := Scalar.cmpi .eq arg1 c0_i32_896
  let v1810 : BitVec 32 := Scalar.extui v1809
  let c0_i32_897 : BitVec 32 := 0#32
  let v1811 : BitVec 1 := Scalar.cmpi .ne v1810 c0_i32_897
  v1811

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x64x64x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Reference8Ideal.lean ====
abbrev S32x1x1024 : Shape := ⟨3, ![32, 1, 1024]⟩
abbrev S32x16x64x64 : Shape := ⟨4, ![32, 16, 64, 64]⟩
abbrev S1024 : Shape := ⟨1, ![1024]⟩
abbrev S32x16x64 : Shape := ⟨3, ![32, 16, 64]⟩
abbrev S_ : Shape := ⟨0, ![]⟩
abbrev S32x16 : Shape := ⟨2, ![32, 16]⟩
abbrev S32x16x1 : Shape := ⟨3, ![32, 16, 1]⟩
abbrev S32x16x1x64 : Shape := ⟨4, ![32, 16, 1, 64]⟩
abbrev S32x16x64x1 : Shape := ⟨4, ![32, 16, 64, 1]⟩
abbrev S1x1x1024 : Shape := ⟨3, ![1, 1, 1024]⟩
abbrev S16x64 : Shape := ⟨2, ![16, 64]⟩
abbrev S1x16x64 : Shape := ⟨3, ![1, 16, 64]⟩

abbrev nBuf : Space → Nat
  | .hbm => 87
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S32x1x1024, .f32⟩
  | .hbm, ⟨2, _⟩ => ⟨S32x1x1024, .f32⟩
  | .hbm, ⟨3, _⟩ => ⟨S32x1x1024, .f32⟩
  | .hbm, ⟨4, _⟩ => ⟨S32x1x1024, .f32⟩
  | .hbm, ⟨5, _⟩ => ⟨S32x1x1024, .f32⟩
  | .hbm, ⟨6, _⟩ => ⟨S32x16x64x64, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S32x16x64, .f32⟩
  | .hbm, ⟨11, _⟩ => ⟨S32x16x64, .f32⟩
  | .hbm, ⟨12, _⟩ => ⟨S_, .f32⟩
  | .hbm, ⟨13, _⟩ => ⟨S32x16, .f32⟩
  | .hbm, ⟨14, _⟩ => ⟨S32x16x1, .f32⟩
  | .hbm, ⟨15, _⟩ => ⟨S32x16x1, .f32⟩
  | .hbm, ⟨16, _⟩ => ⟨S_, .f32⟩
  | .hbm, ⟨17, _⟩ => ⟨S32x16x1, .f32⟩
  | .hbm, ⟨18, _⟩ => ⟨S32x16x1, .f32⟩
  | .hbm, ⟨19, _⟩ => ⟨S32x16x64, .f32⟩
  | .hbm, ⟨20, _⟩ => ⟨S32x16x64, .f32⟩
  | .hbm, ⟨21, _⟩ => ⟨S32x16x64, .f32⟩
  | .hbm, ⟨22, _⟩ => ⟨S32x16x64, .f32⟩
  | .hbm, ⟨23, _⟩ => ⟨S32x16x64, .f32⟩
  | .hbm, ⟨24, _⟩ => ⟨S32x16x64, .f32⟩
  | .hbm, ⟨25, _⟩ => ⟨S32x16x64, .f32⟩
  | .hbm, ⟨26, _⟩ => ⟨S32x16x64, .f32⟩
  | .hbm, ⟨27, _⟩ => ⟨S32x16x64, .f32⟩
  | .hbm, ⟨28, _⟩ => ⟨S32x16x1x64, .f32⟩
  | .hbm, ⟨29, _⟩ => ⟨S32x16x64x64, .f32⟩
  | .hbm, ⟨30, _⟩ => ⟨S32x16x64x64, .f32⟩
  | .hbm, ⟨31, _⟩ => ⟨S32x16x64x1, .f32⟩
  | .hbm, ⟨32, _⟩ => ⟨S32x16x64, .f32⟩
  | .hbm, ⟨33, _⟩ => ⟨S32x16x1x64, .f32⟩
  | .hbm, ⟨34, _⟩ => ⟨S32x16x64x64, .f32⟩
  | .hbm, ⟨35, _⟩ => ⟨S32x16x64x64, .f32⟩
  | .hbm, ⟨36, _⟩ => ⟨S32x16x64x64, .f32⟩
  | .hbm, ⟨37, _⟩ => ⟨S32x16x64x64, .f32⟩
  | .hbm, ⟨38, _⟩ => ⟨S32x16x64x1, .f32⟩
  | .hbm, ⟨39, _⟩ => ⟨S32x16x1x64, .f32⟩
  | .hbm, ⟨40, _⟩ => ⟨S32x16x64x64, .f32⟩
  | .hbm, ⟨41, _⟩ => ⟨S32x16x64x64, .f32⟩
  | .hbm, ⟨42, _⟩ => ⟨S32x16x64x64, .f32⟩
  | .hbm, ⟨43, _⟩ => ⟨S32x16x64x64, .f32⟩
  | .hbm, ⟨44, _⟩ => ⟨S32x16x64, .f32⟩
  | .hbm, ⟨45, _⟩ => ⟨S_, .f32⟩
  | .hbm, ⟨46, _⟩ => ⟨S32x16, .f32⟩
  | .hbm, ⟨47, _⟩ => ⟨S32x16x1, .f32⟩
  | .hbm, ⟨48, _⟩ => ⟨S_, .f32⟩
  | .hbm, ⟨49, _⟩ => ⟨S32x16x1, .f32⟩
  | .hbm, ⟨50, _⟩ => ⟨S32x16x1, .f32⟩
  | .hbm, ⟨51, _⟩ => ⟨S32x16x64, .f32⟩
  | .hbm, ⟨52, _⟩ => ⟨S32x16x64, .f32⟩
  | .hbm, ⟨53, _⟩ => ⟨S32x16x64, .f32⟩
  | .hbm, ⟨54, _⟩ => ⟨S_, .f32⟩
  | .hbm, ⟨55, _⟩ => ⟨S32x16, .f32⟩
  | .hbm, ⟨56, _⟩ => ⟨S32x16x1, .f32⟩
  | .hbm, ⟨57, _⟩ => ⟨S_, .f32⟩
  | .hbm, ⟨58, _⟩ => ⟨S32x16x1, .f32⟩
  | .hbm, ⟨59, _⟩ => ⟨S32x16x1, .f32⟩
  | .hbm, ⟨60, _⟩ => ⟨S32x16x64, .f32⟩
  | .hbm, ⟨61, _⟩ => ⟨S32x16x64, .f32⟩
  | .hbm, ⟨62, _⟩ => ⟨S_, .f32⟩
  | .hbm, ⟨63, _⟩ => ⟨S32x16x1, .f32⟩
  | .hbm, ⟨64, _⟩ => ⟨S32x16x1, .f32⟩
  | .hbm, ⟨65, _⟩ => ⟨S32x16x1, .f32⟩
  | .hbm, ⟨66, _⟩ => ⟨S32x16x64, .f32⟩
  | .hbm, ⟨67, _⟩ => ⟨S32x16x64, .f32⟩
  | .hbm, ⟨68, _⟩ => ⟨S32x1x1024, .f32⟩
  | .hbm, ⟨69, _⟩ => ⟨S1x1x1024, .f32⟩
  | .hbm, ⟨70, _⟩ => ⟨S32x1x1024, .f32⟩
  | .hbm, ⟨71, _⟩ => ⟨S32x1x1024, .f32⟩
  | .hbm, ⟨72, _⟩ => ⟨S1x1x1024, .f32⟩
  | .hbm, ⟨73, _⟩ => ⟨S32x1x1024, .f32⟩
  | .hbm, ⟨74, _⟩ => ⟨S32x1x1024, .f32⟩
  | .hbm, ⟨75, _⟩ => ⟨S32x16x64, .f32⟩
  | .hbm, ⟨76, _⟩ => ⟨S16x64, .f32⟩
  | .hbm, ⟨77, _⟩ => ⟨S1x16x64, .f32⟩
  | .hbm, ⟨78, _⟩ => ⟨S32x16x64, .f32⟩
  | .hbm, ⟨79, _⟩ => ⟨S32x16x64, .f32⟩
  | .hbm, ⟨80, _⟩ => ⟨S_, .f32⟩
  | .hbm, ⟨81, _⟩ => ⟨S32x16, .f32⟩
  | .hbm, ⟨82, _⟩ => ⟨S32x16x1, .f32⟩
  | .hbm, ⟨83, _⟩ => ⟨S32x16x64, .f32⟩
  | .hbm, ⟨84, _⟩ => ⟨S32x16x64, .f32⟩
  | .hbm, ⟨85, _⟩ => ⟨S32x1x1024, .f32⟩
  | .hbm, ⟨86, _⟩ => ⟨S32x1x1024, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_1 : Ref sig .tc := ⟨.hbm, 45, rfl⟩
abbrev main_v33 : Ref sig .tc := ⟨.hbm, 46, rfl⟩
abbrev main_v34 : Ref sig .tc := ⟨.hbm, 47, rfl⟩
abbrev main_cst_2 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_3 : Ref sig .tc := ⟨.hbm, 54, rfl⟩
abbrev main_v40 : Ref sig .tc := ⟨.hbm, 55, rfl⟩
abbrev main_v41 : Ref sig .tc := ⟨.hbm, 56, rfl⟩
abbrev main_cst_4 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_5 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_6 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]
-- ==== Kernel9.lean ====
abbrev S32x1024 : Shape := ⟨2, ![32, 1024]⟩
abbrev S32x2048 : Shape := ⟨2, ![32, 2048]⟩
abbrev S2048x2048 : Shape := ⟨2, ![2048, 2048]⟩
abbrev S2048x1024 : Shape := ⟨2, ![2048, 1024]⟩

abbrev nBuf : Space → Nat
  | .hbm => 7
  | .vmem => 10
  | .smem => 0
  | _ => 0

abbrev bufTy : (tb : Table) → Fin (tcTables nBuf tb) → BufTy
  | .hbm, ⟨0, _⟩ => ⟨S32x1024, .f32⟩
  | .hbm, ⟨1, _⟩ => ⟨S32x1024, .f32⟩
  | .hbm, ⟨2, _⟩ => ⟨S32x1024, .bf16⟩
  | .hbm, ⟨3, _⟩ => ⟨S32x2048, .f32⟩
  | .hbm, ⟨4, _⟩ => ⟨S2048x2048, .f32⟩
  | .hbm, ⟨5, _⟩ => ⟨S2048x2048, .bf16⟩
  | .hbm, ⟨6, _⟩ => ⟨S32x2048, .f32⟩
  | .local _ .vmem, ⟨0, _⟩ => ⟨S32x1024, .f32⟩
  | .local _ .vmem, ⟨1, _⟩ => ⟨S32x1024, .f32⟩
  | .local _ .vmem, ⟨2, _⟩ => ⟨S32x1024, .bf16⟩
  | .local _ .vmem, ⟨3, _⟩ => ⟨S32x1024, .f32⟩
  | .local _ .vmem, ⟨4, _⟩ => ⟨S32x1024, .f32⟩
  | .local _ .vmem, ⟨5, _⟩ => ⟨S2048x1024, .bf16⟩
  | .local _ .vmem, ⟨6, _⟩ => ⟨S2048x1024, .bf16⟩
  | .local _ .vmem, ⟨7, _⟩ => ⟨S32x1024, .f32⟩
  | .local _ .vmem, ⟨8, _⟩ => ⟨S32x1024, .f32⟩
  | .local _ .vmem, ⟨9, _⟩ => ⟨S32x2048, .bf16⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S32x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference9Ideal.lean ====
abbrev S32x1024 : Shape := ⟨2, ![32, 1024]⟩
abbrev S32x2048 : Shape := ⟨2, ![32, 2048]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S32x1024, .f32⟩
  | .hbm, ⟨2, _⟩ => ⟨S32x1024, .bf16⟩
  | .hbm, ⟨3, _⟩ => ⟨S32x2048, .f32⟩
  | .hbm, ⟨4, _⟩ => ⟨S2048x2048, .f32⟩
  | .hbm, ⟨5, _⟩ => ⟨S32x1024, .f32⟩
  | .hbm, ⟨6, _⟩ => ⟨S32x1024, .f32⟩
  | .hbm, ⟨7, _⟩ => ⟨S32x2048, .f32⟩
  | .hbm, ⟨8, _⟩ => ⟨S32x2048, .f32⟩
  | .hbm, ⟨9, _⟩ => ⟨S32x2048, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== Kernel10.lean ====
abbrev S32x16x64 : Shape := ⟨3, ![32, 16, 64]⟩
abbrev S32x48 : Shape := ⟨2, ![32, 48]⟩
abbrev S32x3x16x1 : Shape := ⟨4, ![32, 3, 16, 1]⟩
abbrev S32x1x16x1 : Shape := ⟨4, ![32, 1, 16, 1]⟩
abbrev S32x16x1 : Shape := ⟨3, ![32, 16, 1]⟩
abbrev S32x1024 : Shape := ⟨2, ![32, 1024]⟩

abbrev nBuf : Space → Nat
  | .hbm => 7
  | .vmem => 5
  | .smem => 0
  | _ => 0

abbrev bufTy : (tb : Table) → Fin (tcTables nBuf tb) → BufTy
  | .hbm, ⟨0, _⟩ => ⟨S32x16x64, .f32⟩
  | .hbm, ⟨1, _⟩ => ⟨S32x16x64, .f32⟩
  | .hbm, ⟨2, _⟩ => ⟨S32x16x64, .f32⟩
  | .hbm, ⟨3, _⟩ => ⟨S32x48, .f32⟩
  | .hbm, ⟨4, _⟩ => ⟨S32x3x16x1, .f32⟩
  | .hbm, ⟨5, _⟩ => ⟨S32x16x64, .bf16⟩
  | .hbm, ⟨6, _⟩ => ⟨S32x1024, .bf16⟩
  | .local _ .vmem, ⟨0, _⟩ => ⟨S32x16x64, .f32⟩
  | .local _ .vmem, ⟨1, _⟩ => ⟨S32x16x64, .f32⟩
  | .local _ .vmem, ⟨2, _⟩ => ⟨S32x16x64, .f32⟩
  | .local _ .vmem, ⟨3, _⟩ => ⟨S32x3x16x1, .f32⟩
  | .local _ .vmem, ⟨4, _⟩ => ⟨S32x16x64, .bf16⟩
  | _, _ => ⟨S32x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S32x16x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x3x16x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x16x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Reference10Ideal.lean ====
abbrev S32x16x64 : Shape := ⟨3, ![32, 16, 64]⟩
abbrev S32x48 : Shape := ⟨2, ![32, 48]⟩
abbrev S_ : Shape := ⟨0, ![]⟩
abbrev S32x3x16x1 : Shape := ⟨4, ![32, 3, 16, 1]⟩
abbrev S32x1x16x1 : Shape := ⟨4, ![32, 1, 16, 1]⟩
abbrev S32x16x1 : Shape := ⟨3, ![32, 16, 1]⟩
abbrev S32x1024 : Shape := ⟨2, ![32, 1024]⟩

abbrev nBuf : Space → Nat
  | .hbm => 29
  | .vmem => 0
  | .smem => 0
  | _ => 0

abbrev bufTy : (tb : Table) → Fin (tcTables nBuf tb) → BufTy
  | .hbm, ⟨0, _⟩ => ⟨S32x16x64, .f32⟩
  | .hbm, ⟨1, _⟩ => ⟨S32x16x64, .f32⟩
  | .hbm, ⟨2, _⟩ => ⟨S32x16x64, .f32⟩
  | .hbm, ⟨3, _⟩ => ⟨S32x48, .f32⟩
  | .hbm, ⟨4, _⟩ => ⟨S32x48, .f32⟩
  | .hbm, ⟨5, _⟩ => ⟨S32x48, .f32⟩
  | .hbm, ⟨6, _⟩ => ⟨S_, .f32⟩
  | .hbm, ⟨7, _⟩ => ⟨S32x48, .f32⟩
  | .hbm, ⟨8, _⟩ => ⟨S32x48, .f32⟩
  | .hbm, ⟨9, _⟩ => ⟨S_, .f32⟩
  | .hbm, ⟨10, _⟩ => ⟨S32x48, .f32⟩
  | .hbm, ⟨11, _⟩ => ⟨S32x48, .f32⟩
  | .hbm, ⟨12, _⟩ => ⟨S32x3x16x1, .f32⟩
  | .hbm, ⟨13, _⟩ => ⟨S32x1x16x1, .f32⟩
  | .hbm, ⟨14, _⟩ => ⟨S32x16x1, .f32⟩
  | .hbm, ⟨15, _⟩ => ⟨S32x16x64, .f32⟩
  | .hbm, ⟨16, _⟩ => ⟨S32x16x64, .f32⟩
  | .hbm, ⟨17, _⟩ => ⟨S32x1x16x1, .f32⟩
  | .hbm, ⟨18, _⟩ => ⟨S32x16x1, .f32⟩
  | .hbm, ⟨19, _⟩ => ⟨S32x16x64, .f32⟩
  | .hbm, ⟨20, _⟩ => ⟨S32x16x64, .f32⟩
  | .hbm, ⟨21, _⟩ => ⟨S32x16x64, .f32⟩
  | .hbm, ⟨22, _⟩ => ⟨S32x1x16x1, .f32⟩
  | .hbm, ⟨23, _⟩ => ⟨S32x16x1, .f32⟩
  | .hbm, ⟨24, _⟩ => ⟨S32x16x64, .f32⟩
  | .hbm, ⟨25, _⟩ => ⟨S32x16x64, .f32⟩
  | .hbm, ⟨26, _⟩ => ⟨S32x16x64, .f32⟩
  | .hbm, ⟨27, _⟩ => ⟨S32x1024, .f32⟩
  | .hbm, ⟨28, _⟩ => ⟨S32x1024, .bf16⟩
  | _, _ => ⟨S32x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Kernel11.lean ====
abbrev S4x2048x2x4x64 : Shape := ⟨5, ![4, 2048, 2, 4, 64]⟩
abbrev S2x2048x64 : Shape := ⟨3, ![2, 2048, 64]⟩
abbrev S4x128x8192 : Shape := ⟨3, ![4, 128, 8192]⟩
abbrev S2x2x16x64x64 : Shape := ⟨5, ![2, 2, 16, 64, 64]⟩
abbrev S2x2 : Shape := ⟨2, ![2, 2]⟩
abbrev S_ : Shape := ⟨0, ![]⟩
abbrev S1x1x2x1x1x2x1 : Shape := ⟨7, ![1, 1, 2, 1, 1, 2, 1]⟩
abbrev S2x16x64x2x64 : Shape := ⟨5, ![2, 16, 64, 2, 64]⟩
abbrev S2x16x1x64x2x1x64 : Shape := ⟨7, ![2, 16, 1, 64, 2, 1, 64]⟩
abbrev S2x16x2x64x2x2x64 : Shape := ⟨7, ![2, 16, 2, 64, 2, 2, 64]⟩
abbrev S2x16x128x256 : Shape := ⟨4, ![2, 16, 128, 256]⟩
abbrev S4x128x1024 : Shape := ⟨3, ![4, 128, 1024]⟩
abbrev S1x128x8192 : Shape := ⟨3, ![1, 128, 8192]⟩
abbrev S1x128x1024 : Shape := ⟨3, ![1, 128, 1024]⟩
abbrev S1x128x128 : Shape := ⟨3, ![1, 128, 128]⟩
abbrev S128x128 : Shape := ⟨2, ![128, 128]⟩
abbrev S1x1x128x256 : Shape := ⟨4, ![1, 1, 128, 256]⟩
abbrev S128x256 : Shape := ⟨2, ![128, 256]⟩

abbrev nBuf : Space → Nat
  | .hbm => 19
  | .vmem => 5
  | .smem => 0
  | _ => 0

abbrev bufTy : (tb : Table) → Fin (tcTables nBuf tb) → BufTy
  | .hbm, ⟨0, _⟩ => ⟨S4x2048x2x4x64, .f32⟩
  | .hbm, ⟨1, _⟩ => ⟨S2x2048x64, .f32⟩
  | .hbm, ⟨2, _⟩ => ⟨S4x128x8192, .f32⟩
  | .hbm, ⟨3, _⟩ => ⟨S2x2x16x64x64, .f32⟩
  | .hbm, ⟨4, _⟩ => ⟨S2x2, .i32⟩
  | .hbm, ⟨5, _⟩ => ⟨S2x2, .i32⟩
  | .hbm, ⟨6, _⟩ => ⟨S_, .i32⟩
  | .hbm, ⟨7, _⟩ => ⟨S2x2, .i32⟩
  | .hbm, ⟨8, _⟩ => ⟨S2x2, .i32⟩
  | .hbm, ⟨9, _⟩ => ⟨S2x2, .i1⟩
  | .hbm, ⟨10, _⟩ => ⟨S2x2, .f32⟩
  | .hbm, ⟨11, _⟩ => ⟨S1x1x2x1x1x2x1, .f32⟩
  | .hbm, ⟨12, _⟩ => ⟨S2x16x64x2x64, .f32⟩
  | .hbm, ⟨13, _⟩ => ⟨S2x16x1x64x2x1x64, .f32⟩
  | .hbm, ⟨14, _⟩ => ⟨S2x16x2x64x2x2x64, .f32⟩
  | .hbm, ⟨15, _⟩ => ⟨S2x16x2x64x2x2x64, .f32⟩
  | .hbm, ⟨16, _⟩ => ⟨S2x16x2x64x2x2x64, .f32⟩
  | .hbm, ⟨17, _⟩ => ⟨S2x16x128x256, .f32⟩
  | .hbm, ⟨18, _⟩ => ⟨S4x128x1024, .f32⟩
  | .local _ .vmem, ⟨0, _⟩ => ⟨S1x128x8192, .f32⟩
  | .local _ .vmem, ⟨1, _⟩ => ⟨S1x128x8192, .f32⟩
  | .local _ .vmem, ⟨2, _⟩ => ⟨S2x16x128x256, .f32⟩
  | .local _ .vmem, ⟨3, _⟩ => ⟨S1x128x1024, .f32⟩
  | .local _ .vmem, ⟨4, _⟩ => ⟨S1x128x1024, .f32⟩
  | _, _ => ⟨S4x2048x2x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x16x128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference11Ideal.lean ====
abbrev S4x2048x2x4x64 : Shape := ⟨5, ![4, 2048, 2, 4, 64]⟩
abbrev S2x2048x64 : Shape := ⟨3, ![2, 2048, 64]⟩
abbrev S4x128x16x2x4x64 : Shape := ⟨6, ![4, 128, 16, 2, 4, 64]⟩
abbrev S2x32x64x64 : Shape := ⟨4, ![2, 32, 64, 64]⟩
abbrev S2x2x16x64x64 : Shape := ⟨5, ![2, 2, 16, 64, 64]⟩
abbrev S2x2x64x4x128x4 : Shape := ⟨6, ![2, 2, 64, 4, 128, 4]⟩
abbrev S4x128x2x2x4x64 : Shape := ⟨6, ![4, 128, 2, 2, 4, 64]⟩
abbrev S4x128x1024 : Shape := ⟨3, ![4, 128, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4x2048x2x4x64, .f32⟩
  | .hbm, ⟨1, _⟩ => ⟨S2x2048x64, .f32⟩
  | .hbm, ⟨2, _⟩ => ⟨S4x128x16x2x4x64, .f32⟩
  | .hbm, ⟨3, _⟩ => ⟨S2x32x64x64, .f32⟩
  | .hbm, ⟨4, _⟩ => ⟨S2x2x16x64x64, .f32⟩
  | .hbm, ⟨5, _⟩ => ⟨S2x2x64x4x128x4, .f32⟩
  | .hbm, ⟨6, _⟩ => ⟨S4x128x2x2x4x64, .f32⟩
  | .hbm, ⟨7, _⟩ => ⟨S4x128x1024, .f32⟩
  | _, _ => ⟨S4x2048x2x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Proof.FfnValue.lean ====
module

public import proofs.«01_k».proof.Proof.Gen.Kernel2Ideal.Value
public import proofs.«01_k».proof.Proof.Gen.Reference2Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel2Ideal.Ffn

open Cert.Kernel2Ideal Cert.Kernel2Ideal.Gen
open Cert.Reference2Ideal.Read

variable (m : (ℓ : Loc nD τ sig) → Buf (Elt Ideal) ℓ)

/-- The block every window stages at a point: rows move with `t / 11`, the hidden columns with `t % 11`. -/
theorem idx : ∀ t : Fin cfg0.N, win0_0.index t = ![t.val / 11, 0] ∧ win0_1.index t = ![0, 0]
    ∧ win0_2.index t = ![0, t.val % 11] ∧ win0_3.index t = ![0, t.val % 11]
    ∧ win0_4.index t = ![t.val % 11, 0] ∧ win0_5.index t = ![0, 0] ∧ win0_6.index t = ![t.val / 11, 0] :=
  (by decide +kernel : ∀ t : Fin grid0.N, _)

/-- A point's number is below 176. -/
theorem t_lt (t : Fin cfg0.N) : t.val < 176 := lt_of_lt_of_eq t.isLt N_0

/-- The normalised rows a point of row block `t / 11` computes are the reference's. -/
theorem pay1_at (c : Dev nD) (t : Fin cfg0.N) (y : S512x2048.Idx) (i : S8192x2048.Idx)
    (h0 : (i 0 : ℕ) = t.val / 11 * 512 + (y 0 : ℕ)) (h1 : (i 1 : ℕ) = (y 1 : ℕ)) :
    k0_pay1 (F := Ideal) (iblk m c 0 t) (iblk m c 1 t) y
      = val_main_v12 (F := Ideal) (m ((c : Thread nD τ).loc main_arg0)) (m ((c : Thread nD τ).loc main_arg1)) i := by
  pointwise [k0_pay1, val_main_v12, val_main_v11, val_main_v10, val_main_v9, val_main_v8, val_main_v7, val_main_v6,
    val_main_v5, val_main_v4, val_main_v3, val_main_v2, val_main_v1, val_main_v0, val_main_cst, val_main_cst_0, val_main_cst_1]
  blk_point [iblk, V, idx t]

/-- The arrays of the program, named at the reference's types. -/
abbrev ax (c : Dev nD) : (⟨S8192x2048, .f32⟩ : BufTy).Contents (Elt Ideal) := m ((c : Thread nD τ).loc main_arg0)
abbrev ag (c : Dev nD) : (⟨S2048, .f32⟩ : BufTy).Contents (Elt Ideal) := m ((c : Thread nD τ).loc main_arg1)
abbrev awg (c : Dev nD) : (⟨S2048x5632, .f32⟩ : BufTy).Contents (Elt Ideal) := m ((c : Thread nD τ).loc main_arg2)
abbrev awu (c : Dev nD) : (⟨S2048x5632, .f32⟩ : BufTy).Contents (Elt Ideal) := m ((c : Thread nD τ).loc main_arg3)
abbrev awd (c : Dev nD) : (⟨S5632x2048, .f32⟩ : BufTy).Contents (Elt Ideal) := m ((c : Thread nD τ).loc main_arg4)
abbrev agl (c : Dev nD) : (⟨S2048, .f32⟩ : BufTy).Contents (Elt Ideal) := m ((c : Thread nD τ).loc main_arg5)

/-- The array index a block index of row block `q` sits at. -/
abbrev rowIx (q : ℕ) (hq : q < 16) (y : S512x2048.Idx) : S8192x2048.Idx :=
  ix2 ⟨q * 512 + (y 0 : ℕ), by have : (y 0 : ℕ) < 512 := (y 0).isLt; omega⟩ (y 1)

theorem rowIx_congr {q q' : ℕ} (h : q = q') (hq : q < 16) (hq' : q' < 16) (y : S512x2048.Idx) :
    rowIx q hq y = rowIx q' hq' y := by subst h; rfl

/-- The gated hidden value of the reference at an index. -/
theorem v16_at (x0 : (⟨S8192x2048, .f32⟩ : BufTy).Contents (Elt Ideal)) (x1 : (⟨S2048, .f32⟩ : BufTy).Contents (Elt Ideal))
    (x2 x3 : (⟨S2048x5632, .f32⟩ : BufTy).Contents (Elt Ideal)) (i : Cert.Reference2Ideal.S8192x5632.Idx) :
    val_main_v16 (F := Ideal) x0 x1 x2 x3 i
      = (∑ k : Fin 2048, val_main_v12 (F := Ideal) x0 x1 (ix2 (i 0) k) * x2 (ix2 k (i 1)))
          * Ideal.div 1 (1 + Ideal.exp (-∑ k : Fin 2048, val_main_v12 (F := Ideal) x0 x1 (ix2 (i 0) k) * x2 (ix2 k (i 1))))
          * ∑ k : Fin 2048, val_main_v12 (F := Ideal) x0 x1 (ix2 (i 0) k) * x3 (ix2 k (i 1)) := by
  unfold val_main_v16 val_main_v14 val_main_call0_v5 val_main_call0_v4 val_main_call0_v3 val_main_call0_v2
    val_main_call0_v1 val_main_call0_v0 val_main_call0_cst val_main_call0_cst_0 val_main_v13 val_main_v15
  generalize val_main_v12 (F := Ideal) x0 x1 = h
  pointwise

/-- What one point adds to the accumulator: the reference's product over the point's 512 hidden columns. -/
theorem pay3_at (c : Dev nD) (t : Fin cfg0.N) (h : Vec Ideal S512x2048 .bf16) (acc : Vec Ideal S512x2048 .f32)
    (hq : t.val / 11 < 16) (hs : t.val % 11 < 11)
    (hh : ∀ y, h y = val_main_v12 (F := Ideal) (ax m c) (ag m c) (rowIx (t.val / 11) hq y)) (y : S512x2048.Idx) :
    k0_pay3 (F := Ideal) h (iblk m c 2 t) (iblk m c 3 t) acc (iblk m c 4 t) y
      = acc y + ∑ k : Fin 512,
          val_main_v16 (F := Ideal) (ax m c) (ag m c) (awg m c) (awu m c)
            (ix2 ⟨t.val / 11 * 512 + (y 0 : ℕ), by have : (y 0 : ℕ) < 512 := (y 0).isLt; omega⟩ ⟨t.val % 11 * 512 + (k : ℕ), by omega⟩)
          * awd m c (ix2 ⟨t.val % 11 * 512 + (k : ℕ), by omega⟩ (y 1)) := by
  simp only [v16_at]
  pointwise [k0_pay3]
  simp only [hh, zero_sub, rowIx]
  blk_point [iblk, V, idx t]

/-- The zero fill. -/
theorem pay2_at (y : S512x2048.Idx) : k0_pay2 (F := Ideal) y = 0 := by pointwise [k0_pay2]

/-- The last point's residual and normalisation. -/
theorem pay4_at (c : Dev nD) (t : Fin cfg0.N) (acc : Vec Ideal S512x2048 .f32) (hq : t.val / 11 < 16)
    (ha : ∀ y, acc y = val_main_v17 (F := Ideal) (ax m c) (ag m c) (awg m c) (awu m c) (awd m c) (rowIx (t.val / 11) hq y))
    (y : S512x2048.Idx) :
    k0_pay4 (F := Ideal) (iblk m c 0 t) acc (iblk m c 5 t) y
      = val_main_v31 (F := Ideal) (ax m c) (ag m c) (awg m c) (awu m c) (awd m c) (agl m c) (rowIx (t.val / 11) hq y) := by
  unfold val_main_v31 val_main_v30 val_main_v29 val_main_v28 val_main_v27 val_main_v26 val_main_v25 val_main_v24
    val_main_v23 val_main_v22 val_main_v21 val_main_v20 val_main_v19 val_main_v18 val_main_cst_2 val_main_cst_3 val_main_cst_4
  generalize val_main_v17 (F := Ideal) (ax m c) (ag m c) (awg m c) (awu m c) (awd m c) = w at ha ⊢
  pointwise [k0_pay4]
  simp only [ha, rowIx]
  blk_point [iblk, V, idx t]

/-- A carried scratch read back is what the point before left. -/
theorem carry0 (X : Vec Ideal S512x2048 .bf16) (h : scM0_0.IsWhole) :
    View.read (Elt Ideal) (View.whole cc0_scratch0) (h.unread X) = X := h.read_unread X

@[inherit_doc carry0]
theorem carry1 (X : Vec Ideal S512x2048 .f32) (h : scM0_1.IsWhole) :
    View.read (Elt Ideal) (View.whole cc0_scratch1) (h.unread X) = X := h.read_unread X

/-- After every point the first scratch holds the normalised rows of the point's row block. -/
theorem h_at (c : Dev nD) : ∀ (n : ℕ) (hn : n < cfg0.N) (hq : n / 11 < 16) (y : S512x2048.Idx),
    (outsAt0 m c n hn).2.1 y = val_main_v12 (F := Ideal) (ax m c) (ag m c) (rowIx (n / 11) hq y) := by
  intro n
  induction n with
  | zero =>
    intro hn hq y
    rw [outsAt0_A m c ⟨0, hn⟩ (Nat.zero_mod _) (by show ¬ 0 % 11 = 10; decide)]
    frame_out
    exact pay1_at m c ⟨0, hn⟩ y _ rfl rfl
  | succ n ih =>
    intro hn hq y
    by_cases h0 : (n + 1) % 11 = 0
    · rw [outsAt0_A m c ⟨n + 1, hn⟩ h0 (by show ¬ (n + 1) % 11 = 10; omega)]
      frame_out
      exact pay1_at m c ⟨n + 1, hn⟩ y _ rfl rfl
    · have e : (n + 1) / 11 = n / 11 := by omega
      by_cases h1 : (n + 1) % 11 = 10
      · rw [outsAt0_C m c ⟨n + 1, hn⟩ h0 h1]
        unfold sout0_C_0
        exact Eq.trans (ih (Nat.lt_of_succ_lt hn) (by omega) y) (congrArg _ (rowIx_congr e.symm _ _ y))
      · rw [outsAt0_B m c ⟨n + 1, hn⟩ h0 h1]
        unfold sout0_B_0
        exact Eq.trans (ih (Nat.lt_of_succ_lt hn) (by omega) y) (congrArg _ (rowIx_congr e.symm _ _ y))

/-- The part a point adds. -/
def part (c : Dev nD) (t : Fin cfg0.N) (y : S512x2048.Idx) : EReal :=
  ∑ k : Fin 512,
    val_main_v16 (F := Ideal) (ax m c) (ag m c) (awg m c) (awu m c)
      (ix2 ⟨t.val / 11 * 512 + (y 0 : ℕ), by have : (y 0 : ℕ) < 512 := (y 0).isLt; have := t_lt t; omega⟩ ⟨t.val % 11 * 512 + (k : ℕ), by omega⟩)
    * awd m c (ix2 ⟨t.val % 11 * 512 + (k : ℕ), by omega⟩ (y 1))

/-- At the last point of a row block the accumulator holds the reference's down projection. -/
theorem acc_at (c : Dev nD) (t : Fin cfg0.N) (ht : t.val % 11 = 10) (hq : t.val / 11 < 16) (y : S512x2048.Idx) :
    (outsAt0 m c t.val t.isLt).2.2 y
      = val_main_v17 (F := Ideal) (ax m c) (ag m c) (awg m c) (awu m c) (awd m c) (rowIx (t.val / 11) hq y) := by
  have key := Pipeline.eq_sum_fin_of_reset_step_apply_of_flush (fun n h => (outsAt0 m c n h).2.2) 11 (fun _ => (0 : EReal))
    (part m c)
    (fun t h j => by
      have hl := t_lt t
      rw [outsAt0_A m c t h (by omega)]; frame_out
      rw [pay3_at m c t _ _ (by omega) (by omega) (fun y => pay1_at m c t y _ rfl rfl), pay2_at]; rfl)
    (fun t h j => by
      have hl := t_lt t
      have e : (t.val - 1) / 11 = t.val / 11 := by omega
      by_cases h1 : t.val % 11 = 10
      · rw [outsAt0_C m c t h h1]; frame_out
        rw [pay3_at m c t _ _ (by omega) (by omega) (fun y => by
          rw [carry0, h_at m c (t.val - 1) _ (by omega) y]; exact congrArg _ (rowIx_congr e _ _ y)), carry1]; rfl
      · rw [outsAt0_B m c t h h1]; frame_out
        rw [pay3_at m c t _ _ (by omega) (by omega) (fun y => by
          rw [carry0, h_at m c (t.val - 1) _ (by omega) y]; exact congrArg _ (rowIx_congr e _ _ y)), carry1]; rfl)
    t ht y
  rw [key, zero_add, val_main_v17_apply]
  unfold part
  refine Fin.sum_mul_add_congr fun s k hl => ?_
  have hs := s.isLt
  have e1 : (11 * (t.val / 11) + s.val) / 11 = t.val / 11 := by omega
  have e2 : (11 * (t.val / 11) + s.val) % 11 = s.val := by omega
  simp only [e1, e2]
  congr 2 <;> (funext a; match a with | ⟨0, _⟩ => rfl | ⟨1, _⟩ => rfl)

/-- The result array after the run is the reference's. -/
theorem final (c : Dev nD) : (dats m 0 c).arrAt 6 (cfgs 0).N
    = val_main_v31 (F := Ideal) (ax m c) (ag m c) (awg m c) (awu m c) (awd m c) (agl m c) := by
  refine (dats m 0 c).arrAt_eq_of_covers 6 _ (by decide +kernel) fun t hf y => ?_
  have ht : t.val % 11 = 10 := (flush0_6 t).mp hf
  have hl := t_lt t
  have e : (t.val - 1) / 11 = t.val / 11 := by omega
  have hacc := acc_at m c t ht (by omega)
  blk_simp
  rw [after0_6]
  rw [outsAt0_C m c t (by omega) ht] at hacc ⊢
  frame_out at hacc
  frame_out
  rw [pay4_at m c t _ (by omega) hacc]
  congr 1
  blk_ext [idx t] <;> rfl

end Cert.Kernel2Ideal.Ffn

end
-- ==== Proof.SampleOutValue.lean ====
/-
# The output projection of the sample step: the kernel's result is the reference's
-/
module

public import proofs.«01_k».proof.Proof.Gen.Kernel9Ideal.Value
public import proofs.«01_k».proof.Proof.Gen.Reference9Ideal.Read
public import Idealize.ShloMosaic.Lib.Pipeline.ValueKit
public import Idealize.ShloMosaic.Lib.WritesUnit

@[expose] public section

set_option maxRecDepth 16384

noncomputable section

open Idealize.ShloMosaic Idealize.ShloMosaic.TcCoe Idealize.ShloMosaic.Tactic Idealize.SL.Sem
open Idealize.ShloMosaic.Pipeline (Dat)

namespace Cert.Kernel9Ideal.Out

open Cert.Kernel9Ideal Cert.Kernel9Ideal.Gen
open Cert.Reference9Ideal.Read

variable (m : (ℓ : Loc nD τ sig) → Buf (Elt Ideal) ℓ) (c : Dev nD)

/-- The block every window stages at a point: rows move with `t / 2`, columns with `t % 2`. -/
theorem idx : ∀ t : Fin cfg0.N, win0_0.index t = ![t.val / 2, 0] ∧ win0_1.index t = ![t.val / 2, 0]
    ∧ win0_2.index t = ![t.val / 2, 0] ∧ win0_3.index t = ![t.val / 2, t.val % 2]
    ∧ win0_4.index t = ![0, t.val % 2] ∧ win0_5.index t = ![t.val / 2, t.val % 2] :=
  (by decide +kernel : ∀ t : Fin grid0.N, _)

theorem t_lt (t : Fin cfg0.N) : t.val < 2 := lt_of_lt_of_eq t.isLt N_0

/-- The program's arguments, named. -/
abbrev aro : (⟨S32x1024, .f32⟩ : BufTy).Contents (Elt Ideal) := m ((c : Thread nD τ).loc main_arg0)
abbrev arg : (⟨S32x1024, .f32⟩ : BufTy).Contents (Elt Ideal) := m ((c : Thread nD τ).loc main_arg1)
abbrev ans : (⟨S32x1024, .bf16⟩ : BufTy).Contents (Elt Ideal) := m ((c : Thread nD τ).loc main_arg2)
abbrev ax : (⟨S32x2048, .f32⟩ : BufTy).Contents (Elt Ideal) := m ((c : Thread nD τ).loc main_arg3)
abbrev aw : (⟨S2048x2048, .f32⟩ : BufTy).Contents (Elt Ideal) := m ((c : Thread nD τ).loc main_arg4)

theorem V_0 : V m c main_v0 = (truncf .bf16 (aw m c) bitsLt_bf16_f32 : FVec Ideal S2048x2048 .bf16) := by
  show StableHlo.after hostOps0 (fun b => m (c, b)) (Proc.devRef .tc main_v0) = _
  unfold hostOps0
  after_results
  try rfl

theorem blk0 (t : Fin cfg0.N) (hq : t.val / 2 < 1) (r : Fin 32) (k : Fin 1024) :
    iblk m c 0 t (ix2 r k) = aro m c (ix2 ⟨t.val / 2 * 32 + r.val, by omega⟩ k) := by
  blk_ext [iblk, V, idx t]
theorem blk1 (t : Fin cfg0.N) (hq : t.val / 2 < 1) (r : Fin 32) (k : Fin 1024) :
    iblk m c 1 t (ix2 r k) = arg m c (ix2 ⟨t.val / 2 * 32 + r.val, by omega⟩ k) := by
  blk_ext [iblk, V, idx t]
theorem blk2 (t : Fin cfg0.N) (hq : t.val / 2 < 1) (r : Fin 32) (k : Fin 1024) :
    iblk m c 2 t (ix2 r k) = ans m c (ix2 ⟨t.val / 2 * 32 + r.val, by omega⟩ k) := by
  blk_ext [iblk, V, idx t]
theorem blk3 (t : Fin cfg0.N) (hq : t.val / 2 < 1) (hs : t.val % 2 < 2) (r : Fin 32) (k : Fin 1024) :
    iblk m c 3 t (ix2 r k) = ax m c (ix2 ⟨t.val / 2 * 32 + r.val, by omega⟩ ⟨t.val % 2 * 1024 + k.val, by omega⟩) := by
  blk_ext [iblk, V, idx t]
theorem blk4 (t : Fin cfg0.N) (hs : t.val % 2 < 2) (k : Fin 2048) (j : Fin 1024) :
    iblk m c 4 t (ix2 k j) = aw m c (ix2 k ⟨t.val % 2 * 1024 + j.val, by omega⟩) := by
  have e : iblk m c 4 t (ix2 k j) = V m c main_v0 (ix2 k ⟨t.val % 2 * 1024 + j.val, by omega⟩) := by blk_ext [iblk, idx t]
  rw [e, V_0]
  pointwise

/-- The joined operand of a row, left of column 1024 and right of it. -/
theorem mix_left (a b : (⟨S32x1024, .f32⟩ : BufTy).Contents (Elt Ideal)) (n : (⟨S32x1024, .bf16⟩ : BufTy).Contents (Elt Ideal))
    (r : Fin 32) (k : Fin 1024) :
    val_main_v2 (F := Ideal) a b n (ix2 r ⟨k.val, by omega⟩) = a (ix2 r k) * b (ix2 r k) := by
  have hk := k.isLt
  pointwise [val_main_v2, val_main_v1, val_main_v0]
theorem mix_right (a b : (⟨S32x1024, .f32⟩ : BufTy).Contents (Elt Ideal)) (n : (⟨S32x1024, .bf16⟩ : BufTy).Contents (Elt Ideal))
    (r : Fin 32) (k : Fin 1024) :
    val_main_v2 (F := Ideal) a b n (ix2 r ⟨1024 + k.val, by omega⟩) = n (ix2 r k) := by
  have hk := k.isLt
  pointwise [val_main_v2, val_main_v1, val_main_v0]

/-- The two stores that fill the scratch: the gated recurrence in the left columns, the attention in the right. -/
abbrev pieces (A B : Vec Ideal S32x1024 .f32) (N : Vec Ideal S32x1024 .bf16) : List (View.Piece (Elt Ideal) S32x2048 .bf16) :=
  [⟨Rect.unit ![0, 1024] ![32, 1024] inb_S32x2048_S32x1024_0_1024, k0_pay2 (F := Ideal) N⟩,
   ⟨Rect.unit ![0, 0] ![32, 1024] inb_S32x2048_S32x1024_0_0, k0_pay1 (F := Ideal) A B⟩]

theorem pay2_at (N : Vec Ideal S32x1024 .bf16) (p : Fin 32) (q : Fin 1024) : k0_pay2 (F := Ideal) N (ix2 p q) = N (ix2 p q) := by
  pointwise [k0_pay2]
theorem pay1_at (A B : Vec Ideal S32x1024 .f32) (p : Fin 32) (q : Fin 1024) :
    k0_pay1 (F := Ideal) A B (ix2 p q) = A (ix2 p q) * B (ix2 p q) := by
  pointwise [k0_pay1]

/-- The filled scratch is the joined operand's row block. -/
theorem fill_at (A B : Vec Ideal S32x1024 .f32) (N : Vec Ideal S32x1024 .bf16)
    (a b : (⟨S32x1024, .f32⟩ : BufTy).Contents (Elt Ideal)) (n : (⟨S32x1024, .bf16⟩ : BufTy).Contents (Elt Ideal))
    (R : Fin 32 → Fin 32) (hA : ∀ r k, A (ix2 r k) = a (ix2 (R r) k)) (hB : ∀ r k, B (ix2 r k) = b (ix2 (R r) k))
    (hN : ∀ r k, N (ix2 r k) = n (ix2 (R r) k)) (r : Fin 32) (k : Fin 2048) :
    View.canon (pieces A B N) (ix2 r k) = val_main_v2 (F := Ideal) a b n (ix2 (R r) k) := by
  unfold pieces
  canon_tiles x h using View.cover_of_tiled_head _ _ _ (by rfl) _
  · obtain ⟨p, q, rfl⟩ : ∃ (p : Fin 32) (q : Fin 1024), x = ix2 p q := ⟨x 0, x 1, by funext d; fin_cases d <;> rfl⟩
    have e0 : p = r := Fin.ext (h0 : r.val = p.val).symm
    have e1 : (⟨1024 + q.val, by omega⟩ : Fin 2048) = k := Fin.ext (h1 : k.val = 1024 + q.val).symm
    refine (pay2_at N p q).trans ((hN p q).trans ((mix_right a b n (R p) q).symm.trans ?_))
    rw [e0]
    exact congrArg (fun j => val_main_v2 (F := Ideal) a b n (ix2 (R r) j)) e1
  · obtain ⟨p, q, rfl⟩ : ∃ (p : Fin 32) (q : Fin 1024), x = ix2 p q := ⟨x 0, x 1, by funext d; fin_cases d <;> rfl⟩
    have e0 : p = r := Fin.ext (h0 : r.val = p.val).symm
    have e1 : (⟨q.val, by omega⟩ : Fin 2048) = k := Fin.ext (h1 : k.val = q.val).symm
    refine (pay1_at A B p q).trans ?_
    rw [hA, hB, e0]
    refine (mix_left a b n (R r) q).symm.trans ?_
    exact congrArg (fun j => val_main_v2 (F := Ideal) a b n (ix2 (R r) j)) e1

/-- A point's product and residual. -/
theorem pay3_at (X : Vec Ideal S32x1024 .f32) (h : Vec Ideal S32x2048 .bf16) (W : Vec Ideal S2048x1024 .bf16) (r : Fin 32) (j : Fin 1024) :
    k0_pay3 (F := Ideal) X h W (ix2 r j) = X (ix2 r j) + ∑ k : Fin 2048, h (ix2 r k) * W (ix2 k j) := by
  pointwise [k0_pay3]

/-- The array's row of a block's row. -/
abbrev rowOf (q : ℕ) (hq : q < 1) (r : Fin 32) : Fin 32 := ⟨q * 32 + r.val, by omega⟩

theorem rowOf_congr {q q' : ℕ} (h : q = q') (hq : q < 1) (hq' : q' < 1) (r : Fin 32) : rowOf q hq r = rowOf q' hq' r := by
  subst h; rfl

/-- A carried scratch read back is what the point before left. -/
theorem carry0 (X : Vec Ideal S32x2048 .bf16) (h : scM0_0.IsWhole) :
    View.read (Elt Ideal) (View.whole cc0_scratch0) (h.unread X) = X := h.read_unread X

/-- After every point the scratch holds the joined operand of the point's row block. -/
theorem s_at : ∀ (n : ℕ) (hn : n < cfg0.N) (hq : n / 2 < 1) (r : Fin 32) (k : Fin 2048),
    (outsAt0 m c n hn).2 (ix2 r k) = val_main_v2 (F := Ideal) (aro m c) (arg m c) (ans m c) (ix2 (rowOf (n / 2) hq r) k) := by
  intro n
  induction n with
  | zero =>
    intro hn hq r k
    rw [outsAt0_A m c ⟨0, hn⟩ (Nat.zero_mod _)]
    frame_out
    exact fill_at _ _ _ _ _ _ (rowOf (0 / 2) hq) (blk0 m c ⟨0, hn⟩ hq) (blk1 m c ⟨0, hn⟩ hq) (blk2 m c ⟨0, hn⟩ hq) r k
  | succ n ih =>
    intro hn hq r k
    by_cases h0 : (n + 1) % 2 = 0
    · rw [outsAt0_A m c ⟨n + 1, hn⟩ h0]
      frame_out
      exact fill_at _ _ _ _ _ _ (rowOf ((n + 1) / 2) hq) (blk0 m c ⟨n + 1, hn⟩ hq) (blk1 m c ⟨n + 1, hn⟩ hq) (blk2 m c ⟨n + 1, hn⟩ hq) r k
    · have e : (n + 1) / 2 = n / 2 := by omega
      rw [outsAt0_B m c ⟨n + 1, hn⟩ h0]
      unfold sout0_B_0
      exact Eq.trans (ih (Nat.lt_of_succ_lt hn) (by omega) r k) (congrArg (fun R => val_main_v2 (F := Ideal) (aro m c) (arg m c) (ans m c) (ix2 R k)) (rowOf_congr e.symm _ hq r))

/-- The reference's result at an index. -/
theorem ref_at (a b : (⟨S32x1024, .f32⟩ : BufTy).Contents (Elt Ideal)) (n : (⟨S32x1024, .bf16⟩ : BufTy).Contents (Elt Ideal))
    (x : (⟨S32x2048, .f32⟩ : BufTy).Contents (Elt Ideal)) (w : (⟨S2048x2048, .f32⟩ : BufTy).Contents (Elt Ideal)) (R : Fin 32) (j : Fin 2048) :
    val_main_v4 (F := Ideal) a b n x w (ix2 R j)
      = x (ix2 R j) + ∑ k : Fin 2048, val_main_v2 (F := Ideal) a b n (ix2 R k) * w (ix2 k j) := by
  unfold val_main_v4 val_main_v3
  generalize val_main_v2 (F := Ideal) a b n = y
  pointwise

/-- What a point leaves in the output's block. -/
theorem out_at (t : Fin cfg0.N) (hq : t.val / 2 < 1) (hs : t.val % 2 < 2) (r : Fin 32) (j : Fin 1024) :
    (outsAt0 m c t.val t.isLt).1 (ix2 r j)
      = val_main_v4 (F := Ideal) (aro m c) (arg m c) (ans m c) (ax m c) (aw m c)
          (ix2 (rowOf (t.val / 2) hq r) ⟨t.val % 2 * 1024 + j.val, by omega⟩) := by
  rw [ref_at]
  by_cases h0 : t.val % 2 = 0
  · rw [outsAt0_A m c t h0]
    frame_out
    rw [pay3_at, blk3 m c t hq hs]
    refine congrArg (_ + ·) (Finset.sum_congr rfl fun k _ => ?_)
    rw [blk4 m c t hs]
    refine congrArg (· * _) ?_
    rw [View.readCov_eq_canon']
    refine Eq.trans (congrArg (View.canon _) ?_) (fill_at _ _ _ _ _ _ (rowOf (t.val / 2) hq) (blk0 m c t hq) (blk1 m c t hq) (blk2 m c t hq) r k)
    funext a
    fin_cases a
    · exact Fin.ext (by show 0 + 1 * r.val = r.val; omega)
    · exact Fin.ext (by show 0 + 1 * k.val = k.val; omega)
  · rw [outsAt0_B m c t h0]
    frame_out
    have e : (t.val - 1) / 2 = t.val / 2 := by omega
    rw [pay3_at, blk3 m c t hq hs, carry0]
    refine congrArg (_ + ·) (Finset.sum_congr rfl fun k _ => ?_)
    rw [blk4 m c t hs, s_at m c (t.val - 1) _ (by omega) r k]
    exact congrArg (fun R => val_main_v2 (F := Ideal) (aro m c) (arg m c) (ans m c) (ix2 R k) * _) (rowOf_congr e _ hq r)

/-- THE RESULT'S ARRAY after the last point. -/
theorem final : (dats m 0 c).arrAt 5 (cfgs 0).N
    = val_main_v4 (F := Ideal) (aro m c) (arg m c) (ans m c) (ax m c) (aw m c) := by
  refine (dats m 0 c).arrAt_eq_of_covers 5 _ (by decide +kernel) fun t hf y => ?_
  have hl := t_lt t
  have hy : y = ix2 (y 0) (y 1) := by funext a; fin_cases a <;> rfl
  blk_simp
  rw [after0_5]
  refine (congrArg (outsAt0 m c t.val t.isLt).1 hy).trans ((out_at m c t (by omega) (by omega) (y 0) (y 1)).trans ?_)
  congr 1
  blk_ext [idx t]

end Cert.Kernel9Ideal.Out

end
-- ==== Proof.CombineValue.lean ====
/-
# The sample step's gates: the kernel's result is the reference's

One gridless launch weights the three branches by the gates' sigmoid and sums them.
-/
module

public import proofs.«01_k».proof.Proof.Gen.Kernel10Ideal.Frame
public import proofs.«01_k».proof.Proof.Gen.Reference10Ideal.Read
public import Idealize.ShloMosaic.Lib.Pipeline.ValueKit

@[expose] public section

set_option maxRecDepth 16384

noncomputable section

open Idealize.ShloMosaic Idealize.ShloMosaic.TcCoe Idealize.ShloMosaic.Tactic Idealize.SL.Sem
open Idealize.ShloMosaic.Pipeline (Dat)

namespace Cert.Kernel10Ideal.Combine

open Cert.Kernel10Ideal Cert.Kernel10Ideal.Gen
open Cert.Reference10Ideal.Read

variable (m : (ℓ : Loc nD τ sig) → Buf (Elt Ideal) ℓ) (c : Dev nD)

/-- The program's arguments, named: the compressed, the selected and the window branch, and the gates before the sigmoid. -/
abbrev ac : (⟨S32x16x64, .f32⟩ : BufTy).Contents (Elt Ideal) := m ((c : Thread nD τ).loc main_arg0)
abbrev asl : (⟨S32x16x64, .f32⟩ : BufTy).Contents (Elt Ideal) := m ((c : Thread nD τ).loc main_arg1)
abbrev aw : (⟨S32x16x64, .f32⟩ : BufTy).Contents (Elt Ideal) := m ((c : Thread nD τ).loc main_arg2)
abbrev ag : (⟨S32x48, .f32⟩ : BufTy).Contents (Elt Ideal) := m ((c : Thread nD τ).loc main_arg3)

theorem V_0 : V m c main_v0 = shapeCast S32x3x16x1 (ag m c) shapeCasts_S32x48_S32x3x16x1 := by
  show StableHlo.after hostOps0 (fun b => m (c, b)) (Proc.devRef .tc main_v0) = _
  unfold hostOps0
  after_results
  try rfl

variable (x y z : (⟨S32x16x64, .f32⟩ : BufTy).Contents (Elt Ideal)) (g : (⟨S32x48, .f32⟩ : BufTy).Contents (Elt Ideal))

/-- The weighted sum of a head's column, as both sides compute it. -/
theorem pay_at (b : Fin 32) (h : Fin 16) (d : Fin 64) :
    k0_pay1 (F := Ideal) (shapeCast S32x3x16x1 g shapeCasts_S32x48_S32x3x16x1) x y z (ix3 b h d)
      = val_main_v20 (F := Ideal) x y z g (ix3 b h d) := by
  have hh := h.isLt
  pointwise [k0_pay1, val_main_v20, val_main_v19, val_main_v18, val_main_v17, val_main_v16, val_main_v15, val_main_v14,
    val_main_v13, val_main_v12, val_main_v11, val_main_v10, val_main_v9, val_main_v8, val_main_v7, val_main_v6, val_main_v5,
    val_main_v4, val_main_v3, val_main_v2, val_main_v1, val_main_v0, val_main_cst, val_main_cst_0]
  simp only [zero_sub]

/-- Every block at the one point is the whole array. -/
theorem idx : ∀ t : Fin cfg0.N, win0_0.index t = ![0, 0, 0] ∧ win0_1.index t = ![0, 0, 0] ∧ win0_2.index t = ![0, 0, 0]
    ∧ win0_3.index t = ![0, 0, 0, 0] ∧ win0_4.index t = ![0, 0, 0] :=
  (by decide +kernel : ∀ t : Fin grid0.N, _)

theorem blk0 (t : Fin cfg0.N) : (iblk m c 0 t : Vec Ideal S32x16x64 .f32) = ac m c := by
  funext y
  blk_ext [iblk, V, idx t]
theorem blk1 (t : Fin cfg0.N) : (iblk m c 1 t : Vec Ideal S32x16x64 .f32) = asl m c := by
  funext y
  blk_ext [iblk, V, idx t]
theorem blk2 (t : Fin cfg0.N) : (iblk m c 2 t : Vec Ideal S32x16x64 .f32) = aw m c := by
  funext y
  blk_ext [iblk, V, idx t]
theorem blk3 (t : Fin cfg0.N) : (iblk m c 3 t : Vec Ideal S32x3x16x1 .f32) = shapeCast S32x3x16x1 (ag m c) shapeCasts_S32x48_S32x3x16x1 := by
  rw [← V_0]
  funext y
  blk_ext [iblk, idx t]

theorem ix_three {n k l : ℕ} (y : (⟨3, ![n, k, l]⟩ : Shape).Idx) : ∃ (a : Fin n) (b : Fin k) (d : Fin l), y = ix3 a b d :=
  ⟨y 0, y 1, y 2, by funext a; fin_cases a <;> rfl⟩

/-- THE LAUNCH'S ARRAY: the weighted sum. -/
theorem final4 : (dats m 0 c).arrAt 4 (cfgs 0).N
    = k0_pay1 (F := Ideal) (shapeCast S32x3x16x1 (ag m c) shapeCasts_S32x48_S32x3x16x1) (ac m c) (asl m c) (aw m c) := by
  refine (dats m 0 c).arrAt_eq_of_covers 4 _ (by decide +kernel) fun t hf y => ?_
  blk_simp
  rw [after0_4]
  unfold out0_4
  frame_out
  refine (congrFun (congr (congr (congr (congrArg (k0_pay1 (F := Ideal)) (blk3 m c t)) (blk0 m c t)) (blk1 m c t)) (blk2 m c t)) y).trans ?_
  congr 1
  blk_ext [idx t]

theorem tail2 : Pipeline.afterTail₀ cfgs (dats m) 0 (V0 m) [hostOps1] c main_v2
    = shapeCast S32x1024 ((dats m 0 c).arrAt 4 (cfgs 0).N) shapeCasts_S32x16x64_S32x1024 := by
  have e := Pipeline.withArrays_arr spec0 launch0.win.arr_inj c (V0 m c) (fun w => (dats m 0 c).arrAt w (cfgs 0).N) 4
  unfold Pipeline.afterTail₀
  show StableHlo.after hostOps1 _ (Proc.devRef .tc main_v2) = _
  unfold hostOps1
  after_results
  exact congrArg (shapeCast S32x1024 · shapeCasts_S32x16x64_S32x1024) e

theorem ref_eq : val_main_v22 (F := Ideal) x y z g
    = shapeCast S32x1024 (val_main_v20 (F := Ideal) x y z g) shapeCasts_S32x16x64_S32x1024 := by
  unfold val_main_v22 val_main_v21
  rfl

theorem out2 : Pipeline.afterTail₀ cfgs (dats m) 0 (V0 m) [hostOps1] c main_v2 = val_main_v22 (F := Ideal) (ac m c) (asl m c) (aw m c) (ag m c) := by
  rw [tail2, final4, ref_eq]
  refine congrArg (shapeCast S32x1024 · shapeCasts_S32x16x64_S32x1024) ?_
  funext y
  obtain ⟨b, h, d, rfl⟩ := ix_three y
  exact pay_at _ _ _ _ b h d

/-- THE KERNEL'S RUN: its result is the reference's. -/
theorem run_value (r₀ : Dev nD → PrngReg) :
    θ_run (defs (F := Ideal)) (onTc (τ := τ) (main (F := Ideal))) ⟨m, fun _ => 0, r₀⟩ (fun r => ∀ c : Dev nD,
      r.2.mem ((c.tc : Thread nD τ).loc main_v2) = val_main_v22 (F := Ideal) (ac m c) (asl m c) (aw m c) (ag m c)) :=
  (θ_run defs _ _).mono (fun r h c =>
    ((h c).2 main_v2 (Pipeline.mem_restRefs_of main_v2 (by decide) (by decide))).trans (out2 m c)) (run_main (F := Ideal) m r₀)

end Cert.Kernel10Ideal.Combine

end
-- ==== Proof.CmpRef.lean ====
/-
# The compression's first product: the reference at an index
-/
module

public import proofs.«01_k».proof.Proof.Gen.Reference11Ideal.Read
public import Idealize.ShloMosaic.Lib.Pipeline.ValueKit
public import Idealize.ShloMosaic.Lib.TwoAxisContraction
public import Idealize.ShloMosaic.Lib.ValueIdxRank6

@[expose] public section

set_option maxRecDepth 16384

noncomputable section

open Idealize.ShloMosaic Idealize.ShloMosaic.TcCoe Idealize.ShloMosaic.Tactic Idealize.SL.Sem
open Idealize.ShloMosaic.ValueIdx (sum_contr2 contrEquiv2 contrEquiv2_symm_val0 contrEquiv2_symm_val1)

namespace Cert.CmpRef

open Cert.Reference11Ideal Cert.Reference11Ideal.Gen Cert.Reference11Ideal.Read

variable (x : (⟨S4x2048x2x4x64, .f32⟩ : BufTy).Contents (Elt Ideal)) (w : (⟨S2x2048x64, .f32⟩ : BufTy).Contents (Elt Ideal))

/-- Position in the sequence of a chunk's row. -/
abbrev rowOf (c : Fin 128) (j : Fin 16) : Fin 2048 := ⟨c.val * 16 + j.val, by omega⟩
/-- Row of the first weight that half `s`, row `j` and lane `d` meet. -/
abbrev wrow (s : Fin 2) (j : Fin 16) (d : Fin 64) : Fin 2048 := ⟨s.val * 1024 + j.val * 64 + d.val, by omega⟩
/-- Column of the result. -/
abbrev col (s e : Fin 2) (h : Fin 4) (f : Fin 64) : Fin 1024 := ⟨s.val * 512 + e.val * 256 + h.val * 64 + f.val, by omega⟩

/-- One entry of the partial product: a chunk's rows times one half of the first weight. -/
def part (b : Fin 4) (c : Fin 128) (s e : Fin 2) (h : Fin 4) (f : Fin 64) : EReal :=
  ∑ j : Fin 16, ∑ d : Fin 64, x (ix5 b (rowOf c j) e h d) * w (ix3 e (wrow s j d) f)

theorem v0_at (b : Fin 4) (c : Fin 128) (j : Fin 16) (e : Fin 2) (h : Fin 4) (d : Fin 64) :
    val_main_v0 (F := Ideal) x (ix6 b c j e h d) = x (ix5 b (rowOf c j) e h d) := by
  unfold val_main_v0
  refine shapeCast_apply x _ _ _ ?_
  rewrite [Shape.rowMajor_val_five, Shape.rowMajor_val_six]
  show (((b.val * 2048 + (c.val * 16 + j.val)) * 2 + e.val) * 4 + h.val) * 64 + d.val
    = ((((b.val * 128 + c.val) * 16 + j.val) * 2 + e.val) * 4 + h.val) * 64 + d.val
  omega

theorem v2_at (e s : Fin 2) (j : Fin 16) (d f : Fin 64) :
    val_main_v2 (F := Ideal) w (ix5 e s j d f) = w (ix3 e (wrow s j d) f) := by
  unfold val_main_v2 val_main_v1
  refine (shapeCast_apply _ _ _ (ix4 e ⟨s.val * 16 + j.val, by omega⟩ d f) ?_).trans (shapeCast_apply w _ _ _ ?_)
  · rewrite [Shape.rowMajor_val_four, Shape.rowMajor_val_five]
    show ((e.val * 32 + (s.val * 16 + j.val)) * 64 + d.val) * 64 + f.val
      = (((e.val * 2 + s.val) * 16 + j.val) * 64 + d.val) * 64 + f.val
    omega
  · rewrite [Shape.rowMajor_val_four, Shape.rowMajor_val_three]
    show (e.val * 2048 + (s.val * 1024 + j.val * 64 + d.val)) * 64 + f.val
      = ((e.val * 32 + (s.val * 16 + j.val)) * 64 + d.val) * 64 + f.val
    omega

/-- The contraction, over lane and row. -/
theorem v3_at (e s : Fin 2) (f : Fin 64) (b : Fin 4) (c : Fin 128) (h : Fin 4) :
    val_main_v3 (F := Ideal) x w (ix6 e s f b c h) = part x w b c s e h f := by
  have l : ∀ p, dot_S2x2x16x64x64_S4x128x16x2x4x64_S2x2x64x4x128x4_32_52_14_014_0_3.lhsIdx (ix6 e s f b c h)
      ((contrEquiv2 dot_S2x2x16x64x64_S4x128x16x2x4x64_S2x2x64x4x128x4_32_52_14_014_0_3 64 16 rfl rfl rfl).symm p) = ix5 e s p.2 p.1 f := by
    intro p
    funext a
    fin_cases a <;> rfl
  have r : ∀ p, dot_S2x2x16x64x64_S4x128x16x2x4x64_S2x2x64x4x128x4_32_52_14_014_0_3.rhsIdx (ix6 e s f b c h)
      ((contrEquiv2 dot_S2x2x16x64x64_S4x128x16x2x4x64_S2x2x64x4x128x4_32_52_14_014_0_3 64 16 rfl rfl rfl).symm p) = ix6 b c p.2 e h p.1 := by
    intro p
    funext a
    fin_cases a <;> rfl
  unfold val_main_v3
  refine (Ideal.dotGeneral_apply _ _ _ _ _ _).trans ?_
  rw [sum_contr2 dot_S2x2x16x64x64_S4x128x16x2x4x64_S2x2x64x4x128x4_32_52_14_014_0_3 64 16 rfl rfl rfl, Finset.sum_comm]
  unfold part
  refine Finset.sum_congr rfl fun j _ => Finset.sum_congr rfl fun d _ => ?_
  rw [l, r, v0_at, v2_at]
  exact mul_comm _ _

/-- THE REFERENCE'S RESULT at an index. -/
theorem v5_at (b : Fin 4) (c : Fin 128) (s e : Fin 2) (h : Fin 4) (f : Fin 64) :
    val_main_v5 (F := Ideal) x w (ix3 b c (col s e h f)) = part x w b c s e h f := by
  rw [← v3_at]
  unfold val_main_v5 val_main_v4
  generalize val_main_v3 (F := Ideal) x w = y
  refine (shapeCast_apply _ _ _ (ix6 b c s e h f) ?_).trans (transpose_apply [3, 4, 1, 0, 5, 2] y _ _ _ fun a => ?_)
  · rewrite [Shape.rowMajor_val_six, Shape.rowMajor_val_three]
    show ((((b.val * 128 + c.val) * 2 + s.val) * 2 + e.val) * 4 + h.val) * 64 + f.val
      = (b.val * 128 + c.val) * 1024 + (s.val * 512 + e.val * 256 + h.val * 64 + f.val)
    omega
  · fin_cases a <;> rfl

end Cert.CmpRef

end
-- ==== Proof.CmpWeights.lean ====
/-
# The compression's first product: what the launch takes

The rows are the sequence cut into chunks and laid flat; the weight is spread so that two heads share a block of 128 lanes,
the other head's lanes zero.
-/
module

public import proofs.«01_k».proof.Proof.Gen.Kernel11Ideal.Value
public import proofs.«01_k».proof.Proof.CmpRef

@[expose] public section

set_option maxRecDepth 16384

noncomputable section

open Idealize.ShloMosaic Idealize.ShloMosaic.TcCoe Idealize.ShloMosaic.Tactic Idealize.SL.Sem

namespace Cert.Kernel11Ideal.CmpPart

open Cert.Kernel11Ideal Cert.Kernel11Ideal.Gen
open Cert.CmpRef (rowOf wrow)

variable (m : (ℓ : Loc nD τ sig) → Buf (Elt Ideal) ℓ) (c : Dev nD)

/-- The program's arguments, named. -/
abbrev ax : (⟨S4x2048x2x4x64, .f32⟩ : BufTy).Contents (Elt Ideal) := m ((c : Thread nD τ).loc main_arg0)
abbrev aw : (⟨S2x2048x64, .f32⟩ : BufTy).Contents (Elt Ideal) := m ((c : Thread nD τ).loc main_arg1)

/-- The two-by-two identity, as the program computes it. -/
def eye : (⟨S2x2, .f32⟩ : BufTy).Contents (Elt Ideal) :=
  (uitofp .f32 (cmpi .eq (addi (iotaInDim S2x2 32 0) (broadcastInDim S2x2 ![] bcast_S_S2x2 (constantI S_ 32 0#32))) (iotaInDim S2x2 32 1)) : FVec Ideal S2x2 .f32)

/-- The weight before it is spread: axes `e, j, d, s, f`. -/
def wT (w : (⟨S2x2048x64, .f32⟩ : BufTy).Contents (Elt Ideal)) : (⟨S2x16x64x2x64, .f32⟩ : BufTy).Contents (Elt Ideal) :=
  transpose S2x16x64x2x64 [0, 2, 3, 1, 4] (shapeCast S2x2x16x64x64 w shapeCasts_S2x2048x64_S2x2x16x64x64)
    transposes_S2x2x16x64x64_S2x16x64x2x64_0_2_3_1_4

/-- The identity times the weight: axes `e, j, a, d, s, b, f`. -/
def wE (w : (⟨S2x2048x64, .f32⟩ : BufTy).Contents (Elt Ideal)) : (⟨S2x16x2x64x2x2x64, .f32⟩ : BufTy).Contents (Elt Ideal) :=
  (mulf (F := Ideal) (φ := .f32)
    (broadcastInDim S2x16x2x64x2x2x64 ![0, 1, 2, 3, 4, 5, 6] bcast_S1x1x2x1x1x2x1_S2x16x2x64x2x2x64_0_1_2_3_4_5_6
      (broadcastInDim S1x1x2x1x1x2x1 ![2, 5] bcast_S2x2_S1x1x2x1x1x2x1_2_5 eye))
    (broadcastInDim S2x16x2x64x2x2x64 ![0, 1, 2, 3, 4, 5, 6] bcast_S2x16x1x64x2x1x64_S2x16x2x64x2x2x64_0_1_2_3_4_5_6
      (broadcastInDim S2x16x1x64x2x1x64 ![0, 1, 3, 4, 6] bcast_S2x16x64x2x64_S2x16x1x64x2x1x64_0_1_3_4_6 (wT w))) : FVec Ideal S2x16x2x64x2x2x64 .f32)

theorem V_0 : V m c main_v0 = shapeCast S4x128x8192 (ax m c) shapeCasts_S4x2048x2x4x64_S4x128x8192 := by
  show StableHlo.after hostOps0 (fun b => m (c, b)) (Proc.devRef .tc main_v0) = _
  unfold hostOps0
  after_results
  try rfl

theorem V_14 : V m c main_v14 = shapeCast S2x16x128x256 (wE (aw m c)) shapeCasts_S2x16x2x64x2x2x64_S2x16x128x256 := by
  show StableHlo.after hostOps0 (fun b => m (c, b)) (Proc.devRef .tc main_v14) = _
  unfold hostOps0
  after_results
  try rfl

/-- Lane of a block of 128: which of its two heads, and which of that head's columns. -/
abbrev lane (a : Fin 2) (d : Fin 64) : Fin 128 := ⟨a.val * 64 + d.val, by omega⟩
/-- Column of a chunk's flat row that holds row `j`, lane `a, d` of the block of half `e`, pair `p`. -/
abbrev xcol (j : Fin 16) (e p a : Fin 2) (d : Fin 64) : Fin 8192 :=
  ⟨j.val * 512 + e.val * 256 + p.val * 128 + a.val * 64 + d.val, by omega⟩
/-- Head of a pair's lane block. -/
abbrev head (p a : Fin 2) : Fin 4 := ⟨p.val * 2 + a.val, by omega⟩
/-- Column of the spread weight. -/
abbrev wcol (s b : Fin 2) (f : Fin 64) : Fin 256 := ⟨s.val * 128 + b.val * 64 + f.val, by omega⟩

theorem x_at (x : (⟨S4x2048x2x4x64, .f32⟩ : BufTy).Contents (Elt Ideal)) (b : Fin 4) (n : Fin 128) (j : Fin 16) (e p a : Fin 2) (d : Fin 64) :
    shapeCast S4x128x8192 x shapeCasts_S4x2048x2x4x64_S4x128x8192 (ix3 b n (xcol j e p a d)) = x (ix5 b (rowOf n j) e (head p a) d) := by
  refine shapeCast_apply x _ _ _ ?_
  rewrite [Shape.rowMajor_val_five, Shape.rowMajor_val_three]
  show (((b.val * 2048 + (n.val * 16 + j.val)) * 2 + e.val) * 4 + (p.val * 2 + a.val)) * 64 + d.val
    = (b.val * 128 + n.val) * 8192 + (j.val * 512 + e.val * 256 + p.val * 128 + a.val * 64 + d.val)
  omega

theorem eye_at (a b : Fin 2) : eye (ix2 a b) = if a = b then 1 else 0 := by
  have o : (FloatOps.uitofp FTy.f32 (1#1) : Ideal .f32) = (1 : EReal) := by
    show (((1#1).toNat : ℝ) : EReal) = 1
    simp
  have z : (FloatOps.uitofp FTy.f32 (0#1) : Ideal .f32) = (0 : EReal) := by
    show (((0#1).toNat : ℝ) : EReal) = 0
    simp
  fin_cases a <;> fin_cases b
  · exact o
  · exact z
  · exact z
  · exact o

theorem wT_at (w : (⟨S2x2048x64, .f32⟩ : BufTy).Contents (Elt Ideal)) (e : Fin 2) (j : Fin 16) (d : Fin 64) (s : Fin 2) (f : Fin 64) :
    wT w (ix5 e j d s f) = w (ix3 e (wrow s j d) f) := by
  refine (transpose_apply [0, 2, 3, 1, 4] _ _ _ (ix5 e s j d f) fun a => ?_).trans (shapeCast_apply w _ _ _ ?_)
  · fin_cases a <;> rfl
  · rewrite [Shape.rowMajor_val_five, Shape.rowMajor_val_three]
    show (e.val * 2048 + (s.val * 1024 + j.val * 64 + d.val)) * 64 + f.val
      = (((e.val * 2 + s.val) * 16 + j.val) * 64 + d.val) * 64 + f.val
    omega

/-- An index of the seven axes. -/
abbrev ix7 (e : Fin 2) (j : Fin 16) (a : Fin 2) (d : Fin 64) (s b : Fin 2) (f : Fin 64) : S2x16x2x64x2x2x64.Idx :=
  fun g => match g with | ⟨0, _⟩ => e | ⟨1, _⟩ => j | ⟨2, _⟩ => a | ⟨3, _⟩ => d | ⟨4, _⟩ => s | ⟨5, _⟩ => b | ⟨6, _⟩ => f

theorem wE_at (w : (⟨S2x2048x64, .f32⟩ : BufTy).Contents (Elt Ideal)) (e : Fin 2) (j : Fin 16) (a : Fin 2) (d : Fin 64) (s b : Fin 2) (f : Fin 64) :
    wE w (ix7 e j a d s b f) = eye (ix2 a b) * wT w (ix5 e j d s f) := by
  unfold wE
  refine congrArg₂ (fun p q : EReal => p * q) ?_ ?_
  · refine congrArg eye ?_
    funext g
    fin_cases g <;> rfl
  · refine congrArg (wT w) ?_
    funext g
    fin_cases g <;> rfl

theorem pos7 (i : S2x16x2x64x2x2x64.Idx) : (S2x16x2x64x2x2x64.rowMajor i).val
    = ((((((i 0).val * 16 + (i 1).val) * 2 + (i 2).val) * 64 + (i 3).val) * 2 + (i 4).val) * 2 + (i 5).val) * 64 + (i 6).val := by
  show (Shape.rowMajorPi _ i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val]
  simp [Shape.rowMajorPi_zero, Fin.prod_univ_succ]
  omega

/-- The spread weight at an index. -/
theorem w_at (w : (⟨S2x2048x64, .f32⟩ : BufTy).Contents (Elt Ideal)) (e : Fin 2) (j : Fin 16) (a : Fin 2) (d : Fin 64) (s b : Fin 2) (f : Fin 64) :
    shapeCast S2x16x128x256 (wE w) shapeCasts_S2x16x2x64x2x2x64_S2x16x128x256 (ix4 e j (lane a d) (wcol s b f))
      = (if a = b then 1 else 0) * w (ix3 e (wrow s j d) f) := by
  refine (shapeCast_apply _ _ _ (ix7 e j a d s b f) ?_).trans ?_
  · rewrite [pos7, Shape.rowMajor_val_four]
    show (((((e.val * 16 + j.val) * 2 + a.val) * 64 + d.val) * 2 + s.val) * 2 + b.val) * 64 + f.val
      = ((e.val * 16 + j.val) * 128 + (a.val * 64 + d.val)) * 256 + (s.val * 128 + b.val * 64 + f.val)
    omega
  · rw [wE_at, eye_at, wT_at]

end Cert.Kernel11Ideal.CmpPart

end
-- ==== Proof.CmpStores.lean ====
/-
# The compression's first product: one store of the body

Each of the body's eight stores is one half of a sum of sixteen products, one per row of a chunk.
-/
module

public import proofs.«01_k».proof.Proof.CmpWeights

@[expose] public section

set_option maxRecDepth 16384

noncomputable section

open Idealize.ShloMosaic Idealize.ShloMosaic.TcCoe Idealize.ShloMosaic.Tactic Idealize.SL.Sem

namespace Cert.Kernel11Ideal.CmpPart

open Cert.Kernel11Ideal Cert.Kernel11Ideal.Gen

/-- A block of 128 columns times a block of the weight. -/
def prod (X : Vec Ideal S1x128x128 .f32) (W : Vec Ideal S1x1x128x256 .f32) : FVec Ideal S128x256 .f32 :=
  matmul dot_S128x128_S128x256_S128x256_1_0_0_1_n_n (some .fp32) (shapeCast S128x128 X shapeCasts_S1x128x128_S128x128 : FVec Ideal S128x128 .f32)
    (shapeCast S128x256 W shapeCasts_S1x1x128x256_S128x256 : FVec Ideal S128x256 .f32) (constant S128x256 .f32 0x00000000#32)

theorem prod_at (X : Vec Ideal S1x128x128 .f32) (W : Vec Ideal S1x1x128x256 .f32) (r : Fin 128) (q : Fin 256) :
    prod X W (ix2 r q) = ∑ l : Fin 128, X (ix3 0 r l) * W (ix4 0 0 l q) := by
  pointwise [prod]

/-- The sixteen products summed, in the body's order. -/
def chain (X : Fin 16 → Vec Ideal S1x128x128 .f32) (W : Fin 16 → Vec Ideal S1x1x128x256 .f32) : FVec Ideal S128x256 .f32 :=
  addf (addf (addf (addf (addf (addf (addf (addf (addf (addf (addf (addf (addf (addf (addf (prod (X ⟨0, by decide⟩) (W ⟨0, by decide⟩))
    (prod (X ⟨1, by decide⟩) (W ⟨1, by decide⟩)))
    (prod (X ⟨2, by decide⟩) (W ⟨2, by decide⟩)))
    (prod (X ⟨3, by decide⟩) (W ⟨3, by decide⟩)))
    (prod (X ⟨4, by decide⟩) (W ⟨4, by decide⟩)))
    (prod (X ⟨5, by decide⟩) (W ⟨5, by decide⟩)))
    (prod (X ⟨6, by decide⟩) (W ⟨6, by decide⟩)))
    (prod (X ⟨7, by decide⟩) (W ⟨7, by decide⟩)))
    (prod (X ⟨8, by decide⟩) (W ⟨8, by decide⟩)))
    (prod (X ⟨9, by decide⟩) (W ⟨9, by decide⟩)))
    (prod (X ⟨10, by decide⟩) (W ⟨10, by decide⟩)))
    (prod (X ⟨11, by decide⟩) (W ⟨11, by decide⟩)))
    (prod (X ⟨12, by decide⟩) (W ⟨12, by decide⟩)))
    (prod (X ⟨13, by decide⟩) (W ⟨13, by decide⟩)))
    (prod (X ⟨14, by decide⟩) (W ⟨14, by decide⟩)))
    (prod (X ⟨15, by decide⟩) (W ⟨15, by decide⟩))

theorem chain_at (X : Fin 16 → Vec Ideal S1x128x128 .f32) (W : Fin 16 → Vec Ideal S1x1x128x256 .f32) (r : Fin 128) (q : Fin 256) :
    chain X W (ix2 r q) = ∑ j : Fin 16, ∑ l : Fin 128, X j (ix3 0 r l) * W j (ix4 0 0 l q) := by
  refine Eq.trans ?_ (Finset.sum_congr rfl fun j _ => prod_at (X j) (W j) r q)
  simp only [Fin.sum_univ_castSucc, Fin.sum_univ_zero, zero_add]
  rfl

/-- Columns of the chunk's flat row, and the weight's block, that row `j` meets. -/
def xs (x0 : Vec Ideal S1x128x8192 .f32) (e p : Fin 2) (j : Fin 16) : Vec Ideal S1x128x128 .f32 :=
  View.ld x0 (Rect.unit (s := S1x128x8192) ![0, 0, j.val * 512 + e.val * 256 + p.val * 128] S1x128x128.size
    (by intro a; have := j.isLt; have := e.isLt; have := p.isLt; fin_cases a <;> simp <;> omega))
def ws (x1 : Vec Ideal S2x16x128x256 .f32) (e : Fin 2) (j : Fin 16) : Vec Ideal S1x1x128x256 .f32 :=
  View.ld x1 (Rect.unit (s := S2x16x128x256) ![e.val, j.val, 0, 0] S1x1x128x256.size
    (by intro a; have := j.isLt; have := e.isLt; fin_cases a <;> simp <;> omega))

theorem xs_at (x0 : Vec Ideal S1x128x8192 .f32) (e p : Fin 2) (j : Fin 16) (r : Fin 128) (a : Fin 2) (d : Fin 64) :
    xs x0 e p j (ix3 0 r (lane a d)) = x0 (ix3 0 r (xcol j e p a d)) := by
  unfold xs
  refine congrArg x0 ?_
  funext g
  fin_cases g
  · exact Fin.ext (by show 0 + 1 * 0 = 0; omega)
  · exact Fin.ext (by show 0 + 1 * r.val = r.val; omega)
  · exact Fin.ext (by
      show j.val * 512 + e.val * 256 + p.val * 128 + 1 * (a.val * 64 + d.val) = j.val * 512 + e.val * 256 + p.val * 128 + a.val * 64 + d.val
      omega)

theorem ws_at (x1 : Vec Ideal S2x16x128x256 .f32) (e : Fin 2) (j : Fin 16) (l : Fin 128) (q : Fin 256) :
    ws x1 e j (ix4 0 0 l q) = x1 (ix4 e j l q) := by
  unfold ws
  refine congrArg x1 ?_
  funext g
  fin_cases g
  · exact Fin.ext (by show e.val + 1 * 0 = e.val; omega)
  · exact Fin.ext (by show j.val + 1 * 0 = j.val; omega)
  · exact Fin.ext (by show 0 + 1 * l.val = l.val; omega)
  · exact Fin.ext (by show 0 + 1 * q.val = q.val; omega)

/-- One half of a sum, as a store takes it. -/
def half0 (C : FVec Ideal S128x256 .f32) : FVec Ideal S1x128x128 .f32 :=
  shapeCast S1x128x128 (extractStridedSlice S128x128 ![0, 0] C slices_S128x256_o0_0_S128x128) shapeCasts_S128x128_S1x128x128
def half1 (C : FVec Ideal S128x256 .f32) : FVec Ideal S1x128x128 .f32 :=
  shapeCast S1x128x128 (extractStridedSlice S128x128 ![0, 128] C slices_S128x256_o0_128_S128x128) shapeCasts_S128x128_S1x128x128

theorem half0_at (C : FVec Ideal S128x256 .f32) (r : Fin 128) (b : Fin 2) (f : Fin 64) :
    half0 C (ix3 0 r (lane b f)) = C (ix2 r (wcol 0 b f)) := by
  pointwise [half0]
  congr 2
  exact Fin.ext (by show b.val * 64 + f.val = 0 * 128 + b.val * 64 + f.val; omega)
theorem half1_at (C : FVec Ideal S128x256 .f32) (r : Fin 128) (b : Fin 2) (f : Fin 64) :
    half1 C (ix3 0 r (lane b f)) = C (ix2 r (wcol 1 b f)) := by
  pointwise [half1]
  congr 2
  exact Fin.ext (by show 128 + (b.val * 64 + f.val) = 1 * 128 + b.val * 64 + f.val; omega)

/-- A sum over the lanes of a block, head by head. -/
theorem sum_lanes (f : Fin 128 → EReal) : ∑ l, f l = ∑ d : Fin 64, f (lane 0 d) + ∑ d : Fin 64, f (lane 1 d) := by
  refine (Fin.sum_univ_add (a := 64) (b := 64) f).trans (congrArg₂ (· + ·) ?_ ?_)
  · exact Finset.sum_congr rfl fun d _ => congrArg f (Fin.ext (by show d.val = 0 * 64 + d.val; omega))
  · exact Finset.sum_congr rfl fun d _ => congrArg f (Fin.ext (by show 64 + d.val = 1 * 64 + d.val; omega))

/-- Of a block's two heads only the column's own head contributes. -/
theorem own_head (g : Fin 2 → Fin 64 → EReal) (v : Fin 64 → EReal) (b : Fin 2) :
    ∑ d : Fin 64, g 0 d * ((if (0 : Fin 2) = b then 1 else 0) * v d) + ∑ d : Fin 64, g 1 d * ((if (1 : Fin 2) = b then 1 else 0) * v d)
      = ∑ d : Fin 64, g b d * v d := by
  fin_cases b <;> simp

/-- THE SIXTEEN PRODUCTS at an index: what the launch takes, named by the program's arguments. -/
theorem chain_part (x0 : Vec Ideal S1x128x8192 .f32) (x1 : Vec Ideal S2x16x128x256 .f32)
    (x : (⟨S4x2048x2x4x64, .f32⟩ : BufTy).Contents (Elt Ideal)) (w : (⟨S2x2048x64, .f32⟩ : BufTy).Contents (Elt Ideal)) (n : Fin 4)
    (hx : ∀ r j e p a d, x0 (ix3 0 r (xcol j e p a d)) = x (ix5 n (CmpRef.rowOf r j) e (head p a) d))
    (hw : ∀ e j a d s b f, x1 (ix4 e j (lane a d) (wcol s b f)) = (if a = b then 1 else 0) * w (ix3 e (CmpRef.wrow s j d) f))
    (r : Fin 128) (e p s b : Fin 2) (f : Fin 64) :
    chain (xs x0 e p) (ws x1 e) (ix2 r (wcol s b f)) = CmpRef.part x w n r s e (head p b) f := by
  rw [chain_at]
  unfold CmpRef.part
  refine Finset.sum_congr rfl fun j _ => ?_
  rw [sum_lanes]
  simp only [xs_at, ws_at, hx, hw]
  exact own_head (fun a d => x (ix5 n (CmpRef.rowOf r j) e (head p a) d)) (fun d => w (ix3 e (CmpRef.wrow s j d) f)) b

theorem store103 (x0 : Vec Ideal S1x128x8192 .f32) (x1 : Vec Ideal S2x16x128x256 .f32) :
    k0_pay2 (k0_pay35 (k0_pay44 x0 x1) (View.ld x0 r0_99) (View.ld x1 r0_79) (View.ld x0 r0_100) (View.ld x1 r0_81) (View.ld x0 r0_101) (View.ld x1 r0_83))
      = half1 (chain (xs x0 1 1) (ws x1 1)) := by
  rfl

theorem store102 (x0 : Vec Ideal S1x128x8192 .f32) (x1 : Vec Ideal S2x16x128x256 .f32) :
    k0_pay1 (k0_pay36 (k0_pay44 x0 x1) (View.ld x0 r0_99) (View.ld x1 r0_79) (View.ld x0 r0_100) (View.ld x1 r0_81) (View.ld x0 r0_101) (View.ld x1 r0_83))
      = half0 (chain (xs x0 1 1) (ws x1 1)) := by
  rfl

theorem store85 (x0 : Vec Ideal S1x128x8192 .f32) (x1 : Vec Ideal S2x16x128x256 .f32) :
    k0_pay28 (k0_pay43 x0 x1) (View.ld x0 r0_78) (View.ld x1 r0_79) (View.ld x0 r0_80) (View.ld x1 r0_81) (View.ld x0 r0_82) (View.ld x1 r0_83)
      = half1 (chain (xs x0 1 0) (ws x1 1)) := by
  rfl

theorem store84 (x0 : Vec Ideal S1x128x8192 .f32) (x1 : Vec Ideal S2x16x128x256 .f32) :
    k0_pay27 (k0_pay43 x0 x1) (View.ld x0 r0_78) (View.ld x1 r0_79) (View.ld x0 r0_80) (View.ld x1 r0_81) (View.ld x0 r0_82) (View.ld x1 r0_83)
      = half0 (chain (xs x0 1 0) (ws x1 1)) := by
  rfl

theorem store51 (x0 : Vec Ideal S1x128x8192 .f32) (x1 : Vec Ideal S2x16x128x256 .f32) :
    k0_pay20 (k0_pay41 x0 x1) (k0_pay42 x0 x1) (View.ld x0 r0_47) (View.ld x1 r0_27) (View.ld x0 r0_48) (View.ld x1 r0_29) (View.ld x0 r0_49) (View.ld x1 r0_31)
      = half1 (chain (xs x0 0 1) (ws x1 0)) := by
  rfl

theorem store50 (x0 : Vec Ideal S1x128x8192 .f32) (x1 : Vec Ideal S2x16x128x256 .f32) :
    k0_pay19 (k0_pay41 x0 x1) (k0_pay42 x0 x1) (View.ld x0 r0_47) (View.ld x1 r0_27) (View.ld x0 r0_48) (View.ld x1 r0_29) (View.ld x0 r0_49) (View.ld x1 r0_31)
      = half0 (chain (xs x0 0 1) (ws x1 0)) := by
  rfl

theorem store33 (x0 : Vec Ideal S1x128x8192 .f32) (x1 : Vec Ideal S2x16x128x256 .f32) :
    k0_pay11 (k0_pay38 x0 x1) (k0_pay39 x0 x1) (k0_pay40 x0 x1) (k0_pay37 x0 x1) (View.ld x0 r0_26) (View.ld x1 r0_27) (View.ld x0 r0_28) (View.ld x1 r0_29) (View.ld x0 r0_30) (View.ld x1 r0_31)
      = half1 (chain (xs x0 0 0) (ws x1 0)) := by
  rfl

theorem store32 (x0 : Vec Ideal S1x128x8192 .f32) (x1 : Vec Ideal S2x16x128x256 .f32) :
    k0_pay10 (k0_pay38 x0 x1) (k0_pay39 x0 x1) (k0_pay40 x0 x1) (k0_pay37 x0 x1) (View.ld x0 r0_26) (View.ld x1 r0_27) (View.ld x0 r0_28) (View.ld x1 r0_29) (View.ld x0 r0_30) (View.ld x1 r0_31)
      = half0 (chain (xs x0 0 0) (ws x1 0)) := by
  rfl

end Cert.Kernel11Ideal.CmpPart

end
-- ==== Proof.CmpPartValue.lean ====
/-
# The compression's first product: the kernel's result is the reference's
-/
module

public import proofs.«01_k».proof.Proof.CmpStores
public import Idealize.ShloMosaic.Lib.WritesUnit

@[expose] public section

set_option maxRecDepth 16384

noncomputable section

open Idealize.ShloMosaic Idealize.ShloMosaic.TcCoe Idealize.ShloMosaic.Tactic Idealize.SL.Sem
open Idealize.ShloMosaic.Pipeline (Dat)

namespace Cert.Kernel11Ideal.CmpPart

open Cert.Kernel11Ideal Cert.Kernel11Ideal.Gen
open Cert.Reference11Ideal.Read

/-- One entry of a store: the reference's, at the store's column. -/
theorem half_ref0 (x0 : Vec Ideal S1x128x8192 .f32) (x1 : Vec Ideal S2x16x128x256 .f32)
    (x : (⟨S4x2048x2x4x64, .f32⟩ : BufTy).Contents (Elt Ideal)) (w : (⟨S2x2048x64, .f32⟩ : BufTy).Contents (Elt Ideal)) (n : Fin 4)
    (hx : ∀ r j e p a d, x0 (ix3 0 r (xcol j e p a d)) = x (ix5 n (CmpRef.rowOf r j) e (head p a) d))
    (hw : ∀ e j a d s b f, x1 (ix4 e j (lane a d) (wcol s b f)) = (if a = b then 1 else 0) * w (ix3 e (CmpRef.wrow s j d) f))
    (r q : Fin 128) (e p : Fin 2) (k : Fin 1024) (hk : k.val = e.val * 256 + p.val * 128 + q.val) :
    half0 (chain (xs x0 e p) (ws x1 e)) (ix3 0 r q) = val_main_v5 (F := Ideal) x w (ix3 n r k) := by
  obtain ⟨b, f, rfl⟩ : ∃ (b : Fin 2) (f : Fin 64), q = lane b f :=
    ⟨⟨q.val / 64, by omega⟩, ⟨q.val % 64, by omega⟩, Fin.ext (by show q.val = q.val / 64 * 64 + q.val % 64; omega)⟩
  rw [half0_at, chain_part x0 x1 x w n hx hw, ← CmpRef.v5_at]
  refine congrArg (fun k => val_main_v5 (F := Ideal) x w (ix3 n r k)) (Fin.ext ?_)
  rw [hk]
  show 0 * 512 + e.val * 256 + (p.val * 2 + b.val) * 64 + f.val = e.val * 256 + p.val * 128 + (b.val * 64 + f.val)
  omega

theorem half_ref1 (x0 : Vec Ideal S1x128x8192 .f32) (x1 : Vec Ideal S2x16x128x256 .f32)
    (x : (⟨S4x2048x2x4x64, .f32⟩ : BufTy).Contents (Elt Ideal)) (w : (⟨S2x2048x64, .f32⟩ : BufTy).Contents (Elt Ideal)) (n : Fin 4)
    (hx : ∀ r j e p a d, x0 (ix3 0 r (xcol j e p a d)) = x (ix5 n (CmpRef.rowOf r j) e (head p a) d))
    (hw : ∀ e j a d s b f, x1 (ix4 e j (lane a d) (wcol s b f)) = (if a = b then 1 else 0) * w (ix3 e (CmpRef.wrow s j d) f))
    (r q : Fin 128) (e p : Fin 2) (k : Fin 1024) (hk : k.val = 512 + e.val * 256 + p.val * 128 + q.val) :
    half1 (chain (xs x0 e p) (ws x1 e)) (ix3 0 r q) = val_main_v5 (F := Ideal) x w (ix3 n r k) := by
  obtain ⟨b, f, rfl⟩ : ∃ (b : Fin 2) (f : Fin 64), q = lane b f :=
    ⟨⟨q.val / 64, by omega⟩, ⟨q.val % 64, by omega⟩, Fin.ext (by show q.val = q.val / 64 * 64 + q.val % 64; omega)⟩
  rw [half1_at, chain_part x0 x1 x w n hx hw, ← CmpRef.v5_at]
  refine congrArg (fun k => val_main_v5 (F := Ideal) x w (ix3 n r k)) (Fin.ext ?_)
  rw [hk]
  show 1 * 512 + e.val * 256 + (p.val * 2 + b.val) * 64 + f.val = 512 + e.val * 256 + p.val * 128 + (b.val * 64 + f.val)
  omega

theorem ix_block (y : S1x128x128.Idx) : ∃ (r q : Fin 128), y = ix3 0 r q :=
  ⟨y 1, y 2, by
    funext a
    fin_cases a
    · exact Fin.ext (by have := (y 0).isLt; show (y 0).val = 0; have h : (y 0).val < 1 := this; omega)
    · rfl
    · rfl⟩

/-- What a point leaves in the output's block. -/
theorem out_at (x0 : Vec Ideal S1x128x8192 .f32) (x1 : Vec Ideal S2x16x128x256 .f32)
    (x : (⟨S4x2048x2x4x64, .f32⟩ : BufTy).Contents (Elt Ideal)) (w : (⟨S2x2048x64, .f32⟩ : BufTy).Contents (Elt Ideal)) (n : Fin 4)
    (hx : ∀ r j e p a d, x0 (ix3 0 r (xcol j e p a d)) = x (ix5 n (CmpRef.rowOf r j) e (head p a) d))
    (hw : ∀ e j a d s b f, x1 (ix4 e j (lane a d) (wcol s b f)) = (if a = b then 1 else 0) * w (ix3 e (CmpRef.wrow s j d) f))
    (r : Fin 128) (k : Fin 1024) :
    out0_2 x0 x1 (ix3 0 r k) = val_main_v5 (F := Ideal) x w (ix3 n r k) := by
  unfold out0_2
  rw [store103, store102, store85, store84, store51, store50, store33, store32]
  canon_tiles y h using View.cover_of_tiled_head _ _ _ (by rfl) _
  · obtain ⟨r', q, rfl⟩ := ix_block y
    have e0 : r' = r := Fin.ext (h1 : r.val = r'.val).symm
    subst e0
    have hk : k.val = 896 + q.val := h2
    refine half_ref1 x0 x1 x w n hx hw r' q 1 1 k (hk.trans ?_)
    show 896 + q.val = 512 + 1 * 256 + 1 * 128 + q.val
    omega
  · obtain ⟨r', q, rfl⟩ := ix_block y
    have e0 : r' = r := Fin.ext (h1 : r.val = r'.val).symm
    subst e0
    have hk : k.val = 384 + q.val := h2
    refine half_ref0 x0 x1 x w n hx hw r' q 1 1 k (hk.trans ?_)
    show 384 + q.val = 1 * 256 + 1 * 128 + q.val
    omega
  · obtain ⟨r', q, rfl⟩ := ix_block y
    have e0 : r' = r := Fin.ext (h1 : r.val = r'.val).symm
    subst e0
    have hk : k.val = 768 + q.val := h2
    refine half_ref1 x0 x1 x w n hx hw r' q 1 0 k (hk.trans ?_)
    show 768 + q.val = 512 + 1 * 256 + 0 * 128 + q.val
    omega
  · obtain ⟨r', q, rfl⟩ := ix_block y
    have e0 : r' = r := Fin.ext (h1 : r.val = r'.val).symm
    subst e0
    have hk : k.val = 256 + q.val := h2
    refine half_ref0 x0 x1 x w n hx hw r' q 1 0 k (hk.trans ?_)
    show 256 + q.val = 1 * 256 + 0 * 128 + q.val
    omega
  · obtain ⟨r', q, rfl⟩ := ix_block y
    have e0 : r' = r := Fin.ext (h1 : r.val = r'.val).symm
    subst e0
    have hk : k.val = 640 + q.val := h2
    refine half_ref1 x0 x1 x w n hx hw r' q 0 1 k (hk.trans ?_)
    show 640 + q.val = 512 + 0 * 256 + 1 * 128 + q.val
    omega
  · obtain ⟨r', q, rfl⟩ := ix_block y
    have e0 : r' = r := Fin.ext (h1 : r.val = r'.val).symm
    subst e0
    have hk : k.val = 128 + q.val := h2
    refine half_ref0 x0 x1 x w n hx hw r' q 0 1 k (hk.trans ?_)
    show 128 + q.val = 0 * 256 + 1 * 128 + q.val
    omega
  · obtain ⟨r', q, rfl⟩ := ix_block y
    have e0 : r' = r := Fin.ext (h1 : r.val = r'.val).symm
    subst e0
    have hk : k.val = 512 + q.val := h2
    refine half_ref1 x0 x1 x w n hx hw r' q 0 0 k (hk.trans ?_)
    show 512 + q.val = 512 + 0 * 256 + 0 * 128 + q.val
    omega
  · obtain ⟨r', q, rfl⟩ := ix_block y
    have e0 : r' = r := Fin.ext (h1 : r.val = r'.val).symm
    subst e0
    have hk : k.val = q.val := h2
    refine half_ref0 x0 x1 x w n hx hw r' q 0 0 k (hk.trans ?_)
    show q.val = 0 * 256 + 0 * 128 + q.val
    omega

variable (m : (ℓ : Loc nD τ sig) → Buf (Elt Ideal) ℓ) (c : Dev nD)

theorem idx : ∀ t : Fin cfg0.N, win0_0.index t = ![t.val, 0, 0] ∧ win0_1.index t = ![0, 0, 0, 0] ∧ win0_2.index t = ![t.val, 0, 0] :=
  (by decide +kernel : ∀ t : Fin grid0.N, _)

theorem t_lt (t : Fin cfg0.N) : t.val < 4 := lt_of_lt_of_eq t.isLt N_0

theorem blk0 (t : Fin cfg0.N) (r : Fin 128) (k : Fin 8192) :
    iblk m c 0 t (ix3 0 r k) = shapeCast S4x128x8192 (ax m c) shapeCasts_S4x2048x2x4x64_S4x128x8192 (ix3 ⟨t.val, t_lt t⟩ r k) := by
  rw [← V_0]
  have hl := t_lt t
  blk_ext [iblk, idx t]
theorem blk1 (t : Fin cfg0.N) (e : Fin 2) (j : Fin 16) (l : Fin 128) (q : Fin 256) :
    iblk m c 1 t (ix4 e j l q) = shapeCast S2x16x128x256 (wE (aw m c)) shapeCasts_S2x16x2x64x2x2x64_S2x16x128x256 (ix4 e j l q) := by
  rw [← V_14]
  blk_ext [iblk, idx t]

/-- THE RESULT'S ARRAY after the last point. -/
theorem final : (dats m 0 c).arrAt 2 (cfgs 0).N = val_main_v5 (F := Ideal) (ax m c) (aw m c) := by
  refine (dats m 0 c).arrAt_eq_of_covers 2 _ (by decide +kernel) fun t hf y => ?_
  have hl := t_lt t
  have hy : y = ix3 0 (y 1) (y 2) := by
    funext a
    fin_cases a
    · exact Fin.ext (by have h : (y 0).val < 1 := (y 0).isLt; show (y 0).val = 0; omega)
    · rfl
    · rfl
  blk_simp
  rw [after0_2]
  refine (congrArg (out0_2 (iblk m c 0 t) (iblk m c 1 t)) hy).trans ((out_at _ _ (ax m c) (aw m c) ⟨t.val, hl⟩ ?_ ?_ (y 1) (y 2)).trans ?_)
  · intro r j e p a d
    rw [blk0, x_at]
  · intro e j a d s b f
    rw [blk1, w_at]
  · congr 1
    rw [hy]
    blk_ext [idx t]

end Cert.Kernel11Ideal.CmpPart

end
-- ==== Proof.ScanRefRun.lean ====
/- The reference recurrence's run over one trip's step: the step of `Gen/ReferenceIdeal/Step.lean` at a valuation that
   holds a state, one lemma per value of a trip, and the results as the fields of the iterated step. -/
module

public import proofs.«01_k».proof.Proof.Gen.ReferenceIdeal.Run
public import proofs.«01_k».proof.Proof.Gen.ReferenceIdeal.Step

@[expose] public section

noncomputable section

namespace Cert.ReferenceIdeal.StepRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_7 : V0 (Proc.devRef .tc main_v21_7) = s.main_v21_7
  f_8 : V0 (Proc.devRef .tc main_v21_8) = s.main_v21_8
  f_0 : V0 (Proc.devRef .tc main_v21_0) = s.main_v21_0
  f_1 : V0 (Proc.devRef .tc main_v21_1) = s.main_v21_1
  f_2 : V0 (Proc.devRef .tc main_v21_2) = s.main_v21_2
  f_3 : V0 (Proc.devRef .tc main_v21_3) = s.main_v21_3
  f_4 : V0 (Proc.devRef .tc main_v21_4) = s.main_v21_4
  f_5 : V0 (Proc.devRef .tc main_v21_5) = s.main_v21_5
  n_6 : V0 (Proc.devRef .tc main_v21_6) = constantI S_ 32 (BitVec.ofNat 32 j)

variable {V0 s j}

set_option maxRecDepth 8192 in
theorem al_0 (h : Holds V0 s j) : (constantI S_ 32 0#32 : (Proc.devRef .tc main_while0b_call0_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call0_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call0_c_1 : DevRef τ sig).ty.Contents (Elt F)) = Cert.ReferenceIdeal.Step.b2 j s := by
  unfold Cert.ReferenceIdeal.Step.b2
  rfl
set_option maxRecDepth 8192 in
theorem al_3 (h : Holds V0 s j) : (Host.dynamicSlice S1x4x16x64 (V0 (Proc.devRef .tc main_v21_0)) (fun k => (((![V0 (Proc.devRef .tc main_v21_6), constantI S_ 32 0#32, constantI S_ 32 0#32, constantI S_ 32 0#32] : Fin 4 → (⟨S_, .i32⟩ : BufTy).Contents (Elt F))) k (Shape.Idx.first h_S_)).toInt) sliceFits_S2048x4x16x64_S1x4x16x64 : (Proc.devRef .tc main_while0b_call0_v0 : DevRef τ sig).ty.Contents (Elt F)) = Cert.ReferenceIdeal.Step.b3 j s := by
  unfold Cert.ReferenceIdeal.Step.b3
  rw [← al_0 h, ← al_1 h, ← al_2 h, h.f_0, h.n_6]
  try rfl
set_option maxRecDepth 8192 in
theorem al_4 (h : Holds V0 s j) : (shapeCast S4x16x64 (Host.dynamicSlice S1x4x16x64 (V0 (Proc.devRef .tc main_v21_0)) (fun k => (((![V0 (Proc.devRef .tc main_v21_6), constantI S_ 32 0#32, constantI S_ 32 0#32, constantI S_ 32 0#32] : Fin 4 → (⟨S_, .i32⟩ : BufTy).Contents (Elt F))) k (Shape.Idx.first h_S_)).toInt) sliceFits_S2048x4x16x64_S1x4x16x64) shapeCasts_S1x4x16x64_S4x16x64 : (Proc.devRef .tc main_while0b_v59 : DevRef τ sig).ty.Contents (Elt F)) = Cert.ReferenceIdeal.Step.b4 j s := by
  unfold Cert.ReferenceIdeal.Step.b4
  rw [← al_3 h]
  try rfl
set_option maxRecDepth 8192 in
theorem al_5 (h : Holds V0 s j) : (constantI S_ 32 0#32 : (Proc.devRef .tc main_while0b_call1_c : DevRef τ sig).ty.Contents (Elt F)) = Cert.ReferenceIdeal.Step.b5 j s := by
  unfold Cert.ReferenceIdeal.Step.b5
  rfl
set_option maxRecDepth 8192 in
theorem al_6 (h : Holds V0 s j) : (constantI S_ 32 0#32 : (Proc.devRef .tc main_while0b_call1_c_0 : DevRef τ sig).ty.Contents (Elt F)) = Cert.ReferenceIdeal.Step.b6 j s := by
  unfold Cert.ReferenceIdeal.Step.b6
  rfl
set_option maxRecDepth 8192 in
theorem al_7 (h : Holds V0 s j) : (constantI S_ 32 0#32 : (Proc.devRef .tc main_while0b_call1_c_1 : DevRef τ sig).ty.Contents (Elt F)) = Cert.ReferenceIdeal.Step.b7 j s := by
  unfold Cert.ReferenceIdeal.Step.b7
  rfl
set_option maxRecDepth 8192 in
theorem al_8 (h : Holds V0 s j) : (Host.dynamicSlice S1x4x16x64 (V0 (Proc.devRef .tc main_v21_1)) (fun k => (((![V0 (Proc.devRef .tc main_v21_6), constantI S_ 32 0#32, constantI S_ 32 0#32, constantI S_ 32 0#32] : Fin 4 → (⟨S_, .i32⟩ : BufTy).Contents (Elt F))) k (Shape.Idx.first h_S_)).toInt) sliceFits_S2048x4x16x64_S1x4x16x64 : (Proc.devRef .tc main_while0b_call1_v0 : DevRef τ sig).ty.Contents (Elt F)) = Cert.ReferenceIdeal.Step.b8 j s := by
  unfold Cert.ReferenceIdeal.Step.b8
  rw [← al_5 h, ← al_6 h, ← al_7 h, h.f_1, h.n_6]
  try rfl
set_option maxRecDepth 8192 in
theorem al_9 (h : Holds V0 s j) : (shapeCast S4x16x64 (Host.dynamicSlice S1x4x16x64 (V0 (Proc.devRef .tc main_v21_1)) (fun k => (((![V0 (Proc.devRef .tc main_v21_6), constantI S_ 32 0#32, constantI S_ 32 0#32, constantI S_ 32 0#32] : Fin 4 → (⟨S_, .i32⟩ : BufTy).Contents (Elt F))) k (Shape.Idx.first h_S_)).toInt) sliceFits_S2048x4x16x64_S1x4x16x64) shapeCasts_S1x4x16x64_S4x16x64 : (Proc.devRef .tc main_while0b_v60 : DevRef τ sig).ty.Contents (Elt F)) = Cert.ReferenceIdeal.Step.b9 j s := by
  unfold Cert.ReferenceIdeal.Step.b9
  rw [← al_8 h]
  try rfl
set_option maxRecDepth 8192 in
theorem al_10 (h : Holds V0 s j) : (constantI S_ 32 0#32 : (Proc.devRef .tc main_while0b_call2_c : DevRef τ sig).ty.Contents (Elt F)) = Cert.ReferenceIdeal.Step.b10 j s := by
  unfold Cert.ReferenceIdeal.Step.b10
  rfl
set_option maxRecDepth 8192 in
theorem al_11 (h : Holds V0 s j) : (constantI S_ 32 0#32 : (Proc.devRef .tc main_while0b_call2_c_0 : DevRef τ sig).ty.Contents (Elt F)) = Cert.ReferenceIdeal.Step.b11 j s := by
  unfold Cert.ReferenceIdeal.Step.b11
  rfl
set_option maxRecDepth 8192 in
theorem al_12 (h : Holds V0 s j) : (constantI S_ 32 0#32 : (Proc.devRef .tc main_while0b_call2_c_1 : DevRef τ sig).ty.Contents (Elt F)) = Cert.ReferenceIdeal.Step.b12 j s := by
  unfold Cert.ReferenceIdeal.Step.b12
  rfl
set_option maxRecDepth 8192 in
theorem al_13 (h : Holds V0 s j) : (Host.dynamicSlice S1x4x16x64 (V0 (Proc.devRef .tc main_v21_2)) (fun k => (((![V0 (Proc.devRef .tc main_v21_6), constantI S_ 32 0#32, constantI S_ 32 0#32, constantI S_ 32 0#32] : Fin 4 → (⟨S_, .i32⟩ : BufTy).Contents (Elt F))) k (Shape.Idx.first h_S_)).toInt) sliceFits_S2048x4x16x64_S1x4x16x64 : (Proc.devRef .tc main_while0b_call2_v0 : DevRef τ sig).ty.Contents (Elt F)) = Cert.ReferenceIdeal.Step.b13 j s := by
  unfold Cert.ReferenceIdeal.Step.b13
  rw [← al_10 h, ← al_11 h, ← al_12 h, h.f_2, h.n_6]
  try rfl
set_option maxRecDepth 8192 in
theorem al_14 (h : Holds V0 s j) : (shapeCast S4x16x64 (Host.dynamicSlice S1x4x16x64 (V0 (Proc.devRef .tc main_v21_2)) (fun k => (((![V0 (Proc.devRef .tc main_v21_6), constantI S_ 32 0#32, constantI S_ 32 0#32, constantI S_ 32 0#32] : Fin 4 → (⟨S_, .i32⟩ : BufTy).Contents (Elt F))) k (Shape.Idx.first h_S_)).toInt) sliceFits_S2048x4x16x64_S1x4x16x64) shapeCasts_S1x4x16x64_S4x16x64 : (Proc.devRef .tc main_while0b_v61 : DevRef τ sig).ty.Contents (Elt F)) = Cert.ReferenceIdeal.Step.b14 j s := by
  unfold Cert.ReferenceIdeal.Step.b14
  rw [← al_13 h]
  try rfl
set_option maxRecDepth 8192 in
theorem al_15 (h : Holds V0 s j) : (constantI S_ 32 0#32 : (Proc.devRef .tc main_while0b_call3_c : DevRef τ sig).ty.Contents (Elt F)) = Cert.ReferenceIdeal.Step.b15 j s := by
  unfold Cert.ReferenceIdeal.Step.b15
  rfl
set_option maxRecDepth 8192 in
theorem al_16 (h : Holds V0 s j) : (constantI S_ 32 0#32 : (Proc.devRef .tc main_while0b_call3_c_0 : DevRef τ sig).ty.Contents (Elt F)) = Cert.ReferenceIdeal.Step.b16 j s := by
  unfold Cert.ReferenceIdeal.Step.b16
  rfl
set_option maxRecDepth 8192 in
theorem al_17 (h : Holds V0 s j) : (constantI S_ 32 0#32 : (Proc.devRef .tc main_while0b_call3_c_1 : DevRef τ sig).ty.Contents (Elt F)) = Cert.ReferenceIdeal.Step.b17 j s := by
  unfold Cert.ReferenceIdeal.Step.b17
  rfl
set_option maxRecDepth 8192 in
theorem al_18 (h : Holds V0 s j) : (Host.dynamicSlice S1x4x16x64 (V0 (Proc.devRef .tc main_v21_3)) (fun k => (((![V0 (Proc.devRef .tc main_v21_6), constantI S_ 32 0#32, constantI S_ 32 0#32, constantI S_ 32 0#32] : Fin 4 → (⟨S_, .i32⟩ : BufTy).Contents (Elt F))) k (Shape.Idx.first h_S_)).toInt) sliceFits_S2048x4x16x64_S1x4x16x64 : (Proc.devRef .tc main_while0b_call3_v0 : DevRef τ sig).ty.Contents (Elt F)) = Cert.ReferenceIdeal.Step.b18 j s := by
  unfold Cert.ReferenceIdeal.Step.b18
  rw [← al_15 h, ← al_16 h, ← al_17 h, h.f_3, h.n_6]
  try rfl
set_option maxRecDepth 8192 in
theorem al_19 (h : Holds V0 s j) : (shapeCast S4x16x64 (Host.dynamicSlice S1x4x16x64 (V0 (Proc.devRef .tc main_v21_3)) (fun k => (((![V0 (Proc.devRef .tc main_v21_6), constantI S_ 32 0#32, constantI S_ 32 0#32, constantI S_ 32 0#32] : Fin 4 → (⟨S_, .i32⟩ : BufTy).Contents (Elt F))) k (Shape.Idx.first h_S_)).toInt) sliceFits_S2048x4x16x64_S1x4x16x64) shapeCasts_S1x4x16x64_S4x16x64 : (Proc.devRef .tc main_while0b_v62 : DevRef τ sig).ty.Contents (Elt F)) = Cert.ReferenceIdeal.Step.b19 j s := by
  unfold Cert.ReferenceIdeal.Step.b19
  rw [← al_18 h]
  try rfl
set_option maxRecDepth 8192 in
theorem al_20 (h : Holds V0 s j) : (constantI S_ 32 0#32 : (Proc.devRef .tc main_while0b_call4_c : DevRef τ sig).ty.Contents (Elt F)) = Cert.ReferenceIdeal.Step.b20 j s := by
  unfold Cert.ReferenceIdeal.Step.b20
  rfl
set_option maxRecDepth 8192 in
theorem al_21 (h : Holds V0 s j) : (constantI S_ 32 0#32 : (Proc.devRef .tc main_while0b_call4_c_0 : DevRef τ sig).ty.Contents (Elt F)) = Cert.ReferenceIdeal.Step.b21 j s := by
  unfold Cert.ReferenceIdeal.Step.b21
  rfl
set_option maxRecDepth 8192 in
theorem al_22 (h : Holds V0 s j) : (constantI S_ 32 0#32 : (Proc.devRef .tc main_while0b_call4_c_1 : DevRef τ sig).ty.Contents (Elt F)) = Cert.ReferenceIdeal.Step.b22 j s := by
  unfold Cert.ReferenceIdeal.Step.b22
  rfl
set_option maxRecDepth 8192 in
theorem al_23 (h : Holds V0 s j) : (Host.dynamicSlice S1x4x16x64 (V0 (Proc.devRef .tc main_v21_4)) (fun k => (((![V0 (Proc.devRef .tc main_v21_6), constantI S_ 32 0#32, constantI S_ 32 0#32, constantI S_ 32 0#32] : Fin 4 → (⟨S_, .i32⟩ : BufTy).Contents (Elt F))) k (Shape.Idx.first h_S_)).toInt) sliceFits_S2048x4x16x64_S1x4x16x64 : (Proc.devRef .tc main_while0b_call4_v0 : DevRef τ sig).ty.Contents (Elt F)) = Cert.ReferenceIdeal.Step.b23 j s := by
  unfold Cert.ReferenceIdeal.Step.b23
  rw [← al_20 h, ← al_21 h, ← al_22 h, h.f_4, h.n_6]
  try rfl
set_option maxRecDepth 8192 in
theorem al_24 (h : Holds V0 s j) : (res_main_while0b_v63 V0 : (Proc.devRef .tc main_while0b_v63 : DevRef τ sig).ty.Contents (Elt F)) = Cert.ReferenceIdeal.Step.b24 j s := by
  unfold res_main_while0b_v63 Cert.ReferenceIdeal.Step.b24
  rw [← al_23 h]
  try rfl
set_option maxRecDepth 8192 in
theorem al_25 (h : Holds V0 s j) : (constantI S_ 32 0#32 : (Proc.devRef .tc main_while0b_call5_c : DevRef τ sig).ty.Contents (Elt F)) = Cert.ReferenceIdeal.Step.b25 j s := by
  unfold Cert.ReferenceIdeal.Step.b25
  rfl
set_option maxRecDepth 8192 in
theorem al_26 (h : Holds V0 s j) : (constantI S_ 32 0#32 : (Proc.devRef .tc main_while0b_call5_c_0 : DevRef τ sig).ty.Contents (Elt F)) = Cert.ReferenceIdeal.Step.b26 j s := by
  unfold Cert.ReferenceIdeal.Step.b26
  rfl
set_option maxRecDepth 8192 in
theorem al_27 (h : Holds V0 s j) : (constantI S_ 32 0#32 : (Proc.devRef .tc main_while0b_call5_c_1 : DevRef τ sig).ty.Contents (Elt F)) = Cert.ReferenceIdeal.Step.b27 j s := by
  unfold Cert.ReferenceIdeal.Step.b27
  rfl
set_option maxRecDepth 8192 in
theorem al_28 (h : Holds V0 s j) : (Host.dynamicSlice S1x4x16x64 (V0 (Proc.devRef .tc main_v21_5)) (fun k => (((![V0 (Proc.devRef .tc main_v21_6), constantI S_ 32 0#32, constantI S_ 32 0#32, constantI S_ 32 0#32] : Fin 4 → (⟨S_, .i32⟩ : BufTy).Contents (Elt F))) k (Shape.Idx.first h_S_)).toInt) sliceFits_S2048x4x16x64_S1x4x16x64 : (Proc.devRef .tc main_while0b_call5_v0 : DevRef τ sig).ty.Contents (Elt F)) = Cert.ReferenceIdeal.Step.b28 j s := by
  unfold Cert.ReferenceIdeal.Step.b28
  rw [← al_25 h, ← al_26 h, ← al_27 h, h.f_5, h.n_6]
  try rfl
set_option maxRecDepth 8192 in
theorem al_29 (h : Holds V0 s j) : (shapeCast S4x16x64 (Host.dynamicSlice S1x4x16x64 (V0 (Proc.devRef .tc main_v21_5)) (fun k => (((![V0 (Proc.devRef .tc main_v21_6), constantI S_ 32 0#32, constantI S_ 32 0#32, constantI S_ 32 0#32] : Fin 4 → (⟨S_, .i32⟩ : BufTy).Contents (Elt F))) k (Shape.Idx.first h_S_)).toInt) sliceFits_S2048x4x16x64_S1x4x16x64) shapeCasts_S1x4x16x64_S4x16x64 : (Proc.devRef .tc main_while0b_v64 : DevRef τ sig).ty.Contents (Elt F)) = Cert.ReferenceIdeal.Step.b29 j s := by
  unfold Cert.ReferenceIdeal.Step.b29
  rw [← al_28 h]
  try rfl
set_option maxRecDepth 8192 in
theorem al_30 (h : Holds V0 s j) : (Host.dotGeneral dot_S4x16x64x64_S4x16x64_S4x16x64_3_2_2_n_01_01 none (V0 (Proc.devRef .tc main_v21_7)) (res_main_while0b_v63 V0) : (Proc.devRef .tc main_while0b_v65 : DevRef τ sig).ty.Contents (Elt F)) = Cert.ReferenceIdeal.Step.b30 j s := by
  unfold Cert.ReferenceIdeal.Step.b30
  rw [← al_24 h, h.f_7]
  try rfl
set_option maxRecDepth 8192 in
theorem al_31 (h : Holds V0 s j) : (Host.negf (Host.dotGeneral dot_S4x16x64x64_S4x16x64_S4x16x64_3_2_2_n_01_01 none (V0 (Proc.devRef .tc main_v21_7)) (res_main_while0b_v63 V0)) : (Proc.devRef .tc main_while0b_v66 : DevRef τ sig).ty.Contents (Elt F)) = Cert.ReferenceIdeal.Step.b31 j s := by
  unfold Cert.ReferenceIdeal.Step.b31
  rw [← al_30 h]
  try rfl
set_option maxRecDepth 8192 in
theorem al_32 (h : Holds V0 s j) : (broadcastInDim S4x16x1x64 ![0, 1, 3] bcast_S4x16x64_S4x16x1x64_0_1_3 (shapeCast S4x16x64 (Host.dynamicSlice S1x4x16x64 (V0 (Proc.devRef .tc main_v21_1)) (fun k => (((![V0 (Proc.devRef .tc main_v21_6), constantI S_ 32 0#32, constantI S_ 32 0#32, constantI S_ 32 0#32] : Fin 4 → (⟨S_, .i32⟩ : BufTy).Contents (Elt F))) k (Shape.Idx.first h_S_)).toInt) sliceFits_S2048x4x16x64_S1x4x16x64) shapeCasts_S1x4x16x64_S4x16x64) : (Proc.devRef .tc main_while0b_v67 : DevRef τ sig).ty.Contents (Elt F)) = Cert.ReferenceIdeal.Step.b32 j s := by
  unfold Cert.ReferenceIdeal.Step.b32
  rw [← al_9 h]
  try rfl
set_option maxRecDepth 8192 in
theorem al_33 (h : Holds V0 s j) : (broadcastInDim S4x16x64x64 ![0, 1, 2, 3] bcast_S4x16x1x64_S4x16x64x64_0_1_2_3 (broadcastInDim S4x16x1x64 ![0, 1, 3] bcast_S4x16x64_S4x16x1x64_0_1_3 (shapeCast S4x16x64 (Host.dynamicSlice S1x4x16x64 (V0 (Proc.devRef .tc main_v21_1)) (fun k => (((![V0 (Proc.devRef .tc main_v21_6), constantI S_ 32 0#32, constantI S_ 32 0#32, constantI S_ 32 0#32] : Fin 4 → (⟨S_, .i32⟩ : BufTy).Contents (Elt F))) k (Shape.Idx.first h_S_)).toInt) sliceFits_S2048x4x16x64_S1x4x16x64) shapeCasts_S1x4x16x64_S4x16x64)) : (Proc.devRef .tc main_while0b_v68 : DevRef τ sig).ty.Contents (Elt F)) = Cert.ReferenceIdeal.Step.b33 j s := by
  unfold Cert.ReferenceIdeal.Step.b33
  rw [← al_32 h]
  try rfl
set_option maxRecDepth 8192 in
theorem al_34 (h : Holds V0 s j) : (mulf (V0 (Proc.devRef .tc main_v21_7)) (broadcastInDim S4x16x64x64 ![0, 1, 2, 3] bcast_S4x16x1x64_S4x16x64x64_0_1_2_3 (broadcastInDim S4x16x1x64 ![0, 1, 3] bcast_S4x16x64_S4x16x1x64_0_1_3 (shapeCast S4x16x64 (Host.dynamicSlice S1x4x16x64 (V0 (Proc.devRef .tc main_v21_1)) (fun k => (((![V0 (Proc.devRef .tc main_v21_6), constantI S_ 32 0#32, constantI S_ 32 0#32, constantI S_ 32 0#32] : Fin 4 → (⟨S_, .i32⟩ : BufTy).Contents (Elt F))) k (Shape.Idx.first h_S_)).toInt) sliceFits_S2048x4x16x64_S1x4x16x64) shapeCasts_S1x4x16x64_S4x16x64))) : (Proc.devRef .tc main_while0b_v69 : DevRef τ sig).ty.Contents (Elt F)) = Cert.ReferenceIdeal.Step.b34 j s := by
  unfold Cert.ReferenceIdeal.Step.b34
  rw [← al_33 h, h.f_7]
  try rfl
set_option maxRecDepth 8192 in
theorem al_35 (h : Holds V0 s j) : (broadcastInDim S4x16x64x1 ![0, 1, 2] bcast_S4x16x64_S4x16x64x1_0_1_2 (Host.negf (Host.dotGeneral dot_S4x16x64x64_S4x16x64_S4x16x64_3_2_2_n_01_01 none (V0 (Proc.devRef .tc main_v21_7)) (res_main_while0b_v63 V0))) : (Proc.devRef .tc main_while0b_v70 : DevRef τ sig).ty.Contents (Elt F)) = Cert.ReferenceIdeal.Step.b35 j s := by
  unfold Cert.ReferenceIdeal.Step.b35
  rw [← al_31 h]
  try rfl
set_option maxRecDepth 8192 in
theorem al_36 (h : Holds V0 s j) : (mulf (res_main_while0b_v63 V0) (shapeCast S4x16x64 (Host.dynamicSlice S1x4x16x64 (V0 (Proc.devRef .tc main_v21_5)) (fun k => (((![V0 (Proc.devRef .tc main_v21_6), constantI S_ 32 0#32, constantI S_ 32 0#32, constantI S_ 32 0#32] : Fin 4 → (⟨S_, .i32⟩ : BufTy).Contents (Elt F))) k (Shape.Idx.first h_S_)).toInt) sliceFits_S2048x4x16x64_S1x4x16x64) shapeCasts_S1x4x16x64_S4x16x64) : (Proc.devRef .tc main_while0b_v71 : DevRef τ sig).ty.Contents (Elt F)) = Cert.ReferenceIdeal.Step.b36 j s := by
  unfold Cert.ReferenceIdeal.Step.b36
  rw [← al_24 h, ← al_29 h]
  try rfl
set_option maxRecDepth 8192 in
theorem al_37 (h : Holds V0 s j) : (broadcastInDim S4x16x1x64 ![0, 1, 3] bcast_S4x16x64_S4x16x1x64_0_1_3 (mulf (res_main_while0b_v63 V0) (shapeCast S4x16x64 (Host.dynamicSlice S1x4x16x64 (V0 (Proc.devRef .tc main_v21_5)) (fun k => (((![V0 (Proc.devRef .tc main_v21_6), constantI S_ 32 0#32, constantI S_ 32 0#32, constantI S_ 32 0#32] : Fin 4 → (⟨S_, .i32⟩ : BufTy).Contents (Elt F))) k (Shape.Idx.first h_S_)).toInt) sliceFits_S2048x4x16x64_S1x4x16x64) shapeCasts_S1x4x16x64_S4x16x64)) : (Proc.devRef .tc main_while0b_v72 : DevRef τ sig).ty.Contents (Elt F)) = Cert.ReferenceIdeal.Step.b37 j s := by
  unfold Cert.ReferenceIdeal.Step.b37
  rw [← al_36 h]
  try rfl
set_option maxRecDepth 8192 in
theorem al_38 (h : Holds V0 s j) : (broadcastInDim S4x16x64x64 ![0, 1, 2, 3] bcast_S4x16x64x1_S4x16x64x64_0_1_2_3 (broadcastInDim S4x16x64x1 ![0, 1, 2] bcast_S4x16x64_S4x16x64x1_0_1_2 (Host.negf (Host.dotGeneral dot_S4x16x64x64_S4x16x64_S4x16x64_3_2_2_n_01_01 none (V0 (Proc.devRef .tc main_v21_7)) (res_main_while0b_v63 V0)))) : (Proc.devRef .tc main_while0b_v73 : DevRef τ sig).ty.Contents (Elt F)) = Cert.ReferenceIdeal.Step.b38 j s := by
  unfold Cert.ReferenceIdeal.Step.b38
  rw [← al_35 h]
  try rfl
set_option maxRecDepth 8192 in
theorem al_39 (h : Holds V0 s j) : (broadcastInDim S4x16x64x64 ![0, 1, 2, 3] bcast_S4x16x1x64_S4x16x64x64_0_1_2_3 (broadcastInDim S4x16x1x64 ![0, 1, 3] bcast_S4x16x64_S4x16x1x64_0_1_3 (mulf (res_main_while0b_v63 V0) (shapeCast S4x16x64 (Host.dynamicSlice S1x4x16x64 (V0 (Proc.devRef .tc main_v21_5)) (fun k => (((![V0 (Proc.devRef .tc main_v21_6), constantI S_ 32 0#32, constantI S_ 32 0#32, constantI S_ 32 0#32] : Fin 4 → (⟨S_, .i32⟩ : BufTy).Contents (Elt F))) k (Shape.Idx.first h_S_)).toInt) sliceFits_S2048x4x16x64_S1x4x16x64) shapeCasts_S1x4x16x64_S4x16x64))) : (Proc.devRef .tc main_while0b_v74 : DevRef τ sig).ty.Contents (Elt F)) = Cert.ReferenceIdeal.Step.b39 j s := by
  unfold Cert.ReferenceIdeal.Step.b39
  rw [← al_37 h]
  try rfl
set_option maxRecDepth 8192 in
theorem al_40 (h : Holds V0 s j) : (mulf (broadcastInDim S4x16x64x64 ![0, 1, 2, 3] bcast_S4x16x64x1_S4x16x64x64_0_1_2_3 (broadcastInDim S4x16x64x1 ![0, 1, 2] bcast_S4x16x64_S4x16x64x1_0_1_2 (Host.negf (Host.dotGeneral dot_S4x16x64x64_S4x16x64_S4x16x64_3_2_2_n_01_01 none (V0 (Proc.devRef .tc main_v21_7)) (res_main_while0b_v63 V0))))) (broadcastInDim S4x16x64x64 ![0, 1, 2, 3] bcast_S4x16x1x64_S4x16x64x64_0_1_2_3 (broadcastInDim S4x16x1x64 ![0, 1, 3] bcast_S4x16x64_S4x16x1x64_0_1_3 (mulf (res_main_while0b_v63 V0) (shapeCast S4x16x64 (Host.dynamicSlice S1x4x16x64 (V0 (Proc.devRef .tc main_v21_5)) (fun k => (((![V0 (Proc.devRef .tc main_v21_6), constantI S_ 32 0#32, constantI S_ 32 0#32, constantI S_ 32 0#32] : Fin 4 → (⟨S_, .i32⟩ : BufTy).Contents (Elt F))) k (Shape.Idx.first h_S_)).toInt) sliceFits_S2048x4x16x64_S1x4x16x64) shapeCasts_S1x4x16x64_S4x16x64)))) : (Proc.devRef .tc main_while0b_v75 : DevRef τ sig).ty.Contents (Elt F)) = Cert.ReferenceIdeal.Step.b40 j s := by
  unfold Cert.ReferenceIdeal.Step.b40
  rw [← al_38 h, ← al_39 h]
  try rfl
set_option maxRecDepth 8192 in
theorem al_41 (h : Holds V0 s j) : (addf (mulf (V0 (Proc.devRef .tc main_v21_7)) (broadcastInDim S4x16x64x64 ![0, 1, 2, 3] bcast_S4x16x1x64_S4x16x64x64_0_1_2_3 (broadcastInDim S4x16x1x64 ![0, 1, 3] bcast_S4x16x64_S4x16x1x64_0_1_3 (shapeCast S4x16x64 (Host.dynamicSlice S1x4x16x64 (V0 (Proc.devRef .tc main_v21_1)) (fun k => (((![V0 (Proc.devRef .tc main_v21_6), constantI S_ 32 0#32, constantI S_ 32 0#32, constantI S_ 32 0#32] : Fin 4 → (⟨S_, .i32⟩ : BufTy).Contents (Elt F))) k (Shape.Idx.first h_S_)).toInt) sliceFits_S2048x4x16x64_S1x4x16x64) shapeCasts_S1x4x16x64_S4x16x64)))) (mulf (broadcastInDim S4x16x64x64 ![0, 1, 2, 3] bcast_S4x16x64x1_S4x16x64x64_0_1_2_3 (broadcastInDim S4x16x64x1 ![0, 1, 2] bcast_S4x16x64_S4x16x64x1_0_1_2 (Host.negf (Host.dotGeneral dot_S4x16x64x64_S4x16x64_S4x16x64_3_2_2_n_01_01 none (V0 (Proc.devRef .tc main_v21_7)) (res_main_while0b_v63 V0))))) (broadcastInDim S4x16x64x64 ![0, 1, 2, 3] bcast_S4x16x1x64_S4x16x64x64_0_1_2_3 (broadcastInDim S4x16x1x64 ![0, 1, 3] bcast_S4x16x64_S4x16x1x64_0_1_3 (mulf (res_main_while0b_v63 V0) (shapeCast S4x16x64 (Host.dynamicSlice S1x4x16x64 (V0 (Proc.devRef .tc main_v21_5)) (fun k => (((![V0 (Proc.devRef .tc main_v21_6), constantI S_ 32 0#32, constantI S_ 32 0#32, constantI S_ 32 0#32] : Fin 4 → (⟨S_, .i32⟩ : BufTy).Contents (Elt F))) k (Shape.Idx.first h_S_)).toInt) sliceFits_S2048x4x16x64_S1x4x16x64) shapeCasts_S1x4x16x64_S4x16x64))))) : (Proc.devRef .tc main_while0b_v76 : DevRef τ sig).ty.Contents (Elt F)) = Cert.ReferenceIdeal.Step.b41 j s := by
  unfold Cert.ReferenceIdeal.Step.b41
  rw [← al_34 h, ← al_40 h]
  try rfl
set_option maxRecDepth 8192 in
theorem al_42 (h : Holds V0 s j) : (broadcastInDim S4x16x64x1 ![0, 1, 2] bcast_S4x16x64_S4x16x64x1_0_1_2 (shapeCast S4x16x64 (Host.dynamicSlice S1x4x16x64 (V0 (Proc.devRef .tc main_v21_3)) (fun k => (((![V0 (Proc.devRef .tc main_v21_6), constantI S_ 32 0#32, constantI S_ 32 0#32, constantI S_ 32 0#32] : Fin 4 → (⟨S_, .i32⟩ : BufTy).Contents (Elt F))) k (Shape.Idx.first h_S_)).toInt) sliceFits_S2048x4x16x64_S1x4x16x64) shapeCasts_S1x4x16x64_S4x16x64) : (Proc.devRef .tc main_while0b_v77 : DevRef τ sig).ty.Contents (Elt F)) = Cert.ReferenceIdeal.Step.b42 j s := by
  unfold Cert.ReferenceIdeal.Step.b42
  rw [← al_19 h]
  try rfl
set_option maxRecDepth 8192 in
theorem al_43 (h : Holds V0 s j) : (broadcastInDim S4x16x1x64 ![0, 1, 3] bcast_S4x16x64_S4x16x1x64_0_1_3 (shapeCast S4x16x64 (Host.dynamicSlice S1x4x16x64 (V0 (Proc.devRef .tc main_v21_2)) (fun k => (((![V0 (Proc.devRef .tc main_v21_6), constantI S_ 32 0#32, constantI S_ 32 0#32, constantI S_ 32 0#32] : Fin 4 → (⟨S_, .i32⟩ : BufTy).Contents (Elt F))) k (Shape.Idx.first h_S_)).toInt) sliceFits_S2048x4x16x64_S1x4x16x64) shapeCasts_S1x4x16x64_S4x16x64) : (Proc.devRef .tc main_while0b_v78 : DevRef τ sig).ty.Contents (Elt F)) = Cert.ReferenceIdeal.Step.b43 j s := by
  unfold Cert.ReferenceIdeal.Step.b43
  rw [← al_14 h]
  try rfl
set_option maxRecDepth 8192 in
theorem al_44 (h : Holds V0 s j) : (broadcastInDim S4x16x64x64 ![0, 1, 2, 3] bcast_S4x16x64x1_S4x16x64x64_0_1_2_3 (broadcastInDim S4x16x64x1 ![0, 1, 2] bcast_S4x16x64_S4x16x64x1_0_1_2 (shapeCast S4x16x64 (Host.dynamicSlice S1x4x16x64 (V0 (Proc.devRef .tc main_v21_3)) (fun k => (((![V0 (Proc.devRef .tc main_v21_6), constantI S_ 32 0#32, constantI S_ 32 0#32, constantI S_ 32 0#32] : Fin 4 → (⟨S_, .i32⟩ : BufTy).Contents (Elt F))) k (Shape.Idx.first h_S_)).toInt) sliceFits_S2048x4x16x64_S1x4x16x64) shapeCasts_S1x4x16x64_S4x16x64)) : (Proc.devRef .tc main_while0b_v79 : DevRef τ sig).ty.Contents (Elt F)) = Cert.ReferenceIdeal.Step.b44 j s := by
  unfold Cert.ReferenceIdeal.Step.b44
  rw [← al_42 h]
  try rfl
set_option maxRecDepth 8192 in
theorem al_45 (h : Holds V0 s j) : (broadcastInDim S4x16x64x64 ![0, 1, 2, 3] bcast_S4x16x1x64_S4x16x64x64_0_1_2_3 (broadcastInDim S4x16x1x64 ![0, 1, 3] bcast_S4x16x64_S4x16x1x64_0_1_3 (shapeCast S4x16x64 (Host.dynamicSlice S1x4x16x64 (V0 (Proc.devRef .tc main_v21_2)) (fun k => (((![V0 (Proc.devRef .tc main_v21_6), constantI S_ 32 0#32, constantI S_ 32 0#32, constantI S_ 32 0#32] : Fin 4 → (⟨S_, .i32⟩ : BufTy).Contents (Elt F))) k (Shape.Idx.first h_S_)).toInt) sliceFits_S2048x4x16x64_S1x4x16x64) shapeCasts_S1x4x16x64_S4x16x64)) : (Proc.devRef .tc main_while0b_v80 : DevRef τ sig).ty.Contents (Elt F)) = Cert.ReferenceIdeal.Step.b45 j s := by
  unfold Cert.ReferenceIdeal.Step.b45
  rw [← al_43 h]
  try rfl
set_option maxRecDepth 8192 in
theorem al_46 (h : Holds V0 s j) : (mulf (broadcastInDim S4x16x64x64 ![0, 1, 2, 3] bcast_S4x16x64x1_S4x16x64x64_0_1_2_3 (broadcastInDim S4x16x64x1 ![0, 1, 2] bcast_S4x16x64_S4x16x64x1_0_1_2 (shapeCast S4x16x64 (Host.dynamicSlice S1x4x16x64 (V0 (Proc.devRef .tc main_v21_3)) (fun k => (((![V0 (Proc.devRef .tc main_v21_6), constantI S_ 32 0#32, constantI S_ 32 0#32, constantI S_ 32 0#32] : Fin 4 → (⟨S_, .i32⟩ : BufTy).Contents (Elt F))) k (Shape.Idx.first h_S_)).toInt) sliceFits_S2048x4x16x64_S1x4x16x64) shapeCasts_S1x4x16x64_S4x16x64))) (broadcastInDim S4x16x64x64 ![0, 1, 2, 3] bcast_S4x16x1x64_S4x16x64x64_0_1_2_3 (broadcastInDim S4x16x1x64 ![0, 1, 3] bcast_S4x16x64_S4x16x1x64_0_1_3 (shapeCast S4x16x64 (Host.dynamicSlice S1x4x16x64 (V0 (Proc.devRef .tc main_v21_2)) (fun k => (((![V0 (Proc.devRef .tc main_v21_6), constantI S_ 32 0#32, constantI S_ 32 0#32, constantI S_ 32 0#32] : Fin 4 → (⟨S_, .i32⟩ : BufTy).Contents (Elt F))) k (Shape.Idx.first h_S_)).toInt) sliceFits_S2048x4x16x64_S1x4x16x64) shapeCasts_S1x4x16x64_S4x16x64))) : (Proc.devRef .tc main_while0b_v81 : DevRef τ sig).ty.Contents (Elt F)) = Cert.ReferenceIdeal.Step.b46 j s := by
  unfold Cert.ReferenceIdeal.Step.b46
  rw [← al_44 h, ← al_45 h]
  try rfl
set_option maxRecDepth 8192 in
theorem al_47 (h : Holds V0 s j) : (res_main_while0b_v82 V0 : (Proc.devRef .tc main_while0b_v82 : DevRef τ sig).ty.Contents (Elt F)) = Cert.ReferenceIdeal.Step.b47 j s := by
  unfold res_main_while0b_v82 Cert.ReferenceIdeal.Step.b47
  rw [← al_41 h, ← al_46 h]
  try rfl
set_option maxRecDepth 8192 in
theorem al_48 (h : Holds V0 s j) : (Host.dotGeneral dot_S4x16x64x64_S4x16x64_S4x16x64_3_2_2_n_01_01 none (res_main_while0b_v82 V0) (shapeCast S4x16x64 (Host.dynamicSlice S1x4x16x64 (V0 (Proc.devRef .tc main_v21_0)) (fun k => (((![V0 (Proc.devRef .tc main_v21_6), constantI S_ 32 0#32, constantI S_ 32 0#32, constantI S_ 32 0#32] : Fin 4 → (⟨S_, .i32⟩ : BufTy).Contents (Elt F))) k (Shape.Idx.first h_S_)).toInt) sliceFits_S2048x4x16x64_S1x4x16x64) shapeCasts_S1x4x16x64_S4x16x64) : (Proc.devRef .tc main_while0b_v83 : DevRef τ sig).ty.Contents (Elt F)) = Cert.ReferenceIdeal.Step.b48 j s := by
  unfold Cert.ReferenceIdeal.Step.b48
  rw [← al_47 h, ← al_4 h]
  try rfl
set_option maxRecDepth 8192 in
theorem al_49 (h : Holds V0 s j) : (broadcastInDim S1x4x16x64 ![1, 2, 3] bcast_S4x16x64_S1x4x16x64_1_2_3 (Host.dotGeneral dot_S4x16x64x64_S4x16x64_S4x16x64_3_2_2_n_01_01 none (res_main_while0b_v82 V0) (shapeCast S4x16x64 (Host.dynamicSlice S1x4x16x64 (V0 (Proc.devRef .tc main_v21_0)) (fun k => (((![V0 (Proc.devRef .tc main_v21_6), constantI S_ 32 0#32, constantI S_ 32 0#32, constantI S_ 32 0#32] : Fin 4 → (⟨S_, .i32⟩ : BufTy).Contents (Elt F))) k (Shape.Idx.first h_S_)).toInt) sliceFits_S2048x4x16x64_S1x4x16x64) shapeCasts_S1x4x16x64_S4x16x64)) : (Proc.devRef .tc main_while0b_call6_v0 : DevRef τ sig).ty.Contents (Elt F)) = Cert.ReferenceIdeal.Step.b49 j s := by
  unfold Cert.ReferenceIdeal.Step.b49
  rw [← al_48 h]
  try rfl
set_option maxRecDepth 8192 in
theorem al_50 (h : Holds V0 s j) : (constantI S_ 32 0#32 : (Proc.devRef .tc main_while0b_call6_c : DevRef τ sig).ty.Contents (Elt F)) = Cert.ReferenceIdeal.Step.b50 j s := by
  unfold Cert.ReferenceIdeal.Step.b50
  rfl
set_option maxRecDepth 8192 in
theorem al_51 (h : Holds V0 s j) : (constantI S_ 32 0#32 : (Proc.devRef .tc main_while0b_call6_c_0 : DevRef τ sig).ty.Contents (Elt F)) = Cert.ReferenceIdeal.Step.b51 j s := by
  unfold Cert.ReferenceIdeal.Step.b51
  rfl
set_option maxRecDepth 8192 in
theorem al_52 (h : Holds V0 s j) : (constantI S_ 32 0#32 : (Proc.devRef .tc main_while0b_call6_c_1 : DevRef τ sig).ty.Contents (Elt F)) = Cert.ReferenceIdeal.Step.b52 j s := by
  unfold Cert.ReferenceIdeal.Step.b52
  rfl
set_option maxRecDepth 8192 in
theorem al_53 (h : Holds V0 s j) : (Host.dynamicUpdateSlice (V0 (Proc.devRef .tc main_v21_8)) (broadcastInDim S1x4x16x64 ![1, 2, 3] bcast_S4x16x64_S1x4x16x64_1_2_3 (Host.dotGeneral dot_S4x16x64x64_S4x16x64_S4x16x64_3_2_2_n_01_01 none (res_main_while0b_v82 V0) (shapeCast S4x16x64 (Host.dynamicSlice S1x4x16x64 (V0 (Proc.devRef .tc main_v21_0)) (fun k => (((![V0 (Proc.devRef .tc main_v21_6), constantI S_ 32 0#32, constantI S_ 32 0#32, constantI S_ 32 0#32] : Fin 4 → (⟨S_, .i32⟩ : BufTy).Contents (Elt F))) k (Shape.Idx.first h_S_)).toInt) sliceFits_S2048x4x16x64_S1x4x16x64) shapeCasts_S1x4x16x64_S4x16x64))) (fun k => (((![V0 (Proc.devRef .tc main_v21_6), constantI S_ 32 0#32, constantI S_ 32 0#32, constantI S_ 32 0#32] : Fin 4 → (⟨S_, .i32⟩ : BufTy).Contents (Elt F))) k (Shape.Idx.first h_S_)).toInt) updateFits_S2048x4x16x64_S1x4x16x64 : (Proc.devRef .tc main_while0b_v84 : DevRef τ sig).ty.Contents (Elt F)) = Cert.ReferenceIdeal.Step.b53 j s := by
  unfold Cert.ReferenceIdeal.Step.b53
  rw [← al_49 h, ← al_50 h, ← al_51 h, ← al_52 h, h.f_8, h.n_6]
  try rfl

/-! One trip's step of the carried values is `step`, field by field; a counter steps to the next number. -/

theorem step_7 (h : Holds V0 s j) : step_main_v21_7 V0 = (step j s).main_v21_7 := by
  unfold step_main_v21_7 Cert.ReferenceIdeal.Step.step
  show id (res_main_while0b_v82 V0) = _
  rw [al_47 h]
  try rfl
theorem step_8 (h : Holds V0 s j) : step_main_v21_8 V0 = (step j s).main_v21_8 := by
  unfold step_main_v21_8 Cert.ReferenceIdeal.Step.step
  exact al_53 h
theorem step_6 (h : Holds V0 s j) : step_main_v21_6 V0 = constantI S_ 32 (BitVec.ofNat 32 (j + 1)) := by
  unfold step_main_v21_6
  rw [h.n_6]
  funext i
  show BitVec.ofNat 32 j + 1#32 = BitVec.ofNat 32 (j + 1)
  simp only [BitVec.ofNat_add]

set_option maxRecDepth 8192 in
theorem out_main_v58_holds (h : Holds V0 s j) {x_main_arg0 : (⟨S4x2048x1024, .f32⟩ : BufTy).Contents (Elt F)} (h_main_arg0 : V0 (Proc.devRef .tc main_arg0) = x_main_arg0) {x_main_arg2 : (⟨S4x2048x1024, .f32⟩ : BufTy).Contents (Elt F)} (h_main_arg2 : V0 (Proc.devRef .tc main_arg2) = x_main_arg2) {x_main_arg5 : (⟨S4x2048x1024, .f32⟩ : BufTy).Contents (Elt F)} (h_main_arg5 : V0 (Proc.devRef .tc main_arg5) = x_main_arg5) {x_main_arg7 : (⟨S1024, .f32⟩ : BufTy).Contents (Elt F)} (h_main_arg7 : V0 (Proc.devRef .tc main_arg7) = x_main_arg7) {x_main_arg8 : (⟨S1024, .f32⟩ : BufTy).Contents (Elt F)} (h_main_arg8 : V0 (Proc.devRef .tc main_arg8) = x_main_arg8) {x_main_arg9 : (⟨S1024, .f32⟩ : BufTy).Contents (Elt F)} (h_main_arg9 : V0 (Proc.devRef .tc main_arg9) = x_main_arg9) : out_main_v58 V0 = Cert.ReferenceIdeal.Step.R_main_v58 s x_main_arg0 x_main_arg2 x_main_arg5 x_main_arg7 x_main_arg8 x_main_arg9 := by
  unfold out_main_v58 Cert.ReferenceIdeal.Step.R_main_v58
  rw [h.f_8, h_main_arg0, h_main_arg2, h_main_arg5, h_main_arg7, h_main_arg8, h_main_arg9]
  try rfl

/-- One trip keeps the valuation holding: `step` of the state, the same set-up values, the next number. -/
theorem holds_step (h : Holds V0 s j) : Holds (STEP V0) (step j s) (j + 1) where
  f_7 := (STEP_main_v21_7 V0).trans (step_7 h)
  f_8 := (STEP_main_v21_8 V0).trans (step_8 h)
  n_6 := (STEP_main_v21_6 V0).trans (step_6 h)
  f_0 := (STEP_main_v21_0 V0).trans h.f_0
  f_1 := (STEP_main_v21_1 V0).trans h.f_1
  f_2 := (STEP_main_v21_2 V0).trans h.f_2
  f_3 := (STEP_main_v21_3 V0).trans h.f_3
  f_4 := (STEP_main_v21_4 V0).trans h.f_4
  f_5 := (STEP_main_v21_5 V0).trans h.f_5

/-- The state the first trip starts from, of the memory the run starts from. -/
abbrev initState (m : (ℓ : Loc nD τ sig) → Buf (Elt F) ℓ) (c : Dev nD) : State F :=
  init (m ((c.tc : Thread nD τ).loc main_arg6)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

variable (m : (ℓ : Loc nD τ sig) → Buf (Elt F) ℓ) (c : Dev nD)

set_option maxRecDepth 65536 in
set_option maxHeartbeats 400000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 2048 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v58) = Cert.ReferenceIdeal.Step.R_main_v58 (it c 2048) (m ((c.tc : Thread nD τ).loc main_arg0)) (m ((c.tc : Thread nD τ).loc main_arg2)) (m ((c.tc : Thread nD τ).loc main_arg5)) (m ((c.tc : Thread nD τ).loc main_arg7)) (m ((c.tc : Thread nD τ).loc main_arg8)) (m ((c.tc : Thread nD τ).loc main_arg9))
      ∧ r.2.mem ((c.tc : Thread nD τ).loc main_v21_7) = (it c 2048).main_v21_7
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
    have hk := holds_iter m c (it c) (h0 c) (hs c) 2048
    ⟨(h c).1.trans (out_main_v58_holds hk (iter_main_arg0 m c 2048) (iter_main_arg2 m c 2048) (iter_main_arg5 m c 2048) (iter_main_arg7 m c 2048) (iter_main_arg8 m c 2048) (iter_main_arg9 m c 2048)), (h c).2.1.trans hk.f_7, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2⟩) (Value.run m ρ)

end Cert.ReferenceIdeal.StepRun

end
-- ==== Proof.ScanTrip.lean ====
module

public import proofs.«01_k».proof.Proof.Gen.KernelIdeal.Loops

@[expose] public section

set_option maxRecDepth 16384
set_option maxHeartbeats 4000000

noncomputable section

/-!
# One trip of the scan's loop over the time steps of a chunk, and all of them

A trip takes the state of 32 head rows and rewrites each row by the same formula; it also stores the row of
outputs of its own time step. Here the 64 pieces the trip writes are named by one formula over a variable row,
and the 64 trips of a chunk are a recursion on the state.
-/

namespace Cert.KernelIdeal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

/-- The time step of a trip as the kernel computes it for an offset. -/
def kw (k : Fin k0_t1_loop.trips) : Nat := k0_off2 k 0

theorem kw_eq : ∀ k : Fin k0_t1_loop.trips, kw k = k.val := by decide +kernel
theorem trips_eq : k0_t1_loop.trips = 64 := by decide +kernel
theorem kw_lt (k : Fin k0_t1_loop.trips) : kw k < 64 := by
  have h := k.isLt; rw [kw_eq]; have := trips_eq; omega

/-- Where a trip reads the value of head row `i`. -/
def offV (k : Fin k0_t1_loop.trips) (i : Fin 32) : Fin 4 → Nat := ![0, kw k, i.val, 0]
/-- Where a trip stores the output of head row `i`. -/
def offY (k : Fin k0_t1_loop.trips) (i : Fin 32) : Fin 3 → Nat := ![kw k, i.val, 0]
/-- Where a trip reads and stores the state of head row `i`. -/
def offS (i : Fin 32) : Fin 3 → Nat := ![i.val, 0, 0]

theorem offV_inb (k : Fin k0_t1_loop.trips) (i : Fin 32) :
    ∀ a, offV k i a + S1x1x1x128.size a ≤ S1x64x32x128.size a := by
  have hk := kw_lt k; have hi := i.isLt
  intro a; fin_cases a <;> simp [offV, S1x1x1x128, S1x64x32x128] <;> omega
theorem offY_inb (k : Fin k0_t1_loop.trips) (i : Fin 32) :
    ∀ a, offY k i a + S1x1x128.size a ≤ S64x32x128.size a := by
  have hk := kw_lt k; have hi := i.isLt
  intro a; fin_cases a <;> simp [offY, S1x1x128, S64x32x128] <;> omega
theorem offS_inb (i : Fin 32) : ∀ a, offS i a + S1x64x128.size a ≤ S32x64x128.size a := by
  have hi := i.isLt
  intro a; fin_cases a <;> simp [offS, S1x64x128, S32x64x128]; omega

/-- A row of one time step out of a chunk of 64. -/
abbrev row4 (A : Vec F S1x64x64x128 .f32) (k : Fin k0_t1_loop.trips) : Vec F S1x1x64x128 .f32 :=
  fun x => A ((Rect.unit (s := S1x64x64x128) (k0_off1 k) S1x1x64x128.size (k0_off1_inb k)).toLoadRect.idx x)
/-- The same of the two scratch chunks. -/
abbrev row3 (A : Vec F S64x64x128 .f32) (k : Fin k0_t1_loop.trips) : Vec F S1x64x128 .f32 :=
  fun x => A ((Rect.unit (s := S64x64x128) (k0_off2 k) S1x64x128.size (k0_off2_inb k)).toLoadRect.idx x)
/-- The state of head row `i`. -/
abbrev slab (S : Vec F S32x64x128 .f32) (i : Fin 32) : Vec F S1x64x128 .f32 :=
  fun x => S ((Rect.unit (s := S32x64x128) (offS i) S1x64x128.size (offS_inb i)).toLoadRect.idx x)
/-- The values of head row `i` at one time step. -/
abbrev vrow (A : Vec F S1x64x32x128 .f32) (k : Fin k0_t1_loop.trips) (i : Fin 32) : Vec F S1x1x1x128 .f32 :=
  fun x => A ((Rect.unit (s := S1x64x32x128) (offV k i) S1x1x1x128.size (offV_inb k i)).toLoadRect.idx x)

/-- The new state of head row `i` after one time step. -/
def stRow (A3 A4 : Vec F S1x64x64x128 .f32) (A7 : Vec F S1x64x32x128 .f32) (A15 A16 : Vec F S64x64x128 .f32)
    (S : Vec F S32x64x128 .f32) (k : Fin k0_t1_loop.trips) (i : Fin 32) : FVec F S1x64x128 .f32 :=
  shapeCast S1x64x128 (k0_pay67 (k0_pay3 (row4 A3 k)) (k0_pay4 (row4 A4 k)) (k0_pay6 (row3 A15 k)) (k0_pay7 (row3 A16 k))
    (slab S i) (vrow A7 k i)) shapeCasts_S64x128_S1x64x128
/-- The output of head row `i` at one time step. -/
def yRow (A2 A3 A4 : Vec F S1x64x64x128 .f32) (A7 : Vec F S1x64x32x128 .f32) (A15 A16 : Vec F S64x64x128 .f32)
    (S : Vec F S32x64x128 .f32) (k : Fin k0_t1_loop.trips) (i : Fin 32) : FVec F S1x1x128 .f32 :=
  k0_pay68 (k0_pay3 (row4 A3 k)) (k0_pay4 (row4 A4 k)) (k0_pay5 (row4 A2 k)) (k0_pay6 (row3 A15 k)) (k0_pay7 (row3 A16 k))
    (slab S i) (vrow A7 k i)

/-- The head rows, last first: the order of the pieces in a trip's lists. -/
def dn : List (Fin 32) := [31, 30, 29, 28, 27, 26, 25, 24, 23, 22, 21, 20, 19, 18, 17, 16, 15, 14, 13, 12, 11, 10, 9, 8, 7, 6, 5, 4, 3, 2, 1, 0]
theorem mem_dn : ∀ i : Fin 32, i ∈ dn := by decide

/-- The piece a trip writes into the state for head row `i`. -/
def pS (A3 A4 : Vec F S1x64x64x128 .f32) (A7 : Vec F S1x64x32x128 .f32) (A15 A16 : Vec F S64x64x128 .f32)
    (S : Vec F S32x64x128 .f32) (k : Fin k0_t1_loop.trips) (i : Fin 32) : View.Piece (Elt F) S32x64x128 .f32 :=
  ⟨Rect.unit (offS i) S1x64x128.size (offS_inb i), stRow A3 A4 A7 A15 A16 S k i⟩
/-- The piece a trip writes into the outputs for head row `i`. -/
def pY (A2 A3 A4 : Vec F S1x64x64x128 .f32) (A7 : Vec F S1x64x32x128 .f32) (A15 A16 : Vec F S64x64x128 .f32)
    (S : Vec F S32x64x128 .f32) (k : Fin k0_t1_loop.trips) (i : Fin 32) : View.Piece (Elt F) S64x32x128 .f32 :=
  ⟨Rect.unit (offY k i) S1x1x128.size (offY_inb k i), yRow A2 A3 A4 A7 A15 A16 S k i⟩

section
variable (𝒱 : Variants) (c : Dev nD) (bd : Option 𝒱.V) (i : grid0.Coords) (arg2 : Memref sig .tc .vmem S1x64x64x128 .f32) (harg2 : arg2.IsWhole) (arg3 : Memref sig .tc .vmem S1x64x64x128 .f32) (harg3 : arg3.IsWhole) (arg4 : Memref sig .tc .vmem S1x64x64x128 .f32) (harg4 : arg4.IsWhole) (arg5 : Memref sig .tc .vmem S1x64x64x128 .f32) (harg5 : arg5.IsWhole) (arg6 : Memref sig .tc .vmem S1x64x64x128 .f32) (harg6 : arg6.IsWhole) (arg7 : Memref sig .tc .vmem S1x64x32x128 .f32) (harg7 : arg7.IsWhole) (arg8 : Memref sig .tc .vmem S1x32x64x128 .f32) (harg8 : arg8.IsWhole) (arg9 : Memref sig .tc .vmem S1x64x128 .f32) (harg9 : arg9.IsWhole) (arg10 : Memref sig .tc .vmem S1x32x128 .f32) (harg10 : arg10.IsWhole) (arg11 : Memref sig .tc .vmem S1x32x128 .f32) (harg11 : arg11.IsWhole) (arg12 : Memref sig .tc .vmem S1x64x32x128 .f32) (harg12 : arg12.IsWhole) (arg13 : Memref sig .tc .vmem S1x32x64x128 .f32) (harg13 : arg13.IsWhole) (arg14 : Memref sig .tc .vmem S32x64x128 .f32) (harg14 : arg14.IsWhole) (arg15 : Memref sig .tc .vmem S64x64x128 .f32) (harg15 : arg15.IsWhole) (arg16 : Memref sig .tc .vmem S64x64x128 .f32) (harg16 : arg16.IsWhole) (arg17 : Memref sig .tc .vmem S64x32x128 .f32) (harg17 : arg17.IsWhole) (X_arg2 : BufTy.Contents (Elt F) arg2.view.ty) (X_arg3 : BufTy.Contents (Elt F) arg3.view.ty) (X_arg4 : BufTy.Contents (Elt F) arg4.view.ty) (X_arg7 : BufTy.Contents (Elt F) arg7.view.ty) (X_arg15 : BufTy.Contents (Elt F) arg15.view.ty) (X_arg16 : BufTy.Contents (Elt F) arg16.view.ty)

theorem trip_S (k : Fin k0_t1_loop.trips) (f14 : BufTy.Contents (Elt F) arg14.view.ty) (f17 : BufTy.Contents (Elt F) arg17.view.ty) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg2 X_arg3 X_arg4 X_arg7 X_arg15 X_arg16 k).1 f14 f17
      = dn.map (pS (arg3.view.read (Elt F) X_arg3) (arg4.view.read (Elt F) X_arg4) (arg7.view.read (Elt F) X_arg7)
          (arg15.view.read (Elt F) X_arg15) (arg16.view.read (Elt F) X_arg16) (arg14.view.read (Elt F) f14) k) := by
  unfold trip_k0_t1
  dsimp only
  simp only [dn, List.map_cons, List.map_nil]
  repeat' (refine congrArg₂ List.cons rfl ?_)
  rfl

theorem trip_Y (k : Fin k0_t1_loop.trips) (f14 : BufTy.Contents (Elt F) arg14.view.ty) (f17 : BufTy.Contents (Elt F) arg17.view.ty) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg2 X_arg3 X_arg4 X_arg7 X_arg15 X_arg16 k).2.1 f14 f17
      = dn.map (pY (arg2.view.read (Elt F) X_arg2) (arg3.view.read (Elt F) X_arg3) (arg4.view.read (Elt F) X_arg4) (arg7.view.read (Elt F) X_arg7)
          (arg15.view.read (Elt F) X_arg15) (arg16.view.read (Elt F) X_arg16) (arg14.view.read (Elt F) f14) k) := by
  unfold trip_k0_t1
  dsimp only
  simp only [dn, List.map_cons, List.map_nil]
  repeat' (refine congrArg₂ List.cons rfl ?_)
  rfl
end

end Cert.KernelIdeal.Scan

end
-- ==== Proof.ScanLoop.lean ====
module

public import proofs.«01_k».proof.Proof.ScanTrip
public import Idealize.ShloMosaic.Lib.Pipeline.ValueKit

@[expose] public section

set_option maxRecDepth 16384
set_option maxHeartbeats 4000000

noncomputable section

/-!
# What the loop over the time steps of a chunk leaves

The state after `n` trips is a recursion; the outputs of the trips run so far are read off it. Neither depends
on what the output scratch held before the loop.
-/

namespace Cert.KernelIdeal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

/-- The state after one time step. -/
def newS (A3 A4 : Vec F S1x64x64x128 .f32) (A7 : Vec F S1x64x32x128 .f32) (A15 A16 : Vec F S64x64x128 .f32)
    (S : Vec F S32x64x128 .f32) (k : Fin k0_t1_loop.trips) : Vec F S32x64x128 .f32 :=
  fun y => stRow A3 A4 A7 A15 A16 S k (y 0) (ix3 0 (y 1) (y 2))

/-- The state after the first `n` time steps of a chunk. -/
def stS (A3 A4 : Vec F S1x64x64x128 .f32) (A7 : Vec F S1x64x32x128 .f32) (A15 A16 : Vec F S64x64x128 .f32)
    (S : Vec F S32x64x128 .f32) : Nat → Vec F S32x64x128 .f32
  | 0 => S
  | n + 1 => if h : n < k0_t1_loop.trips then newS A3 A4 A7 A15 A16 (stS A3 A4 A7 A15 A16 S n) ⟨n, h⟩ else stS A3 A4 A7 A15 A16 S n

theorem stS_succ (A3 A4 : Vec F S1x64x64x128 .f32) (A7 : Vec F S1x64x32x128 .f32) (A15 A16 : Vec F S64x64x128 .f32)
    (S : Vec F S32x64x128 .f32) (n : Nat) (h : n < k0_t1_loop.trips) :
    stS A3 A4 A7 A15 A16 S (n + 1) = newS A3 A4 A7 A15 A16 (stS A3 A4 A7 A15 A16 S n) ⟨n, h⟩ := by
  rw [stS]; exact dif_pos h

/-- An index of the output scratch names a time step. -/
abbrev tk (y : S64x32x128.Idx) : Fin k0_t1_loop.trips := (y 0).cast trips_eq.symm

/-- The outputs of all the time steps of a chunk begun at state `S`. -/
def newY (A2 A3 A4 : Vec F S1x64x64x128 .f32) (A7 : Vec F S1x64x32x128 .f32) (A15 A16 : Vec F S64x64x128 .f32)
    (S : Vec F S32x64x128 .f32) : Vec F S64x32x128 .f32 :=
  fun y => yRow A2 A3 A4 A7 A15 A16 (stS A3 A4 A7 A15 A16 S (y 0).val) (tk y) (y 1) (ix3 0 0 (y 2))

variable {sig' : RefSig} {κ : Kind} {sp : Space}

theorem read_pS (A3 A4 : Vec F S1x64x64x128 .f32) (A7 : Vec F S1x64x32x128 .f32) (A15 A16 : Vec F S64x64x128 .f32)
    (S : Vec F S32x64x128 .f32) (k : Fin k0_t1_loop.trips) (v : View sig' κ sp S32x64x128 .f32) (f : v.ty.Contents (Elt F)) :
    v.read (Elt F) (v.writes (Elt F) f (dn.map (pS A3 A4 A7 A15 A16 S k))) = newS A3 A4 A7 A15 A16 S k := by
  funext y
  have hcov : ∃ p ∈ dn.map (pS A3 A4 A7 A15 A16 S k), y ∈ p.1.set := by
    refine ⟨_, List.mem_map_of_mem (mem_dn (y 0)), ?_⟩
    refine (Rect.mem_set_unit (inb := offS_inb (y 0))).2 fun a => ?_
    have h1 := (y 1).isLt; have h2 := (y 2).isLt
    fin_cases a
    · exact ⟨le_refl _, Nat.lt_succ_self _⟩
    · exact ⟨Nat.zero_le _, by show _ < 0 + 64; rw [Nat.zero_add]; exact h1⟩
    · exact ⟨Nat.zero_le _, by show _ < 0 + 128; rw [Nat.zero_add]; exact h2⟩
  rw [View.read_writes_apply_eq_canon _ _ _ _ hcov]
  refine View.canon_apply_of_pieces (newS A3 A4 A7 A15 A16 S k) _ (fun p hp x => ?_) y hcov
  obtain ⟨i, -, rfl⟩ := List.mem_map.1 hp
  have hx : (x 0).val = 0 := Nat.lt_one_iff.1 (x 0).isLt
  have h0 : (pS A3 A4 A7 A15 A16 S k i).1.emb x 0 = i := Fin.ext (by
    show i.val + 1 * (x 0).val = i.val; omega)
  have h1 : (ix3 0 ((pS A3 A4 A7 A15 A16 S k i).1.emb x 1) ((pS A3 A4 A7 A15 A16 S k i).1.emb x 2) : S1x64x128.Idx) = x := by
    funext a
    refine Fin.ext ?_
    fin_cases a
    · exact hx.symm
    · show 0 + 1 * (x 1).val = (x 1).val; omega
    · show 0 + 1 * (x 2).val = (x 2).val; omega
  unfold newS
  rw [h0, h1]; rfl

theorem read_pY_row (A2 A3 A4 : Vec F S1x64x64x128 .f32) (A7 : Vec F S1x64x32x128 .f32) (A15 A16 : Vec F S64x64x128 .f32)
    (S : Vec F S32x64x128 .f32) (k : Fin k0_t1_loop.trips) (v : View sig' κ sp S64x32x128 .f32) (f : v.ty.Contents (Elt F))
    (y : S64x32x128.Idx) (hy : (y 0).val = k.val) :
    v.read (Elt F) (v.writes (Elt F) f (dn.map (pY A2 A3 A4 A7 A15 A16 S k))) y
      = yRow A2 A3 A4 A7 A15 A16 S k (y 1) (ix3 0 0 (y 2)) := by
  have hk := kw_eq k
  have hcov : ∃ p ∈ dn.map (pY A2 A3 A4 A7 A15 A16 S k), y ∈ p.1.set := by
    refine ⟨_, List.mem_map_of_mem (mem_dn (y 1)), ?_⟩
    refine (Rect.mem_set_unit (inb := offY_inb k (y 1))).2 fun a => ?_
    have h2 := (y 2).isLt
    fin_cases a
    · show kw k ≤ (y 0).val ∧ (y 0).val < kw k + 1; omega
    · exact ⟨le_refl _, Nat.lt_succ_self _⟩
    · exact ⟨Nat.zero_le _, by show _ < 0 + 128; rw [Nat.zero_add]; exact h2⟩
  rw [View.read_writes_apply_eq_canon _ _ _ _ hcov]
  refine View.canon_apply_of_pieces (fun y : S64x32x128.Idx => yRow A2 A3 A4 A7 A15 A16 S k (y 1) (ix3 0 0 (y 2))) _ (fun p hp x => ?_) y hcov
  obtain ⟨i, -, rfl⟩ := List.mem_map.1 hp
  have hx0 : (x 0).val = 0 := Nat.lt_one_iff.1 (x 0).isLt
  have hx1 : (x 1).val = 0 := Nat.lt_one_iff.1 (x 1).isLt
  have h0 : (pY A2 A3 A4 A7 A15 A16 S k i).1.emb x 1 = i := Fin.ext (by
    show i.val + 1 * (x 1).val = i.val; omega)
  have h1 : (ix3 0 0 ((pY A2 A3 A4 A7 A15 A16 S k i).1.emb x 2) : S1x1x128.Idx) = x := by
    funext a
    refine Fin.ext ?_
    fin_cases a
    · exact hx0.symm
    · exact hx1.symm
    · show 0 + 1 * (x 2).val = (x 2).val; omega
  beta_reduce
  rw [h0, h1]; rfl

theorem read_pY_other (A2 A3 A4 : Vec F S1x64x64x128 .f32) (A7 : Vec F S1x64x32x128 .f32) (A15 A16 : Vec F S64x64x128 .f32)
    (S : Vec F S32x64x128 .f32) (k : Fin k0_t1_loop.trips) (v : View sig' κ sp S64x32x128 .f32) (f : v.ty.Contents (Elt F))
    (y : S64x32x128.Idx) (hy : (y 0).val < k.val) :
    v.read (Elt F) (v.writes (Elt F) f (dn.map (pY A2 A3 A4 A7 A15 A16 S k))) y = v.read (Elt F) f y := by
  refine View.read_writes_apply_of_forall_not_mem _ _ _ _ (fun p hp hm => ?_)
  obtain ⟨i, -, rfl⟩ := List.mem_map.1 hp
  have h : kw k ≤ (y 0).val := ((Rect.mem_set_unit (inb := offY_inb k i)).1 hm 0).1
  have := kw_eq k
  omega

section
variable (𝒱 : Variants) (c : Dev nD) (bd : Option 𝒱.V) (i : grid0.Coords) (arg2 : Memref sig .tc .vmem S1x64x64x128 .f32) (harg2 : arg2.IsWhole) (arg3 : Memref sig .tc .vmem S1x64x64x128 .f32) (harg3 : arg3.IsWhole) (arg4 : Memref sig .tc .vmem S1x64x64x128 .f32) (harg4 : arg4.IsWhole) (arg5 : Memref sig .tc .vmem S1x64x64x128 .f32) (harg5 : arg5.IsWhole) (arg6 : Memref sig .tc .vmem S1x64x64x128 .f32) (harg6 : arg6.IsWhole) (arg7 : Memref sig .tc .vmem S1x64x32x128 .f32) (harg7 : arg7.IsWhole) (arg8 : Memref sig .tc .vmem S1x32x64x128 .f32) (harg8 : arg8.IsWhole) (arg9 : Memref sig .tc .vmem S1x64x128 .f32) (harg9 : arg9.IsWhole) (arg10 : Memref sig .tc .vmem S1x32x128 .f32) (harg10 : arg10.IsWhole) (arg11 : Memref sig .tc .vmem S1x32x128 .f32) (harg11 : arg11.IsWhole) (arg12 : Memref sig .tc .vmem S1x64x32x128 .f32) (harg12 : arg12.IsWhole) (arg13 : Memref sig .tc .vmem S1x32x64x128 .f32) (harg13 : arg13.IsWhole) (arg14 : Memref sig .tc .vmem S32x64x128 .f32) (harg14 : arg14.IsWhole) (arg15 : Memref sig .tc .vmem S64x64x128 .f32) (harg15 : arg15.IsWhole) (arg16 : Memref sig .tc .vmem S64x64x128 .f32) (harg16 : arg16.IsWhole) (arg17 : Memref sig .tc .vmem S64x32x128 .f32) (harg17 : arg17.IsWhole) (X_arg2 : BufTy.Contents (Elt F) arg2.view.ty) (X_arg3 : BufTy.Contents (Elt F) arg3.view.ty) (X_arg4 : BufTy.Contents (Elt F) arg4.view.ty) (X_arg7 : BufTy.Contents (Elt F) arg7.view.ty) (X_arg15 : BufTy.Contents (Elt F) arg15.view.ty) (X_arg16 : BufTy.Contents (Elt F) arg16.view.ty)

/-- What the first `n` trips leave in the state and in the rows of outputs they store. -/
theorem pb_read (G14 : BufTy.Contents (Elt F) arg14.view.ty) (G17 : BufTy.Contents (Elt F) arg17.view.ty) :
    ∀ n : Nat, n ≤ k0_t1_loop.trips →
    arg14.view.read (Elt F) (arg14.view.writes (Elt F) G14 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg2 X_arg3 X_arg4 X_arg7 X_arg15 X_arg16 G14 G17 n).1)
        = stS (arg3.view.read (Elt F) X_arg3) (arg4.view.read (Elt F) X_arg4) (arg7.view.read (Elt F) X_arg7) (arg15.view.read (Elt F) X_arg15) (arg16.view.read (Elt F) X_arg16) (arg14.view.read (Elt F) G14) n
    ∧ ∀ y : S64x32x128.Idx, (y 0).val < n →
      arg17.view.read (Elt F) (arg17.view.writes (Elt F) G17 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg2 X_arg3 X_arg4 X_arg7 X_arg15 X_arg16 G14 G17 n).2) y
        = newY (arg2.view.read (Elt F) X_arg2) (arg3.view.read (Elt F) X_arg3) (arg4.view.read (Elt F) X_arg4) (arg7.view.read (Elt F) X_arg7) (arg15.view.read (Elt F) X_arg15) (arg16.view.read (Elt F) X_arg16) (arg14.view.read (Elt F) G14) y
  | 0, _ => ⟨rfl, fun y h => absurd h (Nat.not_lt_zero _)⟩
  | n + 1, hn => by
    obtain ⟨ih1, ih2⟩ := pb_read G14 G17 n (Nat.le_of_succ_le hn)
    have hs := pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg2 X_arg3 X_arg4 X_arg7 X_arg15 X_arg16 G14 G17 ⟨n, hn⟩
    dsimp only at hs
    rw [hs]
    dsimp only
    rw [trip_S, trip_Y, View.writes_append, View.writes_append, ih1]
    refine ⟨?_, fun y hy => ?_⟩
    · rw [read_pS, stS_succ _ _ _ _ _ _ _ hn]
    · rcases Nat.lt_succ_iff_lt_or_eq.1 hy with h | h
      · rw [read_pY_other _ _ _ _ _ _ _ _ _ _ _ h, ih2 y h]
      · rw [read_pY_row _ _ _ _ _ _ _ _ _ _ _ h]
        have ht : tk y = ⟨n, hn⟩ := Fin.ext h
        unfold newY
        rw [ht, h]
end

end Cert.KernelIdeal.Scan

end
-- ==== Proof.ScanBody.lean ====
module

public import proofs.«01_k».proof.Proof.ScanLoop
public import proofs.«01_k».proof.Proof.Gen.KernelIdeal.Frame

@[expose] public section

set_option maxRecDepth 16384
set_option maxHeartbeats 4000000

noncomputable section

/-!
# The body of the scan at a point of the grid

A point takes a chunk of 64 time steps. The body leaves the chunk's outputs and the state after it, both
named as functions of the point's blocks and of the state before it.
-/

namespace Cert.KernelIdeal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

open Idealize.ShloMosaic.Rounds

variable {F : FTy → Type} [FloatOps F]

local notation "𝕄" => MT nD τ sig Unit (Elt F) ℕ (UR sig nD τ) ℕ

/-- The condition of the body's first branch: the point is the first. -/
abbrev cond0_0 (i : grid0.Coords) : Prop :=
  (Scalar.cmpi .ne (Scalar.extui (Scalar.cmpi .eq (BitVec.ofNat 32 (i 1).val) 0#32)) 0#32) = 1#1
/-- The condition of the body's second branch: the point is the last. -/
abbrev cond0_1 (i : grid0.Coords) : Prop := k0_cond2 i = 1#1

/-- The state after a chunk, from the chunk's blocks and the state before it. -/
def sEnd (x1 x2 x3 x4 : Vec F S1x64x64x128 .f32) (x5 : Vec F S1x64x32x128 .f32) (S : Vec F S32x64x128 .f32) : Vec F S32x64x128 .f32 :=
  stS x1 x2 x5 (k0_pay135 x3) (k0_pay136 x3 x4) S k0_t1_loop.trips
/-- The recurrence's outputs over a chunk, before the head norm. -/
def yEnd (x0 x1 x2 x3 x4 : Vec F S1x64x64x128 .f32) (x5 : Vec F S1x64x32x128 .f32) (S : Vec F S32x64x128 .f32) : Vec F S64x32x128 .f32 :=
  newY x0 x1 x2 x5 (k0_pay135 x3) (k0_pay136 x3 x4) S
/-- The outputs of a chunk: head norm and bonus on top of the recurrence. -/
def outO (x0 x1 x2 x3 x4 : Vec F S1x64x64x128 .f32) (x5 : Vec F S1x64x32x128 .f32) (x7 : Vec F S1x64x128 .f32)
    (x8 x9 : Vec F S1x32x128 .f32) (S : Vec F S32x64x128 .f32) : Vec F S1x64x32x128 .f32 :=
  k0_pay1 (k0_pay140 x5) (k0_pay141 (yEnd x0 x1 x2 x3 x4 x5 S) x8 x9) (k0_pay142 x0 x2) x7

/-- A store of a whole buffer, last, leaves its payload. -/
theorem read_whole {sig' : RefSig} {κ : Kind} {sp : Space} {s : Shape} {e : EltTy} (v : View sig' κ sp s e) (f : v.ty.Contents (Elt F))
    {off : Fin s.rank → Nat} (h : off = fun _ => 0) (inb : ∀ a, off a + s.size a ≤ s.size a) (w : s.Idx → Elt F e)
    (L : List (View.Piece (Elt F) s e)) :
    v.read (Elt F) (v.writes (Elt F) f ((⟨Rect.unit off s.size inb, w⟩ : View.Piece (Elt F) s e) :: L)) = w := by
  funext y
  rw [View.read_writes_apply_eq_canon _ _ _ _ ⟨_, List.mem_cons_self, View.mem_set_unit_zero h inb y⟩,
    View.canon_cons_unit_zero h]

/-- A load of a whole buffer reads it. -/
theorem readAt_whole {sig' : RefSig} {κ : Kind} {sp : Space} {s : Shape} {e : EltTy} (v : View sig' κ sp s e) (f : v.ty.Contents (Elt F))
    {off : Fin s.rank → Nat} (h : off = fun _ => 0) (inb : ∀ a, off a + s.size a ≤ s.size a) :
    v.readAt (Elt F) (Rect.unit off s.size inb).toLoadRect f = v.read (Elt F) f :=
  View.ld_unit_zero h inb (v.read (Elt F) f)

theorem z3 : (![0, 0, 0] : Fin 3 → Nat) = fun _ => 0 := by decide
theorem z4 : (![0, 0, 0, 0] : Fin 4 → Nat) = fun _ => 0 := by decide

/-- The outputs of a chunk from the values loaded for them. -/
theorem outO_congr (x0 x1 x2 x3 x4 : Vec F S1x64x64x128 .f32) (x5 : Vec F S1x64x32x128 .f32) (x7 : Vec F S1x64x128 .f32)
    (x8 x9 : Vec F S1x32x128 .f32) (S : Vec F S32x64x128 .f32) {v24 : Vec F S1x64x32x128 .f32} {v23 : Vec F S64x32x128 .f32}
    {v46 v51 : Vec F S1x32x128 .f32} {v56 v58 : Vec F S1x64x64x128 .f32} {v61 : Vec F S1x64x128 .f32}
    (h24 : v24 = x5) (h23 : v23 = yEnd x0 x1 x2 x3 x4 x5 S) (h46 : v46 = x8) (h51 : v51 = x9) (h56 : v56 = x0) (h58 : v58 = x2) (h61 : v61 = x7) :
    k0_pay1 (k0_pay140 v24) (k0_pay141 v23 v46 v51) (k0_pay142 v56 v58) v61 = outO x0 x1 x2 x3 x4 x5 x7 x8 x9 S := by
  subst h24 h23 h46 h51 h56 h58 h61; rfl

section
variable (𝒱 : Variants) (c : Dev nD) (bd : Option 𝒱.V) (i : grid0.Coords) (arg2 : Memref sig .tc .vmem S1x64x64x128 .f32) (harg2 : arg2.IsWhole) (arg3 : Memref sig .tc .vmem S1x64x64x128 .f32) (harg3 : arg3.IsWhole) (arg4 : Memref sig .tc .vmem S1x64x64x128 .f32) (harg4 : arg4.IsWhole) (arg5 : Memref sig .tc .vmem S1x64x64x128 .f32) (harg5 : arg5.IsWhole) (arg6 : Memref sig .tc .vmem S1x64x64x128 .f32) (harg6 : arg6.IsWhole) (arg7 : Memref sig .tc .vmem S1x64x32x128 .f32) (harg7 : arg7.IsWhole) (arg8 : Memref sig .tc .vmem S1x32x64x128 .f32) (harg8 : arg8.IsWhole) (arg9 : Memref sig .tc .vmem S1x64x128 .f32) (harg9 : arg9.IsWhole) (arg10 : Memref sig .tc .vmem S1x32x128 .f32) (harg10 : arg10.IsWhole) (arg11 : Memref sig .tc .vmem S1x32x128 .f32) (harg11 : arg11.IsWhole) (arg12 : Memref sig .tc .vmem S1x64x32x128 .f32) (harg12 : arg12.IsWhole) (arg13 : Memref sig .tc .vmem S1x32x64x128 .f32) (harg13 : arg13.IsWhole) (arg14 : Memref sig .tc .vmem S32x64x128 .f32) (harg14 : arg14.IsWhole) (arg15 : Memref sig .tc .vmem S64x64x128 .f32) (harg15 : arg15.IsWhole) (arg16 : Memref sig .tc .vmem S64x64x128 .f32) (harg16 : arg16.IsWhole) (arg17 : Memref sig .tc .vmem S64x32x128 .f32) (harg17 : arg17.IsWhole)
    (x0 x1 x2 x3 x4 : Vec F S1x64x64x128 .f32) (x5 : Vec F S1x64x32x128 .f32) (x6 : Vec F S1x32x64x128 .f32) (x7 : Vec F S1x64x128 .f32) (x8 x9 : Vec F S1x32x128 .f32) {S : Vec F S32x64x128 .f32}
    {G14 : BufTy.Contents (Elt F) arg14.view.ty} {F15 : BufTy.Contents (Elt F) arg15.view.ty} {F16 : BufTy.Contents (Elt F) arg16.view.ty}
    (G17 : BufTy.Contents (Elt F) arg17.view.ty)
    (h14 : arg14.view.read (Elt F) G14 = S) (h15 : arg15.view.read (Elt F) F15 = k0_pay135 x3) (h16 : arg16.view.read (Elt F) F16 = k0_pay136 x3 x4)
include h14 h15 h16

/-- The state the loop leaves, named. -/
theorem end14 :
    arg14.view.read (Elt F) (arg14.view.writes (Elt F) G14 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
      (harg2.unread x0) (harg3.unread x1) (harg4.unread x2) (harg7.unread x5) F15 F16 G14 G17 k0_t1_loop.trips).1)
      = sEnd x1 x2 x3 x4 x5 S := by
  rw [(pb_read 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ G14 G17 k0_t1_loop.trips le_rfl).1,
    harg3.read_unread, harg4.read_unread, harg7.read_unread, h14, h15, h16]
  rfl

/-- The outputs the loop leaves, named. -/
theorem end17 :
    arg17.view.read (Elt F) (arg17.view.writes (Elt F) G17 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
      (harg2.unread x0) (harg3.unread x1) (harg4.unread x2) (harg7.unread x5) F15 F16 G14 G17 k0_t1_loop.trips).2)
      = yEnd x0 x1 x2 x3 x4 x5 S := by
  funext y
  have hy : (y 0).val < k0_t1_loop.trips := by rw [trips_eq]; exact (y 0).isLt
  rw [(pb_read 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ G14 G17 k0_t1_loop.trips le_rfl).2 y hy,
    harg2.read_unread, harg3.read_unread, harg4.read_unread, harg7.read_unread, h14, h15, h16]
  rfl
end

end Cert.KernelIdeal.Scan

end
-- ==== Proof.ScanRunA.lean ====
module

public import proofs.«01_k».proof.Proof.ScanBody

@[expose] public section

set_option maxRecDepth 16384
set_option maxHeartbeats 4000000

noncomputable section

/-!
# The body of the scan at the first point
-/

namespace Cert.KernelIdeal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

open Idealize.ShloMosaic.Rounds

variable {F : FTy → Type} [FloatOps F]

local notation "𝕄" => MT nD τ sig Unit (Elt F) ℕ (UR sig nD τ) ℕ

set_option maxHeartbeats 4000000 in
/-- The body at the first point: the state starts at the launch's. -/
theorem run_A (c : Dev nD) (i : grid0.Coords) (arg2 : Memref sig .tc .vmem S1x64x64x128 .f32) (harg2 : arg2.IsWhole) (arg3 : Memref sig .tc .vmem S1x64x64x128 .f32) (harg3 : arg3.IsWhole) (arg4 : Memref sig .tc .vmem S1x64x64x128 .f32) (harg4 : arg4.IsWhole) (arg5 : Memref sig .tc .vmem S1x64x64x128 .f32) (harg5 : arg5.IsWhole) (arg6 : Memref sig .tc .vmem S1x64x64x128 .f32) (harg6 : arg6.IsWhole) (arg7 : Memref sig .tc .vmem S1x64x32x128 .f32) (harg7 : arg7.IsWhole) (arg8 : Memref sig .tc .vmem S1x32x64x128 .f32) (harg8 : arg8.IsWhole) (arg9 : Memref sig .tc .vmem S1x64x128 .f32) (harg9 : arg9.IsWhole) (arg10 : Memref sig .tc .vmem S1x32x128 .f32) (harg10 : arg10.IsWhole) (arg11 : Memref sig .tc .vmem S1x32x128 .f32) (harg11 : arg11.IsWhole) (arg12 : Memref sig .tc .vmem S1x64x32x128 .f32) (harg12 : arg12.IsWhole) (arg13 : Memref sig .tc .vmem S1x32x64x128 .f32) (harg13 : arg13.IsWhole) (arg14 : Memref sig .tc .vmem S32x64x128 .f32) (harg14 : arg14.IsWhole) (arg15 : Memref sig .tc .vmem S64x64x128 .f32) (harg15 : arg15.IsWhole) (arg16 : Memref sig .tc .vmem S64x64x128 .f32) (harg16 : arg16.IsWhole) (arg17 : Memref sig .tc .vmem S64x32x128 .f32) (harg17 : arg17.IsWhole) (hc0 : cond0_0 i) (hc1 : ¬cond0_1 i)
    (x0 x1 x2 x3 x4 : Vec F S1x64x64x128 .f32) (x5 : Vec F S1x64x32x128 .f32) (x6 : Vec F S1x32x64x128 .f32) (x7 : Vec F S1x64x128 .f32) (x8 x9 : Vec F S1x32x128 .f32) (x11 : Vec F S1x32x64x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (outO x0 x1 x2 x3 x4 x5 x7 x8 x9 (k0_pay133 x6)) ∗ owns (c : Thread nD τ) arg13 fullShare x11 ∗ owns (c : Thread nD τ) arg14 fullShare (sEnd x1 x2 x3 x4 x5 (k0_pay133 x6)) ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) Variants.none c none) E (cc0_rwkv_scan i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_rwkv_scan_eq_skeleton]; unfold cc0_rwkv_scan_skel
  simp only [k0_part24_eq_skeleton, k0_part25_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%ds0, %fs0, -, HS0⟩, ⟨%ds1, %fs1, -, HS1⟩, ⟨%ds2, %fs2, -, HS2⟩, ⟨%ds3, %fs3, -, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; swap; · iexact H10
    ipureintro
    refine (read_whole _ _ z4 _ _ _).trans (outO_congr _ _ _ _ _ _ _ _ _ _ ?_ ?_ ?_ ?_ ?_ ?_ ?_)
    · exact (readAt_whole _ _ z4 _).trans (harg7.read_unread _)
    · exact (readAt_whole _ _ z3 _).trans (end17 (S := k0_pay133 x6) _ c _ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 _ ((read_whole _ _ z3 _ _ _).trans (congrArg k0_pay133 ((readAt_whole _ _ z4 _).trans (harg8.read_unread _)))) ((read_whole _ _ z3 _ _ _).trans (congrArg k0_pay135 ((readAt_whole _ _ z4 _).trans (harg5.read_unread _)))) ((read_whole _ _ z3 _ _ _).trans (congrArg₂ k0_pay136 ((readAt_whole _ _ z4 _).trans (harg5.read_unread _)) ((readAt_whole _ _ z4 _).trans (harg6.read_unread _)))))
    · exact (readAt_whole _ _ z3 _).trans (harg10.read_unread _)
    · exact (readAt_whole _ _ z3 _).trans (harg11.read_unread _)
    · exact (readAt_whole _ _ z4 _).trans (harg2.read_unread _)
    · exact (readAt_whole _ _ z4 _).trans (harg4.read_unread _)
    · exact (readAt_whole _ _ z3 _).trans (harg9.read_unread _)
  isplitl [H11]
  · iexists _; isplitr; · ipureintro; exact hf11
    iexact H11
  isplitl [HS0]
  · iexists _; isplitr; swap; · iexact HS0
    ipureintro
    exact (congrArg (arg14.view.read (Elt F)) (View.writes_append _ _ _ _)).trans (end14 (S := k0_pay133 x6) _ c _ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 _ ((read_whole _ _ z3 _ _ _).trans (congrArg k0_pay133 ((readAt_whole _ _ z4 _).trans (harg8.read_unread _)))) ((read_whole _ _ z3 _ _ _).trans (congrArg k0_pay135 ((readAt_whole _ _ z4 _).trans (harg5.read_unread _)))) ((read_whole _ _ z3 _ _ _).trans (congrArg₂ k0_pay136 ((readAt_whole _ _ z4 _).trans (harg5.read_unread _)) ((readAt_whole _ _ z4 _).trans (harg6.read_unread _)))))
  isplitl [HS1]
  · iexists _, _; isplitr; swap; · iexact HS1
    ipureintro; rfl
  isplitl [HS2]
  · iexists _, _; isplitr; swap; · iexact HS2
    ipureintro; rfl
  iexists _, _; isplitr; swap; · iexact HS3
  ipureintro; rfl

end Cert.KernelIdeal.Scan

end
-- ==== Proof.ScanRunB.lean ====
module

public import proofs.«01_k».proof.Proof.ScanBody

@[expose] public section

set_option maxRecDepth 16384
set_option maxHeartbeats 4000000

noncomputable section

/-!
# The body of the scan between the first and the last point
-/

namespace Cert.KernelIdeal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

open Idealize.ShloMosaic.Rounds

variable {F : FTy → Type} [FloatOps F]

local notation "𝕄" => MT nD τ sig Unit (Elt F) ℕ (UR sig nD τ) ℕ

set_option maxHeartbeats 4000000 in
/-- The body at a point that is neither the first nor the last: the state goes on from the one held. -/
theorem run_B (c : Dev nD) (i : grid0.Coords) (arg2 : Memref sig .tc .vmem S1x64x64x128 .f32) (harg2 : arg2.IsWhole) (arg3 : Memref sig .tc .vmem S1x64x64x128 .f32) (harg3 : arg3.IsWhole) (arg4 : Memref sig .tc .vmem S1x64x64x128 .f32) (harg4 : arg4.IsWhole) (arg5 : Memref sig .tc .vmem S1x64x64x128 .f32) (harg5 : arg5.IsWhole) (arg6 : Memref sig .tc .vmem S1x64x64x128 .f32) (harg6 : arg6.IsWhole) (arg7 : Memref sig .tc .vmem S1x64x32x128 .f32) (harg7 : arg7.IsWhole) (arg8 : Memref sig .tc .vmem S1x32x64x128 .f32) (harg8 : arg8.IsWhole) (arg9 : Memref sig .tc .vmem S1x64x128 .f32) (harg9 : arg9.IsWhole) (arg10 : Memref sig .tc .vmem S1x32x128 .f32) (harg10 : arg10.IsWhole) (arg11 : Memref sig .tc .vmem S1x32x128 .f32) (harg11 : arg11.IsWhole) (arg12 : Memref sig .tc .vmem S1x64x32x128 .f32) (harg12 : arg12.IsWhole) (arg13 : Memref sig .tc .vmem S1x32x64x128 .f32) (harg13 : arg13.IsWhole) (arg14 : Memref sig .tc .vmem S32x64x128 .f32) (harg14 : arg14.IsWhole) (arg15 : Memref sig .tc .vmem S64x64x128 .f32) (harg15 : arg15.IsWhole) (arg16 : Memref sig .tc .vmem S64x64x128 .f32) (harg16 : arg16.IsWhole) (arg17 : Memref sig .tc .vmem S64x32x128 .f32) (harg17 : arg17.IsWhole) (hc0 : ¬cond0_0 i) (hc1 : ¬cond0_1 i)
    (x0 x1 x2 x3 x4 : Vec F S1x64x64x128 .f32) (x5 : Vec F S1x64x32x128 .f32) (x6 : Vec F S1x32x64x128 .f32) (x7 : Vec F S1x64x128 .f32) (x8 x9 : Vec F S1x32x128 .f32) (xs0 : Vec F S32x64x128 .f32) (x11 : Vec F S1x32x64x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare x11 ∗ owns (c : Thread nD τ) arg14 fullShare xs0 ∗ (∃ d, owns (c : Thread nD τ) arg15 fullShare d) ∗ (∃ d, owns (c : Thread nD τ) arg16 fullShare d) ∗ (∃ d, owns (c : Thread nD τ) arg17 fullShare d) ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (outO x0 x1 x2 x3 x4 x5 x7 x8 x9 xs0) ∗ owns (c : Thread nD τ) arg13 fullShare x11 ∗ owns (c : Thread nD τ) arg14 fullShare (sEnd x1 x2 x3 x4 x5 xs0) ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) Variants.none c none) E (cc0_rwkv_scan i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_rwkv_scan_eq_skeleton]; unfold cc0_rwkv_scan_skel
  simp only [k0_part24_eq_skeleton, k0_part25_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%fs0, %hfs0, HS0⟩, ⟨%ds1, %fs1, -, HS1⟩, ⟨%ds2, %fs2, -, HS2⟩, ⟨%ds3, %fs3, -, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg14.eq_unread hfs0
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; swap; · iexact H10
    ipureintro
    refine (read_whole _ _ z4 _ _ _).trans (outO_congr _ _ _ _ _ _ _ _ _ _ ?_ ?_ ?_ ?_ ?_ ?_ ?_)
    · exact (readAt_whole _ _ z4 _).trans (harg7.read_unread _)
    · exact (readAt_whole _ _ z3 _).trans (end17 (S := xs0) _ c _ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 _ (harg14.read_unread _) ((read_whole _ _ z3 _ _ _).trans (congrArg k0_pay135 ((readAt_whole _ _ z4 _).trans (harg5.read_unread _)))) ((read_whole _ _ z3 _ _ _).trans (congrArg₂ k0_pay136 ((readAt_whole _ _ z4 _).trans (harg5.read_unread _)) ((readAt_whole _ _ z4 _).trans (harg6.read_unread _)))))
    · exact (readAt_whole _ _ z3 _).trans (harg10.read_unread _)
    · exact (readAt_whole _ _ z3 _).trans (harg11.read_unread _)
    · exact (readAt_whole _ _ z4 _).trans (harg2.read_unread _)
    · exact (readAt_whole _ _ z4 _).trans (harg4.read_unread _)
    · exact (readAt_whole _ _ z3 _).trans (harg9.read_unread _)
  isplitl [H11]
  · iexists _; isplitr; · ipureintro; exact hf11
    iexact H11
  isplitl [HS0]
  · iexists _; isplitr; swap; · iexact HS0
    ipureintro
    exact end14 (S := xs0) _ c _ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 _ (harg14.read_unread _) ((read_whole _ _ z3 _ _ _).trans (congrArg k0_pay135 ((readAt_whole _ _ z4 _).trans (harg5.read_unread _)))) ((read_whole _ _ z3 _ _ _).trans (congrArg₂ k0_pay136 ((readAt_whole _ _ z4 _).trans (harg5.read_unread _)) ((readAt_whole _ _ z4 _).trans (harg6.read_unread _))))
  isplitl [HS1]
  · iexists _, _; isplitr; swap; · iexact HS1
    ipureintro; rfl
  isplitl [HS2]
  · iexists _, _; isplitr; swap; · iexact HS2
    ipureintro; rfl
  iexists _, _; isplitr; swap; · iexact HS3
  ipureintro; rfl

end Cert.KernelIdeal.Scan

end
-- ==== Proof.ScanRunC.lean ====
module

public import proofs.«01_k».proof.Proof.ScanBody

@[expose] public section

set_option maxRecDepth 16384
set_option maxHeartbeats 4000000

noncomputable section

/-!
# The body of the scan at the last point
-/

namespace Cert.KernelIdeal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

open Idealize.ShloMosaic.Rounds

variable {F : FTy → Type} [FloatOps F]

local notation "𝕄" => MT nD τ sig Unit (Elt F) ℕ (UR sig nD τ) ℕ

set_option maxHeartbeats 4000000 in
/-- The body at the last point: the state is also stored as a result. -/
theorem run_C (c : Dev nD) (i : grid0.Coords) (arg2 : Memref sig .tc .vmem S1x64x64x128 .f32) (harg2 : arg2.IsWhole) (arg3 : Memref sig .tc .vmem S1x64x64x128 .f32) (harg3 : arg3.IsWhole) (arg4 : Memref sig .tc .vmem S1x64x64x128 .f32) (harg4 : arg4.IsWhole) (arg5 : Memref sig .tc .vmem S1x64x64x128 .f32) (harg5 : arg5.IsWhole) (arg6 : Memref sig .tc .vmem S1x64x64x128 .f32) (harg6 : arg6.IsWhole) (arg7 : Memref sig .tc .vmem S1x64x32x128 .f32) (harg7 : arg7.IsWhole) (arg8 : Memref sig .tc .vmem S1x32x64x128 .f32) (harg8 : arg8.IsWhole) (arg9 : Memref sig .tc .vmem S1x64x128 .f32) (harg9 : arg9.IsWhole) (arg10 : Memref sig .tc .vmem S1x32x128 .f32) (harg10 : arg10.IsWhole) (arg11 : Memref sig .tc .vmem S1x32x128 .f32) (harg11 : arg11.IsWhole) (arg12 : Memref sig .tc .vmem S1x64x32x128 .f32) (harg12 : arg12.IsWhole) (arg13 : Memref sig .tc .vmem S1x32x64x128 .f32) (harg13 : arg13.IsWhole) (arg14 : Memref sig .tc .vmem S32x64x128 .f32) (harg14 : arg14.IsWhole) (arg15 : Memref sig .tc .vmem S64x64x128 .f32) (harg15 : arg15.IsWhole) (arg16 : Memref sig .tc .vmem S64x64x128 .f32) (harg16 : arg16.IsWhole) (arg17 : Memref sig .tc .vmem S64x32x128 .f32) (harg17 : arg17.IsWhole) (hc0 : ¬cond0_0 i) (hc1 : cond0_1 i)
    (x0 x1 x2 x3 x4 : Vec F S1x64x64x128 .f32) (x5 : Vec F S1x64x32x128 .f32) (x6 : Vec F S1x32x64x128 .f32) (x7 : Vec F S1x64x128 .f32) (x8 x9 : Vec F S1x32x128 .f32) (xs0 : Vec F S32x64x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ owns (c : Thread nD τ) arg14 fullShare xs0 ∗ (∃ d, owns (c : Thread nD τ) arg15 fullShare d) ∗ (∃ d, owns (c : Thread nD τ) arg16 fullShare d) ∗ (∃ d, owns (c : Thread nD τ) arg17 fullShare d) ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (outO x0 x1 x2 x3 x4 x5 x7 x8 x9 xs0) ∗ owns (c : Thread nD τ) arg13 fullShare (k0_pay2 (sEnd x1 x2 x3 x4 x5 xs0)) ∗ owns (c : Thread nD τ) arg14 fullShare (sEnd x1 x2 x3 x4 x5 xs0) ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) Variants.none c none) E (cc0_rwkv_scan i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_rwkv_scan_eq_skeleton]; unfold cc0_rwkv_scan_skel
  simp only [k0_part24_eq_skeleton, k0_part25_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%fs0, %hfs0, HS0⟩, ⟨%ds1, %fs1, -, HS1⟩, ⟨%ds2, %fs2, -, HS2⟩, ⟨%ds3, %fs3, -, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg14.eq_unread hfs0
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; swap; · iexact H10
    ipureintro
    refine (read_whole _ _ z4 _ _ _).trans (outO_congr _ _ _ _ _ _ _ _ _ _ ?_ ?_ ?_ ?_ ?_ ?_ ?_)
    · exact (readAt_whole _ _ z4 _).trans (harg7.read_unread _)
    · exact (readAt_whole _ _ z3 _).trans (end17 (S := xs0) _ c _ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 _ (harg14.read_unread _) ((read_whole _ _ z3 _ _ _).trans (congrArg k0_pay135 ((readAt_whole _ _ z4 _).trans (harg5.read_unread _)))) ((read_whole _ _ z3 _ _ _).trans (congrArg₂ k0_pay136 ((readAt_whole _ _ z4 _).trans (harg5.read_unread _)) ((readAt_whole _ _ z4 _).trans (harg6.read_unread _)))))
    · exact (readAt_whole _ _ z3 _).trans (harg10.read_unread _)
    · exact (readAt_whole _ _ z3 _).trans (harg11.read_unread _)
    · exact (readAt_whole _ _ z4 _).trans (harg2.read_unread _)
    · exact (readAt_whole _ _ z4 _).trans (harg4.read_unread _)
    · exact (readAt_whole _ _ z3 _).trans (harg9.read_unread _)
  isplitl [H11]
  · iexists _; isplitr; swap; · iexact H11
    ipureintro
    refine (read_whole _ _ z4 _ _ _).trans (congrArg k0_pay2 ?_)
    exact (readAt_whole _ _ z3 _).trans (end14 (S := xs0) _ c _ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 _ (harg14.read_unread _) ((read_whole _ _ z3 _ _ _).trans (congrArg k0_pay135 ((readAt_whole _ _ z4 _).trans (harg5.read_unread _)))) ((read_whole _ _ z3 _ _ _).trans (congrArg₂ k0_pay136 ((readAt_whole _ _ z4 _).trans (harg5.read_unread _)) ((readAt_whole _ _ z4 _).trans (harg6.read_unread _)))))
  isplitl [HS0]
  · iexists _; isplitr; swap; · iexact HS0
    ipureintro
    exact end14 (S := xs0) _ c _ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 _ (harg14.read_unread _) ((read_whole _ _ z3 _ _ _).trans (congrArg k0_pay135 ((readAt_whole _ _ z4 _).trans (harg5.read_unread _)))) ((read_whole _ _ z3 _ _ _).trans (congrArg₂ k0_pay136 ((readAt_whole _ _ z4 _).trans (harg5.read_unread _)) ((readAt_whole _ _ z4 _).trans (harg6.read_unread _))))
  isplitl [HS1]
  · iexists _, _; isplitr; swap; · iexact HS1
    ipureintro; rfl
  isplitl [HS2]
  · iexists _, _; isplitr; swap; · iexact HS2
    ipureintro; rfl
  iexists _, _; isplitr; swap; · iexact HS3
  ipureintro; rfl

end Cert.KernelIdeal.Scan

end
-- ==== Proof.ScanFrame.lean ====
/-
# The scan on the grid: its run and its frame

The 32 points take the time chunks in order. The state the body carries from point to point is named by a
recursion over the points (`stB`), the outputs by it.
-/
module

public import proofs.«01_k».proof.Proof.ScanRunA
public import proofs.«01_k».proof.Proof.ScanRunB
public import proofs.«01_k».proof.Proof.ScanRunC
public import Idealize.ShloMosaic.Lib.Claim

@[expose] public section

set_option maxRecDepth 16384

noncomputable section

namespace Cert.KernelIdeal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where the two branches are taken -/

/-- The first branch is taken at the first point only. -/
theorem hcond0_0 : ∀ t : Fin cfg0.N, cond0_0 (grid0.coords t) ↔ t.val = 0 := by decide +kernel
/-- The last branch is taken at the last point only. -/
theorem hcond0_1 : ∀ t : Fin cfg0.N, cond0_1 (grid0.coords t) ↔ t.val = 31 := by decide +kernel

/-- The final state's window is idle before the last point, and live there. -/
theorem idle11 : ∀ t : Fin cfg0.N, t.val ≠ 31 → cfg0.idle 11 (grid0.coords t) = true := by decide +kernel
theorem noFlush11 : ∀ t : Fin cfg0.N, t.val ≠ 31 → (cfg0.win 11).flush t = false := by decide +kernel
theorem live11 : ∀ t : Fin cfg0.N, t.val = 31 → cfg0.idle 11 (grid0.coords t) = false := by decide +kernel
theorem live10 : ∀ t : Fin cfg0.N, cfg0.idle 10 (grid0.coords t) = false := by decide +kernel

/-! ## The memrefs of a point -/

abbrev ms0_0 (t : Fin cfg0.N) : Memref sig .tc .vmem S1x64x64x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x64x64x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64x64x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64x64x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64x64x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x64x32x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x32x64x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x64x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x32x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x32x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x64x32x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x32x64x128 .f32 := win0_11.stage (cfg0.slots t 11)
abbrev hs0_11 (t : Fin cfg0.N) : (ms0_11 t).IsWhole := hstage0_11 ((cfg0.slots t 11).cast nbuf0_11)
/-- The kernel's own buffers: the state, the two key sequences, the rows of outputs. -/
abbrev scM0_0 : Memref sig .tc .vmem S32x64x128 .f32 := Memref.whole cc0_scratch0
abbrev scM0_1 : Memref sig .tc .vmem S64x64x128 .f32 := Memref.whole cc0_scratch1
abbrev scM0_2 : Memref sig .tc .vmem S64x64x128 .f32 := Memref.whole cc0_scratch2
abbrev scM0_3 : Memref sig .tc .vmem S64x32x128 .f32 := Memref.whole cc0_scratch3

/-- What the launch hands the region, its buffers as memrefs. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-! ## The state from point to point -/

/-- A point's state from the one before it: its chunk of steps. -/
def stNext (c : Dev nD) (t : Fin cfg0.N) (S : Vec F S32x64x128 .f32) : Vec F S32x64x128 .f32 :=
  sEnd (iblk m c 1 t) (iblk m c 2 t) (iblk m c 3 t) (iblk m c 4 t) (iblk m c 5 t) S

/-- The state before position `n`: at first the one given, then one chunk further at each point. -/
def stB (c : Dev nD) : (n : ℕ) → n ≤ cfg0.N → Vec F S32x64x128 .f32
  | 0, _ => k0_pay133 (iblk m c 6 ⟨0, lt_of_lt_of_eq (by decide : 0 < 32) N_0.symm⟩)
  | n + 1, hn => stNext m c ⟨n, hn⟩ (stB c n (Nat.le_of_lt hn))

theorem stB_succ (c : Dev nD) (n : ℕ) (hn : n < cfg0.N) : stB m c (n + 1) hn = stNext m c ⟨n, hn⟩ (stB m c n (Nat.le_of_lt hn)) := rfl

theorem stB_zero (c : Dev nD) (t : Fin cfg0.N) (h : t.val = 0) : stB m c t.val (Nat.le_of_lt t.isLt) = k0_pay133 (iblk m c 6 t) := by
  obtain ⟨n, hn⟩ := t
  dsimp only at h ⊢
  subst h; rfl

/-- A point's block of outputs. -/
def oBlk (c : Dev nD) (t : Fin cfg0.N) : Vec F S1x64x32x128 .f32 :=
  outO (iblk m c 0 t) (iblk m c 1 t) (iblk m c 2 t) (iblk m c 3 t) (iblk m c 4 t) (iblk m c 5 t) (iblk m c 7 t) (iblk m c 8 t) (iblk m c 9 t)
    (stB m c t.val (Nat.le_of_lt t.isLt))

/-- The region's invariant before position `n`: the state named from the second point on. -/
def PhiS (c : Dev nD) : (n : ℕ) → n ≤ cfg0.N → sProp 𝕄
  | 0, _ => Pipeline.ΦA spec0 c
  | n + 1, hn => iprop(iprop(owns (c : Thread nD τ) scM0_0 fullShare (stB m c (n + 1) hn) ∗ (∃ d, owns (c : Thread nD τ) scM0_1 fullShare d) ∗ (∃ d, owns (c : Thread nD τ) scM0_2 fullShare d) ∗ (∃ d, owns (c : Thread nD τ) scM0_3 fullShare d)) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(iprop(owns (c : Thread nD τ) scM0_0 fullShare (stB m c n h) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  cases n with
  | zero => exact absurd rfl hz
  | succ n => rfl

/-- The proof data of the pipeline: inputs stay their blocks, the outputs are the named ones. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => oBlk m c t
    | ⟨11, _⟩ => k0_pay2 (stB m c (t.val + 1) t.isLt)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = oBlk m c t := by dsimp only [dats]
theorem after0_11 (c : Dev nD) (t : Fin cfg0.N) : (dats m 0 c).after 11 t = k0_pay2 (stB m c (t.val + 1) t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body at a point -/

/-- What the body has at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- What it gives back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

theorem leaves0_0 (c : Dev nD) (t : Fin cfg0.N) : (dats m 0 c).leavesExact 0 t = owns (c : Thread nD τ) (ms0_0 t) fullShare (iblk m c 0 t) := by
  unfold Dat.leavesExact; rw [show cfg0.idle 0 (grid0.coords t) = false from rfl, after0_0]
theorem leaves0_1 (c : Dev nD) (t : Fin cfg0.N) : (dats m 0 c).leavesExact 1 t = owns (c : Thread nD τ) (ms0_1 t) fullShare (iblk m c 1 t) := by
  unfold Dat.leavesExact; rw [show cfg0.idle 1 (grid0.coords t) = false from rfl, after0_1]
theorem leaves0_2 (c : Dev nD) (t : Fin cfg0.N) : (dats m 0 c).leavesExact 2 t = owns (c : Thread nD τ) (ms0_2 t) fullShare (iblk m c 2 t) := by
  unfold Dat.leavesExact; rw [show cfg0.idle 2 (grid0.coords t) = false from rfl, after0_2]
theorem leaves0_3 (c : Dev nD) (t : Fin cfg0.N) : (dats m 0 c).leavesExact 3 t = owns (c : Thread nD τ) (ms0_3 t) fullShare (iblk m c 3 t) := by
  unfold Dat.leavesExact; rw [show cfg0.idle 3 (grid0.coords t) = false from rfl, after0_3]
theorem leaves0_4 (c : Dev nD) (t : Fin cfg0.N) : (dats m 0 c).leavesExact 4 t = owns (c : Thread nD τ) (ms0_4 t) fullShare (iblk m c 4 t) := by
  unfold Dat.leavesExact; rw [show cfg0.idle 4 (grid0.coords t) = false from rfl, after0_4]
theorem leaves0_5 (c : Dev nD) (t : Fin cfg0.N) : (dats m 0 c).leavesExact 5 t = owns (c : Thread nD τ) (ms0_5 t) fullShare (iblk m c 5 t) := by
  unfold Dat.leavesExact; rw [show cfg0.idle 5 (grid0.coords t) = false from rfl, after0_5]
theorem leaves0_6 (c : Dev nD) (t : Fin cfg0.N) : (dats m 0 c).leavesExact 6 t = owns (c : Thread nD τ) (ms0_6 t) fullShare (iblk m c 6 t) := by
  unfold Dat.leavesExact; rw [show cfg0.idle 6 (grid0.coords t) = false from rfl, after0_6]
theorem leaves0_7 (c : Dev nD) (t : Fin cfg0.N) : (dats m 0 c).leavesExact 7 t = owns (c : Thread nD τ) (ms0_7 t) fullShare (iblk m c 7 t) := by
  unfold Dat.leavesExact; rw [show cfg0.idle 7 (grid0.coords t) = false from rfl, after0_7]
theorem leaves0_8 (c : Dev nD) (t : Fin cfg0.N) : (dats m 0 c).leavesExact 8 t = owns (c : Thread nD τ) (ms0_8 t) fullShare (iblk m c 8 t) := by
  unfold Dat.leavesExact; rw [show cfg0.idle 8 (grid0.coords t) = false from rfl, after0_8]
theorem leaves0_9 (c : Dev nD) (t : Fin cfg0.N) : (dats m 0 c).leavesExact 9 t = owns (c : Thread nD τ) (ms0_9 t) fullShare (iblk m c 9 t) := by
  unfold Dat.leavesExact; rw [show cfg0.idle 9 (grid0.coords t) = false from rfl, after0_9]
theorem leaves0_10 (c : Dev nD) (t : Fin cfg0.N) : (dats m 0 c).leavesExact 10 t = owns (c : Thread nD τ) (ms0_10 t) fullShare (oBlk m c t) := by
  unfold Dat.leavesExact; rw [live10 t, after0_10]
theorem leaves0_11 (c : Dev nD) (t : Fin cfg0.N) (h : t.val = 31) : (dats m 0 c).leavesExact 11 t = owns (c : Thread nD τ) (ms0_11 t) fullShare (k0_pay2 (stB m c (t.val + 1) t.isLt)) := by
  unfold Dat.leavesExact; rw [live11 t h, after0_11]

set_option maxHeartbeats 9600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  rw [show (dats m 0 c).Φ t.succ = PhiS m c (t.val + 1) t.isLt from rfl, PhiS_pos m c (t.val + 1) _ (Nat.succ_ne_zero _), stB_succ]
  rw [leaves0_0, leaves0_1, leaves0_2, leaves0_3, leaves0_4, leaves0_5, leaves0_6, leaves0_7, leaves0_8, leaves0_9, leaves0_10]
  unfold oBlk stNext
  by_cases h0 : t.val = 0
  · have h1 : t.val ≠ 31 := by rw [h0]; decide
    rw [Dat.leavesExact_idle (dats m 0 c) 11 t (idle11 t h1) (noFlush11 t h1)]
    rw [PhiS_castSucc m c t, PhiS_zero m c _ _ h0, PhiA0_eq, stB_zero m c t h0]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (run_A c (grid0.coords t) _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexact H11
    isplitl [HS0]; · iexact HS0
    isplitl [HS1]; · iexact HS1
    isplitl [HS2]; · iexact HS2
    isplitl [HS3]; · iexact HS3
    iintro ⟨H0, H1, H2, H3, H4, H5, H6, H7, H8, H9, H10, H11, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexists _; iexact H11
  · by_cases h1 : t.val = 31
    · rw [leaves0_11 m c t h1, stB_succ]; unfold stNext
      rw [PhiS_castSucc m c t, PhiS_pos m c _ _ h0]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (run_C c (grid0.coords t) _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (stB m c t.val (Nat.le_of_lt t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [HS0]; · iexact HS0
      isplitl [HS1]; · iexact HS1
      isplitl [HS2]; · iexact HS2
      isplitl [HS3]; · iexact HS3
      iintro ⟨H0, H1, H2, H3, H4, H5, H6, H7, H8, H9, H10, H11, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    · rw [Dat.leavesExact_idle (dats m 0 c) 11 t (idle11 t h1) (noFlush11 t h1)]
      rw [PhiS_castSucc m c t, PhiS_pos m c _ _ h0]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (run_B c (grid0.coords t) _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (stB m c t.val (Nat.le_of_lt t.isLt)) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexact H11
      isplitl [HS0]; · iexact HS0
      isplitl [HS1]; · iexact HS1
      isplitl [HS2]; · iexact HS2
      isplitl [HS3]; · iexact HS3
      iintro ⟨H0, H1, H2, H3, H4, H5, H6, H7, H8, H9, H10, H11, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists _; iexact H11

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last, show cfg0.N = 32 from N_0]; decide), PhiA0_eq]
  iintro ⟨⟨HS0, HS1, HS2, HS3⟩, Hg⟩
  isplitl [HS0 HS1 HS2 HS3]
  · isplitl [HS0]; · iexists _; iexact HS0
    isplitl [HS1]; · iexact HS1
    isplitl [HS2]; · iexact HS2
    iexact HS3
  iexact Hg

set_option backward.isDefEq.respectTransparency.types false in
/-- The launch: the pipeline's run with its proof data, the lines after it, and every counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) (run_main m ρ)) ((θ_run defs _ _).mono (fun _ h => h.2) (run_main_quiescent m ρ))

end Cert.KernelIdeal.Scan

end
-- ==== Proof.ScanAt.lean ====
/-
# One step of the kernel's recurrence at an index

The state's row `i` at column `j` and lane `l` after a step, the output of a step, and the normalised keys, as
formulas over the extended reals.
-/
module

public import proofs.«01_k».proof.Proof.ScanBody
public import Idealize.ShloMosaic.Lib.Pipeline.ValueKit

@[expose] public section

set_option maxRecDepth 16384

noncomputable section

namespace Cert.KernelIdeal.Scan

open Idealize.ShloMosaic Idealize.ShloMosaic.TcCoe Idealize.SL.Sem
open Cert.KernelIdeal Cert.KernelIdeal.Gen

/-- A trip's number as a time of its chunk. -/
abbrev tf (k : Fin k0_t1_loop.trips) : Fin 64 := k.cast trips_eq

theorem pay67_at (v79 v82 v88 v91 : FVec Ideal S64x128 .f32) (s : Vec Ideal S1x64x128 .f32) (v : Vec Ideal S1x1x1x128 .f32)
    (j : Fin 64) (l : Fin 128) :
    k0_pay67 (F := Ideal) v79 v82 v88 v91 s v (ix2 j l)
      = s (ix3 0 j l) * v79 (ix2 j l) + (0 - ∑ q : Fin 64, s (ix3 0 q l) * v88 (ix2 q l)) * v91 (ix2 j l)
        + v (ix4 0 0 0 l) * v82 (ix2 j l) := by
  pointwise [k0_pay67]

theorem pay68_at (v79 v82 v85 v88 v91 : FVec Ideal S64x128 .f32) (s : Vec Ideal S1x64x128 .f32) (v : Vec Ideal S1x1x1x128 .f32)
    (l : Fin 128) :
    k0_pay68 (F := Ideal) v79 v82 v85 v88 v91 s v (ix3 0 0 l)
      = ∑ j : Fin 64, k0_pay67 (F := Ideal) v79 v82 v88 v91 s v (ix2 j l) * v85 (ix2 j l) := by
  unfold k0_pay68
  generalize k0_pay67 (F := Ideal) v79 v82 v88 v91 s v = w
  pointwise

variable (A2 A3 A4 : Vec Ideal S1x64x64x128 .f32) (A7 : Vec Ideal S1x64x32x128 .f32) (A15 A16 : Vec Ideal S64x64x128 .f32)
  (S : Vec Ideal S32x64x128 .f32) (k : Fin k0_t1_loop.trips)

theorem row4_at (A : Vec Ideal S1x64x64x128 .f32) (j : Fin 64) (l : Fin 128) :
    row4 A k (ix4 0 0 j l) = A (ix4 0 (tf k) j l) := by
  refine congrArg A (funext fun a => Fin.ext ?_)
  have hk := kw_eq k
  fin_cases a
  · rfl
  · show kw k + 1 * 0 = k.val; omega
  · show 0 + 1 * j.val = j.val; omega
  · show 0 + 1 * l.val = l.val; omega

theorem row3_at (A : Vec Ideal S64x64x128 .f32) (j : Fin 64) (l : Fin 128) :
    row3 A k (ix3 0 j l) = A (ix3 (tf k) j l) := by
  refine congrArg A (funext fun a => Fin.ext ?_)
  have hk := kw_eq k
  fin_cases a
  · show kw k + 1 * 0 = k.val; omega
  · show 0 + 1 * j.val = j.val; omega
  · show 0 + 1 * l.val = l.val; omega

theorem slab_at (i : Fin 32) (j : Fin 64) (l : Fin 128) : slab S i (ix3 0 j l) = S (ix3 i j l) := by
  refine congrArg S (funext fun a => Fin.ext ?_)
  fin_cases a
  · show i.val + 1 * 0 = i.val; omega
  · show 0 + 1 * j.val = j.val; omega
  · show 0 + 1 * l.val = l.val; omega

theorem vrow_at (i : Fin 32) (l : Fin 128) : vrow A7 k i (ix4 0 0 0 l) = A7 (ix4 0 (tf k) i l) := by
  refine congrArg A7 (funext fun a => Fin.ext ?_)
  have hk := kw_eq k
  fin_cases a
  · rfl
  · show kw k + 1 * 0 = k.val; omega
  · show i.val + 1 * 0 = i.val; omega
  · show 0 + 1 * l.val = l.val; omega

theorem pay3_at (v : Vec Ideal S1x1x64x128 .f32) (j : Fin 64) (l : Fin 128) : k0_pay3 (F := Ideal) v (ix2 j l) = v (ix4 0 0 j l) := by
  pointwise [k0_pay3]
theorem pay4_at (v : Vec Ideal S1x1x64x128 .f32) (j : Fin 64) (l : Fin 128) : k0_pay4 (F := Ideal) v (ix2 j l) = v (ix4 0 0 j l) := by
  pointwise [k0_pay4]
theorem pay5_at (v : Vec Ideal S1x1x64x128 .f32) (j : Fin 64) (l : Fin 128) : k0_pay5 (F := Ideal) v (ix2 j l) = v (ix4 0 0 j l) := by
  pointwise [k0_pay5]
theorem pay6_at (v : Vec Ideal S1x64x128 .f32) (j : Fin 64) (l : Fin 128) : k0_pay6 (F := Ideal) v (ix2 j l) = v (ix3 0 j l) := by
  pointwise [k0_pay6]
theorem pay7_at (v : Vec Ideal S1x64x128 .f32) (j : Fin 64) (l : Fin 128) : k0_pay7 (F := Ideal) v (ix2 j l) = v (ix3 0 j l) := by
  pointwise [k0_pay7]

theorem stRow_at (i : Fin 32) (j : Fin 64) (l : Fin 128) :
    stRow (F := Ideal) A3 A4 A7 A15 A16 S k i (ix3 0 j l)
      = k0_pay67 (F := Ideal) (k0_pay3 (row4 A3 k)) (k0_pay4 (row4 A4 k)) (k0_pay6 (row3 A15 k)) (k0_pay7 (row3 A16 k))
          (slab S i) (vrow A7 k i) (ix2 j l) := by
  unfold stRow
  generalize k0_pay67 (F := Ideal) (k0_pay3 (row4 A3 k)) (k0_pay4 (row4 A4 k)) (k0_pay6 (row3 A15 k)) (k0_pay7 (row3 A16 k))
          (slab S i) (vrow A7 k i) = w
  pointwise

/-- THE STATE after one step, at an index. -/
theorem newS_at (i : Fin 32) (j : Fin 64) (l : Fin 128) :
    newS (F := Ideal) A3 A4 A7 A15 A16 S k (ix3 i j l)
      = S (ix3 i j l) * A3 (ix4 0 (tf k) j l)
        + (0 - ∑ q : Fin 64, S (ix3 i q l) * A15 (ix3 (tf k) q l)) * A16 (ix3 (tf k) j l)
        + A7 (ix4 0 (tf k) i l) * A4 (ix4 0 (tf k) j l) := by
  have e : newS (F := Ideal) A3 A4 A7 A15 A16 S k (ix3 i j l) = stRow (F := Ideal) A3 A4 A7 A15 A16 S k i (ix3 0 j l) := rfl
  rw [e, stRow_at, pay67_at]
  simp only [pay3_at, pay4_at, pay6_at, pay7_at]
  rw [Finset.sum_congr rfl fun q _ => congrArg₂ (· * ·) (slab_at S i q l) (row3_at k A15 q l)]
  rw [slab_at, row4_at k A3, row4_at k A4, row3_at k A16, vrow_at]

/-- THE OUTPUT of one step: the new state against the receptance. -/
theorem newY_at (i : Fin 32) (l : Fin 128) :
    newY (F := Ideal) A2 A3 A4 A7 A15 A16 S (ix3 (tf k) i l)
      = ∑ j : Fin 64, stS (F := Ideal) A3 A4 A7 A15 A16 S (k.val + 1) (ix3 i j l) * A2 (ix4 0 (tf k) j l) := by
  have e : newY (F := Ideal) A2 A3 A4 A7 A15 A16 S (ix3 (tf k) i l)
      = yRow (F := Ideal) A2 A3 A4 A7 A15 A16 (stS A3 A4 A7 A15 A16 S k.val) k i (ix3 0 0 l) := rfl
  rw [e]
  unfold yRow
  rw [pay68_at]
  refine Finset.sum_congr rfl fun j _ => ?_
  rw [← stRow_at, pay5_at, row4_at, stS_succ _ _ _ _ _ _ _ k.isLt]
  rfl

/-- The normalised key. -/
theorem pay135_at (x : Vec Ideal S1x64x64x128 .f32) (t j : Fin 64) (l : Fin 128) :
    k0_pay135 (F := Ideal) x (ix3 t j l)
      = Ideal.div (x (ix4 0 t j l)) (max (Ideal.sqrt (∑ q : Fin 64, x (ix4 0 t q l) * x (ix4 0 t q l))) (Ideal.ofBits .f32 0x2B8CBCCC#32)) := by
  pointwise [k0_pay135, k0_pay134]

/-- The normalised key times the in-context rate. -/
theorem pay136_at (x a : Vec Ideal S1x64x64x128 .f32) (t j : Fin 64) (l : Fin 128) :
    k0_pay136 (F := Ideal) x a (ix3 t j l) = k0_pay135 (F := Ideal) x (ix3 t j l) * a (ix4 0 t j l) := by
  unfold k0_pay136 k0_pay135
  generalize k0_pay134 (F := Ideal) x = w
  pointwise

theorem pay133_at (x : Vec Ideal S1x32x64x128 .f32) (i : Fin 32) (j : Fin 64) (l : Fin 128) :
    k0_pay133 (F := Ideal) x (ix3 i j l) = x (ix4 0 i j l) := by pointwise [k0_pay133]

theorem pay2_at (x : Vec Ideal S32x64x128 .f32) (i : Fin 32) (j : Fin 64) (l : Fin 128) :
    k0_pay2 (F := Ideal) x (ix4 0 i j l) = x (ix3 i j l) := by pointwise [k0_pay2]

theorem pay140_at (x : Vec Ideal S1x64x32x128 .f32) (t : Fin 64) (i : Fin 32) (l : Fin 128) :
    k0_pay140 (F := Ideal) x (ix3 t i l) = x (ix4 0 t i l) := by pointwise [k0_pay140]

theorem pay142_at (r k : Vec Ideal S1x64x64x128 .f32) (t j : Fin 64) (l : Fin 128) :
    k0_pay142 (F := Ideal) r k (ix3 t j l) = r (ix4 0 t j l) * k (ix4 0 t j l) := by pointwise [k0_pay142]

theorem pay1_at (v y : FVec Ideal S64x32x128 .f32) (rk : FVec Ideal S64x64x128 .f32) (x : Vec Ideal S1x64x128 .f32)
    (t : Fin 64) (i : Fin 32) (l : Fin 128) :
    k0_pay1 (F := Ideal) v y rk x (ix4 0 t i l)
      = y (ix3 t i l) + (∑ j : Fin 64, rk (ix3 t j l) * x (ix3 0 j l)) * v (ix3 t i l) := by
  pointwise [k0_pay1]

/-- The lane holding the other half of a lane's head. -/
def oth (l : Fin 128) : Fin 128 := ⟨(l.val + 128 - 64) % 128, Nat.mod_lt _ (by decide)⟩

/-- The mean the head norm takes off, in the kernel's form. -/
def kmean (y : Vec Ideal S64x32x128 .f32) (t : Fin 64) (l : Fin 128) : EReal :=
  (∑ i : Fin 32, y (ix3 t i l) + ∑ i : Fin 32, y (ix3 t i (oth l))) * Ideal.ofBits .f32 0x3C800000#32

/-- The variance, in the kernel's form. -/
def kvar (y : Vec Ideal S64x32x128 .f32) (t : Fin 64) (l : Fin 128) : EReal :=
  (∑ i : Fin 32, (y (ix3 t i l) - kmean y t l) * (y (ix3 t i l) - kmean y t l)
    + ∑ i : Fin 32, (y (ix3 t i (oth l)) - kmean y t (oth l)) * (y (ix3 t i (oth l)) - kmean y t (oth l)))
    * Ideal.ofBits .f32 0x3C800000#32

theorem pay141_at (y : Vec Ideal S64x32x128 .f32) (w b : Vec Ideal S1x32x128 .f32) (t : Fin 64) (i : Fin 32) (l : Fin 128) :
    k0_pay141 (F := Ideal) y w b (ix3 t i l)
      = (y (ix3 t i l) - kmean y t l) * Ideal.rsqrt (kvar y t l + Ideal.ofBits .f32 0x3A27C5AC#32) * w (ix3 0 i l) + b (ix3 0 i l) := by
  unfold kvar kmean oth
  pointwise [k0_pay141]

end Cert.KernelIdeal.Scan

end
-- ==== Proof.ScanArr.lean ====
/-
# The arrays the windows stage, at an index

The program's host code lays each sequence out as time, head column, half and batch and head together in the
lanes. Every block the kernel reads is here an entry of an argument.
-/
module

public import proofs.«01_k».proof.Proof.ScanFrame
public import proofs.«01_k».proof.Proof.ScanAt

@[expose] public section

set_option maxRecDepth 16384

noncomputable section

namespace Cert.KernelIdeal.Scan

open Idealize.ShloMosaic Idealize.ShloMosaic.TcCoe Idealize.ShloMosaic.Tactic Idealize.SL.Sem
open Idealize.ShloMosaic.Pipeline (Dat)
open Cert.KernelIdeal Cert.KernelIdeal.Gen

/-- The batch, the head and the head row of a lane. -/
abbrev lb (l : Fin 128) : Fin 4 := ⟨l.val % 64 / 16, by omega⟩
@[inherit_doc lb] abbrev lh (l : Fin 128) : Fin 16 := ⟨l.val % 16, Nat.mod_lt _ (by decide)⟩
@[inherit_doc lb] abbrev lr (l : Fin 128) (i : Fin 32) : Fin 64 := ⟨l.val / 64 * 32 + i.val, by omega⟩
/-- The column of a lane's head. -/
abbrev lc (l : Fin 128) (j : Fin 64) : Fin 1024 := ⟨l.val % 16 * 64 + j.val, by omega⟩

variable (m : (ℓ : Loc nD τ sig) → Buf (Elt Ideal) ℓ) (c : Dev nD)

section layout
variable {F : FTy → Type} [FloatOps F]
/-- The layout of a sequence: its heads' columns beside the time, its batches and heads in the lanes. -/
def laySeq0 (x : (⟨S4x2048x1024, .f32⟩ : BufTy).Contents (Elt F)) : (⟨S2048x64x64, .f32⟩ : BufTy).Contents (Elt F) :=
  (shapeCast S2048x64x64 (transpose S2048x64x4x16 [1, 3, 0, 2] (shapeCast S4x2048x16x64 x shapeCasts_S4x2048x1024_S4x2048x16x64 : (⟨S4x2048x16x64, .f32⟩ : BufTy).Contents (Elt F)) transposes_S4x2048x16x64_S2048x64x4x16_1_3_0_2 : (⟨S2048x64x4x16, .f32⟩ : BufTy).Contents (Elt F)) shapeCasts_S2048x64x4x16_S2048x64x64 : (⟨S2048x64x64, .f32⟩ : BufTy).Contents (Elt F))
/-- The layout twice over, one copy for each half. -/
def laySeq (x : (⟨S4x2048x1024, .f32⟩ : BufTy).Contents (Elt F)) : (⟨S1x2048x64x128, .f32⟩ : BufTy).Contents (Elt F) :=
  broadcastInDim S1x2048x64x128 ![1, 2, 3] bcast_S2048x64x128_S1x2048x64x128_1_2_3 (concatenate S2048x64x128 2 [⟨S2048x64x64, laySeq0 x⟩, ⟨S2048x64x64, laySeq0 x⟩] concatenates_S2048x64x64_S2048x64x64_S2048x64x128_d2 : (⟨S2048x64x128, .f32⟩ : BufTy).Contents (Elt F))
/-- The layout of the values: a half of a head's rows beside the time. -/
def layV (x : (⟨S4x2048x1024, .f32⟩ : BufTy).Contents (Elt F)) : (⟨S1x2048x32x128, .f32⟩ : BufTy).Contents (Elt F) :=
  (shapeCast S1x2048x32x128 (transpose S2048x32x2x4x16 [1, 4, 3, 0, 2] (shapeCast S4x2048x16x2x32 x shapeCasts_S4x2048x1024_S4x2048x16x2x32 : (⟨S4x2048x16x2x32, .f32⟩ : BufTy).Contents (Elt F)) transposes_S4x2048x16x2x32_S2048x32x2x4x16_1_4_3_0_2 : (⟨S2048x32x2x4x16, .f32⟩ : BufTy).Contents (Elt F)) shapeCasts_S2048x32x2x4x16_S1x2048x32x128 : (⟨S1x2048x32x128, .f32⟩ : BufTy).Contents (Elt F))
/-- The layout of the first state. -/
def layS (x : (⟨S4x16x64x64, .f32⟩ : BufTy).Contents (Elt F)) : (⟨S1x32x64x128, .f32⟩ : BufTy).Contents (Elt F) :=
  (shapeCast S1x32x64x128 (transpose S32x64x2x4x16 [3, 4, 2, 0, 1] (shapeCast S4x16x2x32x64 x shapeCasts_S4x16x64x64_S4x16x2x32x64 : (⟨S4x16x2x32x64, .f32⟩ : BufTy).Contents (Elt F)) transposes_S4x16x2x32x64_S32x64x2x4x16_3_4_2_0_1 : (⟨S32x64x2x4x16, .f32⟩ : BufTy).Contents (Elt F)) shapeCasts_S32x64x2x4x16_S1x32x64x128 : (⟨S1x32x64x128, .f32⟩ : BufTy).Contents (Elt F))
/-- The layout of the bonus weights. -/
def layK0 (x : (⟨S1024, .f32⟩ : BufTy).Contents (Elt F)) : (⟨S64x64, .f32⟩ : BufTy).Contents (Elt F) :=
  (shapeCast S64x64 (transpose S64x4x16 [2, 0, 1] (broadcastInDim S4x16x64 ![0, 1, 2] bcast_S1x16x64_S4x16x64_0_1_2 (shapeCast S1x16x64 x shapeCasts_S1024_S1x16x64 : (⟨S1x16x64, .f32⟩ : BufTy).Contents (Elt F)) : (⟨S4x16x64, .f32⟩ : BufTy).Contents (Elt F)) transposes_S4x16x64_S64x4x16_2_0_1 : (⟨S64x4x16, .f32⟩ : BufTy).Contents (Elt F)) shapeCasts_S64x4x16_S64x64 : (⟨S64x64, .f32⟩ : BufTy).Contents (Elt F))
@[inherit_doc layK0]
def layK (x : (⟨S1024, .f32⟩ : BufTy).Contents (Elt F)) : (⟨S1x64x128, .f32⟩ : BufTy).Contents (Elt F) :=
  broadcastInDim S1x64x128 ![1, 2] bcast_S64x128_S1x64x128_1_2 (concatenate S64x128 1 [⟨S64x64, layK0 x⟩, ⟨S64x64, layK0 x⟩] concatenates_S64x64_S64x64_S64x128_d1 : (⟨S64x128, .f32⟩ : BufTy).Contents (Elt F))
/-- The layout of the head norm's weights. -/
def layW (x : (⟨S1024, .f32⟩ : BufTy).Contents (Elt F)) : (⟨S1x32x128, .f32⟩ : BufTy).Contents (Elt F) :=
  (shapeCast S1x32x128 (transpose S32x2x4x16 [3, 2, 0, 1] (shapeCast S4x16x2x32 (broadcastInDim S4x16x64 ![0, 1, 2] bcast_S1x16x64_S4x16x64_0_1_2 (shapeCast S1x16x64 x shapeCasts_S1024_S1x16x64 : (⟨S1x16x64, .f32⟩ : BufTy).Contents (Elt F)) : (⟨S4x16x64, .f32⟩ : BufTy).Contents (Elt F)) shapeCasts_S4x16x64_S4x16x2x32 : (⟨S4x16x2x32, .f32⟩ : BufTy).Contents (Elt F)) transposes_S4x16x2x32_S32x2x4x16_3_2_0_1 : (⟨S32x2x4x16, .f32⟩ : BufTy).Contents (Elt F)) shapeCasts_S32x2x4x16_S1x32x128 : (⟨S1x32x128, .f32⟩ : BufTy).Contents (Elt F))
/-- The outputs back in the layer's order. -/
def backO (x : (⟨S1x2048x32x128, .f32⟩ : BufTy).Contents (Elt F)) : (⟨S4x2048x1024, .f32⟩ : BufTy).Contents (Elt F) :=
  (shapeCast S4x2048x1024 (transpose S4x2048x16x2x32 [3, 0, 4, 2, 1] (shapeCast S2048x32x2x4x16 x shapeCasts_S1x2048x32x128_S2048x32x2x4x16 : (⟨S2048x32x2x4x16, .f32⟩ : BufTy).Contents (Elt F)) transposes_S2048x32x2x4x16_S4x2048x16x2x32_3_0_4_2_1 : (⟨S4x2048x16x2x32, .f32⟩ : BufTy).Contents (Elt F)) shapeCasts_S4x2048x16x2x32_S4x2048x1024 : (⟨S4x2048x1024, .f32⟩ : BufTy).Contents (Elt F))
/-- The state back in the layer's order. -/
def backS (x : (⟨S1x32x64x128, .f32⟩ : BufTy).Contents (Elt F)) : (⟨S4x16x64x64, .f32⟩ : BufTy).Contents (Elt F) :=
  (shapeCast S4x16x64x64 (transpose S4x16x2x32x64 [3, 4, 2, 0, 1] (shapeCast S32x64x2x4x16 x shapeCasts_S1x32x64x128_S32x64x2x4x16 : (⟨S32x64x2x4x16, .f32⟩ : BufTy).Contents (Elt F)) transposes_S32x64x2x4x16_S4x16x2x32x64_3_4_2_0_1 : (⟨S4x16x2x32x64, .f32⟩ : BufTy).Contents (Elt F)) shapeCasts_S4x16x2x32x64_S4x16x64x64 : (⟨S4x16x64x64, .f32⟩ : BufTy).Contents (Elt F))
end layout

theorem laySeq_at (x : (⟨S4x2048x1024, .f32⟩ : BufTy).Contents (Elt Ideal)) (t : Fin 2048) (j : Fin 64) (l : Fin 128) :
    laySeq x (ix4 0 t j l) = x (ix3 (lb l) t (lc l j)) := by
  pointwise [laySeq, laySeq0]
  split
  · refine congrArg x (funext fun a => Fin.ext ?_)
    fin_cases a <;> simp <;> omega
  · refine congrArg x (funext fun a => Fin.ext ?_)
    fin_cases a <;> simp <;> omega

theorem layV_at (x : (⟨S4x2048x1024, .f32⟩ : BufTy).Contents (Elt Ideal)) (t : Fin 2048) (i : Fin 32) (l : Fin 128) :
    layV x (ix4 0 t i l) = x (ix3 (lb l) t (lc l (lr l i))) := by
  pointwise [layV]
  refine congrArg x (funext fun a => Fin.ext ?_)
  fin_cases a <;> simp <;> omega

theorem layS_at (x : (⟨S4x16x64x64, .f32⟩ : BufTy).Contents (Elt Ideal)) (i : Fin 32) (j : Fin 64) (l : Fin 128) :
    layS x (ix4 0 i j l) = x (ix4 (lb l) (lh l) (lr l i) j) := by
  pointwise [layS]
  refine congrArg x (funext fun a => Fin.ext ?_)
  fin_cases a <;> simp <;> omega

theorem layK_at (x : (⟨S1024, .f32⟩ : BufTy).Contents (Elt Ideal)) (j : Fin 64) (l : Fin 128) : layK x (ix3 0 j l) = x (ix1 (lc l j)) := by
  pointwise [layK, layK0]
  split
  · refine congrArg x (funext fun a => Fin.ext ?_)
    fin_cases a <;> simp <;> omega
  · refine congrArg x (funext fun a => Fin.ext ?_)
    fin_cases a <;> simp <;> omega

theorem layW_at (x : (⟨S1024, .f32⟩ : BufTy).Contents (Elt Ideal)) (i : Fin 32) (l : Fin 128) : layW x (ix3 0 i l) = x (ix1 (lc l (lr l i))) := by
  pointwise [layW]

/-- The lane of a batch, a head and a head row's half. -/
abbrev ln (b : Fin 4) (h : Fin 16) (i : Fin 64) : Fin 128 := ⟨i.val / 32 * 64 + b.val * 16 + h.val, by omega⟩
/-- The row inside its half. -/
abbrev il (i : Fin 64) : Fin 32 := ⟨i.val % 32, Nat.mod_lt _ (by decide)⟩

theorem backO_at (x : (⟨S1x2048x32x128, .f32⟩ : BufTy).Contents (Elt Ideal)) (b : Fin 4) (t : Fin 2048) (h : Fin 16) (i : Fin 64) :
    backO x (ix3 b t (⟨h.val * 64 + i.val, by omega⟩ : Fin 1024)) = x (ix4 0 t (il i) (ln b h i)) := by
  pointwise [backO]
  refine congrArg x (funext fun a => Fin.ext ?_)
  fin_cases a <;> simp <;> omega

theorem backS_at (x : (⟨S1x32x64x128, .f32⟩ : BufTy).Contents (Elt Ideal)) (b : Fin 4) (h : Fin 16) (i j : Fin 64) :
    backS x (ix4 b h i j) = x (ix4 0 (il i) j (ln b h i)) := by
  pointwise [backS]

theorem V_4 : V m c main_v4 = laySeq (m ((c : Thread nD τ).loc main_arg0)) := by
  show StableHlo.after hostOps0 (fun b => m (c, b)) (Proc.devRef .tc main_v4) = _
  unfold hostOps0; after_results; try rfl
theorem V_9 : V m c main_v9 = laySeq (m ((c : Thread nD τ).loc main_arg1)) := by
  show StableHlo.after hostOps0 (fun b => m (c, b)) (Proc.devRef .tc main_v9) = _
  unfold hostOps0; after_results; try rfl
theorem V_14 : V m c main_v14 = laySeq (m ((c : Thread nD τ).loc main_arg2)) := by
  show StableHlo.after hostOps0 (fun b => m (c, b)) (Proc.devRef .tc main_v14) = _
  unfold hostOps0; after_results; try rfl
theorem V_19 : V m c main_v19 = laySeq (m ((c : Thread nD τ).loc main_arg3)) := by
  show StableHlo.after hostOps0 (fun b => m (c, b)) (Proc.devRef .tc main_v19) = _
  unfold hostOps0; after_results; try rfl
theorem V_24 : V m c main_v24 = laySeq (m ((c : Thread nD τ).loc main_arg4)) := by
  show StableHlo.after hostOps0 (fun b => m (c, b)) (Proc.devRef .tc main_v24) = _
  unfold hostOps0; after_results; try rfl
theorem V_27 : V m c main_v27 = layV (m ((c : Thread nD τ).loc main_arg5)) := by
  show StableHlo.after hostOps0 (fun b => m (c, b)) (Proc.devRef .tc main_v27) = _
  unfold hostOps0; after_results; try rfl
theorem V_30 : V m c main_v30 = layS (m ((c : Thread nD τ).loc main_arg6)) := by
  show StableHlo.after hostOps0 (fun b => m (c, b)) (Proc.devRef .tc main_v30) = _
  unfold hostOps0; after_results; try rfl
theorem V_36 : V m c main_v36 = layK (m ((c : Thread nD τ).loc main_arg7)) := by
  show StableHlo.after hostOps0 (fun b => m (c, b)) (Proc.devRef .tc main_v36) = _
  unfold hostOps0; after_results; try rfl
theorem V_41 : V m c main_v41 = layW (m ((c : Thread nD τ).loc main_arg8)) := by
  show StableHlo.after hostOps0 (fun b => m (c, b)) (Proc.devRef .tc main_v41) = _
  unfold hostOps0; after_results; try rfl
theorem V_46 : V m c main_v46 = layW (m ((c : Thread nD τ).loc main_arg9)) := by
  show StableHlo.after hostOps0 (fun b => m (c, b)) (Proc.devRef .tc main_v46) = _
  unfold hostOps0; after_results; try rfl

end Cert.KernelIdeal.Scan

end
-- ==== Proof.ScanRefAt.lean ====
/-
# One step of the reference's recurrence at an index

The reference's state after a step, its outputs, its set-up sequences and its head norm, as formulas over the
extended reals.
-/
module

public import proofs.«01_k».proof.Proof.ScanRefRun
public import Idealize.ShloMosaic.Lib.Pipeline.ValueKit
public import Idealize.ShloMosaic.Lib.WordCmp

@[expose] public section

set_option maxRecDepth 16384

noncomputable section

namespace Cert.ReferenceIdeal.StepAt

open Idealize.ShloMosaic Idealize.ShloMosaic.TcCoe Idealize.SL.Sem
open Cert.ReferenceIdeal Cert.ReferenceIdeal.Gen Cert.ReferenceIdeal.Step

/-- The column of a head's entry in a row of 1024. -/
abbrev hj (h : Fin 16) (j : Fin 64) : Fin 1024 := ⟨h.val * 64 + j.val, by omega⟩

variable (n : ℕ) (hn : n < 2048) (s : State Ideal) (b : Fin 4) (h : Fin 16)

include hn in
/-- A 32-bit word of a time is the time. -/
theorem toInt_n : (BitVec.ofNat 32 n).toInt = (n : ℤ) :=
  WordCmp.toInt_ofNat_of_lt (by show n < 2 ^ 31; omega)

/-- A time slice of a sequence, at a start in range. -/
theorem slice_at (A : (⟨S2048x4x16x64, .f32⟩ : BufTy).Contents (Elt Ideal)) (st : Fin 4 → Int) (h0 : st 0 = (n : ℤ)) (h1 : st 1 = 0)
    (h2 : st 2 = 0) (h3 : st 3 = 0) (j : Fin 64) :
    shapeCast S4x16x64 (Host.dynamicSlice S1x4x16x64 A st sliceFits_S2048x4x16x64_S1x4x16x64 : (⟨S1x4x16x64, .f32⟩ : BufTy).Contents (Elt Ideal))
      shapeCasts_S1x4x16x64_S4x16x64 (ix3 b h j) = A (ix4 ⟨n, hn⟩ b h j) := by
  pointwise
  simp only [Host.clampedStart_of_le (s := S2048x4x16x64) (t := S1x4x16x64) rfl st 0 n h0 (by show n + 1 ≤ 2048; omega),
    Host.clampedStart_of_le (s := S2048x4x16x64) (t := S1x4x16x64) rfl st 1 0 h1 (by decide),
    Host.clampedStart_of_le (s := S2048x4x16x64) (t := S1x4x16x64) rfl st 2 0 h2 (by decide),
    Host.clampedStart_of_le (s := S2048x4x16x64) (t := S1x4x16x64) rfl st 3 0 h3 (by decide)]
  try simp only [Nat.zero_add, Nat.add_zero]

include hn in
/-- A time slice written into a sequence, at a start in range. -/
theorem update_at (A : (⟨S2048x4x16x64, .f32⟩ : BufTy).Contents (Elt Ideal)) (w : (⟨S4x16x64, .f32⟩ : BufTy).Contents (Elt Ideal))
    (st : Fin 4 → Int) (h0 : st 0 = (n : ℤ)) (h1 : st 1 = 0) (h2 : st 2 = 0) (h3 : st 3 = 0) (t : Fin 2048) (i : Fin 64) :
    (Host.dynamicUpdateSlice A (broadcastInDim S1x4x16x64 ![1, 2, 3] bcast_S4x16x64_S1x4x16x64_1_2_3 w : (⟨S1x4x16x64, .f32⟩ : BufTy).Contents (Elt Ideal)) st
      updateFits_S2048x4x16x64_S1x4x16x64 : (⟨S2048x4x16x64, .f32⟩ : BufTy).Contents (Elt Ideal)) (ix4 t b h i)
      = if t.val = n then w (ix3 b h i) else A (ix4 t b h i) := by
  pointwise
  simp only [Host.clampedStart_of_le (s := S2048x4x16x64) (t := S1x4x16x64) rfl st 0 n h0 (by show n + 1 ≤ 2048; omega),
    Host.clampedStart_of_le (s := S2048x4x16x64) (t := S1x4x16x64) rfl st 1 0 h1 (by decide),
    Host.clampedStart_of_le (s := S2048x4x16x64) (t := S1x4x16x64) rfl st 2 0 h2 (by decide),
    Host.clampedStart_of_le (s := S2048x4x16x64) (t := S1x4x16x64) rfl st 3 0 h3 (by decide)]
  by_cases e : t.val = n
  · rw [if_pos e, dif_pos ⟨⟨by omega, by omega⟩, ⟨Nat.zero_le _, by omega⟩, ⟨Nat.zero_le _, by omega⟩, ⟨Nat.zero_le _, by omega⟩⟩]
    rfl
  · rw [if_neg e, dif_neg (fun q => e (by have := q.1.1; have := q.1.2; omega))]

theorem b4_at (j : Fin 64) : b4 n s (ix3 b h j) = s.main_v21_0 (ix4 ⟨n, hn⟩ b h j) :=
  slice_at n hn b h _ _ (toInt_n n hn) rfl rfl rfl j
theorem b9_at (j : Fin 64) : b9 n s (ix3 b h j) = s.main_v21_1 (ix4 ⟨n, hn⟩ b h j) :=
  slice_at n hn b h _ _ (toInt_n n hn) rfl rfl rfl j
theorem b14_at (j : Fin 64) : b14 n s (ix3 b h j) = s.main_v21_2 (ix4 ⟨n, hn⟩ b h j) :=
  slice_at n hn b h _ _ (toInt_n n hn) rfl rfl rfl j
theorem b19_at (j : Fin 64) : b19 n s (ix3 b h j) = s.main_v21_3 (ix4 ⟨n, hn⟩ b h j) :=
  slice_at n hn b h _ _ (toInt_n n hn) rfl rfl rfl j
theorem b24_at (j : Fin 64) : b24 n s (ix3 b h j) = s.main_v21_4 (ix4 ⟨n, hn⟩ b h j) :=
  slice_at n hn b h _ _ (toInt_n n hn) rfl rfl rfl j
theorem b29_at (j : Fin 64) : b29 n s (ix3 b h j) = s.main_v21_5 (ix4 ⟨n, hn⟩ b h j) :=
  slice_at n hn b h _ _ (toInt_n n hn) rfl rfl rfl j

theorem b30_at (i : Fin 64) : b30 n s (ix3 b h i) = ∑ q : Fin 64, s.main_v21_7 (ix4 b h i q) * b24 n s (ix3 b h q) := by
  unfold b30
  generalize b24 n s = w
  pointwise

/-- The state after a step. -/
theorem b47_raw (i j : Fin 64) :
    b47 n s (ix4 b h i j) = s.main_v21_7 (ix4 b h i j) * b9 n s (ix3 b h j)
      + (-(∑ q : Fin 64, s.main_v21_7 (ix4 b h i q) * b24 n s (ix3 b h q))) * (b24 n s (ix3 b h j) * b29 n s (ix3 b h j))
      + b19 n s (ix3 b h i) * b14 n s (ix3 b h j) := by
  rw [← b30_at]
  unfold b47 b46 b45 b44 b43 b42 b41 b40 b39 b38 b37 b36 b35 b34 b33 b32 b31
  generalize b24 n s = w24
  generalize b30 n s = w30
  generalize b9 n s = w9
  generalize b29 n s = w29
  generalize b19 n s = w19
  generalize b14 n s = w14
  pointwise

theorem b48_at (i : Fin 64) : b48 n s (ix3 b h i) = ∑ q : Fin 64, b47 n s (ix4 b h i q) * b4 n s (ix3 b h q) := by
  unfold b48
  generalize b47 n s = w
  generalize b4 n s = w'
  pointwise

include hn in
theorem b53_at (t : Fin 2048) (i : Fin 64) :
    b53 n s (ix4 t b h i) = if t.val = n then b48 n s (ix3 b h i) else s.main_v21_8 (ix4 t b h i) :=
  update_at n hn b h _ _ _ (toInt_n n hn) rfl rfl rfl t i

section
variable (x0 x1 x2 x3 x4 x5 : (⟨S4x2048x1024, .f32⟩ : BufTy).Contents (Elt Ideal))

theorem A14_at (t : Fin 2048) (j : Fin 64) : A_main_v14 (F := Ideal) x0 x1 x2 x3 x4 x5 (ix4 t b h j) = x0 (ix3 b t (hj h j)) := by
  pointwise [A_main_v14, A_main_v9]
theorem A15_at (t : Fin 2048) (j : Fin 64) : A_main_v15 (F := Ideal) x0 x1 x2 x3 x4 x5 (ix4 t b h j) = x1 (ix3 b t (hj h j)) := by
  pointwise [A_main_v15, A_main_v13]
theorem A16_at (t : Fin 2048) (j : Fin 64) : A_main_v16 (F := Ideal) x0 x1 x2 x3 x4 x5 (ix4 t b h j) = x2 (ix3 b t (hj h j)) := by
  pointwise [A_main_v16, A_main_v10]
theorem A17_at (t : Fin 2048) (j : Fin 64) : A_main_v17 (F := Ideal) x0 x1 x2 x3 x4 x5 (ix4 t b h j) = x5 (ix3 b t (hj h j)) := by
  pointwise [A_main_v17, A_main_v11]
theorem A19_at (t : Fin 2048) (j : Fin 64) : A_main_v19 (F := Ideal) x0 x1 x2 x3 x4 x5 (ix4 t b h j) = x4 (ix3 b t (hj h j)) := by
  pointwise [A_main_v19, A_main_v12]
theorem A18_at (t : Fin 2048) (j : Fin 64) :
    A_main_v18 (F := Ideal) x0 x1 x2 x3 x4 x5 (ix4 t b h j)
      = Ideal.div (x3 (ix3 b t (hj h j)))
          (max (Ideal.sqrt (∑ q : Fin 64, x3 (ix3 b t (hj h q)) * x3 (ix3 b t (hj h q)))) (Ideal.ofBits .f32 0x2B8CBCCC#32)) := by
  pointwise [A_main_v18, A_main_v8, A_main_v7, A_main_v6, A_main_v4, A_main_v3, A_main_v2, A_main_v1, A_main_v0, K_main_cst, K_main_v5, K_main_cst_0]

end

/-- The mean over a head, in the reference's form. -/
def rmean (y : (⟨S2048x4x16x64, .f32⟩ : BufTy).Contents (Elt Ideal)) (t : Fin 2048) (b : Fin 4) (h : Fin 16) : EReal :=
  Ideal.div (∑ i : Fin 64, y (ix4 t b h i)) (Ideal.ofBits .f32 0x42800000#32)

/-- The variance over a head, in the reference's form. -/
def rvar (y : (⟨S2048x4x16x64, .f32⟩ : BufTy).Contents (Elt Ideal)) (t : Fin 2048) (b : Fin 4) (h : Fin 16) : EReal :=
  Ideal.div (∑ i : Fin 64, (y (ix4 t b h i) - rmean y t b h) * (y (ix4 t b h i) - rmean y t b h)) (Ideal.ofBits .f32 0x42800000#32)

end Cert.ReferenceIdeal.StepAt

end
-- ==== Proof.ScanRefNorm.lean ====
/-
# The reference's output at an index

The head norm and the bonus on top of the recurrence's outputs.
-/
module

public import proofs.«01_k».proof.Proof.ScanRefAt
public import Idealize.ShloMosaic.Lib.Pipeline.ValueKit

@[expose] public section

set_option maxRecDepth 16384

noncomputable section

namespace Cert.ReferenceIdeal.StepAt

open Idealize.ShloMosaic Idealize.ShloMosaic.TcCoe Idealize.SL.Sem
open Cert.ReferenceIdeal Cert.ReferenceIdeal.Gen Cert.ReferenceIdeal.Step

variable (s : State Ideal) (b : Fin 4) (h : Fin 16)

/-- The layer's output at an index. -/
theorem R58_at (x0 x2 x5 : (⟨S4x2048x1024, .f32⟩ : BufTy).Contents (Elt Ideal)) (x7 x8 x9 : (⟨S1024, .f32⟩ : BufTy).Contents (Elt Ideal))
    (t : Fin 2048) (i : Fin 64) :
    R_main_v58 (F := Ideal) s x0 x2 x5 x7 x8 x9 (ix3 b t (hj h i))
      = (s.main_v21_8 (ix4 t b h i) - rmean s.main_v21_8 t b h)
          * Ideal.rsqrt (rvar s.main_v21_8 t b h + Ideal.ofBits .f32 0x3A27C5AC#32) * x8 (ix1 (hj h i)) + x9 (ix1 (hj h i))
        + (∑ j : Fin 64, x0 (ix3 b t (hj h j)) * x2 (ix3 b t (hj h j)) * x7 (ix1 (hj h j))) * x5 (ix3 b t (hj h i)) := by
  unfold rvar rmean R_main_v58
  generalize s.main_v21_8 = y
  have e1 : (h.val * 64 + i.val) / 64 = h.val := by omega
  have e2 : (h.val * 64 + i.val) % 64 = i.val := by omega
  pointwise
  simp only [e1, e2]

end Cert.ReferenceIdeal.StepAt

end
-- ==== Proof.ScanSim.lean ====
/-
# A chunk of the kernel follows the reference's recurrence

From blocks whose entries are the arguments' and a state that is the reference's, laid out in lanes, a chunk of 64
kernel steps leaves the reference's state 64 steps later, and the outputs and the normalised outputs are the
reference's.
-/
module

public import proofs.«01_k».proof.Proof.ScanArr
public import proofs.«01_k».proof.Proof.ScanRefAt
public import proofs.«01_k».proof.Proof.ScanRefNorm

@[expose] public section

set_option maxRecDepth 16384

noncomputable section

namespace Cert.KernelIdeal.Scan

open Idealize.ShloMosaic Idealize.ShloMosaic.TcCoe Idealize.SL.Sem
open Cert.KernelIdeal Cert.KernelIdeal.Gen
open Cert.ReferenceIdeal.Step (State init step A_main_v14 A_main_v15 A_main_v16 A_main_v17 A_main_v18 A_main_v19 b4 b48 R_main_v58)
open Cert.ReferenceIdeal.StepAt

variable (a0 a1 a2 a3 a4 a5 : (⟨S4x2048x1024, .f32⟩ : BufTy).Contents (Elt Ideal)) (a6 : (⟨S4x16x64x64, .f32⟩ : BufTy).Contents (Elt Ideal))

/-- A sequence of states of the reference's loop over the arguments. -/
structure Runs (it : ℕ → State Ideal) : Prop where
  zero : it 0 = init a6 a0 a1 a2 a3 a4 a5
  succ : ∀ n, it (n + 1) = step n (it n)

namespace Runs
variable {a0 a1 a2 a3 a4 a5 a6} {it : ℕ → State Ideal} (R : Runs a0 a1 a2 a3 a4 a5 a6 it)
include R

/-- The sequences the loop reads stay what they are before it. -/
theorem keeps : ∀ n, (it n).main_v21_0 = A_main_v14 a0 a1 a2 a3 a4 a5 ∧ (it n).main_v21_1 = A_main_v15 a0 a1 a2 a3 a4 a5
    ∧ (it n).main_v21_2 = A_main_v16 a0 a1 a2 a3 a4 a5 ∧ (it n).main_v21_3 = A_main_v17 a0 a1 a2 a3 a4 a5
    ∧ (it n).main_v21_4 = A_main_v18 a0 a1 a2 a3 a4 a5 ∧ (it n).main_v21_5 = A_main_v19 a0 a1 a2 a3 a4 a5 := by
  intro n
  induction n with
  | zero => rw [R.zero]; exact ⟨rfl, rfl, rfl, rfl, rfl, rfl⟩
  | succ n ih => rw [R.succ n]; exact ih

/-- The normalised key at a time. -/
abbrev kkn (a3 : (⟨S4x2048x1024, .f32⟩ : BufTy).Contents (Elt Ideal)) (t : Fin 2048) (b : Fin 4) (h : Fin 16) (j : Fin 64) : EReal :=
  Ideal.div (a3 (ix3 b t (hj h j)))
    (max (Ideal.sqrt (∑ q : Fin 64, a3 (ix3 b t (hj h q)) * a3 (ix3 b t (hj h q)))) (Ideal.ofBits .f32 0x2B8CBCCC#32))

/-- A step of the reference over the arguments' entries. -/
theorem step_at (n : ℕ) (hn : n < 2048) (b : Fin 4) (h : Fin 16) (i j : Fin 64) :
    (it (n + 1)).main_v21_7 (ix4 b h i j)
      = (it n).main_v21_7 (ix4 b h i j) * a1 (ix3 b ⟨n, hn⟩ (hj h j))
        + (-(∑ q : Fin 64, (it n).main_v21_7 (ix4 b h i q) * kkn a3 ⟨n, hn⟩ b h q))
            * (kkn a3 ⟨n, hn⟩ b h j * a4 (ix3 b ⟨n, hn⟩ (hj h j)))
        + a5 (ix3 b ⟨n, hn⟩ (hj h i)) * a2 (ix3 b ⟨n, hn⟩ (hj h j)) := by
  obtain ⟨k0, k1, k2, k3, k4, k5⟩ := R.keeps n
  rw [R.succ n, Cert.ReferenceIdeal.Step.step_main_v21_7, b47_raw]
  simp only [b9_at n hn, b14_at n hn, b19_at n hn, b24_at n hn, b29_at n hn, k1, k2, k3, k4, k5, A15_at, A16_at, A17_at, A18_at, A19_at, kkn]

/-- The output of a step of the reference. -/
theorem out_at (n : ℕ) (hn : n < 2048) (b : Fin 4) (h : Fin 16) (i : Fin 64) :
    b48 n (it n) (ix3 b h i) = ∑ q : Fin 64, (it (n + 1)).main_v21_7 (ix4 b h i q) * a0 (ix3 b ⟨n, hn⟩ (hj h q)) := by
  obtain ⟨k0, -⟩ := R.keeps n
  rw [b48_at, R.succ n, Cert.ReferenceIdeal.Step.step_main_v21_7]
  simp only [b4_at n hn, k0, A14_at]

/-- The outputs the loop has collected. -/
theorem ys_at : ∀ n, n ≤ 2048 → ∀ (t : Fin 2048), t.val < n → ∀ (b : Fin 4) (h : Fin 16) (i : Fin 64),
    (it n).main_v21_8 (ix4 t b h i) = b48 t.val (it t.val) (ix3 b h i) := by
  intro n
  induction n with
  | zero => intro _ t ht; exact absurd ht (Nat.not_lt_zero _)
  | succ n ih =>
    intro hn t ht b h i
    rw [R.succ n, Cert.ReferenceIdeal.Step.step_main_v21_8, b53_at n hn]
    by_cases e : t.val = n
    · rw [if_pos e]; subst e; rfl
    · rw [if_neg e]; exact ih (by omega) t (by omega) b h i

end Runs

/-- The block a chunk begun at time `T` reads of a sequence. -/
def SeqBlk (T : ℕ) (hT : T + 64 ≤ 2048) (a : (⟨S4x2048x1024, .f32⟩ : BufTy).Contents (Elt Ideal)) (x : Vec Ideal S1x64x64x128 .f32) : Prop :=
  ∀ (k j : Fin 64) (l : Fin 128), x (ix4 0 k j l) = a (ix3 (lb l) ⟨T + k.val, by omega⟩ (lc l j))

/-- The block a chunk begun at time `T` reads of the values. -/
def ValBlk (T : ℕ) (hT : T + 64 ≤ 2048) (a : (⟨S4x2048x1024, .f32⟩ : BufTy).Contents (Elt Ideal)) (x : Vec Ideal S1x64x32x128 .f32) : Prop :=
  ∀ (k : Fin 64) (i : Fin 32) (l : Fin 128), x (ix4 0 k i l) = a (ix3 (lb l) ⟨T + k.val, by omega⟩ (lc l (lr l i)))

/-- A kernel state that is the reference's state, laid out in lanes. -/
def StEq (S : Vec Ideal S32x64x128 .f32) (s : State Ideal) : Prop :=
  ∀ (i : Fin 32) (j : Fin 64) (l : Fin 128), S (ix3 i j l) = s.main_v21_7 (ix4 (lb l) (lh l) (lr l i) j)

section chunk
variable {a0 a1 a2 a3 a4 a5 a6} {it : ℕ → State Ideal} (R : Runs a0 a1 a2 a3 a4 a5 a6 it)
  {T : ℕ} {hT : T + 64 ≤ 2048} {x0 x1 x2 x3 x4 : Vec Ideal S1x64x64x128 .f32} {x5 : Vec Ideal S1x64x32x128 .f32} {S : Vec Ideal S32x64x128 .f32}
  (h0 : SeqBlk T hT a0 x0) (h1 : SeqBlk T hT a1 x1) (h2 : SeqBlk T hT a2 x2) (h3 : SeqBlk T hT a3 x3) (h4 : SeqBlk T hT a4 x4)
  (h5 : ValBlk T hT a5 x5) (hS : StEq S (it T))

include h3 in
theorem kkn_blk (k j : Fin 64) (l : Fin 128) :
    k0_pay135 (F := Ideal) x3 (ix3 k j l) = Runs.kkn a3 ⟨T + k.val, by omega⟩ (lb l) (lh l) j := by
  rw [pay135_at]
  unfold SeqBlk at h3
  simp only [h3]

include R h1 h2 h3 h4 h5 hS in
/-- After `n` steps of the chunk the state is still the reference's. -/
theorem sim : ∀ n, n ≤ 64 → StEq (stS (F := Ideal) x1 x2 x5 (k0_pay135 x3) (k0_pay136 x3 x4) S n) (it (T + n)) := by
  intro n
  induction n with
  | zero => intro _; exact hS
  | succ n ih =>
    intro hn i j l
    have hk : n < k0_t1_loop.trips := by rw [trips_eq]; omega
    have e := ih (by omega)
    unfold StEq at e
    have htf : tf ⟨n, hk⟩ = (⟨n, by omega⟩ : Fin 64) := rfl
    unfold SeqBlk at h1 h2 h4
    unfold ValBlk at h5
    rw [stS_succ _ _ _ _ _ _ _ hk, newS_at]
    simp only [htf, e, h1, h2, h5, pay136_at, h4, kkn_blk h3, zero_sub]
    exact (R.step_at (T + n) (by omega) (lb l) (lh l) (lr l i) j).symm

include R h0 h1 h2 h3 h4 h5 hS in
/-- The chunk's outputs are the reference's. -/
theorem simY (k : Fin 64) (i : Fin 32) (l : Fin 128) :
    yEnd (F := Ideal) x0 x1 x2 x3 x4 x5 S (ix3 k i l) = (it 2048).main_v21_8 (ix4 ⟨T + k.val, by omega⟩ (lb l) (lh l) (lr l i)) := by
  rw [R.ys_at 2048 (le_refl _) _ (by show T + k.val < 2048; omega), R.out_at (T + k.val) (by omega)]
  have e := sim R h1 h2 h3 h4 h5 hS (k.val + 1) (by omega)
  unfold StEq at e
  unfold SeqBlk at h0
  have q := newY_at x0 x1 x2 x5 (k0_pay135 x3) (k0_pay136 x3 x4) S (k.cast trips_eq.symm) i l
  refine Eq.trans q ?_
  have htf : tf (k.cast trips_eq.symm) = k := rfl
  have hv : (k.cast trips_eq.symm).val = k.val := rfl
  simp only [htf, hv, e, h0]
  rfl
end chunk

/-! ## The head norm -/

/-- The pattern of `64`, and of its reciprocal. -/
theorem c64 : Ideal.ofBits .f32 0x42800000#32 = ((64 : ℝ) : EReal) := by
  simp [Ideal.ofBits, Ideal.ieee, -EReal.coe_mul]; norm_num
@[inherit_doc c64]
theorem cinv64 : Ideal.ofBits .f32 0x3C800000#32 = ((1 / 64 : ℝ) : EReal) := by
  simp [Ideal.ofBits, Ideal.ieee, -EReal.coe_mul]; norm_num

theorem div64 (x : EReal) : Ideal.div x (Ideal.ofBits .f32 0x42800000#32) = x * Ideal.ofBits .f32 0x3C800000#32 := by
  rw [c64, cinv64]; exact Ideal.div_coe (by norm_num) x

/-- The two halves of a head, whichever lane of the two asks. -/
theorem halves (f : Fin 64 → EReal) (l : Fin 128) :
    (∑ i : Fin 32, f (lr l i)) + ∑ i : Fin 32, f (lr (oth l) i) = ∑ i : Fin 64, f i := by
  rw [Fin.sum_univ_two_halves 32 32 rfl f]
  by_cases h : l.val < 64
  · refine congrArg₂ (· + ·) (Finset.sum_congr rfl fun i _ => congrArg f (Fin.ext ?_)) (Finset.sum_congr rfl fun i _ => congrArg f (Fin.ext ?_))
    · show l.val / 64 * 32 + i.val = i.val; omega
    · show (l.val + 128 - 64) % 128 / 64 * 32 + i.val = 32 + i.val; omega
  · rw [add_comm]
    refine congrArg₂ (· + ·) (Finset.sum_congr rfl fun i _ => congrArg f (Fin.ext ?_)) (Finset.sum_congr rfl fun i _ => congrArg f (Fin.ext ?_))
    · show (l.val + 128 - 64) % 128 / 64 * 32 + i.val = i.val; omega
    · show l.val / 64 * 32 + i.val = 32 + i.val; omega

theorem lb_oth (l : Fin 128) : lb (oth l) = lb l := Fin.ext (by show (l.val + 128 - 64) % 128 % 64 / 16 = l.val % 64 / 16; omega)
theorem lh_oth (l : Fin 128) : lh (oth l) = lh l := Fin.ext (by show (l.val + 128 - 64) % 128 % 16 = l.val % 16; omega)

section norm
variable (y : Vec Ideal S64x32x128 .f32) (Y : (⟨Cert.ReferenceIdeal.S2048x4x16x64, .f32⟩ : BufTy).Contents (Elt Ideal)) (k : Fin 64) (t : Fin 2048)
  (hy : ∀ (i : Fin 32) (l : Fin 128), y (ix3 k i l) = Y (ix4 t (lb l) (lh l) (lr l i)))
include hy

theorem mean_eq (l : Fin 128) : kmean y k l = rmean Y t (lb l) (lh l) := by
  unfold kmean rmean
  rw [div64]
  simp only [hy, lb_oth, lh_oth]
  rw [halves (fun i => Y (ix4 t (lb l) (lh l) i)) l]

theorem var_eq (l : Fin 128) : kvar y k l = rvar Y t (lb l) (lh l) := by
  unfold kvar rvar
  rw [div64]
  simp only [hy, mean_eq y Y k t hy, lb_oth, lh_oth]
  rw [halves (fun i => (Y (ix4 t (lb l) (lh l) i) - rmean Y t (lb l) (lh l)) * (Y (ix4 t (lb l) (lh l) i) - rmean Y t (lb l) (lh l))) l]
end norm

section out
variable {a0 a1 a2 a3 a4 a5 a6} {it : ℕ → State Ideal} (R : Runs a0 a1 a2 a3 a4 a5 a6 it)
  {a7 a8 a9 : (⟨S1024, .f32⟩ : BufTy).Contents (Elt Ideal)}
  {T : ℕ} {hT : T + 64 ≤ 2048} {x0 x1 x2 x3 x4 : Vec Ideal S1x64x64x128 .f32} {x5 : Vec Ideal S1x64x32x128 .f32} {S : Vec Ideal S32x64x128 .f32}
  {x7 : Vec Ideal S1x64x128 .f32} {x8 x9 : Vec Ideal S1x32x128 .f32}
  (h0 : SeqBlk T hT a0 x0) (h1 : SeqBlk T hT a1 x1) (h2 : SeqBlk T hT a2 x2) (h3 : SeqBlk T hT a3 x3) (h4 : SeqBlk T hT a4 x4)
  (h5 : ValBlk T hT a5 x5) (hS : StEq S (it T))
  (h7 : ∀ (j : Fin 64) (l : Fin 128), x7 (ix3 0 j l) = a7 (ix1 (lc l j)))
  (h8 : ∀ (i : Fin 32) (l : Fin 128), x8 (ix3 0 i l) = a8 (ix1 (lc l (lr l i))))
  (h9 : ∀ (i : Fin 32) (l : Fin 128), x9 (ix3 0 i l) = a9 (ix1 (lc l (lr l i))))
include R h0 h1 h2 h3 h4 h5 hS h7 h8 h9

/-- THE CHUNK'S OUTPUT at an index is the reference's. -/
theorem simO (k : Fin 64) (i : Fin 32) (l : Fin 128) :
    outO (F := Ideal) x0 x1 x2 x3 x4 x5 x7 x8 x9 S (ix4 0 k i l)
      = R_main_v58 (F := Ideal) (it 2048) a0 a2 a5 a7 a8 a9 (ix3 (lb l) ⟨T + k.val, by omega⟩ (hj (lh l) (lr l i))) := by
  have hy := fun i l => simY R h0 h1 h2 h3 h4 h5 hS k i l
  unfold outO
  rw [pay1_at, pay141_at, pay140_at, R58_at, mean_eq _ _ k _ hy, var_eq _ _ k _ hy, hy]
  unfold SeqBlk at h0 h2
  unfold ValBlk at h5
  simp only [pay142_at, h0, h2, h5, h7, h8, h9]
end out

end Cert.KernelIdeal.Scan

end
-- ==== Proof.ScanFinal.lean ====
/-
# The scan's results are the reference's

The blocks at each point, the state from point to point, the two result arrays, and the lines after the region.
-/
module

public import proofs.«01_k».proof.Proof.ScanSim

@[expose] public section

set_option maxRecDepth 16384

noncomputable section

namespace Cert.KernelIdeal.Scan

open Idealize.ShloMosaic Idealize.ShloMosaic.TcCoe Idealize.ShloMosaic.Tactic Idealize.SL.Sem
open Idealize.ShloMosaic.Pipeline (Dat)
open Cert.KernelIdeal Cert.KernelIdeal.Gen
open Cert.ReferenceIdeal.Step (State init step R_main_v58)
open Cert.ReferenceIdeal.StepAt

variable (m : (ℓ : Loc nD τ sig) → Buf (Elt Ideal) ℓ) (c : Dev nD)

/-- The block every window stages at a point: the sequences and the outputs move with the point. -/
theorem idx : ∀ t : Fin cfg0.N, win0_0.index t = ![0, t.val, 0, 0] ∧ win0_1.index t = ![0, t.val, 0, 0]
    ∧ win0_2.index t = ![0, t.val, 0, 0] ∧ win0_3.index t = ![0, t.val, 0, 0] ∧ win0_4.index t = ![0, t.val, 0, 0]
    ∧ win0_5.index t = ![0, t.val, 0, 0] ∧ win0_6.index t = ![0, 0, 0, 0] ∧ win0_7.index t = ![0, 0, 0]
    ∧ win0_8.index t = ![0, 0, 0] ∧ win0_9.index t = ![0, 0, 0] ∧ win0_10.index t = ![0, t.val, 0, 0]
    ∧ win0_11.index t = ![0, 0, 0, 0] :=
  (by decide +kernel : ∀ t : Fin grid0.N, _)

theorem t_lt (t : Fin cfg0.N) : t.val < 32 := lt_of_lt_of_eq t.isLt N_0
theorem t_hT (t : Fin cfg0.N) : t.val * 64 + 64 ≤ 2048 := by have := t_lt t; omega

/-- The program's arguments, named. -/
abbrev q0 : (⟨S4x2048x1024, .f32⟩ : BufTy).Contents (Elt Ideal) := m ((c : Thread nD τ).loc main_arg0)
abbrev q1 : (⟨S4x2048x1024, .f32⟩ : BufTy).Contents (Elt Ideal) := m ((c : Thread nD τ).loc main_arg1)
abbrev q2 : (⟨S4x2048x1024, .f32⟩ : BufTy).Contents (Elt Ideal) := m ((c : Thread nD τ).loc main_arg2)
abbrev q3 : (⟨S4x2048x1024, .f32⟩ : BufTy).Contents (Elt Ideal) := m ((c : Thread nD τ).loc main_arg3)
abbrev q4 : (⟨S4x2048x1024, .f32⟩ : BufTy).Contents (Elt Ideal) := m ((c : Thread nD τ).loc main_arg4)
abbrev q5 : (⟨S4x2048x1024, .f32⟩ : BufTy).Contents (Elt Ideal) := m ((c : Thread nD τ).loc main_arg5)
abbrev q6 : (⟨S4x16x64x64, .f32⟩ : BufTy).Contents (Elt Ideal) := m ((c : Thread nD τ).loc main_arg6)
abbrev q7 : (⟨S1024, .f32⟩ : BufTy).Contents (Elt Ideal) := m ((c : Thread nD τ).loc main_arg7)
abbrev q8 : (⟨S1024, .f32⟩ : BufTy).Contents (Elt Ideal) := m ((c : Thread nD τ).loc main_arg8)
abbrev q9 : (⟨S1024, .f32⟩ : BufTy).Contents (Elt Ideal) := m ((c : Thread nD τ).loc main_arg9)

/-! ## The blocks -/

theorem blk0 (t : Fin cfg0.N) : SeqBlk (t.val * 64) (t_hT t) (q0 m c) (iblk m c 0 t) := by
  intro k j l
  have e : iblk m c 0 t (ix4 0 k j l) = V m c main_v4 (ix4 0 ⟨t.val * 64 + k.val, by have := t_lt t; omega⟩ j l) := by
    blk_ext [iblk, idx t]
  rw [e, V_4]
  exact laySeq_at _ _ _ _
theorem blk1 (t : Fin cfg0.N) : SeqBlk (t.val * 64) (t_hT t) (q1 m c) (iblk m c 1 t) := by
  intro k j l
  have e : iblk m c 1 t (ix4 0 k j l) = V m c main_v9 (ix4 0 ⟨t.val * 64 + k.val, by have := t_lt t; omega⟩ j l) := by
    blk_ext [iblk, idx t]
  rw [e, V_9]
  exact laySeq_at _ _ _ _
theorem blk2 (t : Fin cfg0.N) : SeqBlk (t.val * 64) (t_hT t) (q2 m c) (iblk m c 2 t) := by
  intro k j l
  have e : iblk m c 2 t (ix4 0 k j l) = V m c main_v14 (ix4 0 ⟨t.val * 64 + k.val, by have := t_lt t; omega⟩ j l) := by
    blk_ext [iblk, idx t]
  rw [e, V_14]
  exact laySeq_at _ _ _ _
theorem blk3 (t : Fin cfg0.N) : SeqBlk (t.val * 64) (t_hT t) (q3 m c) (iblk m c 3 t) := by
  intro k j l
  have e : iblk m c 3 t (ix4 0 k j l) = V m c main_v19 (ix4 0 ⟨t.val * 64 + k.val, by have := t_lt t; omega⟩ j l) := by
    blk_ext [iblk, idx t]
  rw [e, V_19]
  exact laySeq_at _ _ _ _
theorem blk4 (t : Fin cfg0.N) : SeqBlk (t.val * 64) (t_hT t) (q4 m c) (iblk m c 4 t) := by
  intro k j l
  have e : iblk m c 4 t (ix4 0 k j l) = V m c main_v24 (ix4 0 ⟨t.val * 64 + k.val, by have := t_lt t; omega⟩ j l) := by
    blk_ext [iblk, idx t]
  rw [e, V_24]
  exact laySeq_at _ _ _ _
theorem blk5 (t : Fin cfg0.N) : ValBlk (t.val * 64) (t_hT t) (q5 m c) (iblk m c 5 t) := by
  intro k i l
  have e : iblk m c 5 t (ix4 0 k i l) = V m c main_v27 (ix4 0 ⟨t.val * 64 + k.val, by have := t_lt t; omega⟩ i l) := by
    blk_ext [iblk, idx t]
  rw [e, V_27]
  exact layV_at _ _ _ _
theorem blk6 (t : Fin cfg0.N) (i : Fin 32) (j : Fin 64) (l : Fin 128) :
    iblk m c 6 t (ix4 0 i j l) = q6 m c (ix4 (lb l) (lh l) (lr l i) j) := by
  have e : iblk m c 6 t (ix4 0 i j l) = V m c main_v30 (ix4 0 i j l) := by blk_ext [iblk, idx t]
  rw [e, V_30]
  exact layS_at _ _ _ _
theorem blk7 (t : Fin cfg0.N) (j : Fin 64) (l : Fin 128) : iblk m c 7 t (ix3 0 j l) = q7 m c (ix1 (lc l j)) := by
  have e : iblk m c 7 t (ix3 0 j l) = V m c main_v36 (ix3 0 j l) := by blk_ext [iblk, idx t]
  rw [e, V_36]
  exact layK_at _ _ _
theorem blk8 (t : Fin cfg0.N) (i : Fin 32) (l : Fin 128) : iblk m c 8 t (ix3 0 i l) = q8 m c (ix1 (lc l (lr l i))) := by
  have e : iblk m c 8 t (ix3 0 i l) = V m c main_v41 (ix3 0 i l) := by blk_ext [iblk, idx t]
  rw [e, V_41]
  exact layW_at _ _ _
theorem blk9 (t : Fin cfg0.N) (i : Fin 32) (l : Fin 128) : iblk m c 9 t (ix3 0 i l) = q9 m c (ix1 (lc l (lr l i))) := by
  have e : iblk m c 9 t (ix3 0 i l) = V m c main_v46 (ix3 0 i l) := by blk_ext [iblk, idx t]
  rw [e, V_46]
  exact layW_at _ _ _

/-! ## The state from point to point -/

section runs
variable {it : ℕ → State Ideal} (R : Runs (q0 m c) (q1 m c) (q2 m c) (q3 m c) (q4 m c) (q5 m c) (q6 m c) it)
include R

/-- Before point `n` the carried state is the reference's at time `64 n`. -/
theorem st_at : ∀ (n : ℕ) (hn : n ≤ cfg0.N), StEq (stB m c n hn) (it (n * 64)) := by
  intro n
  induction n with
  | zero =>
    intro hn i j l
    have e : it (0 * 64) = init (q6 m c) (q0 m c) (q1 m c) (q2 m c) (q3 m c) (q4 m c) (q5 m c) := R.zero
    rw [e]
    exact (pay133_at _ i j l).trans (blk6 m c _ i j l)
  | succ n ih =>
    intro hn
    have t : Fin cfg0.N := ⟨n, hn⟩
    have h := sim R (blk1 m c ⟨n, hn⟩) (blk2 m c ⟨n, hn⟩) (blk3 m c ⟨n, hn⟩) (blk4 m c ⟨n, hn⟩) (blk5 m c ⟨n, hn⟩) (ih (Nat.le_of_lt hn)) 64 (le_refl _)
    have e : (n + 1) * 64 = n * 64 + 64 := by omega
    rw [stB_succ, e]
    unfold stNext sEnd
    rw [trips_eq]
    exact h

/-- The outputs' array, an entry at a time. -/
def oArr (it : ℕ → State Ideal) : (⟨S1x2048x32x128, .f32⟩ : BufTy).Contents (Elt Ideal) := fun y =>
  R_main_v58 (F := Ideal) (it 2048) (q0 m c) (q2 m c) (q5 m c) (q7 m c) (q8 m c) (q9 m c)
    (ix3 (lb (y 3)) (y 1) (hj (lh (y 3)) (lr (y 3) (y 2))))

omit R in
/-- The final state's array, an entry at a time. -/
def sArr (it : ℕ → State Ideal) : (⟨S1x32x64x128, .f32⟩ : BufTy).Contents (Elt Ideal) := fun y =>
  (it 2048).main_v21_7 (ix4 (lb (y 3)) (lh (y 3)) (lr (y 3) (y 1)) (y 2))

theorem oBlk_at (t : Fin cfg0.N) (y : S1x64x32x128.Idx) :
    oBlk m c t y = oArr m c it (ix4 0 ⟨t.val * 64 + (y 1 : ℕ), by have := t_lt t; have : (y 1 : ℕ) < 64 := (y 1).isLt; omega⟩ (y 2) (y 3)) := by
  have hy : y = ix4 0 (y 1) (y 2) (y 3) := by
    funext a
    have h0 : (y 0 : ℕ) < 1 := (y 0).isLt
    fin_cases a
    · exact Fin.ext (Nat.lt_one_iff.1 h0)
    · rfl
    · rfl
    · rfl
  have h := simO R (blk0 m c t) (blk1 m c t) (blk2 m c t) (blk3 m c t) (blk4 m c t) (blk5 m c t) (st_at m c R t.val (Nat.le_of_lt t.isLt))
    (blk7 m c t) (blk8 m c t) (blk9 m c t) (y 1) (y 2) (y 3)
  refine (congrArg (oBlk m c t) hy).trans ?_
  exact h

/-- THE OUTPUTS' ARRAY after the last point. -/
theorem final10 : (dats m 0 c).arrAt 10 (cfgs 0).N = oArr m c it := by
  refine (dats m 0 c).arrAt_eq_of_covers 10 _ (by decide +kernel) fun t hf y => ?_
  blk_simp
  rw [after0_10, oBlk_at m c R t]
  congr 1
  blk_ext [idx t]

/-- THE FINAL STATE'S ARRAY after the last point. -/
theorem final11 : (dats m 0 c).arrAt 11 (cfgs 0).N = sArr it := by
  refine (dats m 0 c).arrAt_eq_of_covers 11 _ (by decide +kernel) fun t hf y => ?_
  have ht : t.val = 31 := by
    by_contra h
    exact absurd hf (by rw [noFlush11 t h]; exact Bool.false_ne_true)
  have h := st_at m c R (t.val + 1) t.isLt
  have e : (t.val + 1) * 64 = 2048 := by omega
  rw [e] at h
  blk_simp
  rw [after0_11]
  have hy : y = ix4 0 (y 1) (y 2) (y 3) := by
    funext a
    have h0 : (y 0 : ℕ) < 1 := (y 0).isLt
    fin_cases a
    · exact Fin.ext (Nat.lt_one_iff.1 h0)
    · rfl
    · rfl
    · rfl
  refine (congrArg (k0_pay2 (F := Ideal) (stB m c (t.val + 1) t.isLt)) hy).trans ?_
  refine (pay2_at _ (y 1) (y 2) (y 3)).trans ((h (y 1) (y 2) (y 3)).trans ?_)
  refine Eq.trans (b := sArr it (ix4 0 (y 1) (y 2) (y 3))) rfl ?_
  congr 1
  blk_ext [idx t]
end runs

/-! ## The lanes of a batch entry, a head and a row -/

theorem lb_ln (b : Fin 4) (h : Fin 16) (i : Fin 64) : lb (ln b h i) = b :=
  Fin.ext (by show (i.val / 32 * 64 + b.val * 16 + h.val) % 64 / 16 = b.val; have := b.isLt; have := h.isLt; omega)
theorem lh_ln (b : Fin 4) (h : Fin 16) (i : Fin 64) : lh (ln b h i) = h :=
  Fin.ext (by show (i.val / 32 * 64 + b.val * 16 + h.val) % 16 = h.val; have := b.isLt; have := h.isLt; omega)
theorem lr_ln (b : Fin 4) (h : Fin 16) (i : Fin 64) : lr (ln b h i) (il i) = i :=
  Fin.ext (by show (i.val / 32 * 64 + b.val * 16 + h.val) / 64 * 32 + i.val % 32 = i.val; have := b.isLt; have := h.isLt; omega)

/-- An index of the outputs is a batch entry, a time, and a column of a head. -/
theorem ix_col (y : S4x2048x1024.Idx) :
    ∃ (b : Fin 4) (t : Fin 2048) (h : Fin 16) (i : Fin 64), y = ix3 b t (⟨h.val * 64 + i.val, by omega⟩ : Fin 1024) := by
  have h2 : (y 2 : ℕ) < 1024 := (y 2).isLt
  refine ⟨y 0, y 1, ⟨(y 2 : ℕ) / 64, by omega⟩, ⟨(y 2 : ℕ) % 64, by omega⟩, ?_⟩
  funext a
  fin_cases a
  · rfl
  · rfl
  · exact Fin.ext (by show (y 2 : ℕ) = (y 2 : ℕ) / 64 * 64 + (y 2 : ℕ) % 64; omega)

/-- An index of the state, by its four coordinates. -/
theorem ix_four (y : S4x16x64x64.Idx) : ∃ (b : Fin 4) (h : Fin 16) (i j : Fin 64), y = ix4 b h i j :=
  ⟨y 0, y 1, y 2, y 3, by funext a; fin_cases a <;> rfl⟩

/-! ## The lines after the region -/

theorem tail50 : Pipeline.afterTail₀ cfgs (dats m) 0 (V0 m) [hostOps1] c main_v50 = backO ((dats m 0 c).arrAt 10 (cfgs 0).N) := by
  have e := Pipeline.withArrays_arr spec0 launch0.win.arr_inj c (V0 m c) (fun w => (dats m 0 c).arrAt w (cfgs 0).N) 10
  unfold Pipeline.afterTail₀
  show StableHlo.after hostOps1 _ (Proc.devRef .tc main_v50) = _
  unfold hostOps1
  after_results
  exact congrArg backO e

theorem tail53 : Pipeline.afterTail₀ cfgs (dats m) 0 (V0 m) [hostOps1] c main_v53 = backS ((dats m 0 c).arrAt 11 (cfgs 0).N) := by
  have e := Pipeline.withArrays_arr spec0 launch0.win.arr_inj c (V0 m c) (fun w => (dats m 0 c).arrAt w (cfgs 0).N) 11
  unfold Pipeline.afterTail₀
  show StableHlo.after hostOps1 _ (Proc.devRef .tc main_v53) = _
  unfold hostOps1
  after_results
  exact congrArg backS e

section runs
variable {it : ℕ → State Ideal} (R : Runs (q0 m c) (q1 m c) (q2 m c) (q3 m c) (q4 m c) (q5 m c) (q6 m c) it)
include R

theorem out50 : Pipeline.afterTail₀ cfgs (dats m) 0 (V0 m) [hostOps1] c main_v50
    = R_main_v58 (F := Ideal) (it 2048) (q0 m c) (q2 m c) (q5 m c) (q7 m c) (q8 m c) (q9 m c) := by
  rw [tail50, final10 m c R]
  funext y
  obtain ⟨b, t, h, i, rfl⟩ := ix_col y
  refine (backO_at _ b t h i).trans ?_
  show R_main_v58 (F := Ideal) (it 2048) (q0 m c) (q2 m c) (q5 m c) (q7 m c) (q8 m c) (q9 m c)
    (ix3 (lb (ln b h i)) t (hj (lh (ln b h i)) (lr (ln b h i) (il i)))) = _
  rw [lb_ln, lh_ln, lr_ln]

theorem out53 : Pipeline.afterTail₀ cfgs (dats m) 0 (V0 m) [hostOps1] c main_v53 = (it 2048).main_v21_7 := by
  rw [tail53, final11 m c R]
  funext y
  obtain ⟨b, h, i, j, rfl⟩ := ix_four y
  refine (backS_at _ b h i j).trans ?_
  show (it 2048).main_v21_7 (ix4 (lb (ln b h i)) (lh (ln b h i)) (lr (ln b h i) (il i)) j) = _
  rw [lb_ln, lh_ln, lr_ln]
end runs

/-! ## The reference's states, and the two runs -/

/-- The reference's state after `n` trips, from the initial one. -/
def trips (s0 : State Ideal) : ℕ → State Ideal
  | 0 => s0
  | n + 1 => step n (trips s0 n)

/-- THE KERNEL'S RUN: its two results are the reference's, from the reference's states. -/
theorem run_value (g : Dev nD → PrngReg) (it : Dev nD → ℕ → State Ideal)
    (R : ∀ c, Runs (q0 m c) (q1 m c) (q2 m c) (q3 m c) (q4 m c) (q5 m c) (q6 m c) (it c)) :
    θ_run (defs (F := Ideal)) (onTc (τ := τ) (main (F := Ideal))) ⟨m, fun _ => 0, g⟩ (fun r => ∀ c : Dev nD,
      r.2.mem ((c.tc : Thread nD τ).loc main_v50)
          = R_main_v58 (F := Ideal) (it c 2048) (q0 m c) (q2 m c) (q5 m c) (q7 m c) (q8 m c) (q9 m c)
      ∧ r.2.mem ((c.tc : Thread nD τ).loc main_v53) = (it c 2048).main_v21_7) := by
  refine (θ_run defs _ _).mono (fun r h c => ⟨?_, ?_⟩) (run_main (F := Ideal) m g)
  · exact ((h c).2 main_v50 (Pipeline.mem_restRefs_of main_v50 (by decide) (by decide))).trans (out50 m c (R c))
  · exact ((h c).2 main_v53 (Pipeline.mem_restRefs_of main_v53 (by decide) (by decide))).trans (out53 m c (R c))

end Cert.KernelIdeal.Scan

end
-- ==== Proof.ProjPure.lean ====
/-
# The input projection: the two column orders

The kernel multiplies by the columns in another order, with zero columns at the end; the reference by `w_in` itself.
Here: where a column of the one lies in the other, and which entry each result of either program is.
-/
module

public import proofs.«01_k».proof.Proof.Gen.Kernel3Ideal.Frame
public import proofs.«01_k».proof.Proof.Gen.Reference3Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel3Ideal.Proj

open Cert.Kernel3Ideal Cert.Kernel3Ideal.Gen
open Cert.Reference3Ideal.Read

/-- The weights as the kernel takes them: queries, recurrence columns, keys and values, low-rank columns, gates, zeros. -/
def permW (w : (⟨S2048x5936, .f32⟩ : BufTy).Contents (Elt Ideal)) : (⟨S2048x6144, .bf16⟩ : BufTy).Contents (Elt Ideal) :=
  truncf .bf16 (concatenate S2048x6144 1
    [⟨S2048x1024, extractStridedSlice S2048x1024 ![0, 3328] w slices_S2048x5936_S2048x1024_0_3328⟩,
     ⟨S2048x3072, extractStridedSlice S2048x3072 ![0, 0] w slices_S2048x5936_S2048x3072_0_0⟩,
     ⟨S2048x1536, extractStridedSlice S2048x1536 ![0, 4352] w slices_S2048x5936_S2048x1536_0_4352⟩,
     ⟨S2048x256, extractStridedSlice S2048x256 ![0, 3072] w slices_S2048x5936_S2048x256_0_3072⟩,
     ⟨S2048x48, extractStridedSlice S2048x48 ![0, 5888] w slices_S2048x5936_S2048x48_0_5888⟩,
     ⟨S2048x208, broadcastInDim S2048x208 ![] bcast_S_S2048x208 (constant (F := Ideal) S_ .f32 0x00000000#32)⟩]
    concatenates_S2048x1024_S2048x3072_S2048x1536_S2048x256_S2048x48_S2048x208_S2048x6144_d1) bitsLt_bf16_f32

variable (w : (⟨S2048x5936, .f32⟩ : BufTy).Contents (Elt Ideal)) (k : Fin 2048)

/-- Two columns of equal number hold the same entry. -/
theorem colAt {a b : ℕ} {ha : a < 5936} {hb : b < 5936} (h : a = b) : w (ix2 k ⟨a, ha⟩) = w (ix2 k ⟨b, hb⟩) := by
  subst h; rfl

theorem permW_q (j : Fin 1024) :
    permW w (ix2 k ⟨j.val, by have := j.isLt; omega⟩) = w (ix2 k ⟨3328 + j.val, by have := j.isLt; omega⟩) := by
  pointwise [permW]

theorem permW_r (j : Fin 3072) :
    permW w (ix2 k ⟨1024 + j.val, by have := j.isLt; omega⟩) = w (ix2 k ⟨j.val, by have := j.isLt; omega⟩) := by
  pointwise [permW]

theorem permW_kv (j : Fin 1536) :
    permW w (ix2 k ⟨4096 + j.val, by have := j.isLt; omega⟩) = w (ix2 k ⟨4352 + j.val, by have := j.isLt; omega⟩) := by
  obtain ⟨j, hj⟩ := j
  pointwise [permW]
  rw [dif_neg (by omega), dif_neg (by omega), dif_pos (by omega)]
  exact colAt w k (by omega)

theorem permW_l (j : Fin 256) :
    permW w (ix2 k ⟨5632 + j.val, by have := j.isLt; omega⟩) = w (ix2 k ⟨3072 + j.val, by have := j.isLt; omega⟩) := by
  obtain ⟨j, hj⟩ := j
  pointwise [permW]
  rw [dif_neg (by omega), dif_neg (by omega), dif_neg (by omega), dif_pos (by omega)]
  exact colAt w k (by omega)

theorem permW_g (j : Fin 48) :
    permW w (ix2 k ⟨5888 + j.val, by have := j.isLt; omega⟩) = w (ix2 k ⟨5888 + j.val, by have := j.isLt; omega⟩) := by
  obtain ⟨j, hj⟩ := j
  pointwise [permW]
  rw [dif_neg (by omega), dif_neg (by omega), dif_neg (by omega), dif_neg (by omega), dif_pos (by omega)]
  exact colAt w k (by omega)

end Cert.Kernel3Ideal.Proj

end
-- ==== Proof.ProjTail.lean ====
/-
# The input projection: the results as columns of the product

What the lines after the kernel's region, and the reference's lines, read of the product's array.
-/
module

public import proofs.«01_k».proof.Proof.Gen.Kernel3Ideal.Frame
public import proofs.«01_k».proof.Proof.Gen.Reference3Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel3Ideal.Proj

open Cert.Kernel3Ideal Cert.Kernel3Ideal.Gen
open Cert.Reference3Ideal.Read

variable (X : (⟨S8192x6144, .f32⟩ : BufTy).Contents (Elt Ideal))
variable (x : (⟨S4x2048x2048, .f32⟩ : BufTy).Contents (Elt Ideal)) (g : (⟨S2048, .f32⟩ : BufTy).Contents (Elt Ideal))
  (w : (⟨S2048x5936, .f32⟩ : BufTy).Contents (Elt Ideal))

/-- The row of a batch entry and a time. -/
abbrev row (b : Fin 4) (t : Fin 2048) : Fin 8192 := ⟨b.val * 2048 + t.val, by omega⟩

/-- The kernel's lines after the region, one definition a result. -/
def backKv0 : (⟨S4x2048x2x4x64, .f32⟩ : BufTy).Contents (Elt Ideal) :=
  shapeCast S4x2048x2x4x64 (extractStridedSlice S4x2048x512 ![0, 0, 4096]
    (shapeCast S4x2048x6144 X shapeCasts_S8192x6144_S4x2048x6144) slices_S4x2048x6144_S4x2048x512_0_0_4096) shapeCasts_S4x2048x512_S4x2048x2x4x64
def backKv1 : (⟨S4x2048x2x4x64, .f32⟩ : BufTy).Contents (Elt Ideal) :=
  shapeCast S4x2048x2x4x64 (extractStridedSlice S4x2048x512 ![0, 0, 4608]
    (shapeCast S4x2048x6144 X shapeCasts_S8192x6144_S4x2048x6144) slices_S4x2048x6144_S4x2048x512_0_0_4608) shapeCasts_S4x2048x512_S4x2048x2x4x64
def backKv2 : (⟨S4x512x2x4x64, .f32⟩ : BufTy).Contents (Elt Ideal) :=
  extractStridedSlice S4x512x2x4x64 ![0, 1536, 0, 0, 0] (shapeCast S4x2048x2x4x64 (extractStridedSlice S4x2048x512 ![0, 0, 5120]
    (shapeCast S4x2048x6144 X shapeCasts_S8192x6144_S4x2048x6144) slices_S4x2048x6144_S4x2048x512_0_0_5120) shapeCasts_S4x2048x512_S4x2048x2x4x64)
    slices_S4x2048x2x4x64_S4x512x2x4x64_0_1536_0_0_0
def backQ : (⟨S4x2048x1024, .f32⟩ : BufTy).Contents (Elt Ideal) :=
  extractStridedSlice S4x2048x1024 ![0, 0, 0] (shapeCast S4x2048x6144 X shapeCasts_S8192x6144_S4x2048x6144) slices_S4x2048x6144_S4x2048x1024_0_0_0
def backR : (⟨S4x2048x3072, .f32⟩ : BufTy).Contents (Elt Ideal) :=
  extractStridedSlice S4x2048x3072 ![0, 0, 1024] (shapeCast S4x2048x6144 X shapeCasts_S8192x6144_S4x2048x6144) slices_S4x2048x6144_S4x2048x3072_0_0_1024
def backL : (⟨S4x2048x256, .f32⟩ : BufTy).Contents (Elt Ideal) :=
  extractStridedSlice S4x2048x256 ![0, 0, 5632] (shapeCast S4x2048x6144 X shapeCasts_S8192x6144_S4x2048x6144) slices_S4x2048x6144_S4x2048x256_0_0_5632
def backG : (⟨S4x2048x48, .f32⟩ : BufTy).Contents (Elt Ideal) :=
  extractStridedSlice S4x2048x48 ![0, 0, 5888] (shapeCast S4x2048x6144 X shapeCasts_S8192x6144_S4x2048x6144) slices_S4x2048x6144_S4x2048x48_0_0_5888

/-- Two indices of equal coordinates read the same entry. -/
theorem at2 {n k : ℕ} {α : Type} (X : (⟨2, ![n, k]⟩ : Shape).Idx → α) {a a' : Fin n} {b b' : Fin k}
    (h : a.val = a'.val) (h' : b.val = b'.val) : X (ix2 a b) = X (ix2 a' b') := by
  obtain rfl := Fin.ext h; obtain rfl := Fin.ext h'; rfl
@[inherit_doc at2]
theorem at3 {n k l : ℕ} {α : Type} (X : (⟨3, ![n, k, l]⟩ : Shape).Idx → α) {a a' : Fin n} {b b' : Fin k} {c c' : Fin l}
    (h : a.val = a'.val) (h' : b.val = b'.val) (h'' : c.val = c'.val) : X (ix3 a b c) = X (ix3 a' b' c') := by
  obtain rfl := Fin.ext h; obtain rfl := Fin.ext h'; obtain rfl := Fin.ext h''; rfl

/-- A column of one cache part of keys and values. -/
abbrev kvc (n : ℕ) (i : Fin 2) (h : Fin 4) (d : Fin 64) : ℕ := n * 512 + (i.val * 256 + h.val * 64 + d.val)

theorem backKv0_at (b : Fin 4) (t : Fin 2048) (i : Fin 2) (h : Fin 4) (d : Fin 64) :
    backKv0 X (ix5 b t i h d) = X (ix2 (row b t) ⟨4096 + kvc 0 i h d, by unfold kvc; omega⟩) := by
  pointwise [backKv0]
  exact at2 X (by dsimp only <;> omega) (by dsimp only [kvc] <;> omega)
theorem backKv1_at (b : Fin 4) (t : Fin 2048) (i : Fin 2) (h : Fin 4) (d : Fin 64) :
    backKv1 X (ix5 b t i h d) = X (ix2 (row b t) ⟨4096 + kvc 1 i h d, by unfold kvc; omega⟩) := by
  pointwise [backKv1]
  exact at2 X (by dsimp only <;> omega) (by dsimp only [kvc] <;> omega)
theorem backKv2_at (b : Fin 4) (t : Fin 512) (i : Fin 2) (h : Fin 4) (d : Fin 64) :
    backKv2 X (ix5 b t i h d) = X (ix2 (row b ⟨1536 + t.val, by omega⟩) ⟨4096 + kvc 2 i h d, by unfold kvc; omega⟩) := by
  pointwise [backKv2]
  exact at2 X (by dsimp only <;> omega) (by dsimp only [kvc] <;> omega)
theorem backQ_at (b : Fin 4) (t : Fin 2048) (j : Fin 1024) :
    backQ X (ix3 b t j) = X (ix2 (row b t) ⟨j.val, by omega⟩) := by
  pointwise [backQ]
  try exact at2 X (by dsimp only <;> omega) (by dsimp only <;> omega)
theorem backR_at (b : Fin 4) (t : Fin 2048) (j : Fin 3072) :
    backR X (ix3 b t j) = X (ix2 (row b t) ⟨1024 + j.val, by omega⟩) := by
  pointwise [backR]
  try exact at2 X (by dsimp only <;> omega) (by dsimp only <;> omega)
theorem backL_at (b : Fin 4) (t : Fin 2048) (j : Fin 256) :
    backL X (ix3 b t j) = X (ix2 (row b t) ⟨5632 + j.val, by omega⟩) := by
  pointwise [backL]
  try exact at2 X (by dsimp only <;> omega) (by dsimp only <;> omega)
theorem backG_at (b : Fin 4) (t : Fin 2048) (j : Fin 48) :
    backG X (ix3 b t j) = X (ix2 (row b t) ⟨5888 + j.val, by omega⟩) := by
  pointwise [backG]
  try exact at2 X (by dsimp only <;> omega) (by dsimp only <;> omega)

theorem ref18_at (b : Fin 4) (t : Fin 2048) (i : Fin 2) (h : Fin 4) (d : Fin 64) :
    val_main_v18 (F := Ideal) x g w (ix5 b t i h d)
      = val_main_v13 (F := Ideal) x g w (ix3 b t ⟨4352 + kvc 0 i h d, by unfold kvc; omega⟩) := by
  unfold val_main_v18 val_main_v17 val_main_v16 val_main_v15 val_main_v14
  generalize val_main_v13 (F := Ideal) x g w = y
  pointwise
  exact at3 y (by dsimp only <;> omega) (by dsimp only <;> omega) (by dsimp only [kvc] <;> omega)
theorem ref20_at (b : Fin 4) (t : Fin 2048) (i : Fin 2) (h : Fin 4) (d : Fin 64) :
    val_main_v20 (F := Ideal) x g w (ix5 b t i h d)
      = val_main_v13 (F := Ideal) x g w (ix3 b t ⟨4352 + kvc 1 i h d, by unfold kvc; omega⟩) := by
  unfold val_main_v20 val_main_v19 val_main_v16 val_main_v15 val_main_v14
  generalize val_main_v13 (F := Ideal) x g w = y
  pointwise
  exact at3 y (by dsimp only <;> omega) (by dsimp only <;> omega) (by dsimp only [kvc] <;> omega)
theorem ref23_at (b : Fin 4) (t : Fin 512) (i : Fin 2) (h : Fin 4) (d : Fin 64) :
    val_main_v23 (F := Ideal) x g w (ix5 b t i h d)
      = val_main_v13 (F := Ideal) x g w (ix3 b ⟨1536 + t.val, by omega⟩ ⟨4352 + kvc 2 i h d, by unfold kvc; omega⟩) := by
  unfold val_main_v23 val_main_v22 val_main_v21 val_main_v16 val_main_v15 val_main_v14
  generalize val_main_v13 (F := Ideal) x g w = y
  pointwise
  exact at3 y (by dsimp only <;> omega) (by dsimp only <;> omega) (by dsimp only [kvc] <;> omega)
theorem ref24_at (b : Fin 4) (t : Fin 2048) (j : Fin 1024) :
    val_main_v24 (F := Ideal) x g w (ix3 b t j) = val_main_v13 (F := Ideal) x g w (ix3 b t ⟨3328 + j.val, by omega⟩) := by
  unfold val_main_v24 val_main_v14
  generalize val_main_v13 (F := Ideal) x g w = y
  pointwise
  try exact at3 y (by dsimp only) (by dsimp only) (by dsimp only <;> omega)
theorem ref25_at (b : Fin 4) (t : Fin 2048) (j : Fin 3072) :
    val_main_v25 (F := Ideal) x g w (ix3 b t j) = val_main_v13 (F := Ideal) x g w (ix3 b t ⟨j.val, by omega⟩) := by
  unfold val_main_v25
  generalize val_main_v13 (F := Ideal) x g w = y
  pointwise
  try exact at3 y (by dsimp only) (by dsimp only) (by dsimp only <;> omega)
theorem ref26_at (b : Fin 4) (t : Fin 2048) (j : Fin 256) :
    val_main_v26 (F := Ideal) x g w (ix3 b t j) = val_main_v13 (F := Ideal) x g w (ix3 b t ⟨3072 + j.val, by omega⟩) := by
  unfold val_main_v26
  generalize val_main_v13 (F := Ideal) x g w = y
  pointwise
  try exact at3 y (by dsimp only) (by dsimp only) (by dsimp only <;> omega)
theorem ref27_at (b : Fin 4) (t : Fin 2048) (j : Fin 48) :
    val_main_v27 (F := Ideal) x g w (ix3 b t j) = val_main_v13 (F := Ideal) x g w (ix3 b t ⟨5888 + j.val, by omega⟩) := by
  unfold val_main_v27 val_main_v14
  generalize val_main_v13 (F := Ideal) x g w = y
  pointwise
  try exact at3 y (by dsimp only) (by dsimp only) (by dsimp only <;> omega)

end Cert.Kernel3Ideal.Proj

end
-- ==== Proof.ProjValue.lean ====
/-
# The input projection: the kernel's results are the reference's
-/
module

public import proofs.«01_k».proof.Proof.ProjPure
public import proofs.«01_k».proof.Proof.ProjTail

@[expose] public section

set_option maxRecDepth 16384

noncomputable section

open Idealize.ShloMosaic Idealize.ShloMosaic.TcCoe Idealize.ShloMosaic.Tactic Idealize.SL.Sem
open Idealize.ShloMosaic.Pipeline (Dat)

namespace Cert.Kernel3Ideal.Proj

open Cert.Kernel3Ideal Cert.Kernel3Ideal.Gen
open Cert.Reference3Ideal.Read

variable (m : (ℓ : Loc nD τ sig) → Buf (Elt Ideal) ℓ) (c : Dev nD)

/-- The block every window stages at a point: rows move with `t / 6`, columns with `t % 6`. -/
theorem idx : ∀ t : Fin cfg0.N, win0_0.index t = ![t.val / 6, 0] ∧ win0_1.index t = ![0, 0]
    ∧ win0_2.index t = ![0, t.val % 6] ∧ win0_3.index t = ![t.val / 6, t.val % 6] :=
  (by decide +kernel : ∀ t : Fin grid0.N, _)

theorem t_lt (t : Fin cfg0.N) : t.val < 48 := lt_of_lt_of_eq t.isLt N_0

/-- The program's arguments, named. -/
abbrev ax : (⟨S4x2048x2048, .f32⟩ : BufTy).Contents (Elt Ideal) := m ((c : Thread nD τ).loc main_arg0)
abbrev ag : (⟨S2048, .f32⟩ : BufTy).Contents (Elt Ideal) := m ((c : Thread nD τ).loc main_arg1)
abbrev aw : (⟨S2048x5936, .f32⟩ : BufTy).Contents (Elt Ideal) := m ((c : Thread nD τ).loc main_arg2)

/-! ## The arrays the region takes, and their blocks -/

theorem V_7 : V m c main_v7 = permW (aw m c) := by
  show StableHlo.after hostOps0 (fun b => m (c, b)) (Proc.devRef .tc main_v7) = _
  unfold hostOps0
  after_results
  try rfl

theorem V_8 : V m c main_v8 = shapeCast S8192x2048 (ax m c) shapeCasts_S4x2048x2048_S8192x2048 := by
  show StableHlo.after hostOps0 (fun b => m (c, b)) (Proc.devRef .tc main_v8) = _
  unfold hostOps0
  after_results
  try rfl

theorem V_9 : V m c main_v9 = shapeCast S1x2048 (ag m c) shapeCasts_S2048_S1x2048 := by
  show StableHlo.after hostOps0 (fun b => m (c, b)) (Proc.devRef .tc main_v9) = _
  unfold hostOps0
  after_results
  try rfl

theorem layX_at (x : (⟨S4x2048x2048, .f32⟩ : BufTy).Contents (Elt Ideal)) (r : Fin 8192) (k : Fin 2048) :
    shapeCast S8192x2048 x shapeCasts_S4x2048x2048_S8192x2048 (ix2 r k)
      = x (ix3 ⟨r.val / 2048, by omega⟩ ⟨r.val % 2048, by omega⟩ k) := by
  pointwise
  try exact at3 x (by dsimp only <;> omega) (by dsimp only <;> omega) (by dsimp only <;> omega)

theorem layG_at (g : (⟨S2048, .f32⟩ : BufTy).Contents (Elt Ideal)) (k : Fin 2048) :
    shapeCast S1x2048 g shapeCasts_S2048_S1x2048 (ix2 0 k) = g (ix1 k) := by
  pointwise

theorem blk0 (t : Fin cfg0.N) (hq : t.val / 6 < 8) (r : Fin 1024) (k : Fin 2048) :
    iblk m c 0 t (ix2 r k) = ax m c (ix3 ⟨(t.val / 6 * 1024 + r.val) / 2048, by omega⟩ ⟨(t.val / 6 * 1024 + r.val) % 2048, by omega⟩ k) := by
  have e : iblk m c 0 t (ix2 r k) = V m c main_v8 (ix2 ⟨t.val / 6 * 1024 + r.val, by omega⟩ k) := by blk_ext [iblk, idx t]
  rw [e, V_8]
  exact layX_at _ _ _

theorem blk1 (t : Fin cfg0.N) (k : Fin 2048) : iblk m c 1 t (ix2 0 k) = ag m c (ix1 k) := by
  have e : iblk m c 1 t (ix2 0 k) = V m c main_v9 (ix2 0 k) := by blk_ext [iblk, idx t]
  rw [e, V_9]
  exact layG_at _ _

theorem blk2 (t : Fin cfg0.N) (hs : t.val % 6 < 6) (k : Fin 2048) (j : Fin 1024) :
    iblk m c 2 t (ix2 k j) = permW (aw m c) (ix2 k ⟨t.val % 6 * 1024 + j.val, by omega⟩) := by
  have e : iblk m c 2 t (ix2 k j) = V m c main_v7 (ix2 k ⟨t.val % 6 * 1024 + j.val, by omega⟩) := by blk_ext [iblk, idx t]
  rw [e, V_7]

/-! ## A point's values -/

/-- The reference's index of a row of row block `q`. -/
abbrev rowIx (q : ℕ) (hq : q < 8) (r : Fin 1024) (k : Fin 2048) : S4x2048x2048.Idx :=
  ix3 ⟨(q * 1024 + r.val) / 2048, by omega⟩ ⟨(q * 1024 + r.val) % 2048, by omega⟩ k

theorem rowIx_congr {q q' : ℕ} (h : q = q') (hq : q < 8) (hq' : q' < 8) (r : Fin 1024) (k : Fin 2048) :
    rowIx q hq r k = rowIx q' hq' r k := by subst h; rfl

/-- The normalised rows, from any block of rows of the input. -/
theorem pay1_of (X : Vec Ideal S1024x2048 .f32) (G : Vec Ideal S1x2048 .f32)
    (x : (⟨S4x2048x2048, .f32⟩ : BufTy).Contents (Elt Ideal)) (g : (⟨S2048, .f32⟩ : BufTy).Contents (Elt Ideal))
    (a : Fin 4) (b : Fin 2048) (r : Fin 1024) (hX : ∀ k, X (ix2 r k) = x (ix3 a b k)) (hG : ∀ k, G (ix2 0 k) = g (ix1 k)) (k : Fin 2048) :
    k0_pay1 (F := Ideal) X G (ix2 r k) = val_main_v12 (F := Ideal) x g (ix3 a b k) := by
  pointwise [k0_pay1, val_main_v12, val_main_v11, val_main_v10, val_main_v9, val_main_v8, val_main_v7, val_main_v6,
    val_main_v5, val_main_v4, val_main_v3, val_main_v2, val_main_v1, val_main_v0, val_main_cst, val_main_cst_0, val_main_cst_1]
  simp only [hX, hG]

theorem pay1_at (t : Fin cfg0.N) (hq : t.val / 6 < 8) (r : Fin 1024) (k : Fin 2048) :
    k0_pay1 (F := Ideal) (iblk m c 0 t) (iblk m c 1 t) (ix2 r k) = val_main_v12 (F := Ideal) (ax m c) (ag m c) (rowIx (t.val / 6) hq r k) :=
  pay1_of _ _ _ _ _ _ r (fun k => blk0 m c t hq r k) (fun k => blk1 m c t k) k

/-- A point's product. -/
theorem pay2_at (t : Fin cfg0.N) (hs : t.val % 6 < 6) (h : Vec Ideal S1024x2048 .bf16) (r : Fin 1024) (j : Fin 1024) :
    k0_pay2 (F := Ideal) h (iblk m c 2 t) (ix2 r j)
      = ∑ k : Fin 2048, h (ix2 r k) * permW (aw m c) (ix2 k ⟨t.val % 6 * 1024 + j.val, by omega⟩) := by
  have hw := blk2 m c t hs
  generalize iblk m c 2 t = W at hw
  pointwise [k0_pay2]
  exact Finset.sum_congr rfl fun k _ => by rw [hw]

/-- A carried scratch read back is what the point before left. -/
theorem carry0 (X : Vec Ideal S1024x2048 .bf16) (h : scM0_0.IsWhole) :
    View.read (Elt Ideal) (View.whole cc0_scratch0) (h.unread X) = X := h.read_unread X

/-- After every point the scratch holds the normalised rows of the point's row block. -/
theorem h_at : ∀ (n : ℕ) (hn : n < cfg0.N) (hq : n / 6 < 8) (r : Fin 1024) (k : Fin 2048),
    (outsAt0 m c n hn).2 (ix2 r k) = val_main_v12 (F := Ideal) (ax m c) (ag m c) (rowIx (n / 6) hq r k) := by
  intro n
  induction n with
  | zero =>
    intro hn hq r k
    rw [outsAt0_A m c ⟨0, hn⟩ (Nat.zero_mod _)]
    frame_out
    exact pay1_at m c ⟨0, hn⟩ hq r k
  | succ n ih =>
    intro hn hq r k
    by_cases h0 : (n + 1) % 6 = 0
    · rw [outsAt0_A m c ⟨n + 1, hn⟩ h0]
      frame_out
      exact pay1_at m c ⟨n + 1, hn⟩ hq r k
    · have e : (n + 1) / 6 = n / 6 := by omega
      rw [outsAt0_B m c ⟨n + 1, hn⟩ h0]
      unfold sout0_B_0
      exact Eq.trans (ih (Nat.lt_of_succ_lt hn) (by omega) r k) (congrArg _ (rowIx_congr e.symm _ _ r k))

/-- The product's array, an entry at a time. -/
def prod (x : (⟨S4x2048x2048, .f32⟩ : BufTy).Contents (Elt Ideal)) (g : (⟨S2048, .f32⟩ : BufTy).Contents (Elt Ideal))
    (w : (⟨S2048x5936, .f32⟩ : BufTy).Contents (Elt Ideal)) : (⟨S8192x6144, .f32⟩ : BufTy).Contents (Elt Ideal) := fun y =>
  ∑ k : Fin 2048, val_main_v12 (F := Ideal) x g (ix3 ⟨(y 0 : ℕ) / 2048, by have : (y 0 : ℕ) < 8192 := (y 0).isLt; omega⟩
    ⟨(y 0 : ℕ) % 2048, by omega⟩ k) * permW w (ix2 k (y 1))

/-- What a point leaves in the output's block. -/
theorem out_at (t : Fin cfg0.N) (hq : t.val / 6 < 8) (hs : t.val % 6 < 6) (r : Fin 1024) (j : Fin 1024) :
    (outsAt0 m c t.val t.isLt).1 (ix2 r j)
      = prod (ax m c) (ag m c) (aw m c) (ix2 ⟨t.val / 6 * 1024 + r.val, by omega⟩ ⟨t.val % 6 * 1024 + j.val, by omega⟩) := by
  by_cases h0 : t.val % 6 = 0
  · rw [outsAt0_A m c t h0]
    frame_out
    rw [pay2_at m c t hs]
    exact Finset.sum_congr rfl fun k _ => by rw [pay1_at m c t hq]; rfl
  · rw [outsAt0_B m c t h0]
    frame_out
    rw [pay2_at m c t hs, carry0]
    have e : (t.val - 1) / 6 = t.val / 6 := by omega
    refine Finset.sum_congr rfl fun k _ => ?_
    rw [h_at m c (t.val - 1) _ (by omega) r k]
    exact congrArg (· * _) (congrArg _ (rowIx_congr e _ hq r k))

/-- THE PRODUCT'S ARRAY after the last point. -/
theorem final3 : (dats m 0 c).arrAt 3 (cfgs 0).N = prod (ax m c) (ag m c) (aw m c) := by
  refine (dats m 0 c).arrAt_eq_of_covers 3 _ (by decide +kernel) fun t hf y => ?_
  have hl := t_lt t
  have hy : y = ix2 (y 0) (y 1) := by funext a; fin_cases a <;> rfl
  blk_simp
  rw [after0_3]
  refine (congrArg (outsAt0 m c t.val t.isLt).1 hy).trans ((out_at m c t (by omega) (by omega) (y 0) (y 1)).trans ?_)
  congr 1
  blk_ext [idx t]

/-- The product's entry at a column of the kernel's order is the reference's at the same column of its own. -/
theorem prod_at (x : (⟨S4x2048x2048, .f32⟩ : BufTy).Contents (Elt Ideal)) (g : (⟨S2048, .f32⟩ : BufTy).Contents (Elt Ideal))
    (w : (⟨S2048x5936, .f32⟩ : BufTy).Contents (Elt Ideal)) (b : Fin 4) (t : Fin 2048) (j' : Fin 6144) (j : Fin 5936)
    (hw : ∀ k : Fin 2048, permW w (ix2 k j') = w (ix2 k j)) :
    prod x g w (ix2 (row b t) j') = val_main_v13 (F := Ideal) x g w (ix3 b t j) := by
  rw [val_main_v13_apply]
  refine Finset.sum_congr rfl fun k _ => ?_
  refine congrArg₂ (· * ·) ?_ ?_
  · have e : (ix3 ⟨(b.val * 2048 + t.val) / 2048, by omega⟩ ⟨(b.val * 2048 + t.val) % 2048, by omega⟩ k : S4x2048x2048.Idx)
        = lidx_main_v13 (ix3 b t j) k := by
      funext a
      match a with
      | ⟨0, _⟩ => exact Fin.ext (by show (b.val * 2048 + t.val) / 2048 = b.val; omega)
      | ⟨1, _⟩ => exact Fin.ext (by show (b.val * 2048 + t.val) % 2048 = t.val; omega)
      | ⟨2, _⟩ => rfl
    exact congrArg _ e
  · refine (hw k).trans ?_
    have e : (ix2 k j : S2048x5936.Idx) = ridx_main_v13 (ix3 b t j) k := by
      funext a
      match a with
      | ⟨0, _⟩ => rfl
      | ⟨1, _⟩ => rfl
    exact congrArg _ e

/-! ## The lines after the region -/

theorem tail15 : Pipeline.afterTail₀ cfgs (dats m) 0 (V0 m) [hostOps1] c main_v15 = backKv0 ((dats m 0 c).arrAt 3 (cfgs 0).N) := by
  have e := Pipeline.withArrays_arr spec0 launch0.win.arr_inj c (V0 m c) (fun w => (dats m 0 c).arrAt w (cfgs 0).N) 3
  unfold Pipeline.afterTail₀
  show StableHlo.after hostOps1 _ (Proc.devRef .tc main_v15) = _
  unfold hostOps1
  after_results
  exact congrArg backKv0 e
theorem tail16 : Pipeline.afterTail₀ cfgs (dats m) 0 (V0 m) [hostOps1] c main_v16 = backKv1 ((dats m 0 c).arrAt 3 (cfgs 0).N) := by
  have e := Pipeline.withArrays_arr spec0 launch0.win.arr_inj c (V0 m c) (fun w => (dats m 0 c).arrAt w (cfgs 0).N) 3
  unfold Pipeline.afterTail₀
  show StableHlo.after hostOps1 _ (Proc.devRef .tc main_v16) = _
  unfold hostOps1
  after_results
  exact congrArg backKv1 e
theorem tail18 : Pipeline.afterTail₀ cfgs (dats m) 0 (V0 m) [hostOps1] c main_v18 = backKv2 ((dats m 0 c).arrAt 3 (cfgs 0).N) := by
  have e := Pipeline.withArrays_arr spec0 launch0.win.arr_inj c (V0 m c) (fun w => (dats m 0 c).arrAt w (cfgs 0).N) 3
  unfold Pipeline.afterTail₀
  show StableHlo.after hostOps1 _ (Proc.devRef .tc main_v18) = _
  unfold hostOps1
  after_results
  exact congrArg backKv2 e
theorem tail19 : Pipeline.afterTail₀ cfgs (dats m) 0 (V0 m) [hostOps1] c main_v19 = backQ ((dats m 0 c).arrAt 3 (cfgs 0).N) := by
  have e := Pipeline.withArrays_arr spec0 launch0.win.arr_inj c (V0 m c) (fun w => (dats m 0 c).arrAt w (cfgs 0).N) 3
  unfold Pipeline.afterTail₀
  show StableHlo.after hostOps1 _ (Proc.devRef .tc main_v19) = _
  unfold hostOps1
  after_results
  exact congrArg backQ e
theorem tail20 : Pipeline.afterTail₀ cfgs (dats m) 0 (V0 m) [hostOps1] c main_v20 = backR ((dats m 0 c).arrAt 3 (cfgs 0).N) := by
  have e := Pipeline.withArrays_arr spec0 launch0.win.arr_inj c (V0 m c) (fun w => (dats m 0 c).arrAt w (cfgs 0).N) 3
  unfold Pipeline.afterTail₀
  show StableHlo.after hostOps1 _ (Proc.devRef .tc main_v20) = _
  unfold hostOps1
  after_results
  exact congrArg backR e
theorem tail21 : Pipeline.afterTail₀ cfgs (dats m) 0 (V0 m) [hostOps1] c main_v21 = backL ((dats m 0 c).arrAt 3 (cfgs 0).N) := by
  have e := Pipeline.withArrays_arr spec0 launch0.win.arr_inj c (V0 m c) (fun w => (dats m 0 c).arrAt w (cfgs 0).N) 3
  unfold Pipeline.afterTail₀
  show StableHlo.after hostOps1 _ (Proc.devRef .tc main_v21) = _
  unfold hostOps1
  after_results
  exact congrArg backL e
theorem tail22 : Pipeline.afterTail₀ cfgs (dats m) 0 (V0 m) [hostOps1] c main_v22 = backG ((dats m 0 c).arrAt 3 (cfgs 0).N) := by
  have e := Pipeline.withArrays_arr spec0 launch0.win.arr_inj c (V0 m c) (fun w => (dats m 0 c).arrAt w (cfgs 0).N) 3
  unfold Pipeline.afterTail₀
  show StableHlo.after hostOps1 _ (Proc.devRef .tc main_v22) = _
  unfold hostOps1
  after_results
  exact congrArg backG e

/-! ## The results -/

theorem kv_col (w : (⟨S2048x5936, .f32⟩ : BufTy).Contents (Elt Ideal)) (k : Fin 2048) (n : ℕ) (hn : n < 3) (i : Fin 2) (h : Fin 4) (d : Fin 64) :
    permW w (ix2 k ⟨4096 + kvc n i h d, by unfold kvc; omega⟩) = w (ix2 k ⟨4352 + kvc n i h d, by unfold kvc; omega⟩) :=
  permW_kv w k ⟨kvc n i h d, by unfold kvc; omega⟩

theorem ix_kv (y : S4x2048x2x4x64.Idx) : ∃ (b : Fin 4) (t : Fin 2048) (i : Fin 2) (h : Fin 4) (d : Fin 64), y = ix5 b t i h d :=
  ⟨y 0, y 1, y 2, y 3, y 4, by funext a; fin_cases a <;> rfl⟩
theorem ix_win (y : S4x512x2x4x64.Idx) : ∃ (b : Fin 4) (t : Fin 512) (i : Fin 2) (h : Fin 4) (d : Fin 64), y = ix5 b t i h d :=
  ⟨y 0, y 1, y 2, y 3, y 4, by funext a; fin_cases a <;> rfl⟩
theorem ix_three {n : ℕ} (y : (⟨3, ![4, 2048, n]⟩ : Shape).Idx) : ∃ (b : Fin 4) (t : Fin 2048) (j : Fin n), y = ix3 b t j :=
  ⟨y 0, y 1, y 2, by funext a; fin_cases a <;> rfl⟩

theorem out15 : Pipeline.afterTail₀ cfgs (dats m) 0 (V0 m) [hostOps1] c main_v15 = val_main_v18 (F := Ideal) (ax m c) (ag m c) (aw m c) := by
  rw [tail15, final3]
  funext y
  obtain ⟨b, t, i, h, d, rfl⟩ := ix_kv y
  exact ((backKv0_at _ b t i h d).trans (prod_at _ _ _ b t _ _ fun k => kv_col _ k 0 (by decide) i h d)).trans (ref18_at _ _ _ b t i h d).symm
theorem out16 : Pipeline.afterTail₀ cfgs (dats m) 0 (V0 m) [hostOps1] c main_v16 = val_main_v20 (F := Ideal) (ax m c) (ag m c) (aw m c) := by
  rw [tail16, final3]
  funext y
  obtain ⟨b, t, i, h, d, rfl⟩ := ix_kv y
  exact ((backKv1_at _ b t i h d).trans (prod_at _ _ _ b t _ _ fun k => kv_col _ k 1 (by decide) i h d)).trans (ref20_at _ _ _ b t i h d).symm
theorem out18 : Pipeline.afterTail₀ cfgs (dats m) 0 (V0 m) [hostOps1] c main_v18 = val_main_v23 (F := Ideal) (ax m c) (ag m c) (aw m c) := by
  rw [tail18, final3]
  funext y
  obtain ⟨b, t, i, h, d, rfl⟩ := ix_win y
  exact ((backKv2_at _ b t i h d).trans (prod_at _ _ _ b _ _ _ fun k => kv_col _ k 2 (by decide) i h d)).trans (ref23_at _ _ _ b t i h d).symm
theorem out19 : Pipeline.afterTail₀ cfgs (dats m) 0 (V0 m) [hostOps1] c main_v19 = val_main_v24 (F := Ideal) (ax m c) (ag m c) (aw m c) := by
  rw [tail19, final3]
  funext y
  obtain ⟨b, t, j, rfl⟩ := ix_three y
  exact ((backQ_at _ b t j).trans (prod_at _ _ _ b t _ _ fun k => permW_q _ k j)).trans (ref24_at _ _ _ b t j).symm
theorem out20 : Pipeline.afterTail₀ cfgs (dats m) 0 (V0 m) [hostOps1] c main_v20 = val_main_v25 (F := Ideal) (ax m c) (ag m c) (aw m c) := by
  rw [tail20, final3]
  funext y
  obtain ⟨b, t, j, rfl⟩ := ix_three y
  exact ((backR_at _ b t j).trans (prod_at _ _ _ b t _ _ fun k => permW_r _ k j)).trans (ref25_at _ _ _ b t j).symm
theorem out21 : Pipeline.afterTail₀ cfgs (dats m) 0 (V0 m) [hostOps1] c main_v21 = val_main_v26 (F := Ideal) (ax m c) (ag m c) (aw m c) := by
  rw [tail21, final3]
  funext y
  obtain ⟨b, t, j, rfl⟩ := ix_three y
  exact ((backL_at _ b t j).trans (prod_at _ _ _ b t _ _ fun k => permW_l _ k j)).trans (ref26_at _ _ _ b t j).symm
theorem out22 : Pipeline.afterTail₀ cfgs (dats m) 0 (V0 m) [hostOps1] c main_v22 = val_main_v27 (F := Ideal) (ax m c) (ag m c) (aw m c) := by
  rw [tail22, final3]
  funext y
  obtain ⟨b, t, j, rfl⟩ := ix_three y
  exact ((backG_at _ b t j).trans (prod_at _ _ _ b t _ _ fun k => permW_g _ k j)).trans (ref27_at _ _ _ b t j).symm

/-- THE KERNEL'S RUN: its seven results are the reference's. -/
theorem run_value (g : Dev nD → PrngReg) :
    θ_run (defs (F := Ideal)) (onTc (τ := τ) (main (F := Ideal))) ⟨m, fun _ => 0, g⟩ (fun r => ∀ c : Dev nD,
      r.2.mem ((c.tc : Thread nD τ).loc main_v15) = val_main_v18 (F := Ideal) (ax m c) (ag m c) (aw m c)
      ∧ r.2.mem ((c.tc : Thread nD τ).loc main_v16) = val_main_v20 (F := Ideal) (ax m c) (ag m c) (aw m c)
      ∧ r.2.mem ((c.tc : Thread nD τ).loc main_v18) = val_main_v23 (F := Ideal) (ax m c) (ag m c) (aw m c)
      ∧ r.2.mem ((c.tc : Thread nD τ).loc main_v19) = val_main_v24 (F := Ideal) (ax m c) (ag m c) (aw m c)
      ∧ r.2.mem ((c.tc : Thread nD τ).loc main_v20) = val_main_v25 (F := Ideal) (ax m c) (ag m c) (aw m c)
      ∧ r.2.mem ((c.tc : Thread nD τ).loc main_v21) = val_main_v26 (F := Ideal) (ax m c) (ag m c) (aw m c)
      ∧ r.2.mem ((c.tc : Thread nD τ).loc main_v22) = val_main_v27 (F := Ideal) (ax m c) (ag m c) (aw m c)) := by
  refine (θ_run defs _ _).mono (fun r h c => ⟨?_, ?_, ?_, ?_, ?_, ?_, ?_⟩) (run_main (F := Ideal) m g)
  · exact ((h c).2 main_v15 (Pipeline.mem_restRefs_of main_v15 (by decide) (by decide))).trans (out15 m c)
  · exact ((h c).2 main_v16 (Pipeline.mem_restRefs_of main_v16 (by decide) (by decide))).trans (out16 m c)
  · exact ((h c).2 main_v18 (Pipeline.mem_restRefs_of main_v18 (by decide) (by decide))).trans (out18 m c)
  · exact ((h c).2 main_v19 (Pipeline.mem_restRefs_of main_v19 (by decide) (by decide))).trans (out19 m c)
  · exact ((h c).2 main_v20 (Pipeline.mem_restRefs_of main_v20 (by decide) (by decide))).trans (out20 m c)
  · exact ((h c).2 main_v21 (Pipeline.mem_restRefs_of main_v21 (by decide) (by decide))).trans (out21 m c)
  · exact ((h c).2 main_v22 (Pipeline.mem_restRefs_of main_v22 (by decide) (by decide))).trans (out22 m c)

end Cert.Kernel3Ideal.Proj

end
-- ==== Proof.ShiftValue.lean ====
/-
# The shift state: the kernel's two results are the reference's

One gridless launch normalises the rows of both batches, joined and padded; the reference normalises each batch and
takes the last row.
-/
module

public import proofs.«01_k».proof.Proof.Gen.Kernel4Ideal.Frame
public import proofs.«01_k».proof.Proof.Gen.Reference4Ideal.Read
public import Idealize.ShloMosaic.Lib.Pipeline.ValueKit

@[expose] public section

set_option maxRecDepth 16384

noncomputable section

open Idealize.ShloMosaic Idealize.ShloMosaic.TcCoe Idealize.ShloMosaic.Tactic Idealize.SL.Sem
open Idealize.ShloMosaic.Pipeline (Dat)

namespace Cert.Kernel4Ideal.Shift

open Cert.Kernel4Ideal Cert.Kernel4Ideal.Gen
open Cert.Reference4Ideal.Read

variable (m : (ℓ : Loc nD τ sig) → Buf (Elt Ideal) ℓ) (c : Dev nD)

/-- The program's arguments, named. -/
abbrev ap : (⟨S4x2048x2048, .f32⟩ : BufTy).Contents (Elt Ideal) := m ((c : Thread nD τ).loc main_arg0)
abbrev ay : (⟨S32x1x2048, .f32⟩ : BufTy).Contents (Elt Ideal) := m ((c : Thread nD τ).loc main_arg1)
abbrev ag : (⟨S2048, .f32⟩ : BufTy).Contents (Elt Ideal) := m ((c : Thread nD τ).loc main_arg2)

/-- The rows the launch takes: the samples' rows, the prompts' last rows, four rows of padding. -/
def rows (p : (⟨S4x2048x2048, .f32⟩ : BufTy).Contents (Elt Ideal)) (s : (⟨S32x1x2048, .f32⟩ : BufTy).Contents (Elt Ideal)) :
    (⟨S40x2048, .f32⟩ : BufTy).Contents (Elt Ideal) :=
  pad S40x2048 ![0, 0] ![4, 0] ![0, 0]
    (concatenate S36x2048 0
      [⟨S32x2048, shapeCast S32x2048 s shapeCasts_S32x1x2048_S32x2048⟩,
       ⟨S4x2048, shapeCast S4x2048 (extractStridedSlice S4x1x2048 ![0, 2047, 0] p slices_S4x2048x2048_S4x1x2048_0_2047_0) shapeCasts_S4x1x2048_S4x2048⟩]
      concatenates_S32x2048_S4x2048_S36x2048_d0)
    (sitofp (F := Ideal) .f32 (constantI S_ 32 0#32)) pads_S36x2048_S40x2048_040_000 h_S_

theorem V_4 : V m c main_v4 = rows (ap m c) (ay m c) := by
  show StableHlo.after (List.flatten [hostOps0, hostOps0_1, hostOps0_2]) (fun b => m (c, b)) (Proc.devRef .tc main_v4) = _
  unfold hostOps0 hostOps0_1 hostOps0_2
  simp only [List.flatten_cons, List.flatten_nil, List.append_nil, List.cons_append, List.nil_append]
  after_results
  try rfl

theorem V_5 : V m c main_v5 = shapeCast S1x2048 (ag m c) shapeCasts_S2048_S1x2048 := by
  show StableHlo.after (List.flatten [hostOps0, hostOps0_1, hostOps0_2]) (fun b => m (c, b)) (Proc.devRef .tc main_v5) = _
  unfold hostOps0 hostOps0_1 hostOps0_2
  simp only [List.flatten_cons, List.flatten_nil, List.append_nil, List.cons_append, List.nil_append]
  after_results
  try rfl

variable (p : (⟨S4x2048x2048, .f32⟩ : BufTy).Contents (Elt Ideal)) (s : (⟨S32x1x2048, .f32⟩ : BufTy).Contents (Elt Ideal))
  (g : (⟨S2048, .f32⟩ : BufTy).Contents (Elt Ideal))

theorem rows_s (b : Fin 32) (k : Fin 2048) : rows p s (ix2 ⟨b.val, by omega⟩ k) = s (ix3 b 0 k) := by
  have hb := b.isLt
  pointwise [rows]
  rw [dif_pos (by omega)]

theorem rows_p (b : Fin 4) (k : Fin 2048) : rows p s (ix2 ⟨32 + b.val, by omega⟩ k) = p (ix3 b 2047 k) := by
  have hb := b.isLt
  pointwise [rows]
  rw [dif_pos (by omega)]

theorem gain_at (k : Fin 2048) : shapeCast S1x2048 g shapeCasts_S2048_S1x2048 (ix2 0 k) = g (ix1 k) := by
  pointwise

/-- A normalised row, where the row is a sample's. -/
theorem pay_s (X : Vec Ideal S40x2048 .f32) (G : Vec Ideal S1x2048 .f32) (r : Fin 40) (b : Fin 32)
    (hX : ∀ k, X (ix2 r k) = s (ix3 b 0 k)) (hG : ∀ k, G (ix2 0 k) = g (ix1 k)) (k : Fin 2048) :
    k0_pay1 (F := Ideal) X G (ix2 r k) = val_main_v12 (F := Ideal) s g (ix3 b 0 k) := by
  pointwise [k0_pay1, val_main_v12, val_main_v11, val_main_v10, val_main_v9, val_main_v8, val_main_v7, val_main_v6,
    val_main_v5, val_main_v4, val_main_v3, val_main_v2, val_main_v1, val_main_v0, val_main_cst, val_main_cst_0, val_main_cst_1]
  simp only [hX, hG]

/-- A normalised row, where the row is a prompt's. -/
theorem pay_p (X : Vec Ideal S40x2048 .f32) (G : Vec Ideal S1x2048 .f32) (r : Fin 40) (b : Fin 4) (t : Fin 2048)
    (hX : ∀ k, X (ix2 r k) = p (ix3 b t k)) (hG : ∀ k, G (ix2 0 k) = g (ix1 k)) (k : Fin 2048) :
    k0_pay1 (F := Ideal) X G (ix2 r k) = val_main_v26 (F := Ideal) p g (ix3 b t k) := by
  pointwise [k0_pay1, val_main_v26, val_main_v25, val_main_v24, val_main_v23, val_main_v22, val_main_v21, val_main_v20,
    val_main_v19, val_main_v18, val_main_v17, val_main_v16, val_main_v15, val_main_v14, val_main_cst_2, val_main_cst_3, val_main_cst_4]
  simp only [hX, hG]

/-- Both blocks at the one point are the whole arrays. -/
theorem idx : ∀ t : Fin cfg0.N, win0_0.index t = ![0, 0] ∧ win0_1.index t = ![0, 0] ∧ win0_2.index t = ![0, 0] :=
  (by decide +kernel : ∀ t : Fin grid0.N, _)

theorem blk0 (t : Fin cfg0.N) : (iblk m c 0 t : Vec Ideal S40x2048 .f32) = rows (ap m c) (ay m c) := by
  rw [← V_4]
  funext y
  blk_ext [iblk, idx t]
theorem blk1 (t : Fin cfg0.N) : (iblk m c 1 t : Vec Ideal S1x2048 .f32) = shapeCast S1x2048 (ag m c) shapeCasts_S2048_S1x2048 := by
  rw [← V_5]
  funext y
  blk_ext [iblk, idx t]

/-- THE RESULT'S ARRAY: the normalised rows. -/
theorem final2 : (dats m 0 c).arrAt 2 (cfgs 0).N
    = k0_pay1 (F := Ideal) (rows (ap m c) (ay m c)) (shapeCast S1x2048 (ag m c) shapeCasts_S2048_S1x2048) := by
  refine (dats m 0 c).arrAt_eq_of_covers 2 _ (by decide +kernel) fun t hf y => ?_
  have hy : y = ix2 (y 0) (y 1) := by funext a; fin_cases a <;> rfl
  blk_simp
  rw [after0_2]
  unfold out0_2
  frame_out
  refine (congrArg₂ (fun X G => k0_pay1 (F := Ideal) X G y) (blk0 m c t) (blk1 m c t)).trans ?_
  congr 1
  blk_ext [idx t]

theorem tail7 : Pipeline.afterTail₀ cfgs (dats m) 0 (V0 m) [hostOps1] c main_v7
    = extractStridedSlice S32x2048 ![0, 0] ((dats m 0 c).arrAt 2 (cfgs 0).N) slices_S40x2048_S32x2048_0_0 := by
  have e := Pipeline.withArrays_arr spec0 launch0.win.arr_inj c (V0 m c) (fun w => (dats m 0 c).arrAt w (cfgs 0).N) 2
  unfold Pipeline.afterTail₀
  show StableHlo.after hostOps1 _ (Proc.devRef .tc main_v7) = _
  unfold hostOps1
  after_results
  exact congrArg (extractStridedSlice S32x2048 ![0, 0] · slices_S40x2048_S32x2048_0_0) e
theorem tail8 : Pipeline.afterTail₀ cfgs (dats m) 0 (V0 m) [hostOps1] c main_v8
    = extractStridedSlice S4x2048 ![32, 0] ((dats m 0 c).arrAt 2 (cfgs 0).N) slices_S40x2048_S4x2048_32_0 := by
  have e := Pipeline.withArrays_arr spec0 launch0.win.arr_inj c (V0 m c) (fun w => (dats m 0 c).arrAt w (cfgs 0).N) 2
  unfold Pipeline.afterTail₀
  show StableHlo.after hostOps1 _ (Proc.devRef .tc main_v8) = _
  unfold hostOps1
  after_results
  exact congrArg (extractStridedSlice S4x2048 ![32, 0] · slices_S40x2048_S4x2048_32_0) e

theorem top_at (X : (⟨S40x2048, .f32⟩ : BufTy).Contents (Elt Ideal)) (b : Fin 32) (k : Fin 2048) :
    extractStridedSlice S32x2048 ![0, 0] X slices_S40x2048_S32x2048_0_0 (ix2 b k) = X (ix2 ⟨b.val, by omega⟩ k) := by
  pointwise
theorem low_at (X : (⟨S40x2048, .f32⟩ : BufTy).Contents (Elt Ideal)) (b : Fin 4) (k : Fin 2048) :
    extractStridedSlice S4x2048 ![32, 0] X slices_S40x2048_S4x2048_32_0 (ix2 b k) = X (ix2 ⟨32 + b.val, by omega⟩ k) := by
  pointwise

theorem ref13_at (b : Fin 32) (k : Fin 2048) : val_main_v13 (F := Ideal) s g (ix2 b k) = val_main_v12 (F := Ideal) s g (ix3 b 0 k) := by
  unfold val_main_v13
  generalize val_main_v12 (F := Ideal) s g = y
  pointwise
theorem ref28_at (b : Fin 4) (k : Fin 2048) : val_main_v28 (F := Ideal) p g (ix2 b k) = val_main_v26 (F := Ideal) p g (ix3 b 2047 k) := by
  unfold val_main_v28 val_main_v27
  generalize val_main_v26 (F := Ideal) p g = y
  pointwise

theorem ix_two {n k : ℕ} (y : (⟨2, ![n, k]⟩ : Shape).Idx) : ∃ (a : Fin n) (b : Fin k), y = ix2 a b :=
  ⟨y 0, y 1, by funext a; fin_cases a <;> rfl⟩

theorem out7 : Pipeline.afterTail₀ cfgs (dats m) 0 (V0 m) [hostOps1] c main_v7 = val_main_v13 (F := Ideal) (ay m c) (ag m c) := by
  rw [tail7, final2]
  funext y
  obtain ⟨b, k, rfl⟩ := ix_two y
  exact ((top_at _ b k).trans (pay_s _ _ _ _ _ b (fun k => rows_s _ _ b k) (fun k => gain_at _ k) k)).trans (ref13_at _ _ b k).symm
theorem out8 : Pipeline.afterTail₀ cfgs (dats m) 0 (V0 m) [hostOps1] c main_v8 = val_main_v28 (F := Ideal) (ap m c) (ag m c) := by
  rw [tail8, final2]
  funext y
  obtain ⟨b, k, rfl⟩ := ix_two y
  exact ((low_at _ b k).trans (pay_p _ _ _ _ _ b 2047 (fun k => rows_p _ _ b k) (fun k => gain_at _ k) k)).trans (ref28_at _ _ b k).symm

/-- THE KERNEL'S RUN: its two results are the reference's. -/
theorem run_value (r₀ : Dev nD → PrngReg) :
    θ_run (defs (F := Ideal)) (onTc (τ := τ) (main (F := Ideal))) ⟨m, fun _ => 0, r₀⟩ (fun r => ∀ c : Dev nD,
      r.2.mem ((c.tc : Thread nD τ).loc main_v7) = val_main_v13 (F := Ideal) (ay m c) (ag m c)
      ∧ r.2.mem ((c.tc : Thread nD τ).loc main_v8) = val_main_v28 (F := Ideal) (ap m c) (ag m c)) := by
  refine (θ_run defs _ _).mono (fun r h c => ⟨?_, ?_⟩) (run_main (F := Ideal) m r₀)
  · exact ((h c).2 main_v7 (Pipeline.mem_restRefs_of main_v7 (by decide) (by decide))).trans (out7 m c)
  · exact ((h c).2 main_v8 (Pipeline.mem_restRefs_of main_v8 (by decide) (by decide))).trans (out8 m c)

end Cert.Kernel4Ideal.Shift

end
-- ==== Proof.SampleProjTail.lean ====
/-
# The sample step's input projection: the results as columns of the product

What the lines after the kernel's region, and the reference's lines, read of the product's array.
-/
module

public import proofs.«01_k».proof.Proof.ProjPure
public import proofs.«01_k».proof.Proof.ProjTail
public import proofs.«01_k».proof.Proof.Gen.Kernel5Ideal.Frame
public import proofs.«01_k».proof.Proof.Gen.Reference5Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel5Ideal.SProj

open Cert.Kernel5Ideal Cert.Kernel5Ideal.Gen
open Cert.Reference5Ideal.Read
open Cert.Kernel3Ideal.Proj (at2 at3 kvc)

variable (X : (⟨S64x6144, .f32⟩ : BufTy).Contents (Elt Ideal)) (z : (⟨S32x512x2x4x64, .f32⟩ : BufTy).Contents (Elt Ideal))
variable (x : (⟨S32x2048, .f32⟩ : BufTy).Contents (Elt Ideal)) (w : (⟨S2048x5936, .f32⟩ : BufTy).Contents (Elt Ideal))

/-- The kernel's lines after the region, one definition a result. -/
def backKv0 : (⟨S32x1x2x4x64, .f32⟩ : BufTy).Contents (Elt Ideal) :=
  shapeCast S32x1x2x4x64 (extractStridedSlice S32x512 ![0, 4096] X slices_S64x6144_S32x512_0_4096) shapeCasts_S32x512_S32x1x2x4x64
@[inherit_doc backKv0]
def backKv1 : (⟨S32x1x2x4x64, .f32⟩ : BufTy).Contents (Elt Ideal) :=
  shapeCast S32x1x2x4x64 (extractStridedSlice S32x512 ![0, 4608] X slices_S64x6144_S32x512_0_4608) shapeCasts_S32x512_S32x1x2x4x64
@[inherit_doc backKv0]
def backKv2 : (⟨S32x1x2x4x64, .f32⟩ : BufTy).Contents (Elt Ideal) :=
  shapeCast S32x1x2x4x64 (extractStridedSlice S32x512 ![0, 5120] X slices_S64x6144_S32x512_0_5120) shapeCasts_S32x512_S32x1x2x4x64
/-- The window cache moved on by one row: the old rows but the first, then the new one. -/
def moved (v : (⟨S32x1x2x4x64, .f32⟩ : BufTy).Contents (Elt Ideal)) : (⟨S32x512x2x4x64, .f32⟩ : BufTy).Contents (Elt Ideal) :=
  extractStridedSlice S32x512x2x4x64 ![0, 1, 0, 0, 0]
    (concatenate S32x513x2x4x64 1 [⟨S32x512x2x4x64, z⟩, ⟨S32x1x2x4x64, v⟩] concatenates_S32x512x2x4x64_S32x1x2x4x64_S32x513x2x4x64_d1)
    slices_S32x513x2x4x64_S32x512x2x4x64_0_1_0_0_0
def backQ : (⟨S32x1024, .f32⟩ : BufTy).Contents (Elt Ideal) := extractStridedSlice S32x1024 ![0, 0] X slices_S64x6144_S32x1024_0_0
def backR : (⟨S32x3072, .f32⟩ : BufTy).Contents (Elt Ideal) := extractStridedSlice S32x3072 ![0, 1024] X slices_S64x6144_S32x3072_0_1024
def backL : (⟨S32x256, .f32⟩ : BufTy).Contents (Elt Ideal) := extractStridedSlice S32x256 ![0, 5632] X slices_S64x6144_S32x256_0_5632
def backG : (⟨S32x48, .f32⟩ : BufTy).Contents (Elt Ideal) := extractStridedSlice S32x48 ![0, 5888] X slices_S64x6144_S32x48_0_5888
def prevR : (⟨S32x3072, .f32⟩ : BufTy).Contents (Elt Ideal) := extractStridedSlice S32x3072 ![32, 1024] X slices_S64x6144_S32x3072_32_1024
def prevL : (⟨S32x256, .f32⟩ : BufTy).Contents (Elt Ideal) := extractStridedSlice S32x256 ![32, 5632] X slices_S64x6144_S32x256_32_5632

/-- The rows of the product: the samples' new rows first, the rows before them after. -/
abbrev new (b : Fin 32) : Fin 64 := ⟨b.val, by omega⟩
@[inherit_doc new]
abbrev old (b : Fin 32) : Fin 64 := ⟨32 + b.val, by omega⟩

theorem backKv0_at (b : Fin 32) (u : Fin 1) (i : Fin 2) (h : Fin 4) (d : Fin 64) :
    backKv0 X (ix5 b u i h d) = X (ix2 (new b) ⟨4096 + kvc 0 i h d, by unfold kvc; omega⟩) := by
  pointwise [backKv0]
  exact at2 X (by dsimp only <;> omega) (by dsimp only [kvc] <;> omega)
theorem backKv1_at (b : Fin 32) (u : Fin 1) (i : Fin 2) (h : Fin 4) (d : Fin 64) :
    backKv1 X (ix5 b u i h d) = X (ix2 (new b) ⟨4096 + kvc 1 i h d, by unfold kvc; omega⟩) := by
  pointwise [backKv1]
  exact at2 X (by dsimp only <;> omega) (by dsimp only [kvc] <;> omega)
theorem backKv2_at (b : Fin 32) (u : Fin 1) (i : Fin 2) (h : Fin 4) (d : Fin 64) :
    backKv2 X (ix5 b u i h d) = X (ix2 (new b) ⟨4096 + kvc 2 i h d, by unfold kvc; omega⟩) := by
  pointwise [backKv2]
  exact at2 X (by dsimp only <;> omega) (by dsimp only [kvc] <;> omega)
theorem backQ_at (b : Fin 32) (j : Fin 1024) : backQ X (ix2 b j) = X (ix2 (new b) ⟨j.val, by omega⟩) := by
  pointwise [backQ]
theorem backR_at (b : Fin 32) (j : Fin 3072) : backR X (ix2 b j) = X (ix2 (new b) ⟨1024 + j.val, by omega⟩) := by
  pointwise [backR]
theorem backL_at (b : Fin 32) (j : Fin 256) : backL X (ix2 b j) = X (ix2 (new b) ⟨5632 + j.val, by omega⟩) := by
  pointwise [backL]
theorem backG_at (b : Fin 32) (j : Fin 48) : backG X (ix2 b j) = X (ix2 (new b) ⟨5888 + j.val, by omega⟩) := by
  pointwise [backG]
theorem prevR_at (b : Fin 32) (j : Fin 3072) : prevR X (ix2 b j) = X (ix2 (old b) ⟨1024 + j.val, by omega⟩) := by
  pointwise [prevR]
theorem prevL_at (b : Fin 32) (j : Fin 256) : prevL X (ix2 b j) = X (ix2 (old b) ⟨5632 + j.val, by omega⟩) := by
  pointwise [prevL]

theorem ref7_at (b : Fin 32) (u : Fin 1) (i : Fin 2) (h : Fin 4) (d : Fin 64) :
    val_main_v7 (F := Ideal) x w (ix5 b u i h d)
      = val_main_v0 (F := Ideal) x w (ix2 b ⟨4352 + kvc 0 i h d, by unfold kvc; omega⟩) := by
  unfold val_main_v7 val_main_v6 val_main_v5 val_main_v4 val_main_v3
  generalize val_main_v0 (F := Ideal) x w = y
  pointwise
  exact at2 y (by dsimp only <;> omega) (by dsimp only [kvc] <;> omega)
theorem ref9_at (b : Fin 32) (u : Fin 1) (i : Fin 2) (h : Fin 4) (d : Fin 64) :
    val_main_v9 (F := Ideal) x w (ix5 b u i h d)
      = val_main_v0 (F := Ideal) x w (ix2 b ⟨4352 + kvc 1 i h d, by unfold kvc; omega⟩) := by
  unfold val_main_v9 val_main_v8 val_main_v5 val_main_v4 val_main_v3
  generalize val_main_v0 (F := Ideal) x w = y
  pointwise
  exact at2 y (by dsimp only <;> omega) (by dsimp only [kvc] <;> omega)
theorem ref11_at (b : Fin 32) (u : Fin 1) (i : Fin 2) (h : Fin 4) (d : Fin 64) :
    val_main_v11 (F := Ideal) x w (ix5 b u i h d)
      = val_main_v0 (F := Ideal) x w (ix2 b ⟨4352 + kvc 2 i h d, by unfold kvc; omega⟩) := by
  unfold val_main_v11 val_main_v10 val_main_v5 val_main_v4 val_main_v3
  generalize val_main_v0 (F := Ideal) x w = y
  pointwise
  exact at2 y (by dsimp only <;> omega) (by dsimp only [kvc] <;> omega)
theorem ref14_at (b : Fin 32) (j : Fin 1024) :
    val_main_v14 (F := Ideal) x w (ix2 b j) = val_main_v0 (F := Ideal) x w (ix2 b ⟨3328 + j.val, by omega⟩) := by
  unfold val_main_v14 val_main_v3
  generalize val_main_v0 (F := Ideal) x w = y
  pointwise
  try exact at2 y (by dsimp only) (by dsimp only <;> omega)
theorem ref15_at (b : Fin 32) (j : Fin 3072) :
    val_main_v15 (F := Ideal) x w (ix2 b j) = val_main_v0 (F := Ideal) x w (ix2 b ⟨j.val, by omega⟩) := by
  unfold val_main_v15
  generalize val_main_v0 (F := Ideal) x w = y
  pointwise
theorem ref16_at (b : Fin 32) (j : Fin 256) :
    val_main_v16 (F := Ideal) x w (ix2 b j) = val_main_v0 (F := Ideal) x w (ix2 b ⟨3072 + j.val, by omega⟩) := by
  unfold val_main_v16
  generalize val_main_v0 (F := Ideal) x w = y
  pointwise
theorem ref17_at (b : Fin 32) (j : Fin 48) :
    val_main_v17 (F := Ideal) x w (ix2 b j) = val_main_v0 (F := Ideal) x w (ix2 b ⟨5888 + j.val, by omega⟩) := by
  unfold val_main_v17 val_main_v3
  generalize val_main_v0 (F := Ideal) x w = y
  pointwise
  try exact at2 y (by dsimp only) (by dsimp only <;> omega)
theorem ref18_at (b : Fin 32) (j : Fin 3072) :
    val_main_v18 (F := Ideal) x w (ix2 b j) = val_main_v2 (F := Ideal) x w (ix2 b ⟨j.val, by omega⟩) := by
  unfold val_main_v18
  generalize val_main_v2 (F := Ideal) x w = y
  pointwise
theorem ref19_at (b : Fin 32) (j : Fin 256) :
    val_main_v19 (F := Ideal) x w (ix2 b j) = val_main_v2 (F := Ideal) x w (ix2 b ⟨3072 + j.val, by omega⟩) := by
  unfold val_main_v19
  generalize val_main_v2 (F := Ideal) x w = y
  pointwise
/-- The reference's moved cache, in the kernel's words. -/
theorem ref13_eq : val_main_v13 (F := Ideal) x z w = moved z (val_main_v11 (F := Ideal) x w) := rfl
theorem ref1_at (k : Fin 2048) (j : Fin 3328) : val_main_v1 (F := Ideal) w (ix2 k j) = w (ix2 k ⟨j.val, by omega⟩) := by
  pointwise [val_main_v1]

end Cert.Kernel5Ideal.SProj

end
-- ==== Proof.SampleProjValue.lean ====
/-
# The sample step's input projection: the kernel's results are the reference's
-/
module

public import proofs.«01_k».proof.Proof.SampleProjTail
public import proofs.«01_k».proof.Proof.ProjValue

@[expose] public section

set_option maxRecDepth 16384

noncomputable section

open Idealize.ShloMosaic Idealize.ShloMosaic.TcCoe Idealize.ShloMosaic.Tactic Idealize.SL.Sem
open Idealize.ShloMosaic.Pipeline (Dat)

namespace Cert.Kernel5Ideal.SProj

open Cert.Kernel5Ideal Cert.Kernel5Ideal.Gen
open Cert.Reference5Ideal.Read
open Cert.Kernel3Ideal.Proj (at2 at3 kvc permW permW_q permW_r permW_kv permW_l permW_g kv_col)

variable (m : (ℓ : Loc nD τ sig) → Buf (Elt Ideal) ℓ) (c : Dev nD)

/-- The block every window stages at a point: the weights' columns and the product's move with the point. -/
theorem idx : ∀ t : Fin cfg0.N, win0_0.index t = ![0, 0] ∧ win0_2.index t = ![0, t.val] ∧ win0_3.index t = ![0, t.val] :=
  (by decide +kernel : ∀ t : Fin grid0.N, _)

theorem t_lt (t : Fin cfg0.N) : t.val < 6 := lt_of_lt_of_eq t.isLt N_0

/-- The program's arguments, named. -/
abbrev ax : (⟨S32x2048, .f32⟩ : BufTy).Contents (Elt Ideal) := m ((c : Thread nD τ).loc main_arg0)
abbrev ash : (⟨S32x2048, .f32⟩ : BufTy).Contents (Elt Ideal) := m ((c : Thread nD τ).loc main_arg1)
abbrev az : (⟨S32x512x2x4x64, .f32⟩ : BufTy).Contents (Elt Ideal) := m ((c : Thread nD τ).loc main_arg2)
abbrev aw : (⟨S2048x5936, .f32⟩ : BufTy).Contents (Elt Ideal) := m ((c : Thread nD τ).loc main_arg4)

/-- The rows the kernel takes: the new ones, then the ones before them. -/
def rows (a b : (⟨S32x2048, .f32⟩ : BufTy).Contents (Elt Ideal)) : (⟨S64x2048, .f32⟩ : BufTy).Contents (Elt Ideal) :=
  concatenate S64x2048 0 [⟨S32x2048, a⟩, ⟨S32x2048, b⟩] concatenates_S32x2048_S32x2048_S64x2048_d0

theorem V_7 : V m c main_v7 = permW (aw m c) := by
  show StableHlo.after hostOps0 (fun b => m (c, b)) (Proc.devRef .tc main_v7) = _
  unfold hostOps0
  after_results
  try rfl

theorem V_8 : V m c main_v8 = rows (ax m c) (ash m c) := by
  show StableHlo.after hostOps0 (fun b => m (c, b)) (Proc.devRef .tc main_v8) = _
  unfold hostOps0
  after_results
  try rfl

theorem rows_new (a b : (⟨S32x2048, .f32⟩ : BufTy).Contents (Elt Ideal)) (r : Fin 32) (k : Fin 2048) :
    rows a b (ix2 (new r) k) = a (ix2 r k) := by
  have hr := r.isLt
  pointwise [rows]
theorem rows_old (a b : (⟨S32x2048, .f32⟩ : BufTy).Contents (Elt Ideal)) (r : Fin 32) (k : Fin 2048) :
    rows a b (ix2 (old r) k) = b (ix2 r k) := by
  have hr := r.isLt
  pointwise [rows]

theorem blk0 (t : Fin cfg0.N) (r : Fin 64) (k : Fin 2048) : iblk m c 0 t (ix2 r k) = rows (ax m c) (ash m c) (ix2 r k) := by
  have e : iblk m c 0 t (ix2 r k) = V m c main_v8 (ix2 r k) := by blk_ext [iblk, idx t]
  rw [e, V_8]

theorem blk2 (t : Fin cfg0.N) (hs : t.val < 6) (k : Fin 2048) (j : Fin 1024) :
    iblk m c 2 t (ix2 k j) = permW (aw m c) (ix2 k ⟨t.val * 1024 + j.val, by omega⟩) := by
  have e : iblk m c 2 t (ix2 k j) = V m c main_v7 (ix2 k ⟨t.val * 1024 + j.val, by omega⟩) := by blk_ext [iblk, idx t]
  rw [e, V_7]

/-- The rows' copy. -/
theorem pay1_at (X : Vec Ideal S64x2048 .f32) (r : Fin 64) (k : Fin 2048) : k0_pay1 (F := Ideal) X (ix2 r k) = X (ix2 r k) := by
  pointwise [k0_pay1]

/-- A point's product. -/
theorem pay2_at (t : Fin cfg0.N) (hs : t.val < 6) (h : Vec Ideal S64x2048 .bf16) (r : Fin 64) (j : Fin 1024) :
    k0_pay2 (F := Ideal) h (iblk m c 2 t) (ix2 r j)
      = ∑ k : Fin 2048, h (ix2 r k) * permW (aw m c) (ix2 k ⟨t.val * 1024 + j.val, by omega⟩) := by
  have hw := blk2 m c t hs
  generalize iblk m c 2 t = W at hw
  pointwise [k0_pay2]
  exact Finset.sum_congr rfl fun k _ => by rw [hw]

/-- A carried scratch read back is what the point before left. -/
theorem carry0 (X : Vec Ideal S64x2048 .bf16) (h : scM0_0.IsWhole) :
    View.read (Elt Ideal) (View.whole cc0_scratch0) (h.unread X) = X := h.read_unread X

/-- After every point the scratch holds the rows. -/
theorem h_at : ∀ (n : ℕ) (hn : n < cfg0.N) (r : Fin 64) (k : Fin 2048),
    (outsAt0 m c n hn).2 (ix2 r k) = rows (ax m c) (ash m c) (ix2 r k) := by
  intro n
  induction n with
  | zero =>
    intro hn r k
    rw [outsAt0_A m c ⟨0, hn⟩ (Nat.zero_mod _)]
    frame_out
    exact (pay1_at _ r k).trans (blk0 m c ⟨0, hn⟩ r k)
  | succ n ih =>
    intro hn r k
    by_cases h0 : (n + 1) % 6 = 0
    · rw [outsAt0_A m c ⟨n + 1, hn⟩ h0]
      frame_out
      exact (pay1_at _ r k).trans (blk0 m c ⟨n + 1, hn⟩ r k)
    · rw [outsAt0_B m c ⟨n + 1, hn⟩ h0]
      unfold sout0_B_0
      exact ih (Nat.lt_of_succ_lt hn) r k

/-- The product's array, an entry at a time. -/
def prod (a b : (⟨S32x2048, .f32⟩ : BufTy).Contents (Elt Ideal)) (w : (⟨S2048x5936, .f32⟩ : BufTy).Contents (Elt Ideal)) :
    (⟨S64x6144, .f32⟩ : BufTy).Contents (Elt Ideal) := fun y =>
  ∑ k : Fin 2048, rows a b (ix2 (y 0) k) * permW w (ix2 k (y 1))

/-- What a point leaves in the output's block. -/
theorem out_at (t : Fin cfg0.N) (hs : t.val < 6) (r : Fin 64) (j : Fin 1024) :
    (outsAt0 m c t.val t.isLt).1 (ix2 r j) = prod (ax m c) (ash m c) (aw m c) (ix2 r ⟨t.val * 1024 + j.val, by omega⟩) := by
  by_cases h0 : t.val % 6 = 0
  · rw [outsAt0_A m c t h0]
    frame_out
    rw [pay2_at m c t hs]
    exact Finset.sum_congr rfl fun k _ => by rw [pay1_at, blk0 m c t]; rfl
  · rw [outsAt0_B m c t h0]
    frame_out
    rw [pay2_at m c t hs, carry0]
    exact Finset.sum_congr rfl fun k _ => by rw [h_at m c (t.val - 1) _ r k]; rfl

/-- THE PRODUCT'S ARRAY after the last point. -/
theorem final3 : (dats m 0 c).arrAt 3 (cfgs 0).N = prod (ax m c) (ash m c) (aw m c) := by
  refine (dats m 0 c).arrAt_eq_of_covers 3 _ (by decide +kernel) fun t hf y => ?_
  have hl := t_lt t
  have hy : y = ix2 (y 0) (y 1) := by funext a; fin_cases a <;> rfl
  blk_simp
  rw [after0_3]
  refine (congrArg (outsAt0 m c t.val t.isLt).1 hy).trans ((out_at m c t hl (y 0) (y 1)).trans ?_)
  congr 1
  blk_ext [idx t]

section
variable (a b : (⟨S32x2048, .f32⟩ : BufTy).Contents (Elt Ideal)) (w : (⟨S2048x5936, .f32⟩ : BufTy).Contents (Elt Ideal))

/-- A new row's product is the reference's. -/
theorem prod_new (r : Fin 32) (j' : Fin 6144) (j : Fin 5936) (hw : ∀ k : Fin 2048, permW w (ix2 k j') = w (ix2 k j)) :
    prod a b w (ix2 (new r) j') = val_main_v0 (F := Ideal) a w (ix2 r j) := by
  rw [val_main_v0_apply]
  refine Finset.sum_congr rfl fun k _ => congrArg₂ (· * ·) ((rows_new a b r k).trans (congrArg a ?_)) ((hw k).trans (congrArg w ?_))
  all_goals
    funext d
    match d with
    | ⟨0, _⟩ => rfl
    | ⟨1, _⟩ => rfl

/-- An old row's product is the reference's. -/
theorem prod_old (r : Fin 32) (j' : Fin 6144) (j : Fin 3328)
    (hw : ∀ k : Fin 2048, permW w (ix2 k j') = w (ix2 k ⟨j.val, by omega⟩)) :
    prod a b w (ix2 (old r) j') = val_main_v2 (F := Ideal) b w (ix2 r j) := by
  rw [val_main_v2_apply]
  refine Finset.sum_congr rfl fun k _ => congrArg₂ (· * ·) ((rows_old a b r k).trans (congrArg b ?_))
    ((hw k).trans ((ref1_at w k j).symm.trans (congrArg (val_main_v1 (F := Ideal) w) ?_)))
  all_goals
    funext d
    match d with
    | ⟨0, _⟩ => rfl
    | ⟨1, _⟩ => rfl

end

/-! ## The lines after the region -/

theorem tail17 : Pipeline.afterTail₀ cfgs (dats m) 0 (V0 m) [hostOps1] c main_v17 = backKv0 ((dats m 0 c).arrAt 3 (cfgs 0).N) := by
  have e := Pipeline.withArrays_arr spec0 launch0.win.arr_inj c (V0 m c) (fun w => (dats m 0 c).arrAt w (cfgs 0).N) 3
  unfold Pipeline.afterTail₀
  show StableHlo.after hostOps1 _ (Proc.devRef .tc main_v17) = _
  unfold hostOps1
  after_results
  exact congrArg backKv0 e
theorem tail18 : Pipeline.afterTail₀ cfgs (dats m) 0 (V0 m) [hostOps1] c main_v18 = backKv1 ((dats m 0 c).arrAt 3 (cfgs 0).N) := by
  have e := Pipeline.withArrays_arr spec0 launch0.win.arr_inj c (V0 m c) (fun w => (dats m 0 c).arrAt w (cfgs 0).N) 3
  unfold Pipeline.afterTail₀
  show StableHlo.after hostOps1 _ (Proc.devRef .tc main_v18) = _
  unfold hostOps1
  after_results
  exact congrArg backKv1 e
theorem tail19 : Pipeline.afterTail₀ cfgs (dats m) 0 (V0 m) [hostOps1] c main_v19 = backQ ((dats m 0 c).arrAt 3 (cfgs 0).N) := by
  have e := Pipeline.withArrays_arr spec0 launch0.win.arr_inj c (V0 m c) (fun w => (dats m 0 c).arrAt w (cfgs 0).N) 3
  unfold Pipeline.afterTail₀
  show StableHlo.after hostOps1 _ (Proc.devRef .tc main_v19) = _
  unfold hostOps1
  after_results
  exact congrArg backQ e
theorem tail20 : Pipeline.afterTail₀ cfgs (dats m) 0 (V0 m) [hostOps1] c main_v20 = backR ((dats m 0 c).arrAt 3 (cfgs 0).N) := by
  have e := Pipeline.withArrays_arr spec0 launch0.win.arr_inj c (V0 m c) (fun w => (dats m 0 c).arrAt w (cfgs 0).N) 3
  unfold Pipeline.afterTail₀
  show StableHlo.after hostOps1 _ (Proc.devRef .tc main_v20) = _
  unfold hostOps1
  after_results
  exact congrArg backR e
theorem tail21 : Pipeline.afterTail₀ cfgs (dats m) 0 (V0 m) [hostOps1] c main_v21 = backL ((dats m 0 c).arrAt 3 (cfgs 0).N) := by
  have e := Pipeline.withArrays_arr spec0 launch0.win.arr_inj c (V0 m c) (fun w => (dats m 0 c).arrAt w (cfgs 0).N) 3
  unfold Pipeline.afterTail₀
  show StableHlo.after hostOps1 _ (Proc.devRef .tc main_v21) = _
  unfold hostOps1
  after_results
  exact congrArg backL e
theorem tail22 : Pipeline.afterTail₀ cfgs (dats m) 0 (V0 m) [hostOps1] c main_v22 = backG ((dats m 0 c).arrAt 3 (cfgs 0).N) := by
  have e := Pipeline.withArrays_arr spec0 launch0.win.arr_inj c (V0 m c) (fun w => (dats m 0 c).arrAt w (cfgs 0).N) 3
  unfold Pipeline.afterTail₀
  show StableHlo.after hostOps1 _ (Proc.devRef .tc main_v22) = _
  unfold hostOps1
  after_results
  exact congrArg backG e
theorem tail23 : Pipeline.afterTail₀ cfgs (dats m) 0 (V0 m) [hostOps1] c main_v23 = prevR ((dats m 0 c).arrAt 3 (cfgs 0).N) := by
  have e := Pipeline.withArrays_arr spec0 launch0.win.arr_inj c (V0 m c) (fun w => (dats m 0 c).arrAt w (cfgs 0).N) 3
  unfold Pipeline.afterTail₀
  show StableHlo.after hostOps1 _ (Proc.devRef .tc main_v23) = _
  unfold hostOps1
  after_results
  exact congrArg prevR e
theorem tail24 : Pipeline.afterTail₀ cfgs (dats m) 0 (V0 m) [hostOps1] c main_v24 = prevL ((dats m 0 c).arrAt 3 (cfgs 0).N) := by
  have e := Pipeline.withArrays_arr spec0 launch0.win.arr_inj c (V0 m c) (fun w => (dats m 0 c).arrAt w (cfgs 0).N) 3
  unfold Pipeline.afterTail₀
  show StableHlo.after hostOps1 _ (Proc.devRef .tc main_v24) = _
  unfold hostOps1
  after_results
  exact congrArg prevL e
theorem tail16 : Pipeline.afterTail₀ cfgs (dats m) 0 (V0 m) [hostOps1] c main_v16 = moved (az m c) (backKv2 ((dats m 0 c).arrAt 3 (cfgs 0).N)) := by
  have e := Pipeline.withArrays_arr spec0 launch0.win.arr_inj c (V0 m c) (fun w => (dats m 0 c).arrAt w (cfgs 0).N) 3
  have e' := Pipeline.withArrays_of_ne spec0 c (V0 m c) (fun w => (dats m 0 c).arrAt w (cfgs 0).N) main_arg2 (by decide)
  unfold Pipeline.afterTail₀
  show StableHlo.after hostOps1 _ (Proc.devRef .tc main_v16) = _
  unfold hostOps1
  after_results
  exact congrArg₂ (fun u v => moved u (backKv2 v)) (e'.trans (V_main_arg2 m c)) e

/-! ## The results -/

theorem ix_kv (y : S32x1x2x4x64.Idx) : ∃ (b : Fin 32) (u : Fin 1) (i : Fin 2) (h : Fin 4) (d : Fin 64), y = ix5 b u i h d :=
  ⟨y 0, y 1, y 2, y 3, y 4, by funext a; fin_cases a <;> rfl⟩
theorem ix_two {n k : ℕ} (y : (⟨2, ![n, k]⟩ : Shape).Idx) : ∃ (a : Fin n) (b : Fin k), y = ix2 a b :=
  ⟨y 0, y 1, by funext a; fin_cases a <;> rfl⟩

theorem kv2 (a b : (⟨S32x2048, .f32⟩ : BufTy).Contents (Elt Ideal)) (w : (⟨S2048x5936, .f32⟩ : BufTy).Contents (Elt Ideal)) :
    backKv2 (prod a b w) = val_main_v11 (F := Ideal) a w := by
  funext y
  obtain ⟨b', u, i, h, d, rfl⟩ := ix_kv y
  exact ((backKv2_at _ b' u i h d).trans (prod_new a b w b' _ _ fun k => kv_col w k 2 (by decide) i h d)).trans (ref11_at _ _ b' u i h d).symm

theorem out17 : Pipeline.afterTail₀ cfgs (dats m) 0 (V0 m) [hostOps1] c main_v17 = val_main_v7 (F := Ideal) (ax m c) (aw m c) := by
  rw [tail17, final3]
  funext y
  obtain ⟨b, u, i, h, d, rfl⟩ := ix_kv y
  exact ((backKv0_at _ b u i h d).trans (prod_new _ _ _ b _ _ fun k => kv_col _ k 0 (by decide) i h d)).trans (ref7_at _ _ b u i h d).symm
theorem out18 : Pipeline.afterTail₀ cfgs (dats m) 0 (V0 m) [hostOps1] c main_v18 = val_main_v9 (F := Ideal) (ax m c) (aw m c) := by
  rw [tail18, final3]
  funext y
  obtain ⟨b, u, i, h, d, rfl⟩ := ix_kv y
  exact ((backKv1_at _ b u i h d).trans (prod_new _ _ _ b _ _ fun k => kv_col _ k 1 (by decide) i h d)).trans (ref9_at _ _ b u i h d).symm
theorem out19 : Pipeline.afterTail₀ cfgs (dats m) 0 (V0 m) [hostOps1] c main_v19 = val_main_v14 (F := Ideal) (ax m c) (aw m c) := by
  rw [tail19, final3]
  funext y
  obtain ⟨b, j, rfl⟩ := ix_two y
  exact ((backQ_at _ b j).trans (prod_new _ _ _ b _ _ fun k => permW_q _ k j)).trans (ref14_at _ _ b j).symm
theorem out20 : Pipeline.afterTail₀ cfgs (dats m) 0 (V0 m) [hostOps1] c main_v20 = val_main_v15 (F := Ideal) (ax m c) (aw m c) := by
  rw [tail20, final3]
  funext y
  obtain ⟨b, j, rfl⟩ := ix_two y
  exact ((backR_at _ b j).trans (prod_new _ _ _ b _ _ fun k => permW_r _ k j)).trans (ref15_at _ _ b j).symm
theorem out21 : Pipeline.afterTail₀ cfgs (dats m) 0 (V0 m) [hostOps1] c main_v21 = val_main_v16 (F := Ideal) (ax m c) (aw m c) := by
  rw [tail21, final3]
  funext y
  obtain ⟨b, j, rfl⟩ := ix_two y
  exact ((backL_at _ b j).trans (prod_new _ _ _ b _ _ fun k => permW_l _ k j)).trans (ref16_at _ _ b j).symm
theorem out22 : Pipeline.afterTail₀ cfgs (dats m) 0 (V0 m) [hostOps1] c main_v22 = val_main_v17 (F := Ideal) (ax m c) (aw m c) := by
  rw [tail22, final3]
  funext y
  obtain ⟨b, j, rfl⟩ := ix_two y
  exact ((backG_at _ b j).trans (prod_new _ _ _ b _ _ fun k => permW_g _ k j)).trans (ref17_at _ _ b j).symm
theorem out23 : Pipeline.afterTail₀ cfgs (dats m) 0 (V0 m) [hostOps1] c main_v23 = val_main_v18 (F := Ideal) (ash m c) (aw m c) := by
  rw [tail23, final3]
  funext y
  obtain ⟨b, j, rfl⟩ := ix_two y
  exact ((prevR_at _ b j).trans (prod_old _ _ _ b _ _ fun k => permW_r _ k j)).trans (ref18_at _ _ b j).symm
theorem out24 : Pipeline.afterTail₀ cfgs (dats m) 0 (V0 m) [hostOps1] c main_v24 = val_main_v19 (F := Ideal) (ash m c) (aw m c) := by
  rw [tail24, final3]
  funext y
  obtain ⟨b, j, rfl⟩ := ix_two y
  exact ((prevL_at _ b j).trans (prod_old _ _ _ b _ _ fun k => permW_l _ k j)).trans (ref19_at _ _ b j).symm
theorem out16 : Pipeline.afterTail₀ cfgs (dats m) 0 (V0 m) [hostOps1] c main_v16 = val_main_v13 (F := Ideal) (ax m c) (az m c) (aw m c) := by
  rw [tail16, final3, kv2]
  exact (ref13_eq (az m c) (ax m c) (aw m c)).symm

/-- THE KERNEL'S RUN: its nine results are the reference's. -/
theorem run_value (g : Dev nD → PrngReg) :
    θ_run (defs (F := Ideal)) (onTc (τ := τ) (main (F := Ideal))) ⟨m, fun _ => 0, g⟩ (fun r => ∀ c : Dev nD,
      r.2.mem ((c.tc : Thread nD τ).loc main_v17) = val_main_v7 (F := Ideal) (ax m c) (aw m c)
      ∧ r.2.mem ((c.tc : Thread nD τ).loc main_v18) = val_main_v9 (F := Ideal) (ax m c) (aw m c)
      ∧ r.2.mem ((c.tc : Thread nD τ).loc main_v16) = val_main_v13 (F := Ideal) (ax m c) (az m c) (aw m c)
      ∧ r.2.mem ((c.tc : Thread nD τ).loc main_v19) = val_main_v14 (F := Ideal) (ax m c) (aw m c)
      ∧ r.2.mem ((c.tc : Thread nD τ).loc main_v20) = val_main_v15 (F := Ideal) (ax m c) (aw m c)
      ∧ r.2.mem ((c.tc : Thread nD τ).loc main_v21) = val_main_v16 (F := Ideal) (ax m c) (aw m c)
      ∧ r.2.mem ((c.tc : Thread nD τ).loc main_v22) = val_main_v17 (F := Ideal) (ax m c) (aw m c)
      ∧ r.2.mem ((c.tc : Thread nD τ).loc main_v23) = val_main_v18 (F := Ideal) (ash m c) (aw m c)
      ∧ r.2.mem ((c.tc : Thread nD τ).loc main_v24) = val_main_v19 (F := Ideal) (ash m c) (aw m c)) := by
  refine (θ_run defs _ _).mono (fun r h c => ⟨?_, ?_, ?_, ?_, ?_, ?_, ?_, ?_, ?_⟩) (run_main (F := Ideal) m g)
  · exact ((h c).2 main_v17 (Pipeline.mem_restRefs_of main_v17 (by decide) (by decide))).trans (out17 m c)
  · exact ((h c).2 main_v18 (Pipeline.mem_restRefs_of main_v18 (by decide) (by decide))).trans (out18 m c)
  · exact ((h c).2 main_v16 (Pipeline.mem_restRefs_of main_v16 (by decide) (by decide))).trans (out16 m c)
  · exact ((h c).2 main_v19 (Pipeline.mem_restRefs_of main_v19 (by decide) (by decide))).trans (out19 m c)
  · exact ((h c).2 main_v20 (Pipeline.mem_restRefs_of main_v20 (by decide) (by decide))).trans (out20 m c)
  · exact ((h c).2 main_v21 (Pipeline.mem_restRefs_of main_v21 (by decide) (by decide))).trans (out21 m c)
  · exact ((h c).2 main_v22 (Pipeline.mem_restRefs_of main_v22 (by decide) (by decide))).trans (out22 m c)
  · exact ((h c).2 main_v23 (Pipeline.mem_restRefs_of main_v23 (by decide) (by decide))).trans (out23 m c)
  · exact ((h c).2 main_v24 (Pipeline.mem_restRefs_of main_v24 (by decide) (by decide))).trans (out24 m c)

end Cert.Kernel5Ideal.SProj

end
-- ==== Proof.SampleFfnValue.lean ====
module

public import proofs.«01_k».proof.Proof.Gen.Kernel6Ideal.Value
public import proofs.«01_k».proof.Proof.Gen.Reference6Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel6Ideal.Ffn

open Cert.Kernel6Ideal Cert.Kernel6Ideal.Gen
open Cert.Reference6Ideal.Read

variable (m : (ℓ : Loc nD τ sig) → Buf (Elt Ideal) ℓ)

/-- The block every window stages at a point: rows move with `t / 11`, the hidden columns with `t % 11`. -/
theorem idx : ∀ t : Fin cfg0.N, win0_0.index t = ![t.val / 11, 0] ∧ win0_1.index t = ![0, 0]
    ∧ win0_2.index t = ![0, t.val % 11] ∧ win0_3.index t = ![0, t.val % 11]
    ∧ win0_4.index t = ![t.val % 11, 0] ∧ win0_5.index t = ![0, 0] ∧ win0_6.index t = ![t.val / 11, 0] :=
  (by decide +kernel : ∀ t : Fin grid0.N, _)

/-- A point's number is below 11. -/
theorem t_lt (t : Fin cfg0.N) : t.val < 11 := lt_of_lt_of_eq t.isLt N_0

/-- The normalised rows a point of row block `t / 11` computes are the reference's. -/
theorem pay1_at (c : Dev nD) (t : Fin cfg0.N) (y : S32x2048.Idx) (i : S32x2048.Idx)
    (h0 : (i 0 : ℕ) = t.val / 11 * 32 + (y 0 : ℕ)) (h1 : (i 1 : ℕ) = (y 1 : ℕ)) :
    k0_pay1 (F := Ideal) (iblk m c 0 t) (iblk m c 1 t) y
      = val_main_v12 (F := Ideal) (m ((c : Thread nD τ).loc main_arg0)) (m ((c : Thread nD τ).loc main_arg1)) i := by
  pointwise [k0_pay1, val_main_v12, val_main_v11, val_main_v10, val_main_v9, val_main_v8, val_main_v7, val_main_v6,
    val_main_v5, val_main_v4, val_main_v3, val_main_v2, val_main_v1, val_main_v0, val_main_cst, val_main_cst_0, val_main_cst_1]
  blk_point [iblk, V, idx t]

/-- The arrays of the program, named at the reference's types. -/
abbrev ax (c : Dev nD) : (⟨S32x2048, .f32⟩ : BufTy).Contents (Elt Ideal) := m ((c : Thread nD τ).loc main_arg0)
abbrev ag (c : Dev nD) : (⟨S2048, .f32⟩ : BufTy).Contents (Elt Ideal) := m ((c : Thread nD τ).loc main_arg1)
abbrev awg (c : Dev nD) : (⟨S2048x5632, .f32⟩ : BufTy).Contents (Elt Ideal) := m ((c : Thread nD τ).loc main_arg2)
abbrev awu (c : Dev nD) : (⟨S2048x5632, .f32⟩ : BufTy).Contents (Elt Ideal) := m ((c : Thread nD τ).loc main_arg3)
abbrev awd (c : Dev nD) : (⟨S5632x2048, .f32⟩ : BufTy).Contents (Elt Ideal) := m ((c : Thread nD τ).loc main_arg4)
abbrev agl (c : Dev nD) : (⟨S2048, .f32⟩ : BufTy).Contents (Elt Ideal) := m ((c : Thread nD τ).loc main_arg5)

/-- The array index a block index of row block `q` sits at. -/
abbrev rowIx (q : ℕ) (hq : q < 1) (y : S32x2048.Idx) : S32x2048.Idx :=
  ix2 ⟨q * 32 + (y 0 : ℕ), by have : (y 0 : ℕ) < 32 := (y 0).isLt; omega⟩ (y 1)

theorem rowIx_congr {q q' : ℕ} (h : q = q') (hq : q < 1) (hq' : q' < 1) (y : S32x2048.Idx) :
    rowIx q hq y = rowIx q' hq' y := by subst h; rfl

/-- The gated hidden value of the reference at an index. -/
theorem v16_at (x0 : (⟨S32x2048, .f32⟩ : BufTy).Contents (Elt Ideal)) (x1 : (⟨S2048, .f32⟩ : BufTy).Contents (Elt Ideal))
    (x2 x3 : (⟨S2048x5632, .f32⟩ : BufTy).Contents (Elt Ideal)) (i : Cert.Reference6Ideal.S32x5632.Idx) :
    val_main_v16 (F := Ideal) x0 x1 x2 x3 i
      = (∑ k : Fin 2048, val_main_v12 (F := Ideal) x0 x1 (ix2 (i 0) k) * x2 (ix2 k (i 1)))
          * Ideal.div 1 (1 + Ideal.exp (-∑ k : Fin 2048, val_main_v12 (F := Ideal) x0 x1 (ix2 (i 0) k) * x2 (ix2 k (i 1))))
          * ∑ k : Fin 2048, val_main_v12 (F := Ideal) x0 x1 (ix2 (i 0) k) * x3 (ix2 k (i 1)) := by
  unfold val_main_v16 val_main_v14 val_main_call0_v5 val_main_call0_v4 val_main_call0_v3 val_main_call0_v2
    val_main_call0_v1 val_main_call0_v0 val_main_call0_cst val_main_call0_cst_0 val_main_v13 val_main_v15
  generalize val_main_v12 (F := Ideal) x0 x1 = h
  pointwise

/-- What one point adds to the accumulator: the reference's product over the point's 512 hidden columns. -/
theorem pay3_at (c : Dev nD) (t : Fin cfg0.N) (h : Vec Ideal S32x2048 .bf16) (acc : Vec Ideal S32x2048 .f32)
    (hq : t.val / 11 < 1) (hs : t.val % 11 < 11)
    (hh : ∀ y, h y = val_main_v12 (F := Ideal) (ax m c) (ag m c) (rowIx (t.val / 11) hq y)) (y : S32x2048.Idx) :
    k0_pay3 (F := Ideal) h (iblk m c 2 t) (iblk m c 3 t) acc (iblk m c 4 t) y
      = acc y + ∑ k : Fin 512,
          val_main_v16 (F := Ideal) (ax m c) (ag m c) (awg m c) (awu m c)
            (ix2 ⟨t.val / 11 * 32 + (y 0 : ℕ), by have : (y 0 : ℕ) < 32 := (y 0).isLt; omega⟩ ⟨t.val % 11 * 512 + (k : ℕ), by omega⟩)
          * awd m c (ix2 ⟨t.val % 11 * 512 + (k : ℕ), by omega⟩ (y 1)) := by
  simp only [v16_at]
  pointwise [k0_pay3]
  simp only [hh, zero_sub, rowIx]
  blk_point [iblk, V, idx t]

/-- The zero fill. -/
theorem pay2_at (y : S32x2048.Idx) : k0_pay2 (F := Ideal) y = 0 := by pointwise [k0_pay2]

/-- The last point's residual and normalisation. -/
theorem pay4_at (c : Dev nD) (t : Fin cfg0.N) (acc : Vec Ideal S32x2048 .f32) (hq : t.val / 11 < 1)
    (ha : ∀ y, acc y = val_main_v17 (F := Ideal) (ax m c) (ag m c) (awg m c) (awu m c) (awd m c) (rowIx (t.val / 11) hq y))
    (y : S32x2048.Idx) :
    k0_pay4 (F := Ideal) (iblk m c 0 t) acc (iblk m c 5 t) y
      = val_main_v31 (F := Ideal) (ax m c) (ag m c) (awg m c) (awu m c) (awd m c) (agl m c) (rowIx (t.val / 11) hq y) := by
  unfold val_main_v31 val_main_v30 val_main_v29 val_main_v28 val_main_v27 val_main_v26 val_main_v25 val_main_v24
    val_main_v23 val_main_v22 val_main_v21 val_main_v20 val_main_v19 val_main_v18 val_main_cst_2 val_main_cst_3 val_main_cst_4
  generalize val_main_v17 (F := Ideal) (ax m c) (ag m c) (awg m c) (awu m c) (awd m c) = w at ha ⊢
  pointwise [k0_pay4]
  simp only [ha, rowIx]
  blk_point [iblk, V, idx t]

/-- A carried scratch read back is what the point before left. -/
theorem carry0 (X : Vec Ideal S32x2048 .bf16) (h : scM0_0.IsWhole) :
    View.read (Elt Ideal) (View.whole cc0_scratch0) (h.unread X) = X := h.read_unread X

@[inherit_doc carry0]
theorem carry1 (X : Vec Ideal S32x2048 .f32) (h : scM0_1.IsWhole) :
    View.read (Elt Ideal) (View.whole cc0_scratch1) (h.unread X) = X := h.read_unread X

/-- After every point the first scratch holds the normalised rows of the point's row block. -/
theorem h_at (c : Dev nD) : ∀ (n : ℕ) (hn : n < cfg0.N) (hq : n / 11 < 1) (y : S32x2048.Idx),
    (outsAt0 m c n hn).2.1 y = val_main_v12 (F := Ideal) (ax m c) (ag m c) (rowIx (n / 11) hq y) := by
  intro n
  induction n with
  | zero =>
    intro hn hq y
    rw [outsAt0_A m c ⟨0, hn⟩ (Nat.zero_mod _) (by show ¬ 0 % 11 = 10; decide)]
    frame_out
    exact pay1_at m c ⟨0, hn⟩ y _ rfl rfl
  | succ n ih =>
    intro hn hq y
    by_cases h0 : (n + 1) % 11 = 0
    · rw [outsAt0_A m c ⟨n + 1, hn⟩ h0 (by show ¬ (n + 1) % 11 = 10; omega)]
      frame_out
      exact pay1_at m c ⟨n + 1, hn⟩ y _ rfl rfl
    · have e : (n + 1) / 11 = n / 11 := by omega
      by_cases h1 : (n + 1) % 11 = 10
      · rw [outsAt0_C m c ⟨n + 1, hn⟩ h0 h1]
        unfold sout0_C_0
        exact Eq.trans (ih (Nat.lt_of_succ_lt hn) (by omega) y) (congrArg _ (rowIx_congr e.symm _ _ y))
      · rw [outsAt0_B m c ⟨n + 1, hn⟩ h0 h1]
        unfold sout0_B_0
        exact Eq.trans (ih (Nat.lt_of_succ_lt hn) (by omega) y) (congrArg _ (rowIx_congr e.symm _ _ y))

/-- The part a point adds. -/
def part (c : Dev nD) (t : Fin cfg0.N) (y : S32x2048.Idx) : EReal :=
  ∑ k : Fin 512,
    val_main_v16 (F := Ideal) (ax m c) (ag m c) (awg m c) (awu m c)
      (ix2 ⟨t.val / 11 * 32 + (y 0 : ℕ), by have : (y 0 : ℕ) < 32 := (y 0).isLt; have := t_lt t; omega⟩ ⟨t.val % 11 * 512 + (k : ℕ), by omega⟩)
    * awd m c (ix2 ⟨t.val % 11 * 512 + (k : ℕ), by omega⟩ (y 1))

/-- At the last point of a row block the accumulator holds the reference's down projection. -/
theorem acc_at (c : Dev nD) (t : Fin cfg0.N) (ht : t.val % 11 = 10) (hq : t.val / 11 < 1) (y : S32x2048.Idx) :
    (outsAt0 m c t.val t.isLt).2.2 y
      = val_main_v17 (F := Ideal) (ax m c) (ag m c) (awg m c) (awu m c) (awd m c) (rowIx (t.val / 11) hq y) := by
  have key := Pipeline.eq_sum_fin_of_reset_step_apply_of_flush (fun n h => (outsAt0 m c n h).2.2) 11 (fun _ => (0 : EReal))
    (part m c)
    (fun t h j => by
      have hl := t_lt t
      rw [outsAt0_A m c t h (by omega)]; frame_out
      rw [pay3_at m c t _ _ (by omega) (by omega) (fun y => pay1_at m c t y _ rfl rfl), pay2_at]; rfl)
    (fun t h j => by
      have hl := t_lt t
      have e : (t.val - 1) / 11 = t.val / 11 := by omega
      by_cases h1 : t.val % 11 = 10
      · rw [outsAt0_C m c t h h1]; frame_out
        rw [pay3_at m c t _ _ (by omega) (by omega) (fun y => by
          rw [carry0, h_at m c (t.val - 1) _ (by omega) y]; exact congrArg _ (rowIx_congr e _ _ y)), carry1]; rfl
      · rw [outsAt0_B m c t h h1]; frame_out
        rw [pay3_at m c t _ _ (by omega) (by omega) (fun y => by
          rw [carry0, h_at m c (t.val - 1) _ (by omega) y]; exact congrArg _ (rowIx_congr e _ _ y)), carry1]; rfl)
    t ht y
  rw [key, zero_add, val_main_v17_apply]
  unfold part
  refine Fin.sum_mul_add_congr fun s k hl => ?_
  have hs := s.isLt
  have e1 : (11 * (t.val / 11) + s.val) / 11 = t.val / 11 := by omega
  have e2 : (11 * (t.val / 11) + s.val) % 11 = s.val := by omega
  simp only [e1, e2]
  congr 2 <;> (funext a; match a with | ⟨0, _⟩ => rfl | ⟨1, _⟩ => rfl)

/-- The result array after the run is the reference's. -/
theorem final (c : Dev nD) : (dats m 0 c).arrAt 6 (cfgs 0).N
    = val_main_v31 (F := Ideal) (ax m c) (ag m c) (awg m c) (awu m c) (awd m c) (agl m c) := by
  refine (dats m 0 c).arrAt_eq_of_covers 6 _ (by decide +kernel) fun t hf y => ?_
  have ht : t.val % 11 = 10 := (flush0_6 t).mp hf
  have hl := t_lt t
  have e : (t.val - 1) / 11 = t.val / 11 := by omega
  have hacc := acc_at m c t ht (by omega)
  blk_simp
  rw [after0_6]
  rw [outsAt0_C m c t (by omega) ht] at hacc ⊢
  frame_out at hacc
  frame_out
  rw [pay4_at m c t _ (by omega) hacc]
  congr 1
  blk_ext [idx t] <;> rfl

end Cert.Kernel6Ideal.Ffn

end
-- ==== Proof.OutValue.lean ====
/-
# The output projection: the kernel's result is the reference's
-/
module

public import proofs.«01_k».proof.Proof.Gen.Kernel7Ideal.Value
public import proofs.«01_k».proof.Proof.Gen.Reference7Ideal.Read
public import Idealize.ShloMosaic.Lib.Pipeline.ValueKit
public import Idealize.ShloMosaic.Lib.WritesUnit

@[expose] public section

set_option maxRecDepth 16384

noncomputable section

open Idealize.ShloMosaic Idealize.ShloMosaic.TcCoe Idealize.ShloMosaic.Tactic Idealize.SL.Sem
open Idealize.ShloMosaic.Pipeline (Dat)

namespace Cert.Kernel7Ideal.Out

open Cert.Kernel7Ideal Cert.Kernel7Ideal.Gen
open Cert.Reference7Ideal.Read

variable (m : (ℓ : Loc nD τ sig) → Buf (Elt Ideal) ℓ) (c : Dev nD)

/-- The block every window stages at a point: rows move with `t / 2`, columns with `t % 2`. -/
theorem idx : ∀ t : Fin cfg0.N, win0_0.index t = ![t.val / 2, 0] ∧ win0_1.index t = ![t.val / 2, 0]
    ∧ win0_2.index t = ![t.val / 2, 0] ∧ win0_3.index t = ![t.val / 2, t.val % 2]
    ∧ win0_4.index t = ![0, t.val % 2] ∧ win0_5.index t = ![t.val / 2, t.val % 2] :=
  (by decide +kernel : ∀ t : Fin grid0.N, _)

theorem t_lt (t : Fin cfg0.N) : t.val < 32 := lt_of_lt_of_eq t.isLt N_0

/-- The program's arguments, named. -/
abbrev aro : (⟨S8192x1024, .f32⟩ : BufTy).Contents (Elt Ideal) := m ((c : Thread nD τ).loc main_arg0)
abbrev arg : (⟨S8192x1024, .f32⟩ : BufTy).Contents (Elt Ideal) := m ((c : Thread nD τ).loc main_arg1)
abbrev ans : (⟨S8192x1024, .bf16⟩ : BufTy).Contents (Elt Ideal) := m ((c : Thread nD τ).loc main_arg2)
abbrev ax : (⟨S8192x2048, .f32⟩ : BufTy).Contents (Elt Ideal) := m ((c : Thread nD τ).loc main_arg3)
abbrev aw : (⟨S2048x2048, .f32⟩ : BufTy).Contents (Elt Ideal) := m ((c : Thread nD τ).loc main_arg4)

theorem V_0 : V m c main_v0 = (truncf .bf16 (aw m c) bitsLt_bf16_f32 : FVec Ideal S2048x2048 .bf16) := by
  show StableHlo.after hostOps0 (fun b => m (c, b)) (Proc.devRef .tc main_v0) = _
  unfold hostOps0
  after_results
  try rfl

theorem blk0 (t : Fin cfg0.N) (hq : t.val / 2 < 16) (r : Fin 512) (k : Fin 1024) :
    iblk m c 0 t (ix2 r k) = aro m c (ix2 ⟨t.val / 2 * 512 + r.val, by omega⟩ k) := by
  blk_ext [iblk, V, idx t]
theorem blk1 (t : Fin cfg0.N) (hq : t.val / 2 < 16) (r : Fin 512) (k : Fin 1024) :
    iblk m c 1 t (ix2 r k) = arg m c (ix2 ⟨t.val / 2 * 512 + r.val, by omega⟩ k) := by
  blk_ext [iblk, V, idx t]
theorem blk2 (t : Fin cfg0.N) (hq : t.val / 2 < 16) (r : Fin 512) (k : Fin 1024) :
    iblk m c 2 t (ix2 r k) = ans m c (ix2 ⟨t.val / 2 * 512 + r.val, by omega⟩ k) := by
  blk_ext [iblk, V, idx t]
theorem blk3 (t : Fin cfg0.N) (hq : t.val / 2 < 16) (hs : t.val % 2 < 2) (r : Fin 512) (k : Fin 1024) :
    iblk m c 3 t (ix2 r k) = ax m c (ix2 ⟨t.val / 2 * 512 + r.val, by omega⟩ ⟨t.val % 2 * 1024 + k.val, by omega⟩) := by
  blk_ext [iblk, V, idx t]
theorem blk4 (t : Fin cfg0.N) (hs : t.val % 2 < 2) (k : Fin 2048) (j : Fin 1024) :
    iblk m c 4 t (ix2 k j) = aw m c (ix2 k ⟨t.val % 2 * 1024 + j.val, by omega⟩) := by
  have e : iblk m c 4 t (ix2 k j) = V m c main_v0 (ix2 k ⟨t.val % 2 * 1024 + j.val, by omega⟩) := by blk_ext [iblk, idx t]
  rw [e, V_0]
  pointwise

/-- The joined operand of a row, left of column 1024 and right of it. -/
theorem mix_left (a b : (⟨S8192x1024, .f32⟩ : BufTy).Contents (Elt Ideal)) (n : (⟨S8192x1024, .bf16⟩ : BufTy).Contents (Elt Ideal))
    (r : Fin 8192) (k : Fin 1024) :
    val_main_v2 (F := Ideal) a b n (ix2 r ⟨k.val, by omega⟩) = a (ix2 r k) * b (ix2 r k) := by
  have hk := k.isLt
  pointwise [val_main_v2, val_main_v1, val_main_v0]
theorem mix_right (a b : (⟨S8192x1024, .f32⟩ : BufTy).Contents (Elt Ideal)) (n : (⟨S8192x1024, .bf16⟩ : BufTy).Contents (Elt Ideal))
    (r : Fin 8192) (k : Fin 1024) :
    val_main_v2 (F := Ideal) a b n (ix2 r ⟨1024 + k.val, by omega⟩) = n (ix2 r k) := by
  have hk := k.isLt
  pointwise [val_main_v2, val_main_v1, val_main_v0]

/-- The two stores that fill the scratch: the gated recurrence in the left columns, the attention in the right. -/
abbrev pieces (A B : Vec Ideal S512x1024 .f32) (N : Vec Ideal S512x1024 .bf16) : List (View.Piece (Elt Ideal) S512x2048 .bf16) :=
  [⟨Rect.unit ![0, 1024] ![512, 1024] inb_S512x2048_S512x1024_0_1024, k0_pay2 (F := Ideal) N⟩,
   ⟨Rect.unit ![0, 0] ![512, 1024] inb_S512x2048_S512x1024_0_0, k0_pay1 (F := Ideal) A B⟩]

theorem pay2_at (N : Vec Ideal S512x1024 .bf16) (p : Fin 512) (q : Fin 1024) : k0_pay2 (F := Ideal) N (ix2 p q) = N (ix2 p q) := by
  pointwise [k0_pay2]
theorem pay1_at (A B : Vec Ideal S512x1024 .f32) (p : Fin 512) (q : Fin 1024) :
    k0_pay1 (F := Ideal) A B (ix2 p q) = A (ix2 p q) * B (ix2 p q) := by
  pointwise [k0_pay1]

/-- The filled scratch is the joined operand's row block. -/
theorem fill_at (A B : Vec Ideal S512x1024 .f32) (N : Vec Ideal S512x1024 .bf16)
    (a b : (⟨S8192x1024, .f32⟩ : BufTy).Contents (Elt Ideal)) (n : (⟨S8192x1024, .bf16⟩ : BufTy).Contents (Elt Ideal))
    (R : Fin 512 → Fin 8192) (hA : ∀ r k, A (ix2 r k) = a (ix2 (R r) k)) (hB : ∀ r k, B (ix2 r k) = b (ix2 (R r) k))
    (hN : ∀ r k, N (ix2 r k) = n (ix2 (R r) k)) (r : Fin 512) (k : Fin 2048) :
    View.canon (pieces A B N) (ix2 r k) = val_main_v2 (F := Ideal) a b n (ix2 (R r) k) := by
  unfold pieces
  canon_tiles x h using View.cover_of_tiled_head _ _ _ (by rfl) _
  · obtain ⟨p, q, rfl⟩ : ∃ (p : Fin 512) (q : Fin 1024), x = ix2 p q := ⟨x 0, x 1, by funext d; fin_cases d <;> rfl⟩
    have e0 : p = r := Fin.ext (h0 : r.val = p.val).symm
    have e1 : (⟨1024 + q.val, by omega⟩ : Fin 2048) = k := Fin.ext (h1 : k.val = 1024 + q.val).symm
    refine (pay2_at N p q).trans ((hN p q).trans ((mix_right a b n (R p) q).symm.trans ?_))
    rw [e0]
    exact congrArg (fun j => val_main_v2 (F := Ideal) a b n (ix2 (R r) j)) e1
  · obtain ⟨p, q, rfl⟩ : ∃ (p : Fin 512) (q : Fin 1024), x = ix2 p q := ⟨x 0, x 1, by funext d; fin_cases d <;> rfl⟩
    have e0 : p = r := Fin.ext (h0 : r.val = p.val).symm
    have e1 : (⟨q.val, by omega⟩ : Fin 2048) = k := Fin.ext (h1 : k.val = q.val).symm
    refine (pay1_at A B p q).trans ?_
    rw [hA, hB, e0]
    refine (mix_left a b n (R r) q).symm.trans ?_
    exact congrArg (fun j => val_main_v2 (F := Ideal) a b n (ix2 (R r) j)) e1

/-- A point's product and residual. -/
theorem pay3_at (X : Vec Ideal S512x1024 .f32) (h : Vec Ideal S512x2048 .bf16) (W : Vec Ideal S2048x1024 .bf16) (r : Fin 512) (j : Fin 1024) :
    k0_pay3 (F := Ideal) X h W (ix2 r j) = X (ix2 r j) + ∑ k : Fin 2048, h (ix2 r k) * W (ix2 k j) := by
  pointwise [k0_pay3]

/-- The array's row of a block's row. -/
abbrev rowOf (q : ℕ) (hq : q < 16) (r : Fin 512) : Fin 8192 := ⟨q * 512 + r.val, by omega⟩

theorem rowOf_congr {q q' : ℕ} (h : q = q') (hq : q < 16) (hq' : q' < 16) (r : Fin 512) : rowOf q hq r = rowOf q' hq' r := by
  subst h; rfl

/-- A carried scratch read back is what the point before left. -/
theorem carry0 (X : Vec Ideal S512x2048 .bf16) (h : scM0_0.IsWhole) :
    View.read (Elt Ideal) (View.whole cc0_scratch0) (h.unread X) = X := h.read_unread X

/-- After every point the scratch holds the joined operand of the point's row block. -/
theorem s_at : ∀ (n : ℕ) (hn : n < cfg0.N) (hq : n / 2 < 16) (r : Fin 512) (k : Fin 2048),
    (outsAt0 m c n hn).2 (ix2 r k) = val_main_v2 (F := Ideal) (aro m c) (arg m c) (ans m c) (ix2 (rowOf (n / 2) hq r) k) := by
  intro n
  induction n with
  | zero =>
    intro hn hq r k
    rw [outsAt0_A m c ⟨0, hn⟩ (Nat.zero_mod _)]
    frame_out
    exact fill_at _ _ _ _ _ _ (rowOf (0 / 2) hq) (blk0 m c ⟨0, hn⟩ hq) (blk1 m c ⟨0, hn⟩ hq) (blk2 m c ⟨0, hn⟩ hq) r k
  | succ n ih =>
    intro hn hq r k
    by_cases h0 : (n + 1) % 2 = 0
    · rw [outsAt0_A m c ⟨n + 1, hn⟩ h0]
      frame_out
      exact fill_at _ _ _ _ _ _ (rowOf ((n + 1) / 2) hq) (blk0 m c ⟨n + 1, hn⟩ hq) (blk1 m c ⟨n + 1, hn⟩ hq) (blk2 m c ⟨n + 1, hn⟩ hq) r k
    · have e : (n + 1) / 2 = n / 2 := by omega
      rw [outsAt0_B m c ⟨n + 1, hn⟩ h0]
      unfold sout0_B_0
      exact Eq.trans (ih (Nat.lt_of_succ_lt hn) (by omega) r k) (congrArg (fun R => val_main_v2 (F := Ideal) (aro m c) (arg m c) (ans m c) (ix2 R k)) (rowOf_congr e.symm _ hq r))

/-- The reference's result at an index. -/
theorem ref_at (a b : (⟨S8192x1024, .f32⟩ : BufTy).Contents (Elt Ideal)) (n : (⟨S8192x1024, .bf16⟩ : BufTy).Contents (Elt Ideal))
    (x : (⟨S8192x2048, .f32⟩ : BufTy).Contents (Elt Ideal)) (w : (⟨S2048x2048, .f32⟩ : BufTy).Contents (Elt Ideal)) (R : Fin 8192) (j : Fin 2048) :
    val_main_v4 (F := Ideal) a b n x w (ix2 R j)
      = x (ix2 R j) + ∑ k : Fin 2048, val_main_v2 (F := Ideal) a b n (ix2 R k) * w (ix2 k j) := by
  unfold val_main_v4 val_main_v3
  generalize val_main_v2 (F := Ideal) a b n = y
  pointwise

/-- What a point leaves in the output's block. -/
theorem out_at (t : Fin cfg0.N) (hq : t.val / 2 < 16) (hs : t.val % 2 < 2) (r : Fin 512) (j : Fin 1024) :
    (outsAt0 m c t.val t.isLt).1 (ix2 r j)
      = val_main_v4 (F := Ideal) (aro m c) (arg m c) (ans m c) (ax m c) (aw m c)
          (ix2 (rowOf (t.val / 2) hq r) ⟨t.val % 2 * 1024 + j.val, by omega⟩) := by
  rw [ref_at]
  by_cases h0 : t.val % 2 = 0
  · rw [outsAt0_A m c t h0]
    frame_out
    rw [pay3_at, blk3 m c t hq hs]
    refine congrArg (_ + ·) (Finset.sum_congr rfl fun k _ => ?_)
    rw [blk4 m c t hs]
    refine congrArg (· * _) ?_
    rw [View.readCov_eq_canon']
    refine Eq.trans (congrArg (View.canon _) ?_) (fill_at _ _ _ _ _ _ (rowOf (t.val / 2) hq) (blk0 m c t hq) (blk1 m c t hq) (blk2 m c t hq) r k)
    funext a
    fin_cases a
    · exact Fin.ext (by show 0 + 1 * r.val = r.val; omega)
    · exact Fin.ext (by show 0 + 1 * k.val = k.val; omega)
  · rw [outsAt0_B m c t h0]
    frame_out
    have e : (t.val - 1) / 2 = t.val / 2 := by omega
    rw [pay3_at, blk3 m c t hq hs, carry0]
    refine congrArg (_ + ·) (Finset.sum_congr rfl fun k _ => ?_)
    rw [blk4 m c t hs, s_at m c (t.val - 1) _ (by omega) r k]
    exact congrArg (fun R => val_main_v2 (F := Ideal) (aro m c) (arg m c) (ans m c) (ix2 R k) * _) (rowOf_congr e _ hq r)

/-- THE RESULT'S ARRAY after the last point. -/
theorem final : (dats m 0 c).arrAt 5 (cfgs 0).N
    = val_main_v4 (F := Ideal) (aro m c) (arg m c) (ans m c) (ax m c) (aw m c) := by
  refine (dats m 0 c).arrAt_eq_of_covers 5 _ (by decide +kernel) fun t hf y => ?_
  have hl := t_lt t
  have hy : y = ix2 (y 0) (y 1) := by funext a; fin_cases a <;> rfl
  blk_simp
  rw [after0_5]
  refine (congrArg (outsAt0 m c t.val t.isLt).1 hy).trans ((out_at m c t (by omega) (by omega) (y 0) (y 1)).trans ?_)
  congr 1
  blk_ext [idx t]

end Cert.Kernel7Ideal.Out

end
-- ==== Proof.SampleScanArr.lean ====
/-
# The arrays the sample step's scan stages, at an index

The program's host code puts 128 batch-and-head pairs into the lanes of each of four groups. Every block the kernel
reads is here an entry of an argument.
-/
module

public import proofs.«01_k».proof.Proof.Gen.Kernel8Ideal.Frame.Runs
public import Idealize.ShloMosaic.Lib.Pipeline.ValueKit

@[expose] public section

set_option maxRecDepth 16384

noncomputable section

namespace Cert.Kernel8Ideal.SScan

open Idealize.ShloMosaic Idealize.ShloMosaic.TcCoe Idealize.ShloMosaic.Tactic Idealize.SL.Sem
open Cert.Kernel8Ideal Cert.Kernel8Ideal.Gen

/-- The batch entry and the head of a lane of a group. -/
abbrev lb (g : Fin 4) (l : Fin 128) : Fin 32 := ⟨g.val * 8 + l.val / 16, by omega⟩
@[inherit_doc lb] abbrev lh (l : Fin 128) : Fin 16 := ⟨l.val % 16, Nat.mod_lt _ (by decide)⟩
/-- The column of a lane's head. -/
abbrev lc (l : Fin 128) (j : Fin 64) : Fin 1024 := ⟨l.val % 16 * 64 + j.val, by omega⟩

/-- The group and the lane of a batch entry and a head. -/
abbrev gl (b : Fin 32) : Fin 4 := ⟨b.val / 8, by omega⟩
@[inherit_doc gl] abbrev ln (b : Fin 32) (h : Fin 16) : Fin 128 := ⟨b.val % 8 * 16 + h.val, by omega⟩

section layout
variable {F : FTy → Type} [FloatOps F]
/-- The layout of a row of columns: groups, head columns, lanes. -/
def layX (x : (⟨S32x1x1024, .f32⟩ : BufTy).Contents (Elt F)) : (⟨S4x1x64x128, .f32⟩ : BufTy).Contents (Elt F) :=
  transpose S4x1x64x128 [2, 0, 1, 3] (shapeCast S1x64x4x128 (shapeCast S1x64x512 (transpose S1x64x32x16 [1, 3, 0, 2] (shapeCast S32x1x16x64 x shapeCasts_S32x1x1024_S32x1x16x64 : (⟨S32x1x16x64, .f32⟩ : BufTy).Contents (Elt F)) transposes_S32x1x16x64_S1x64x32x16_1_3_0_2 : (⟨S1x64x32x16, .f32⟩ : BufTy).Contents (Elt F)) shapeCasts_S1x64x32x16_S1x64x512 : (⟨S1x64x512, .f32⟩ : BufTy).Contents (Elt F)) shapeCasts_S1x64x512_S1x64x4x128 : (⟨S1x64x4x128, .f32⟩ : BufTy).Contents (Elt F)) transposes_S1x64x4x128_S4x1x64x128_2_0_1_3
/-- The layout of the values: groups, head rows, lanes. -/
def layV (x : (⟨S32x1x1024, .f32⟩ : BufTy).Contents (Elt F)) : (⟨S4x1x64x128, .f32⟩ : BufTy).Contents (Elt F) :=
  transpose S4x1x64x128 [2, 0, 1, 3] (shapeCast S1x64x4x128 (transpose S1x64x32x16 [1, 3, 0, 2] (shapeCast S32x1x16x64 x shapeCasts_S32x1x1024_S32x1x16x64 : (⟨S32x1x16x64, .f32⟩ : BufTy).Contents (Elt F)) transposes_S32x1x16x64_S1x64x32x16_1_3_0_2 : (⟨S1x64x32x16, .f32⟩ : BufTy).Contents (Elt F)) shapeCasts_S1x64x32x16_S1x64x4x128 : (⟨S1x64x4x128, .f32⟩ : BufTy).Contents (Elt F)) transposes_S1x64x4x128_S4x1x64x128_2_0_1_3
/-- The layout of the state before the step. -/
def layS (x : (⟨S32x16x64x64, .f32⟩ : BufTy).Contents (Elt F)) : (⟨S4x64x64x128, .f32⟩ : BufTy).Contents (Elt F) :=
  transpose S4x64x64x128 [0, 2, 3, 1] (shapeCast S4x128x64x64 x shapeCasts_S32x16x64x64_S4x128x64x64 : (⟨S4x128x64x64, .f32⟩ : BufTy).Contents (Elt F)) transposes_S4x128x64x64_S4x64x64x128_0_2_3_1
/-- The layout of the bonus weights. -/
def layK (x : (⟨S1024, .f32⟩ : BufTy).Contents (Elt F)) : (⟨S4x64x128, .f32⟩ : BufTy).Contents (Elt F) :=
  transpose S4x64x128 [1, 0, 2] (shapeCast S64x4x128 (shapeCast S64x512 (transpose S64x32x16 [2, 0, 1] (broadcastInDim S32x16x64 ![0, 1, 2] bcast_S1x16x64_S32x16x64_0_1_2 (shapeCast S1x16x64 x shapeCasts_S1024_S1x16x64 : (⟨S1x16x64, .f32⟩ : BufTy).Contents (Elt F)) : (⟨S32x16x64, .f32⟩ : BufTy).Contents (Elt F)) transposes_S32x16x64_S64x32x16_2_0_1 : (⟨S64x32x16, .f32⟩ : BufTy).Contents (Elt F)) shapeCasts_S64x32x16_S64x512 : (⟨S64x512, .f32⟩ : BufTy).Contents (Elt F)) shapeCasts_S64x512_S64x4x128 : (⟨S64x4x128, .f32⟩ : BufTy).Contents (Elt F)) transposes_S64x4x128_S4x64x128_1_0_2
/-- The layout of the head norm's weights. -/
def layW (x : (⟨S1024, .f32⟩ : BufTy).Contents (Elt F)) : (⟨S4x64x128, .f32⟩ : BufTy).Contents (Elt F) :=
  transpose S4x64x128 [1, 0, 2] (shapeCast S64x4x128 (transpose S64x32x16 [2, 0, 1] (broadcastInDim S32x16x64 ![0, 1, 2] bcast_S1x16x64_S32x16x64_0_1_2 (shapeCast S1x16x64 x shapeCasts_S1024_S1x16x64 : (⟨S1x16x64, .f32⟩ : BufTy).Contents (Elt F)) : (⟨S32x16x64, .f32⟩ : BufTy).Contents (Elt F)) transposes_S32x16x64_S64x32x16_2_0_1 : (⟨S64x32x16, .f32⟩ : BufTy).Contents (Elt F)) shapeCasts_S64x32x16_S64x4x128 : (⟨S64x4x128, .f32⟩ : BufTy).Contents (Elt F)) transposes_S64x4x128_S4x64x128_1_0_2
/-- The outputs back in the layer's order. -/
def backO (x : (⟨S4x1x64x128, .f32⟩ : BufTy).Contents (Elt F)) : (⟨S32x1x1024, .f32⟩ : BufTy).Contents (Elt F) :=
  shapeCast S32x1x1024 (transpose S32x1x16x64 [2, 0, 3, 1] (shapeCast S1x64x32x16 (transpose S1x64x4x128 [1, 2, 0, 3] x transposes_S4x1x64x128_S1x64x4x128_1_2_0_3 : (⟨S1x64x4x128, .f32⟩ : BufTy).Contents (Elt F)) shapeCasts_S1x64x4x128_S1x64x32x16 : (⟨S1x64x32x16, .f32⟩ : BufTy).Contents (Elt F)) transposes_S1x64x32x16_S32x1x16x64_2_0_3_1 : (⟨S32x1x16x64, .f32⟩ : BufTy).Contents (Elt F)) shapeCasts_S32x1x16x64_S32x1x1024
/-- The state back in the layer's order. -/
def backS (x : (⟨S4x64x64x128, .f32⟩ : BufTy).Contents (Elt F)) : (⟨S32x16x64x64, .f32⟩ : BufTy).Contents (Elt F) :=
  shapeCast S32x16x64x64 (transpose S4x128x64x64 [0, 3, 1, 2] x transposes_S4x64x64x128_S4x128x64x64_0_3_1_2 : (⟨S4x128x64x64, .f32⟩ : BufTy).Contents (Elt F)) shapeCasts_S4x128x64x64_S32x16x64x64
end layout

theorem layX_at (x : (⟨S32x1x1024, .f32⟩ : BufTy).Contents (Elt Ideal)) (g : Fin 4) (j : Fin 64) (l : Fin 128) : layX x (ix4 g 0 j l) = x (ix3 (lb g l) 0 (lc l j)) := by
  pointwise [layX]
theorem layV_at (x : (⟨S32x1x1024, .f32⟩ : BufTy).Contents (Elt Ideal)) (g : Fin 4) (i : Fin 64) (l : Fin 128) : layV x (ix4 g 0 i l) = x (ix3 (lb g l) 0 (lc l i)) := by
  pointwise [layV]
theorem layS_at (x : (⟨S32x16x64x64, .f32⟩ : BufTy).Contents (Elt Ideal)) (g : Fin 4) (i j : Fin 64) (l : Fin 128) : layS x (ix4 g i j l) = x (ix4 (lb g l) (lh l) i j) := by
  pointwise [layS]
theorem layK_at (x : (⟨S1024, .f32⟩ : BufTy).Contents (Elt Ideal)) (g : Fin 4) (j : Fin 64) (l : Fin 128) : layK x (ix3 g j l) = x (ix1 (lc l j)) := by
  pointwise [layK]
theorem layW_at (x : (⟨S1024, .f32⟩ : BufTy).Contents (Elt Ideal)) (g : Fin 4) (i : Fin 64) (l : Fin 128) : layW x (ix3 g i l) = x (ix1 (lc l i)) := by
  pointwise [layW]
theorem backO_at (x : (⟨S4x1x64x128, .f32⟩ : BufTy).Contents (Elt Ideal)) (b : Fin 32) (h : Fin 16) (i : Fin 64) :
    backO x (ix3 b 0 (⟨h.val * 64 + i.val, by omega⟩ : Fin 1024)) = x (ix4 (gl b) 0 i (ln b h)) := by
  pointwise [backO]
theorem backS_at (x : (⟨S4x64x64x128, .f32⟩ : BufTy).Contents (Elt Ideal)) (b : Fin 32) (h : Fin 16) (i j : Fin 64) : backS x (ix4 b h i j) = x (ix4 (gl b) i j (ln b h)) := by
  pointwise [backS]

variable (m : (ℓ : Loc nD τ sig) → Buf (Elt Ideal) ℓ) (c : Dev nD)

theorem V_4 : V m c main_v4 = layX (m ((c : Thread nD τ).loc main_arg0)) := by
  show StableHlo.after hostOps0 (fun b => m (c, b)) (Proc.devRef .tc main_v4) = _
  unfold hostOps0; after_results; try rfl
theorem V_9 : V m c main_v9 = layX (m ((c : Thread nD τ).loc main_arg1)) := by
  show StableHlo.after hostOps0 (fun b => m (c, b)) (Proc.devRef .tc main_v9) = _
  unfold hostOps0; after_results; try rfl
theorem V_14 : V m c main_v14 = layX (m ((c : Thread nD τ).loc main_arg2)) := by
  show StableHlo.after hostOps0 (fun b => m (c, b)) (Proc.devRef .tc main_v14) = _
  unfold hostOps0; after_results; try rfl
theorem V_19 : V m c main_v19 = layX (m ((c : Thread nD τ).loc main_arg3)) := by
  show StableHlo.after hostOps0 (fun b => m (c, b)) (Proc.devRef .tc main_v19) = _
  unfold hostOps0; after_results; try rfl
theorem V_24 : V m c main_v24 = layX (m ((c : Thread nD τ).loc main_arg4)) := by
  show StableHlo.after hostOps0 (fun b => m (c, b)) (Proc.devRef .tc main_v24) = _
  unfold hostOps0; after_results; try rfl
theorem V_28 : V m c main_v28 = layV (m ((c : Thread nD τ).loc main_arg5)) := by
  show StableHlo.after hostOps0 (fun b => m (c, b)) (Proc.devRef .tc main_v28) = _
  unfold hostOps0; after_results; try rfl
theorem V_30 : V m c main_v30 = layS (m ((c : Thread nD τ).loc main_arg6)) := by
  show StableHlo.after hostOps0 (fun b => m (c, b)) (Proc.devRef .tc main_v30) = _
  unfold hostOps0; after_results; try rfl
theorem V_36 : V m c main_v36 = layK (m ((c : Thread nD τ).loc main_arg7)) := by
  show StableHlo.after hostOps0 (fun b => m (c, b)) (Proc.devRef .tc main_v36) = _
  unfold hostOps0; after_results; try rfl
theorem V_41 : V m c main_v41 = layW (m ((c : Thread nD τ).loc main_arg8)) := by
  show StableHlo.after hostOps0 (fun b => m (c, b)) (Proc.devRef .tc main_v41) = _
  unfold hostOps0; after_results; try rfl
theorem V_46 : V m c main_v46 = layW (m ((c : Thread nD τ).loc main_arg9)) := by
  show StableHlo.after hostOps0 (fun b => m (c, b)) (Proc.devRef .tc main_v46) = _
  unfold hostOps0; after_results; try rfl

end Cert.Kernel8Ideal.SScan

end
-- ==== Proof.SampleScanAt.lean ====
/-
# The sample step's recurrence in the kernel, at an index

One row of a head's state after the step and the row's output, as the kernel computes them and as formulas over the
extended reals; the normalised key, the head norm and the bonus.
-/
module

public import proofs.«01_k».proof.Proof.Gen.Kernel8Ideal.Skeleton
public import Idealize.ShloMosaic.Lib.Pipeline.ValueKit

@[expose] public section

set_option maxRecDepth 16384

noncomputable section

namespace Cert.Kernel8Ideal.SScan

open Idealize.ShloMosaic Idealize.ShloMosaic.TcCoe Idealize.ShloMosaic.Tactic Idealize.SL.Sem
open Cert.Kernel8Ideal Cert.Kernel8Ideal.Gen

section row
variable {F : FTy → Type} [FloatOps F]

/-- Where the body reads the value of head row `i`, stores its output, and reads and stores its state. -/
def offV (i : Fin 64) : Fin 4 → Nat := ![0, 0, i.val, 0]
@[inherit_doc offV] def offY (i : Fin 64) : Fin 3 → Nat := ![0, i.val, 0]
@[inherit_doc offV] def offS (i : Fin 64) : Fin 3 → Nat := ![i.val, 0, 0]

theorem offV_inb (i : Fin 64) : ∀ a, offV i a + S1x1x1x128.size a ≤ S1x1x64x128.size a := by
  have hi := i.isLt
  intro a; fin_cases a <;> simp [offV, S1x1x1x128, S1x1x64x128] <;> omega
theorem offY_inb (i : Fin 64) : ∀ a, offY i a + S1x1x128.size a ≤ S1x64x128.size a := by
  have hi := i.isLt
  intro a; fin_cases a <;> simp [offY, S1x1x128, S1x64x128] <;> omega
theorem offS_inb (i : Fin 64) : ∀ a, offS i a + S1x64x128.size a ≤ S64x64x128.size a := by
  have hi := i.isLt
  intro a; fin_cases a <;> simp [offS, S1x64x128, S64x64x128] <;> omega

/-- The state of head row `i`. -/
abbrev slab (S : Vec F S64x64x128 .f32) (i : Fin 64) : Vec F S1x64x128 .f32 :=
  fun x => S ((Rect.unit (s := S64x64x128) (offS i) S1x64x128.size (offS_inb i)).toLoadRect.idx x)
/-- The values of head row `i`. -/
abbrev vrow (A : Vec F S1x1x64x128 .f32) (i : Fin 64) : Vec F S1x1x1x128 .f32 :=
  fun x => A ((Rect.unit (s := S1x1x64x128) (offV i) S1x1x1x128.size (offV_inb i)).toLoadRect.idx x)

variable (x0 x1 x2 x3 x4 x5 : Vec F S1x1x64x128 .f32) (x6 : Vec F S1x64x64x128 .f32) (x7 x8 x9 : Vec F S1x64x128 .f32)

/-- The state of head row `i` after the step. -/
def stRow (i : Fin 64) : FVec F S1x64x128 .f32 :=
  k0_pay17 (k0_pay7 x1) (k0_pay8 x2) (k0_pay10 (k0_pay5 x3)) (k0_pay11 (k0_pay6 x3 x4)) (slab (k0_pay3 x6) i) (vrow x5 i)
/-- The output of head row `i`. -/
def yRow (i : Fin 64) : FVec F S1x1x128 .f32 :=
  k0_pay16 (k0_pay7 x1) (k0_pay8 x2) (k0_pay9 x0) (k0_pay10 (k0_pay5 x3)) (k0_pay11 (k0_pay6 x3 x4)) (slab (k0_pay3 x6) i) (vrow x5 i)
/-- The state of all head rows after the step. -/
def newS : Vec F S64x64x128 .f32 := fun y => stRow x1 x2 x3 x4 x5 x6 (y 0) (ix3 0 (y 1) (y 2))
/-- The outputs of all head rows. -/
def newY : Vec F S1x64x128 .f32 := fun y => yRow x0 x1 x2 x3 x4 x5 x6 (y 1) (ix3 0 0 (y 2))
/-- The step's output: head norm and bonus on top of the recurrence. -/
def outO : Vec F S1x1x64x128 .f32 :=
  k0_pay1 (k0_pay264 x5) (k0_pay265 (newY x0 x1 x2 x3 x4 x5 x6) x8 x9) (k0_pay267 (k0_pay266 x0) x2 x7)
end row

theorem slab_at (S : Vec Ideal S64x64x128 .f32) (i j : Fin 64) (l : Fin 128) : slab S i (ix3 0 j l) = S (ix3 i j l) := by
  refine congrArg S (funext fun a => Fin.ext ?_)
  fin_cases a
  · show i.val + 1 * 0 = i.val; omega
  · show 0 + 1 * j.val = j.val; omega
  · show 0 + 1 * l.val = l.val; omega

theorem vrow_at (A : Vec Ideal S1x1x64x128 .f32) (i : Fin 64) (l : Fin 128) : vrow A i (ix4 0 0 0 l) = A (ix4 0 0 i l) := by
  refine congrArg A (funext fun a => Fin.ext ?_)
  fin_cases a
  · rfl
  · rfl
  · show i.val + 1 * 0 = i.val; omega
  · show 0 + 1 * l.val = l.val; omega

theorem pay15_at (v24 v27 v33 v36 : FVec Ideal S64x128 .f32) (s : Vec Ideal S1x64x128 .f32) (v : Vec Ideal S1x1x1x128 .f32)
    (j : Fin 64) (l : Fin 128) :
    k0_pay15 (F := Ideal) v24 v27 v33 v36 s v (ix2 j l)
      = s (ix3 0 j l) * v24 (ix2 j l) + (0 - ∑ q : Fin 64, s (ix3 0 q l) * v33 (ix2 q l)) * v36 (ix2 j l)
        + v (ix4 0 0 0 l) * v27 (ix2 j l) := by
  pointwise [k0_pay15]

theorem pay16_at (v24 v27 v30 v33 v36 : FVec Ideal S64x128 .f32) (s : Vec Ideal S1x64x128 .f32) (v : Vec Ideal S1x1x1x128 .f32)
    (l : Fin 128) :
    k0_pay16 (F := Ideal) v24 v27 v30 v33 v36 s v (ix3 0 0 l)
      = ∑ j : Fin 64, k0_pay15 (F := Ideal) v24 v27 v33 v36 s v (ix2 j l) * v30 (ix2 j l) := by
  unfold k0_pay16
  generalize k0_pay15 (F := Ideal) v24 v27 v33 v36 s v = w
  pointwise

theorem pay17_at (v24 v27 v33 v36 : FVec Ideal S64x128 .f32) (s : Vec Ideal S1x64x128 .f32) (v : Vec Ideal S1x1x1x128 .f32)
    (j : Fin 64) (l : Fin 128) :
    k0_pay17 (F := Ideal) v24 v27 v33 v36 s v (ix3 0 j l) = k0_pay15 (F := Ideal) v24 v27 v33 v36 s v (ix2 j l) := by
  unfold k0_pay17
  generalize k0_pay15 (F := Ideal) v24 v27 v33 v36 s v = w
  pointwise

theorem pay7_at (v : Vec Ideal S1x1x64x128 .f32) (j : Fin 64) (l : Fin 128) : k0_pay7 (F := Ideal) v (ix2 j l) = v (ix4 0 0 j l) := by
  pointwise [k0_pay7]
theorem pay8_at (v : Vec Ideal S1x1x64x128 .f32) (j : Fin 64) (l : Fin 128) : k0_pay8 (F := Ideal) v (ix2 j l) = v (ix4 0 0 j l) := by
  pointwise [k0_pay8]
theorem pay9_at (v : Vec Ideal S1x1x64x128 .f32) (j : Fin 64) (l : Fin 128) : k0_pay9 (F := Ideal) v (ix2 j l) = v (ix4 0 0 j l) := by
  pointwise [k0_pay9]
theorem pay10_at (v : Vec Ideal S1x64x128 .f32) (j : Fin 64) (l : Fin 128) : k0_pay10 (F := Ideal) v (ix2 j l) = v (ix3 0 j l) := by
  pointwise [k0_pay10]
theorem pay11_at (v : Vec Ideal S1x64x128 .f32) (j : Fin 64) (l : Fin 128) : k0_pay11 (F := Ideal) v (ix2 j l) = v (ix3 0 j l) := by
  pointwise [k0_pay11]

/-- The normalised key. -/
theorem pay5_at (x : Vec Ideal S1x1x64x128 .f32) (j : Fin 64) (l : Fin 128) :
    k0_pay5 (F := Ideal) x (ix3 0 j l)
      = Ideal.div (x (ix4 0 0 j l)) (max (Ideal.sqrt (∑ q : Fin 64, x (ix4 0 0 q l) * x (ix4 0 0 q l))) (Ideal.ofBits .f32 0x2B8CBCCC#32)) := by
  pointwise [k0_pay5, k0_pay4]

/-- The normalised key times the in-context rate. -/
theorem pay6_at (x a : Vec Ideal S1x1x64x128 .f32) (j : Fin 64) (l : Fin 128) :
    k0_pay6 (F := Ideal) x a (ix3 0 j l) = k0_pay5 (F := Ideal) x (ix3 0 j l) * a (ix4 0 0 j l) := by
  unfold k0_pay6 k0_pay5
  generalize k0_pay4 (F := Ideal) x = w
  pointwise

theorem pay3_at (x : Vec Ideal S1x64x64x128 .f32) (i j : Fin 64) (l : Fin 128) :
    k0_pay3 (F := Ideal) x (ix3 i j l) = x (ix4 0 i j l) := by pointwise [k0_pay3]
theorem pay2_at (x : Vec Ideal S64x64x128 .f32) (i j : Fin 64) (l : Fin 128) :
    k0_pay2 (F := Ideal) x (ix4 0 i j l) = x (ix3 i j l) := by pointwise [k0_pay2]
theorem pay264_at (x : Vec Ideal S1x1x64x128 .f32) (i : Fin 64) (l : Fin 128) :
    k0_pay264 (F := Ideal) x (ix3 0 i l) = x (ix4 0 0 i l) := by pointwise [k0_pay264]
theorem pay267_at (r k : Vec Ideal S1x1x64x128 .f32) (w : Vec Ideal S1x64x128 .f32) (j : Fin 64) (l : Fin 128) :
    k0_pay267 (F := Ideal) (k0_pay266 r) k w (ix3 0 j l) = r (ix4 0 0 j l) * k (ix4 0 0 j l) * w (ix3 0 j l) := by
  pointwise [k0_pay267, k0_pay266]
theorem pay1_at (v y rk : FVec Ideal S1x64x128 .f32) (i : Fin 64) (l : Fin 128) :
    k0_pay1 (F := Ideal) v y rk (ix4 0 0 i l) = y (ix3 0 i l) + (∑ j : Fin 64, rk (ix3 0 j l)) * v (ix3 0 i l) := by
  pointwise [k0_pay1]

/-- The mean the head norm takes off, in the kernel's form. -/
def kmean (y : Vec Ideal S1x64x128 .f32) (l : Fin 128) : EReal :=
  (∑ i : Fin 64, y (ix3 0 i l)) * Ideal.ofBits .f32 0x3C800000#32
/-- The variance, in the kernel's form. -/
def kvar (y : Vec Ideal S1x64x128 .f32) (l : Fin 128) : EReal :=
  (∑ i : Fin 64, (y (ix3 0 i l) - kmean y l) * (y (ix3 0 i l) - kmean y l)) * Ideal.ofBits .f32 0x3C800000#32

theorem pay265_at (y w b : Vec Ideal S1x64x128 .f32) (i : Fin 64) (l : Fin 128) :
    k0_pay265 (F := Ideal) y w b (ix3 0 i l)
      = (y (ix3 0 i l) - kmean y l) * Ideal.rsqrt (kvar y l + Ideal.ofBits .f32 0x3A27C5AC#32) * w (ix3 0 i l) + b (ix3 0 i l) := by
  unfold kvar kmean
  pointwise [k0_pay265]

variable (x0 x1 x2 x3 x4 x5 : Vec Ideal S1x1x64x128 .f32) (x6 : Vec Ideal S1x64x64x128 .f32)

/-- THE STATE after the step, at an index. -/
theorem newS_at (i j : Fin 64) (l : Fin 128) :
    newS (F := Ideal) x1 x2 x3 x4 x5 x6 (ix3 i j l)
      = x6 (ix4 0 i j l) * x1 (ix4 0 0 j l)
        + (0 - ∑ q : Fin 64, x6 (ix4 0 i q l) * k0_pay5 (F := Ideal) x3 (ix3 0 q l)) * (k0_pay5 (F := Ideal) x3 (ix3 0 j l) * x4 (ix4 0 0 j l))
        + x5 (ix4 0 0 i l) * x2 (ix4 0 0 j l) := by
  have e : newS (F := Ideal) x1 x2 x3 x4 x5 x6 (ix3 i j l) = stRow (F := Ideal) x1 x2 x3 x4 x5 x6 i (ix3 0 j l) := rfl
  rw [e]
  unfold stRow
  rw [pay17_at, pay15_at]
  simp only [pay7_at, pay8_at, pay10_at, pay11_at, pay6_at]
  rw [Finset.sum_congr rfl fun q _ => congrArg (· * k0_pay5 (F := Ideal) x3 (ix3 0 q l)) (slab_at (k0_pay3 (F := Ideal) x6) i q l)]
  rw [slab_at, vrow_at]
  simp only [pay3_at]

/-- THE OUTPUT of a row: the new state against the receptance. -/
theorem newY_at (i : Fin 64) (l : Fin 128) :
    newY (F := Ideal) x0 x1 x2 x3 x4 x5 x6 (ix3 0 i l)
      = ∑ j : Fin 64, newS (F := Ideal) x1 x2 x3 x4 x5 x6 (ix3 i j l) * x0 (ix4 0 0 j l) := by
  have e : newY (F := Ideal) x0 x1 x2 x3 x4 x5 x6 (ix3 0 i l) = yRow (F := Ideal) x0 x1 x2 x3 x4 x5 x6 i (ix3 0 0 l) := rfl
  rw [e]
  unfold yRow
  rw [pay16_at]
  refine Finset.sum_congr rfl fun j _ => ?_
  rw [← pay17_at, pay9_at]
  rfl

end Cert.Kernel8Ideal.SScan

end
-- ==== Proof.SampleScanBuilt.lean ====
/-
# What the sample step's body leaves

The body takes the head rows one after another, each reading its row of the state and storing it back. So a row's read
finds the state the body began with, and at the end each row holds its own step.
-/
module

public import proofs.«01_k».proof.Proof.SampleScanAt
public import proofs.«01_k».proof.Proof.ScanBody
public import proofs.«01_k».proof.Proof.Gen.Kernel8Ideal.Frame

@[expose] public section

set_option maxRecDepth 16384
set_option maxHeartbeats 4000000

noncomputable section

namespace Cert.Kernel8Ideal.SScan

open Idealize.ShloMosaic Idealize.ShloMosaic.TcCoe Idealize.ShloMosaic.Tactic Idealize.SL.Sem
open Cert.Kernel8Ideal Cert.Kernel8Ideal.Gen Cert.Kernel8Ideal.Gen.kernelRun0_A
open Cert.KernelIdeal.Scan (read_whole readAt_whole z3 z4)

variable {F : FTy → Type} [FloatOps F]

section lists
variable {sig' : RefSig} {κ : Kind} {sp : Space} (V : View sig' κ sp S64x64x128 .f32)
  (w24 w27 w30 w33 w36 : FVec F S64x128 .f32) (vr : Fin 64 → Vec F S1x1x1x128 .f32) (P0 : Vec F S64x64x128 .f32)

/-- Where the state of head row `i` lies. -/
abbrev rowS (i : Fin 64) : Rect S64x64x128 := Rect.unit (offS i) S1x64x128.size (offS_inb i)
/-- Where the output of head row `i` lies. -/
abbrev rowY (i : Fin 64) : Rect S1x64x128 := Rect.unit (offY i) S1x1x128.size (offY_inb i)

/-- The stores to the state after head row `i`, from those before it: the row's new state is put in front. -/
def stp (i : Fin 64) (L : List (View.Piece (Elt F) S64x64x128 .f32)) : List (View.Piece (Elt F) S64x64x128 .f32) :=
  (⟨rowS i, k0_pay17 w24 w27 w33 w36 (V.readCov L (rowS i).toLoadRect) (vr i)⟩ : View.Piece (Elt F) S64x64x128 .f32) :: L
/-- The store of head row `i`'s output, from the stores to the state before it. -/
def pyo (i : Fin 64) (L : List (View.Piece (Elt F) S64x64x128 .f32)) : View.Piece (Elt F) S1x64x128 .f32 :=
  ⟨rowY i, k0_pay16 w24 w27 w30 w33 w36 (V.readCov L (rowS i).toLoadRect) (vr i)⟩

/-- `L` holds the stores to the state of a body that has done `n` head rows. -/
inductive Built : Nat → List (View.Piece (Elt F) S64x64x128 .f32) → Prop
  | base : Built 0 [⟨Rect.unit ![0, 0, 0] S64x64x128.size inb_S64x64x128_S64x64x128_0_0_0, P0⟩]
  | step (i : Fin 64) (L : List (View.Piece (Elt F) S64x64x128 .f32)) : Built i.val L → Built (i.val + 1) (stp V w24 w27 w33 w36 vr i L)

/-- `M` holds the stores to the outputs of a body that has done `n` head rows. -/
inductive BuiltY : Nat → List (View.Piece (Elt F) S1x64x128 .f32) → Prop
  | base : BuiltY 0 []
  | step (i : Fin 64) (L : List (View.Piece (Elt F) S64x64x128 .f32)) (M : List (View.Piece (Elt F) S1x64x128 .f32)) :
      Built V w24 w27 w33 w36 vr P0 i.val L → BuiltY i.val M → BuiltY (i.val + 1) (pyo V w24 w27 w30 w33 w36 vr i L :: M)

variable {V w24 w27 w30 w33 w36 vr P0}

theorem rowS_emb (y : S64x64x128.Idx) : (rowS (y 0)).emb (ix3 0 (y 1) (y 2) : S1x64x128.Idx) = y := by
  funext a; refine Fin.ext ?_
  fin_cases a
  · show (y 0).val + 1 * 0 = (y 0).val; omega
  · show 0 + 1 * (y 1).val = (y 1).val; omega
  · show 0 + 1 * (y 2).val = (y 2).val; omega

theorem rowY_emb (y : S1x64x128.Idx) : (rowY (y 1)).emb (ix3 0 0 (y 2) : S1x1x128.Idx) = y := by
  have h0 : (y 0).val = 0 := Nat.lt_one_iff.1 (y 0).isLt
  funext a; refine Fin.ext ?_
  fin_cases a
  · show 0 + 1 * 0 = (y 0).val; omega
  · show (y 1).val + 1 * 0 = (y 1).val; omega
  · show 0 + 1 * (y 2).val = (y 2).val; omega

theorem rowS_mem {i : Fin 64} {y : S64x64x128.Idx} (h : y ∈ (rowS i).set) : y 0 = i := by
  have h' := (Rect.mem_set_unit (inb := offS_inb i)).1 h 0
  have h1 : i.val ≤ (y 0).val := h'.1
  have h2 : (y 0).val < i.val + 1 := h'.2
  exact Fin.ext (by omega)

theorem rowY_mem {i : Fin 64} {y : S1x64x128.Idx} (h : y ∈ (rowY i).set) : y 1 = i := by
  have h' := (Rect.mem_set_unit (inb := offY_inb i)).1 h 1
  have h1 : i.val ≤ (y 1).val := h'.1
  have h2 : (y 1).val < i.val + 1 := h'.2
  exact Fin.ext (by omega)

/-- A row not yet done holds what the body began with. -/
theorem Built.later {n : Nat} {L} (h : Built V w24 w27 w33 w36 vr P0 n L) (y : S64x64x128.Idx) (hy : n ≤ (y 0).val) :
    View.canon L y = P0 y := by
  induction h with
  | base => exact congrFun (View.canon_cons_unit_zero z3 _ _ _) y
  | step i L hL ih =>
    unfold stp
    rw [View.canon_cons_of_not_mem _ _ (fun hm => ?_), ih (by omega)]
    have := congrArg Fin.val (rowS_mem hm)
    omega

/-- So a row's read finds what the body began with. -/
theorem Built.slab_eq {i : Fin 64} {L} (h : Built V w24 w27 w33 w36 vr P0 i.val L) :
    V.readCov L (rowS i).toLoadRect = slab P0 i := by
  rw [View.readCov_eq_canon']
  funext x
  refine h.later _ ?_
  show i.val ≤ i.val + 1 * (x 0).val
  omega

/-- A row done holds its own step. -/
theorem Built.done {n : Nat} {L} (h : Built V w24 w27 w33 w36 vr P0 n L) (y : S64x64x128.Idx) (hy : (y 0).val < n) :
    View.canon L y = k0_pay17 w24 w27 w33 w36 (slab P0 (y 0)) (vr (y 0)) (ix3 0 (y 1) (y 2)) := by
  induction h with
  | base => exact absurd hy (Nat.not_lt_zero _)
  | step i L hL ih =>
    unfold stp
    by_cases hi : y 0 = i
    · subst hi
      refine (congrArg (View.canon _) (rowS_emb y).symm).trans ((View.canon_cons_emb _ _ _ _).trans ?_)
      rw [hL.slab_eq]
    · rw [View.canon_cons_of_not_mem _ _ (fun hm => hi (rowS_mem hm))]
      refine ih ?_
      have : (y 0).val ≠ i.val := fun e => hi (Fin.ext e)
      omega

theorem BuiltY.done {n : Nat} {M} (h : BuiltY V w24 w27 w30 w33 w36 vr P0 n M) (y : S1x64x128.Idx) (hy : (y 1).val < n) :
    View.canon M y = k0_pay16 w24 w27 w30 w33 w36 (slab P0 (y 1)) (vr (y 1)) (ix3 0 0 (y 2)) := by
  induction h with
  | base => exact absurd hy (Nat.not_lt_zero _)
  | step i L M hL hM ih =>
    unfold pyo
    by_cases hi : y 1 = i
    · subst hi
      refine (congrArg (View.canon _) (rowY_emb y).symm).trans ((View.canon_cons_emb _ _ _ _).trans ?_)
      rw [hL.slab_eq]
    · rw [View.canon_cons_of_not_mem _ _ (fun hm => hi (rowY_mem hm))]
      refine ih ?_
      have : (y 1).val ≠ i.val := fun e => hi (Fin.ext e)
      omega
end lists

/-- A load of a whole buffer just stored reads the store. -/
theorem readCov_whole {sig' : RefSig} {κ : Kind} {sp : Space} {s : Shape} {e : EltTy} (v : View sig' κ sp s e)
    {off : Fin s.rank → Nat} (h : off = fun _ => 0) (inb inb' : ∀ a, off a + s.size a ≤ s.size a) (L : List (View.Piece (Elt F) s e)) :
    v.readCov L (Rect.unit off s.size inb).toLoadRect = View.canon L := by
  rw [View.readCov_eq_canon']
  exact View.ld_unit_zero h inb (View.canon L)

/-- The output from the values loaded for it. -/
theorem outO_congr (x0 x1 x2 x3 x4 x5 : Vec F S1x1x64x128 .f32) (x6 : Vec F S1x64x64x128 .f32) (x7 x8 x9 : Vec F S1x64x128 .f32)
    {v0 v2 v5 : Vec F S1x1x64x128 .f32} {vY v7 v8 v9 : Vec F S1x64x128 .f32}
    (h0 : v0 = x0) (h2 : v2 = x2) (h5 : v5 = x5) (hY : vY = newY x0 x1 x2 x3 x4 x5 x6) (h7 : v7 = x7) (h8 : v8 = x8) (h9 : v9 = x9) :
    k0_pay1 (k0_pay264 v5) (k0_pay265 vY v8 v9) (k0_pay267 (k0_pay266 v0) v2 v7) = outO x0 x1 x2 x3 x4 x5 x6 x7 x8 x9 := by
  subst h0 h2 h5 hY h7 h8 h9; rfl

section body
variable (c : Dev nD) (i : grid0.Coords) (arg2 : Memref sig .tc .vmem S1x1x64x128 .f32) (harg2 : arg2.IsWhole) (arg3 : Memref sig .tc .vmem S1x1x64x128 .f32) (harg3 : arg3.IsWhole) (arg4 : Memref sig .tc .vmem S1x1x64x128 .f32) (harg4 : arg4.IsWhole) (arg5 : Memref sig .tc .vmem S1x1x64x128 .f32) (harg5 : arg5.IsWhole) (arg6 : Memref sig .tc .vmem S1x1x64x128 .f32) (harg6 : arg6.IsWhole) (arg7 : Memref sig .tc .vmem S1x1x64x128 .f32) (harg7 : arg7.IsWhole) (arg8 : Memref sig .tc .vmem S1x64x64x128 .f32) (harg8 : arg8.IsWhole) (arg9 : Memref sig .tc .vmem S1x64x128 .f32) (harg9 : arg9.IsWhole) (arg10 : Memref sig .tc .vmem S1x64x128 .f32) (harg10 : arg10.IsWhole) (arg11 : Memref sig .tc .vmem S1x64x128 .f32) (harg11 : arg11.IsWhole) (arg12 : Memref sig .tc .vmem S1x1x64x128 .f32) (harg12 : arg12.IsWhole) (arg13 : Memref sig .tc .vmem S1x64x64x128 .f32) (harg13 : arg13.IsWhole) (arg14 : Memref sig .tc .vmem S64x64x128 .f32) (harg14 : arg14.IsWhole) (arg15 : Memref sig .tc .vmem S1x64x128 .f32) (harg15 : arg15.IsWhole) (arg16 : Memref sig .tc .vmem S1x64x128 .f32) (harg16 : arg16.IsWhole) (arg17 : Memref sig .tc .vmem S1x64x128 .f32) (harg17 : arg17.IsWhole) (hc0 : cond0_0 i) (hc1 : cond0_1 i)
    (x0 : Vec F S1x1x64x128 .f32) (x1 : Vec F S1x1x64x128 .f32) (x2 : Vec F S1x1x64x128 .f32) (x3 : Vec F S1x1x64x128 .f32) (x4 : Vec F S1x1x64x128 .f32) (x5 : Vec F S1x1x64x128 .f32) (x6 : Vec F S1x64x64x128 .f32) (x7 : Vec F S1x64x128 .f32) (x8 : Vec F S1x64x128 .f32) (x9 : Vec F S1x64x128 .f32)

/-- The body's stores to the state and to the outputs are built row by row. -/
theorem built :
    Built arg14.view (sl.r c arg3 harg3 x1) (sl.r_1 c arg4 harg4 x2) (sl.r_3 c arg5 harg5 arg15 x3) (sl.r_4 c arg5 harg5 arg6 harg6 arg16 x3 x4) (fun i => View.readAt (Elt F) arg7.view (Rect.unit (s := S1x1x64x128) (offV i) S1x1x1x128.size (offV_inb i)).toLoadRect (harg7.unread x5)) (k0_pay3 (View.readAt (Elt F) arg8.view (Rect.unit ![0, 0, 0, 0] S1x64x64x128.size inb_S1x64x64x128_S1x64x64x128_0_0_0_0).toLoadRect (harg8.unread x6))) 64 (sl.HS0_65 c arg3 harg3 arg4 harg4 arg5 harg5 arg6 harg6 arg7 harg7 arg8 harg8 arg14 arg15 arg16 x1 x2 x3 x4 x5 x6)
    ∧ BuiltY arg14.view (sl.r c arg3 harg3 x1) (sl.r_1 c arg4 harg4 x2) (sl.r_2 c arg2 harg2 x0) (sl.r_3 c arg5 harg5 arg15 x3) (sl.r_4 c arg5 harg5 arg6 harg6 arg16 x3 x4) (fun i => View.readAt (Elt F) arg7.view (Rect.unit (s := S1x1x64x128) (offV i) S1x1x1x128.size (offV_inb i)).toLoadRect (harg7.unread x5)) (k0_pay3 (View.readAt (Elt F) arg8.view (Rect.unit ![0, 0, 0, 0] S1x64x64x128.size inb_S1x64x64x128_S1x64x64x128_0_0_0_0).toLoadRect (harg8.unread x6))) 64 (sl.HS3_64 c arg2 harg2 arg3 harg3 arg4 harg4 arg5 harg5 arg6 harg6 arg7 harg7 arg8 harg8 arg14 arg15 arg16 x0 x1 x2 x3 x4 x5 x6) := by
  have e0 : Built arg14.view (sl.r c arg3 harg3 x1) (sl.r_1 c arg4 harg4 x2) (sl.r_3 c arg5 harg5 arg15 x3) (sl.r_4 c arg5 harg5 arg6 harg6 arg16 x3 x4) (fun i => View.readAt (Elt F) arg7.view (Rect.unit (s := S1x1x64x128) (offV i) S1x1x1x128.size (offV_inb i)).toLoadRect (harg7.unread x5)) (k0_pay3 (View.readAt (Elt F) arg8.view (Rect.unit ![0, 0, 0, 0] S1x64x64x128.size inb_S1x64x64x128_S1x64x64x128_0_0_0_0).toLoadRect (harg8.unread x6))) 0 (sl.HS0_1 c arg8 harg8 x6) := Built.base
  have e1 : Built _ _ _ _ _ _ _ 1 (sl.HS0_2 c arg3 harg3 arg4 harg4 arg5 harg5 arg6 harg6 arg7 harg7 arg8 harg8 arg14 arg15 arg16 x1 x2 x3 x4 x5 x6) := Built.step 0 _ e0
  have e2 : Built _ _ _ _ _ _ _ 2 (sl.HS0_3 c arg3 harg3 arg4 harg4 arg5 harg5 arg6 harg6 arg7 harg7 arg8 harg8 arg14 arg15 arg16 x1 x2 x3 x4 x5 x6) := Built.step 1 _ e1
  have e3 : Built _ _ _ _ _ _ _ 3 (sl.HS0_4 c arg3 harg3 arg4 harg4 arg5 harg5 arg6 harg6 arg7 harg7 arg8 harg8 arg14 arg15 arg16 x1 x2 x3 x4 x5 x6) := Built.step 2 _ e2
  have e4 : Built _ _ _ _ _ _ _ 4 (sl.HS0_5 c arg3 harg3 arg4 harg4 arg5 harg5 arg6 harg6 arg7 harg7 arg8 harg8 arg14 arg15 arg16 x1 x2 x3 x4 x5 x6) := Built.step 3 _ e3
  have e5 : Built _ _ _ _ _ _ _ 5 (sl.HS0_6 c arg3 harg3 arg4 harg4 arg5 harg5 arg6 harg6 arg7 harg7 arg8 harg8 arg14 arg15 arg16 x1 x2 x3 x4 x5 x6) := Built.step 4 _ e4
  have e6 : Built _ _ _ _ _ _ _ 6 (sl.HS0_7 c arg3 harg3 arg4 harg4 arg5 harg5 arg6 harg6 arg7 harg7 arg8 harg8 arg14 arg15 arg16 x1 x2 x3 x4 x5 x6) := Built.step 5 _ e5
  have e7 : Built _ _ _ _ _ _ _ 7 (sl.HS0_8 c arg3 harg3 arg4 harg4 arg5 harg5 arg6 harg6 arg7 harg7 arg8 harg8 arg14 arg15 arg16 x1 x2 x3 x4 x5 x6) := Built.step 6 _ e6
  have e8 : Built _ _ _ _ _ _ _ 8 (sl.HS0_9 c arg3 harg3 arg4 harg4 arg5 harg5 arg6 harg6 arg7 harg7 arg8 harg8 arg14 arg15 arg16 x1 x2 x3 x4 x5 x6) := Built.step 7 _ e7
  have e9 : Built _ _ _ _ _ _ _ 9 (sl.HS0_10 c arg3 harg3 arg4 harg4 arg5 harg5 arg6 harg6 arg7 harg7 arg8 harg8 arg14 arg15 arg16 x1 x2 x3 x4 x5 x6) := Built.step 8 _ e8
  have e10 : Built _ _ _ _ _ _ _ 10 (sl.HS0_11 c arg3 harg3 arg4 harg4 arg5 harg5 arg6 harg6 arg7 harg7 arg8 harg8 arg14 arg15 arg16 x1 x2 x3 x4 x5 x6) := Built.step 9 _ e9
  have e11 : Built _ _ _ _ _ _ _ 11 (sl.HS0_12 c arg3 harg3 arg4 harg4 arg5 harg5 arg6 harg6 arg7 harg7 arg8 harg8 arg14 arg15 arg16 x1 x2 x3 x4 x5 x6) := Built.step 10 _ e10
  have e12 : Built _ _ _ _ _ _ _ 12 (sl.HS0_13 c arg3 harg3 arg4 harg4 arg5 harg5 arg6 harg6 arg7 harg7 arg8 harg8 arg14 arg15 arg16 x1 x2 x3 x4 x5 x6) := Built.step 11 _ e11
  have e13 : Built _ _ _ _ _ _ _ 13 (sl.HS0_14 c arg3 harg3 arg4 harg4 arg5 harg5 arg6 harg6 arg7 harg7 arg8 harg8 arg14 arg15 arg16 x1 x2 x3 x4 x5 x6) := Built.step 12 _ e12
  have e14 : Built _ _ _ _ _ _ _ 14 (sl.HS0_15 c arg3 harg3 arg4 harg4 arg5 harg5 arg6 harg6 arg7 harg7 arg8 harg8 arg14 arg15 arg16 x1 x2 x3 x4 x5 x6) := Built.step 13 _ e13
  have e15 : Built _ _ _ _ _ _ _ 15 (sl.HS0_16 c arg3 harg3 arg4 harg4 arg5 harg5 arg6 harg6 arg7 harg7 arg8 harg8 arg14 arg15 arg16 x1 x2 x3 x4 x5 x6) := Built.step 14 _ e14
  have e16 : Built _ _ _ _ _ _ _ 16 (sl.HS0_17 c arg3 harg3 arg4 harg4 arg5 harg5 arg6 harg6 arg7 harg7 arg8 harg8 arg14 arg15 arg16 x1 x2 x3 x4 x5 x6) := Built.step 15 _ e15
  have e17 : Built _ _ _ _ _ _ _ 17 (sl.HS0_18 c arg3 harg3 arg4 harg4 arg5 harg5 arg6 harg6 arg7 harg7 arg8 harg8 arg14 arg15 arg16 x1 x2 x3 x4 x5 x6) := Built.step 16 _ e16
  have e18 : Built _ _ _ _ _ _ _ 18 (sl.HS0_19 c arg3 harg3 arg4 harg4 arg5 harg5 arg6 harg6 arg7 harg7 arg8 harg8 arg14 arg15 arg16 x1 x2 x3 x4 x5 x6) := Built.step 17 _ e17
  have e19 : Built _ _ _ _ _ _ _ 19 (sl.HS0_20 c arg3 harg3 arg4 harg4 arg5 harg5 arg6 harg6 arg7 harg7 arg8 harg8 arg14 arg15 arg16 x1 x2 x3 x4 x5 x6) := Built.step 18 _ e18
  have e20 : Built _ _ _ _ _ _ _ 20 (sl.HS0_21 c arg3 harg3 arg4 harg4 arg5 harg5 arg6 harg6 arg7 harg7 arg8 harg8 arg14 arg15 arg16 x1 x2 x3 x4 x5 x6) := Built.step 19 _ e19
  have e21 : Built _ _ _ _ _ _ _ 21 (sl.HS0_22 c arg3 harg3 arg4 harg4 arg5 harg5 arg6 harg6 arg7 harg7 arg8 harg8 arg14 arg15 arg16 x1 x2 x3 x4 x5 x6) := Built.step 20 _ e20
  have e22 : Built _ _ _ _ _ _ _ 22 (sl.HS0_23 c arg3 harg3 arg4 harg4 arg5 harg5 arg6 harg6 arg7 harg7 arg8 harg8 arg14 arg15 arg16 x1 x2 x3 x4 x5 x6) := Built.step 21 _ e21
  have e23 : Built _ _ _ _ _ _ _ 23 (sl.HS0_24 c arg3 harg3 arg4 harg4 arg5 harg5 arg6 harg6 arg7 harg7 arg8 harg8 arg14 arg15 arg16 x1 x2 x3 x4 x5 x6) := Built.step 22 _ e22
  have e24 : Built _ _ _ _ _ _ _ 24 (sl.HS0_25 c arg3 harg3 arg4 harg4 arg5 harg5 arg6 harg6 arg7 harg7 arg8 harg8 arg14 arg15 arg16 x1 x2 x3 x4 x5 x6) := Built.step 23 _ e23
  have e25 : Built _ _ _ _ _ _ _ 25 (sl.HS0_26 c arg3 harg3 arg4 harg4 arg5 harg5 arg6 harg6 arg7 harg7 arg8 harg8 arg14 arg15 arg16 x1 x2 x3 x4 x5 x6) := Built.step 24 _ e24
  have e26 : Built _ _ _ _ _ _ _ 26 (sl.HS0_27 c arg3 harg3 arg4 harg4 arg5 harg5 arg6 harg6 arg7 harg7 arg8 harg8 arg14 arg15 arg16 x1 x2 x3 x4 x5 x6) := Built.step 25 _ e25
  have e27 : Built _ _ _ _ _ _ _ 27 (sl.HS0_28 c arg3 harg3 arg4 harg4 arg5 harg5 arg6 harg6 arg7 harg7 arg8 harg8 arg14 arg15 arg16 x1 x2 x3 x4 x5 x6) := Built.step 26 _ e26
  have e28 : Built _ _ _ _ _ _ _ 28 (sl.HS0_29 c arg3 harg3 arg4 harg4 arg5 harg5 arg6 harg6 arg7 harg7 arg8 harg8 arg14 arg15 arg16 x1 x2 x3 x4 x5 x6) := Built.step 27 _ e27
  have e29 : Built _ _ _ _ _ _ _ 29 (sl.HS0_30 c arg3 harg3 arg4 harg4 arg5 harg5 arg6 harg6 arg7 harg7 arg8 harg8 arg14 arg15 arg16 x1 x2 x3 x4 x5 x6) := Built.step 28 _ e28
  have e30 : Built _ _ _ _ _ _ _ 30 (sl.HS0_31 c arg3 harg3 arg4 harg4 arg5 harg5 arg6 harg6 arg7 harg7 arg8 harg8 arg14 arg15 arg16 x1 x2 x3 x4 x5 x6) := Built.step 29 _ e29
  have e31 : Built _ _ _ _ _ _ _ 31 (sl.HS0_32 c arg3 harg3 arg4 harg4 arg5 harg5 arg6 harg6 arg7 harg7 arg8 harg8 arg14 arg15 arg16 x1 x2 x3 x4 x5 x6) := Built.step 30 _ e30
  have e32 : Built _ _ _ _ _ _ _ 32 (sl.HS0_33 c arg3 harg3 arg4 harg4 arg5 harg5 arg6 harg6 arg7 harg7 arg8 harg8 arg14 arg15 arg16 x1 x2 x3 x4 x5 x6) := Built.step 31 _ e31
  have e33 : Built _ _ _ _ _ _ _ 33 (sl.HS0_34 c arg3 harg3 arg4 harg4 arg5 harg5 arg6 harg6 arg7 harg7 arg8 harg8 arg14 arg15 arg16 x1 x2 x3 x4 x5 x6) := Built.step 32 _ e32
  have e34 : Built _ _ _ _ _ _ _ 34 (sl.HS0_35 c arg3 harg3 arg4 harg4 arg5 harg5 arg6 harg6 arg7 harg7 arg8 harg8 arg14 arg15 arg16 x1 x2 x3 x4 x5 x6) := Built.step 33 _ e33
  have e35 : Built _ _ _ _ _ _ _ 35 (sl.HS0_36 c arg3 harg3 arg4 harg4 arg5 harg5 arg6 harg6 arg7 harg7 arg8 harg8 arg14 arg15 arg16 x1 x2 x3 x4 x5 x6) := Built.step 34 _ e34
  have e36 : Built _ _ _ _ _ _ _ 36 (sl.HS0_37 c arg3 harg3 arg4 harg4 arg5 harg5 arg6 harg6 arg7 harg7 arg8 harg8 arg14 arg15 arg16 x1 x2 x3 x4 x5 x6) := Built.step 35 _ e35
  have e37 : Built _ _ _ _ _ _ _ 37 (sl.HS0_38 c arg3 harg3 arg4 harg4 arg5 harg5 arg6 harg6 arg7 harg7 arg8 harg8 arg14 arg15 arg16 x1 x2 x3 x4 x5 x6) := Built.step 36 _ e36
  have e38 : Built _ _ _ _ _ _ _ 38 (sl.HS0_39 c arg3 harg3 arg4 harg4 arg5 harg5 arg6 harg6 arg7 harg7 arg8 harg8 arg14 arg15 arg16 x1 x2 x3 x4 x5 x6) := Built.step 37 _ e37
  have e39 : Built _ _ _ _ _ _ _ 39 (sl.HS0_40 c arg3 harg3 arg4 harg4 arg5 harg5 arg6 harg6 arg7 harg7 arg8 harg8 arg14 arg15 arg16 x1 x2 x3 x4 x5 x6) := Built.step 38 _ e38
  have e40 : Built _ _ _ _ _ _ _ 40 (sl.HS0_41 c arg3 harg3 arg4 harg4 arg5 harg5 arg6 harg6 arg7 harg7 arg8 harg8 arg14 arg15 arg16 x1 x2 x3 x4 x5 x6) := Built.step 39 _ e39
  have e41 : Built _ _ _ _ _ _ _ 41 (sl.HS0_42 c arg3 harg3 arg4 harg4 arg5 harg5 arg6 harg6 arg7 harg7 arg8 harg8 arg14 arg15 arg16 x1 x2 x3 x4 x5 x6) := Built.step 40 _ e40
  have e42 : Built _ _ _ _ _ _ _ 42 (sl.HS0_43 c arg3 harg3 arg4 harg4 arg5 harg5 arg6 harg6 arg7 harg7 arg8 harg8 arg14 arg15 arg16 x1 x2 x3 x4 x5 x6) := Built.step 41 _ e41
  have e43 : Built _ _ _ _ _ _ _ 43 (sl.HS0_44 c arg3 harg3 arg4 harg4 arg5 harg5 arg6 harg6 arg7 harg7 arg8 harg8 arg14 arg15 arg16 x1 x2 x3 x4 x5 x6) := Built.step 42 _ e42
  have e44 : Built _ _ _ _ _ _ _ 44 (sl.HS0_45 c arg3 harg3 arg4 harg4 arg5 harg5 arg6 harg6 arg7 harg7 arg8 harg8 arg14 arg15 arg16 x1 x2 x3 x4 x5 x6) := Built.step 43 _ e43
  have e45 : Built _ _ _ _ _ _ _ 45 (sl.HS0_46 c arg3 harg3 arg4 harg4 arg5 harg5 arg6 harg6 arg7 harg7 arg8 harg8 arg14 arg15 arg16 x1 x2 x3 x4 x5 x6) := Built.step 44 _ e44
  have e46 : Built _ _ _ _ _ _ _ 46 (sl.HS0_47 c arg3 harg3 arg4 harg4 arg5 harg5 arg6 harg6 arg7 harg7 arg8 harg8 arg14 arg15 arg16 x1 x2 x3 x4 x5 x6) := Built.step 45 _ e45
  have e47 : Built _ _ _ _ _ _ _ 47 (sl.HS0_48 c arg3 harg3 arg4 harg4 arg5 harg5 arg6 harg6 arg7 harg7 arg8 harg8 arg14 arg15 arg16 x1 x2 x3 x4 x5 x6) := Built.step 46 _ e46
  have e48 : Built _ _ _ _ _ _ _ 48 (sl.HS0_49 c arg3 harg3 arg4 harg4 arg5 harg5 arg6 harg6 arg7 harg7 arg8 harg8 arg14 arg15 arg16 x1 x2 x3 x4 x5 x6) := Built.step 47 _ e47
  have e49 : Built _ _ _ _ _ _ _ 49 (sl.HS0_50 c arg3 harg3 arg4 harg4 arg5 harg5 arg6 harg6 arg7 harg7 arg8 harg8 arg14 arg15 arg16 x1 x2 x3 x4 x5 x6) := Built.step 48 _ e48
  have e50 : Built _ _ _ _ _ _ _ 50 (sl.HS0_51 c arg3 harg3 arg4 harg4 arg5 harg5 arg6 harg6 arg7 harg7 arg8 harg8 arg14 arg15 arg16 x1 x2 x3 x4 x5 x6) := Built.step 49 _ e49
  have e51 : Built _ _ _ _ _ _ _ 51 (sl.HS0_52 c arg3 harg3 arg4 harg4 arg5 harg5 arg6 harg6 arg7 harg7 arg8 harg8 arg14 arg15 arg16 x1 x2 x3 x4 x5 x6) := Built.step 50 _ e50
  have e52 : Built _ _ _ _ _ _ _ 52 (sl.HS0_53 c arg3 harg3 arg4 harg4 arg5 harg5 arg6 harg6 arg7 harg7 arg8 harg8 arg14 arg15 arg16 x1 x2 x3 x4 x5 x6) := Built.step 51 _ e51
  have e53 : Built _ _ _ _ _ _ _ 53 (sl.HS0_54 c arg3 harg3 arg4 harg4 arg5 harg5 arg6 harg6 arg7 harg7 arg8 harg8 arg14 arg15 arg16 x1 x2 x3 x4 x5 x6) := Built.step 52 _ e52
  have e54 : Built _ _ _ _ _ _ _ 54 (sl.HS0_55 c arg3 harg3 arg4 harg4 arg5 harg5 arg6 harg6 arg7 harg7 arg8 harg8 arg14 arg15 arg16 x1 x2 x3 x4 x5 x6) := Built.step 53 _ e53
  have e55 : Built _ _ _ _ _ _ _ 55 (sl.HS0_56 c arg3 harg3 arg4 harg4 arg5 harg5 arg6 harg6 arg7 harg7 arg8 harg8 arg14 arg15 arg16 x1 x2 x3 x4 x5 x6) := Built.step 54 _ e54
  have e56 : Built _ _ _ _ _ _ _ 56 (sl.HS0_57 c arg3 harg3 arg4 harg4 arg5 harg5 arg6 harg6 arg7 harg7 arg8 harg8 arg14 arg15 arg16 x1 x2 x3 x4 x5 x6) := Built.step 55 _ e55
  have e57 : Built _ _ _ _ _ _ _ 57 (sl.HS0_58 c arg3 harg3 arg4 harg4 arg5 harg5 arg6 harg6 arg7 harg7 arg8 harg8 arg14 arg15 arg16 x1 x2 x3 x4 x5 x6) := Built.step 56 _ e56
  have e58 : Built _ _ _ _ _ _ _ 58 (sl.HS0_59 c arg3 harg3 arg4 harg4 arg5 harg5 arg6 harg6 arg7 harg7 arg8 harg8 arg14 arg15 arg16 x1 x2 x3 x4 x5 x6) := Built.step 57 _ e57
  have e59 : Built _ _ _ _ _ _ _ 59 (sl.HS0_60 c arg3 harg3 arg4 harg4 arg5 harg5 arg6 harg6 arg7 harg7 arg8 harg8 arg14 arg15 arg16 x1 x2 x3 x4 x5 x6) := Built.step 58 _ e58
  have e60 : Built _ _ _ _ _ _ _ 60 (sl.HS0_61 c arg3 harg3 arg4 harg4 arg5 harg5 arg6 harg6 arg7 harg7 arg8 harg8 arg14 arg15 arg16 x1 x2 x3 x4 x5 x6) := Built.step 59 _ e59
  have e61 : Built _ _ _ _ _ _ _ 61 (sl.HS0_62 c arg3 harg3 arg4 harg4 arg5 harg5 arg6 harg6 arg7 harg7 arg8 harg8 arg14 arg15 arg16 x1 x2 x3 x4 x5 x6) := Built.step 60 _ e60
  have e62 : Built _ _ _ _ _ _ _ 62 (sl.HS0_63 c arg3 harg3 arg4 harg4 arg5 harg5 arg6 harg6 arg7 harg7 arg8 harg8 arg14 arg15 arg16 x1 x2 x3 x4 x5 x6) := Built.step 61 _ e61
  have e63 : Built _ _ _ _ _ _ _ 63 (sl.HS0_64 c arg3 harg3 arg4 harg4 arg5 harg5 arg6 harg6 arg7 harg7 arg8 harg8 arg14 arg15 arg16 x1 x2 x3 x4 x5 x6) := Built.step 62 _ e62
  have e64 : Built _ _ _ _ _ _ _ 64 (sl.HS0_65 c arg3 harg3 arg4 harg4 arg5 harg5 arg6 harg6 arg7 harg7 arg8 harg8 arg14 arg15 arg16 x1 x2 x3 x4 x5 x6) := Built.step 63 _ e63
  refine ⟨e64, ?_⟩
  have f0 : BuiltY arg14.view (sl.r c arg3 harg3 x1) (sl.r_1 c arg4 harg4 x2) (sl.r_2 c arg2 harg2 x0) (sl.r_3 c arg5 harg5 arg15 x3) (sl.r_4 c arg5 harg5 arg6 harg6 arg16 x3 x4) (fun i => View.readAt (Elt F) arg7.view (Rect.unit (s := S1x1x64x128) (offV i) S1x1x1x128.size (offV_inb i)).toLoadRect (harg7.unread x5)) (k0_pay3 (View.readAt (Elt F) arg8.view (Rect.unit ![0, 0, 0, 0] S1x64x64x128.size inb_S1x64x64x128_S1x64x64x128_0_0_0_0).toLoadRect (harg8.unread x6))) 0 [] := BuiltY.base
  have f1 := BuiltY.step 0 _ _ e0 f0
  have f2 := BuiltY.step 1 _ _ e1 f1
  have f3 := BuiltY.step 2 _ _ e2 f2
  have f4 := BuiltY.step 3 _ _ e3 f3
  have f5 := BuiltY.step 4 _ _ e4 f4
  have f6 := BuiltY.step 5 _ _ e5 f5
  have f7 := BuiltY.step 6 _ _ e6 f6
  have f8 := BuiltY.step 7 _ _ e7 f7
  have f9 := BuiltY.step 8 _ _ e8 f8
  have f10 := BuiltY.step 9 _ _ e9 f9
  have f11 := BuiltY.step 10 _ _ e10 f10
  have f12 := BuiltY.step 11 _ _ e11 f11
  have f13 := BuiltY.step 12 _ _ e12 f12
  have f14 := BuiltY.step 13 _ _ e13 f13
  have f15 := BuiltY.step 14 _ _ e14 f14
  have f16 := BuiltY.step 15 _ _ e15 f15
  have f17 := BuiltY.step 16 _ _ e16 f16
  have f18 := BuiltY.step 17 _ _ e17 f17
  have f19 := BuiltY.step 18 _ _ e18 f18
  have f20 := BuiltY.step 19 _ _ e19 f19
  have f21 := BuiltY.step 20 _ _ e20 f20
  have f22 := BuiltY.step 21 _ _ e21 f21
  have f23 := BuiltY.step 22 _ _ e22 f22
  have f24 := BuiltY.step 23 _ _ e23 f23
  have f25 := BuiltY.step 24 _ _ e24 f24
  have f26 := BuiltY.step 25 _ _ e25 f25
  have f27 := BuiltY.step 26 _ _ e26 f26
  have f28 := BuiltY.step 27 _ _ e27 f27
  have f29 := BuiltY.step 28 _ _ e28 f28
  have f30 := BuiltY.step 29 _ _ e29 f29
  have f31 := BuiltY.step 30 _ _ e30 f30
  have f32 := BuiltY.step 31 _ _ e31 f31
  have f33 := BuiltY.step 32 _ _ e32 f32
  have f34 := BuiltY.step 33 _ _ e33 f33
  have f35 := BuiltY.step 34 _ _ e34 f34
  have f36 := BuiltY.step 35 _ _ e35 f35
  have f37 := BuiltY.step 36 _ _ e36 f36
  have f38 := BuiltY.step 37 _ _ e37 f37
  have f39 := BuiltY.step 38 _ _ e38 f38
  have f40 := BuiltY.step 39 _ _ e39 f39
  have f41 := BuiltY.step 40 _ _ e40 f40
  have f42 := BuiltY.step 41 _ _ e41 f41
  have f43 := BuiltY.step 42 _ _ e42 f42
  have f44 := BuiltY.step 43 _ _ e43 f43
  have f45 := BuiltY.step 44 _ _ e44 f44
  have f46 := BuiltY.step 45 _ _ e45 f45
  have f47 := BuiltY.step 46 _ _ e46 f46
  have f48 := BuiltY.step 47 _ _ e47 f47
  have f49 := BuiltY.step 48 _ _ e48 f48
  have f50 := BuiltY.step 49 _ _ e49 f49
  have f51 := BuiltY.step 50 _ _ e50 f50
  have f52 := BuiltY.step 51 _ _ e51 f51
  have f53 := BuiltY.step 52 _ _ e52 f52
  have f54 := BuiltY.step 53 _ _ e53 f53
  have f55 := BuiltY.step 54 _ _ e54 f54
  have f56 := BuiltY.step 55 _ _ e55 f55
  have f57 := BuiltY.step 56 _ _ e56 f56
  have f58 := BuiltY.step 57 _ _ e57 f57
  have f59 := BuiltY.step 58 _ _ e58 f58
  have f60 := BuiltY.step 59 _ _ e59 f59
  have f61 := BuiltY.step 60 _ _ e60 f60
  have f62 := BuiltY.step 61 _ _ e61 f61
  have f63 := BuiltY.step 62 _ _ e62 f62
  have f64 := BuiltY.step 63 _ _ e63 f63
  exact f64

theorem w24_eq : sl.r c arg3 harg3 x1 = k0_pay7 x1 :=
  congrArg k0_pay7 ((readAt_whole _ _ z4 _).trans (harg3.read_unread x1))
theorem w27_eq : sl.r_1 c arg4 harg4 x2 = k0_pay8 x2 :=
  congrArg k0_pay8 ((readAt_whole _ _ z4 _).trans (harg4.read_unread x2))
theorem w30_eq : sl.r_2 c arg2 harg2 x0 = k0_pay9 x0 :=
  congrArg k0_pay9 ((readAt_whole _ _ z4 _).trans (harg2.read_unread x0))
theorem w33_eq : sl.r_3 c arg5 harg5 arg15 x3 = k0_pay10 (k0_pay5 x3) :=
  congrArg k0_pay10 ((View.readCov_cons_toLoadRect _ _ _ _).trans
    (congrArg k0_pay5 ((readAt_whole _ _ z4 _).trans (harg5.read_unread x3))))
theorem w36_eq : sl.r_4 c arg5 harg5 arg6 harg6 arg16 x3 x4 = k0_pay11 (k0_pay6 x3 x4) :=
  congrArg k0_pay11 ((View.readCov_cons_toLoadRect _ _ _ _).trans
    (congrArg₂ k0_pay6 ((readAt_whole _ _ z4 _).trans (harg5.read_unread x3)) ((readAt_whole _ _ z4 _).trans (harg6.read_unread x4))))
theorem p0_eq : (k0_pay3 (View.readAt (Elt F) arg8.view (Rect.unit ![0, 0, 0, 0] S1x64x64x128.size inb_S1x64x64x128_S1x64x64x128_0_0_0_0).toLoadRect (harg8.unread x6))) = k0_pay3 x6 :=
  congrArg k0_pay3 ((readAt_whole _ _ z4 _).trans (harg8.read_unread x6))
theorem vr_eq : (fun i => View.readAt (Elt F) arg7.view (Rect.unit (s := S1x1x64x128) (offV i) S1x1x1x128.size (offV_inb i)).toLoadRect (harg7.unread x5)) = vrow x5 := by
  funext i x
  rw [View.readAt_apply, harg7.read_unread]

include arg2 harg2 x0 in
/-- The state the body leaves in its scratch. -/
theorem canonS : View.canon (sl.HS0_65 c arg3 harg3 arg4 harg4 arg5 harg5 arg6 harg6 arg7 harg7 arg8 harg8 arg14 arg15 arg16 x1 x2 x3 x4 x5 x6) = newS x1 x2 x3 x4 x5 x6 := by
  have h := (built c arg2 harg2 arg3 harg3 arg4 harg4 arg5 harg5 arg6 harg6 arg7 harg7 arg8 harg8 arg14 arg15 arg16 x0 x1 x2 x3 x4 x5 x6).1
  funext y
  have hd := h.done y (y 0).isLt
  rw [w24_eq, w27_eq, w33_eq, w36_eq, p0_eq] at hd
  rw [hd, congrFun (vr_eq arg7 harg7 x5) (y 0)]
  rfl

/-- The outputs of the recurrence the body leaves in its scratch. -/
theorem canonY : View.canon (sl.HS3_64 c arg2 harg2 arg3 harg3 arg4 harg4 arg5 harg5 arg6 harg6 arg7 harg7 arg8 harg8 arg14 arg15 arg16 x0 x1 x2 x3 x4 x5 x6) = newY x0 x1 x2 x3 x4 x5 x6 := by
  have h := (built c arg2 harg2 arg3 harg3 arg4 harg4 arg5 harg5 arg6 harg6 arg7 harg7 arg8 harg8 arg14 arg15 arg16 x0 x1 x2 x3 x4 x5 x6).2
  funext y
  have hd := h.done y (y 1).isLt
  rw [w24_eq, w27_eq, w30_eq, w33_eq, w36_eq, p0_eq] at hd
  rw [hd, congrFun (vr_eq arg7 harg7 x5) (y 1)]
  rfl
end body

end Cert.Kernel8Ideal.SScan

end
-- ==== Proof.SampleScanRow.lean ====
/-
# What the sample step's body stores in its results

Each result is stored whole, once: the state the scratch holds after the last head row, and the outputs with the head
norm and the bonus on top.
-/
module

public import proofs.«01_k».proof.Proof.SampleScanBuilt

@[expose] public section

set_option maxRecDepth 16384
set_option maxHeartbeats 4000000

noncomputable section

namespace Cert.Kernel8Ideal.SScan

open Idealize.ShloMosaic Idealize.ShloMosaic.TcCoe Idealize.ShloMosaic.Tactic Idealize.SL.Sem
open Cert.Kernel8Ideal Cert.Kernel8Ideal.Gen Cert.Kernel8Ideal.Gen.kernelRun0_A
open Cert.KernelIdeal.Scan (read_whole readAt_whole z3 z4)

variable {F : FTy → Type} [FloatOps F]

section body
variable (c : Dev nD) (i : grid0.Coords) (arg2 : Memref sig .tc .vmem S1x1x64x128 .f32) (harg2 : arg2.IsWhole) (arg3 : Memref sig .tc .vmem S1x1x64x128 .f32) (harg3 : arg3.IsWhole) (arg4 : Memref sig .tc .vmem S1x1x64x128 .f32) (harg4 : arg4.IsWhole) (arg5 : Memref sig .tc .vmem S1x1x64x128 .f32) (harg5 : arg5.IsWhole) (arg6 : Memref sig .tc .vmem S1x1x64x128 .f32) (harg6 : arg6.IsWhole) (arg7 : Memref sig .tc .vmem S1x1x64x128 .f32) (harg7 : arg7.IsWhole) (arg8 : Memref sig .tc .vmem S1x64x64x128 .f32) (harg8 : arg8.IsWhole) (arg9 : Memref sig .tc .vmem S1x64x128 .f32) (harg9 : arg9.IsWhole) (arg10 : Memref sig .tc .vmem S1x64x128 .f32) (harg10 : arg10.IsWhole) (arg11 : Memref sig .tc .vmem S1x64x128 .f32) (harg11 : arg11.IsWhole) (arg12 : Memref sig .tc .vmem S1x1x64x128 .f32) (harg12 : arg12.IsWhole) (arg13 : Memref sig .tc .vmem S1x64x64x128 .f32) (harg13 : arg13.IsWhole) (arg14 : Memref sig .tc .vmem S64x64x128 .f32) (harg14 : arg14.IsWhole) (arg15 : Memref sig .tc .vmem S1x64x128 .f32) (harg15 : arg15.IsWhole) (arg16 : Memref sig .tc .vmem S1x64x128 .f32) (harg16 : arg16.IsWhole) (arg17 : Memref sig .tc .vmem S1x64x128 .f32) (harg17 : arg17.IsWhole) (hc0 : cond0_0 i) (hc1 : cond0_1 i)
    (x0 : Vec F S1x1x64x128 .f32) (x1 : Vec F S1x1x64x128 .f32) (x2 : Vec F S1x1x64x128 .f32) (x3 : Vec F S1x1x64x128 .f32) (x4 : Vec F S1x1x64x128 .f32) (x5 : Vec F S1x1x64x128 .f32) (x6 : Vec F S1x64x64x128 .f32) (x7 : Vec F S1x64x128 .f32) (x8 : Vec F S1x64x128 .f32) (x9 : Vec F S1x64x128 .f32)

theorem out10_eq : out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 = outO x0 x1 x2 x3 x4 x5 x6 x7 x8 x9 := by
  unfold out0_A_10 kernelRun0_A
  dsimp only
  refine (read_whole _ _ z4 _ _ _).trans ?_
  exact outO_congr x0 x1 x2 x3 x4 x5 x6 x7 x8 x9
    ((readAt_whole _ _ z4 _).trans (harg2.read_unread x0)) ((readAt_whole _ _ z4 _).trans (harg4.read_unread x2))
    ((readAt_whole _ _ z4 _).trans (harg7.read_unread x5))
    ((readCov_whole arg17.view z3 inb_S1x64x128_S1x64x128_0_0_0 inb_S1x64x128_S1x64x128_0_0_0 _).trans (canonY c arg2 harg2 arg3 harg3 arg4 harg4 arg5 harg5 arg6 harg6 arg7 harg7 arg8 harg8 arg14 arg15 arg16 x0 x1 x2 x3 x4 x5 x6))
    ((readAt_whole _ _ z3 _).trans (harg9.read_unread x7)) ((readAt_whole _ _ z3 _).trans (harg10.read_unread x8))
    ((readAt_whole _ _ z3 _).trans (harg11.read_unread x9))

theorem out11_eq : out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 = k0_pay2 (newS x1 x2 x3 x4 x5 x6) := by
  unfold out0_A_11 kernelRun0_A
  dsimp only
  refine (read_whole _ _ z4 _ _ _).trans ?_
  exact congrArg k0_pay2 ((readCov_whole arg14.view z3 inb_S64x64x128_S64x64x128_0_0_0 inb_S64x64x128_S64x64x128_0_0_0 _).trans (canonS c arg2 harg2 arg3 harg3 arg4 harg4 arg5 harg5 arg6 harg6 arg7 harg7 arg8 harg8 arg14 arg15 arg16 x0 x1 x2 x3 x4 x5 x6))
end body

variable (m : (ℓ : Loc nD τ sig) → Buf (Elt F) ℓ) (c : Dev nD) (t : Fin cfg0.N)

/-- What a point's body stores of the output. -/
theorem outs10 : (outsAt0 m c t).1
    = outO (iblk m c 0 t) (iblk m c 1 t) (iblk m c 2 t) (iblk m c 3 t) (iblk m c 4 t) (iblk m c 5 t) (iblk m c 6 t)
        (iblk m c 7 t) (iblk m c 8 t) (iblk m c 9 t) := by
  unfold outsAt0
  dsimp only
  rw [out10_eq]

/-- What a point's body stores of the state. -/
theorem outs11 : (outsAt0 m c t).2
    = k0_pay2 (newS (iblk m c 1 t) (iblk m c 2 t) (iblk m c 3 t) (iblk m c 4 t) (iblk m c 5 t) (iblk m c 6 t)) := by
  unfold outsAt0
  dsimp only
  rw [out11_eq]

end Cert.Kernel8Ideal.SScan

end
-- ==== Proof.SampleScanRef.lean ====
/-
# The sample step's recurrence in the reference, at an index

The reference's normalised key, its state after the step, the step's output, and the head norm and the bonus on
top of it, as formulas over the extended reals.
-/
module

public import proofs.«01_k».proof.Proof.Gen.Reference8Ideal.Read
public import Idealize.ShloMosaic.Lib.Pipeline.ValueKit

@[expose] public section

set_option maxRecDepth 16384

noncomputable section

namespace Cert.Reference8Ideal.StepAt

open Idealize.ShloMosaic Idealize.ShloMosaic.TcCoe Idealize.SL.Sem
open Cert.Reference8Ideal Cert.Reference8Ideal.Gen Cert.Reference8Ideal.Read

/-- The column of a head's entry in a row of 1024. -/
abbrev hj (h : Fin 16) (j : Fin 64) : Fin 1024 := ⟨h.val * 64 + j.val, by omega⟩

variable (x0 x1 x2 x3 x4 x5 : (⟨S32x1x1024, .f32⟩ : BufTy).Contents (Elt Ideal)) (x6 : (⟨S32x16x64x64, .f32⟩ : BufTy).Contents (Elt Ideal))
  (x7 x8 x9 : (⟨S1024, .f32⟩ : BufTy).Contents (Elt Ideal)) (b : Fin 32) (h : Fin 16)

/-- The normalised key. -/
def kkn (j : Fin 64) : EReal :=
  Ideal.div (x3 (ix3 b 0 (hj h j)))
    (max (Ideal.sqrt (∑ q : Fin 64, x3 (ix3 b 0 (hj h q)) * x3 (ix3 b 0 (hj h q)))) (Ideal.ofBits .f32 0x2B8CBCCC#32))

theorem v8_at (j : Fin 64) : val_main_v8 (F := Ideal) x3 (ix3 b h j) = kkn x3 b h j := by
  unfold kkn
  pointwise [val_main_v8, val_main_v7, val_main_v6, val_main_v5, val_main_v4, val_main_v3, val_main_v2, val_main_v1, val_main_v0, val_main_cst, val_main_cst_0]

theorem v9_at (j : Fin 64) : val_main_v9 (F := Ideal) x0 (ix3 b h j) = x0 (ix3 b 0 (hj h j)) := by pointwise [val_main_v9]
theorem v10_at (j : Fin 64) : val_main_v10 (F := Ideal) x2 (ix3 b h j) = x2 (ix3 b 0 (hj h j)) := by pointwise [val_main_v10]
theorem v11_at (j : Fin 64) : val_main_v11 (F := Ideal) x5 (ix3 b h j) = x5 (ix3 b 0 (hj h j)) := by pointwise [val_main_v11]
theorem v12_at (j : Fin 64) : val_main_v12 (F := Ideal) x4 (ix3 b h j) = x4 (ix3 b 0 (hj h j)) := by pointwise [val_main_v12]
theorem v13_at (j : Fin 64) : val_main_v13 (F := Ideal) x1 (ix3 b h j) = x1 (ix3 b 0 (hj h j)) := by pointwise [val_main_v13]

theorem v14_at (i : Fin 64) : val_main_v14 (F := Ideal) x3 x6 (ix3 b h i) = ∑ q : Fin 64, x6 (ix4 b h i q) * kkn x3 b h q := by
  simp only [← v8_at]
  unfold val_main_v14
  generalize val_main_v8 (F := Ideal) x3 = w
  pointwise

/-- THE STATE after the step, at an index. -/
theorem v31_at (i j : Fin 64) :
    val_main_v31 (F := Ideal) x1 x2 x3 x4 x5 x6 (ix4 b h i j)
      = x6 (ix4 b h i j) * x1 (ix3 b 0 (hj h j))
        + (-(∑ q : Fin 64, x6 (ix4 b h i q) * kkn x3 b h q)) * (kkn x3 b h j * x4 (ix3 b 0 (hj h j)))
        + x5 (ix3 b 0 (hj h i)) * x2 (ix3 b 0 (hj h j)) := by
  rw [← v14_at, ← v8_at, ← v10_at x2 b h j, ← v11_at x5 b h i, ← v12_at x4 b h j, ← v13_at x1 b h j]
  unfold val_main_v31 val_main_v30 val_main_v29 val_main_v28 val_main_v27 val_main_v26 val_main_v25 val_main_v24 val_main_v23 val_main_v22
    val_main_v21 val_main_v20 val_main_v19 val_main_v18 val_main_v17 val_main_v16 val_main_v15
  generalize val_main_v8 (F := Ideal) x3 = w8
  generalize val_main_v10 (F := Ideal) x2 = w10
  generalize val_main_v11 (F := Ideal) x5 = w11
  generalize val_main_v12 (F := Ideal) x4 = w12
  generalize val_main_v13 (F := Ideal) x1 = w13
  generalize val_main_v14 (F := Ideal) x3 x6 = w14
  pointwise

/-- The step's output before the head norm. -/
theorem v32_at (i : Fin 64) :
    val_main_v32 (F := Ideal) x0 x1 x2 x3 x4 x5 x6 (ix3 b h i)
      = ∑ q : Fin 64, val_main_v31 (F := Ideal) x1 x2 x3 x4 x5 x6 (ix4 b h i q) * x0 (ix3 b 0 (hj h q)) := by
  simp only [← v9_at x0]
  unfold val_main_v32
  generalize val_main_v31 (F := Ideal) x1 x2 x3 x4 x5 x6 = w
  generalize val_main_v9 (F := Ideal) x0 = w'
  pointwise

/-- The mean over a head. -/
def rmean (y : (⟨S32x16x64, .f32⟩ : BufTy).Contents (Elt Ideal)) (b : Fin 32) (h : Fin 16) : EReal :=
  Ideal.div (∑ i : Fin 64, y (ix3 b h i)) (Ideal.ofBits .f32 0x42800000#32)

/-- The variance over a head. -/
def rvar (y : (⟨S32x16x64, .f32⟩ : BufTy).Contents (Elt Ideal)) (b : Fin 32) (h : Fin 16) : EReal :=
  Ideal.div (∑ i : Fin 64, (y (ix3 b h i) - rmean y b h) * (y (ix3 b h i) - rmean y b h)) (Ideal.ofBits .f32 0x42800000#32)

/-- THE STEP'S OUTPUT at an index. -/
theorem v68_at (i : Fin 64) :
    val_main_v68 (F := Ideal) x0 x1 x2 x3 x4 x5 x6 x7 x8 x9 (ix3 b 0 (hj h i))
      = (val_main_v32 (F := Ideal) x0 x1 x2 x3 x4 x5 x6 (ix3 b h i) - rmean (val_main_v32 (F := Ideal) x0 x1 x2 x3 x4 x5 x6) b h)
          * Ideal.rsqrt (rvar (val_main_v32 (F := Ideal) x0 x1 x2 x3 x4 x5 x6) b h + Ideal.ofBits .f32 0x3A27C5AC#32)
          * x8 (ix1 (hj h i)) + x9 (ix1 (hj h i))
        + (∑ j : Fin 64, x0 (ix3 b 0 (hj h j)) * x2 (ix3 b 0 (hj h j)) * x7 (ix1 (hj h j))) * x5 (ix3 b 0 (hj h i)) := by
  unfold rvar rmean val_main_v68 val_main_v57 val_main_v56 val_main_v55 val_main_v54 val_main_v53 val_main_v52 val_main_v51 val_main_v50
    val_main_v49 val_main_v48 val_main_v47 val_main_v46 val_main_v45 val_main_v44 val_main_v43 val_main_v42 val_main_v41 val_main_v40
    val_main_v39 val_main_v38 val_main_v37 val_main_v36 val_main_v35 val_main_v34 val_main_v33
  generalize val_main_v32 (F := Ideal) x0 x1 x2 x3 x4 x5 x6 = y
  have e1 : (h.val * 64 + i.val) / 64 = h.val := by omega
  have e2 : (h.val * 64 + i.val) % 64 = i.val := by omega
  pointwise [val_main_v67, val_main_v66, val_main_v65, val_main_v64, val_main_v63, val_main_v62, val_main_v61, val_main_v60, val_main_v59, val_main_v58,
    val_main_v9, val_main_v10, val_main_v11, val_main_cst_1, val_main_cst_2, val_main_cst_3, val_main_cst_4, val_main_cst_5, val_main_cst_6]
  simp only [e1, e2]

end Cert.Reference8Ideal.StepAt

end
-- ==== Proof.SampleScanValue.lean ====
/-
# The sample step's scan: the kernel's results are the reference's

The blocks at each point, the state and the outputs a point leaves, the two result arrays, and the lines after the
region.
-/
module

public import proofs.«01_k».proof.Proof.SampleScanArr
public import proofs.«01_k».proof.Proof.SampleScanRow
public import proofs.«01_k».proof.Proof.SampleScanRef
public import proofs.«01_k».proof.Proof.ScanSim

@[expose] public section

set_option maxRecDepth 16384

noncomputable section

namespace Cert.Kernel8Ideal.SScan

open Idealize.ShloMosaic Idealize.ShloMosaic.TcCoe Idealize.ShloMosaic.Tactic Idealize.SL.Sem
open Idealize.ShloMosaic.Pipeline (Dat)
open Cert.Kernel8Ideal Cert.Kernel8Ideal.Gen
open Cert.Reference8Ideal.Read (val_main_v31 val_main_v32 val_main_v68)
open Cert.Reference8Ideal.StepAt

/-! ## A point's blocks leave the reference's entries -/

section norm
variable (y : Vec Ideal S1x64x128 .f32) (Y : (⟨Cert.Reference8Ideal.S32x16x64, .f32⟩ : BufTy).Contents (Elt Ideal)) (g : Fin 4)
  (hy : ∀ (i : Fin 64) (l : Fin 128), y (ix3 0 i l) = Y (ix3 (lb g l) (lh l) i))
include hy

theorem mean_eq (l : Fin 128) : kmean y l = rmean Y (lb g l) (lh l) := by
  unfold kmean rmean
  rw [Cert.KernelIdeal.Scan.div64]
  simp only [hy]

theorem var_eq (l : Fin 128) : kvar y l = rvar Y (lb g l) (lh l) := by
  unfold kvar rvar
  rw [Cert.KernelIdeal.Scan.div64]
  simp only [hy, mean_eq y Y g hy]
end norm

section point
variable {a0 a1 a2 a3 a4 a5 : (⟨S32x1x1024, .f32⟩ : BufTy).Contents (Elt Ideal)} {a6 : (⟨S32x16x64x64, .f32⟩ : BufTy).Contents (Elt Ideal)} {a7 a8 a9 : (⟨S1024, .f32⟩ : BufTy).Contents (Elt Ideal)}
  {g : Fin 4} {x0 x1 x2 x3 x4 x5 : Vec Ideal S1x1x64x128 .f32} {x6 : Vec Ideal S1x64x64x128 .f32} {x7 x8 x9 : Vec Ideal S1x64x128 .f32}
  (h0 : ∀ (j : Fin 64) (l : Fin 128), x0 (ix4 0 0 j l) = a0 (ix3 (lb g l) 0 (lc l j)))
  (h1 : ∀ (j : Fin 64) (l : Fin 128), x1 (ix4 0 0 j l) = a1 (ix3 (lb g l) 0 (lc l j)))
  (h2 : ∀ (j : Fin 64) (l : Fin 128), x2 (ix4 0 0 j l) = a2 (ix3 (lb g l) 0 (lc l j)))
  (h3 : ∀ (j : Fin 64) (l : Fin 128), x3 (ix4 0 0 j l) = a3 (ix3 (lb g l) 0 (lc l j)))
  (h4 : ∀ (j : Fin 64) (l : Fin 128), x4 (ix4 0 0 j l) = a4 (ix3 (lb g l) 0 (lc l j)))
  (h5 : ∀ (j : Fin 64) (l : Fin 128), x5 (ix4 0 0 j l) = a5 (ix3 (lb g l) 0 (lc l j)))
  (h6 : ∀ (i j : Fin 64) (l : Fin 128), x6 (ix4 0 i j l) = a6 (ix4 (lb g l) (lh l) i j))
  (h7 : ∀ (j : Fin 64) (l : Fin 128), x7 (ix3 0 j l) = a7 (ix1 (lc l j)))
  (h8 : ∀ (j : Fin 64) (l : Fin 128), x8 (ix3 0 j l) = a8 (ix1 (lc l j)))
  (h9 : ∀ (j : Fin 64) (l : Fin 128), x9 (ix3 0 j l) = a9 (ix1 (lc l j)))

include h3 in
theorem kkn_blk (j : Fin 64) (l : Fin 128) : k0_pay5 (F := Ideal) x3 (ix3 0 j l) = kkn a3 (lb g l) (lh l) j := by
  rw [pay5_at]
  unfold kkn
  simp only [h3]

include h1 h2 h3 h4 h5 h6 in
/-- The state a point leaves is the reference's. -/
theorem simS (i j : Fin 64) (l : Fin 128) :
    newS (F := Ideal) x1 x2 x3 x4 x5 x6 (ix3 i j l) = val_main_v31 (F := Ideal) a1 a2 a3 a4 a5 a6 (ix4 (lb g l) (lh l) i j) := by
  rw [newS_at, v31_at]
  simp only [h6, h1, h2, h4, h5, kkn_blk h3, zero_sub]

include h0 h1 h2 h3 h4 h5 h6 in
/-- The outputs before the head norm are the reference's. -/
theorem simY (i : Fin 64) (l : Fin 128) :
    newY (F := Ideal) x0 x1 x2 x3 x4 x5 x6 (ix3 0 i l) = val_main_v32 (F := Ideal) a0 a1 a2 a3 a4 a5 a6 (ix3 (lb g l) (lh l) i) := by
  rw [newY_at, v32_at]
  refine Finset.sum_congr rfl fun j _ => ?_
  rw [simS h1 h2 h3 h4 h5 h6, h0]

include h0 h1 h2 h3 h4 h5 h6 h7 h8 h9 in
/-- THE OUTPUTS a point leaves are the reference's. -/
theorem simO (i : Fin 64) (l : Fin 128) :
    outO (F := Ideal) x0 x1 x2 x3 x4 x5 x6 x7 x8 x9 (ix4 0 0 i l)
      = val_main_v68 (F := Ideal) a0 a1 a2 a3 a4 a5 a6 a7 a8 a9 (ix3 (lb g l) 0 (hj (lh l) i)) := by
  have hy := simY h0 h1 h2 h3 h4 h5 h6
  unfold outO
  rw [pay1_at, pay265_at, pay264_at, v68_at, mean_eq _ _ g hy, var_eq _ _ g hy, hy]
  simp only [pay267_at, h0, h2, h5, h7, h8, h9]
end point

variable (m : (ℓ : Loc nD τ sig) → Buf (Elt Ideal) ℓ) (c : Dev nD)

/-- The block every window stages at a point: the point's group. -/
theorem idx : ∀ t : Fin cfg0.N, win0_0.index t = ![t.val, 0, 0, 0] ∧ win0_1.index t = ![t.val, 0, 0, 0]
    ∧ win0_2.index t = ![t.val, 0, 0, 0] ∧ win0_3.index t = ![t.val, 0, 0, 0] ∧ win0_4.index t = ![t.val, 0, 0, 0]
    ∧ win0_5.index t = ![t.val, 0, 0, 0] ∧ win0_6.index t = ![t.val, 0, 0, 0] ∧ win0_7.index t = ![t.val, 0, 0]
    ∧ win0_8.index t = ![t.val, 0, 0] ∧ win0_9.index t = ![t.val, 0, 0] ∧ win0_10.index t = ![t.val, 0, 0, 0]
    ∧ win0_11.index t = ![t.val, 0, 0, 0] :=
  (by decide +kernel : ∀ t : Fin grid0.N, _)

theorem t_lt (t : Fin cfg0.N) : t.val < 4 := lt_of_lt_of_eq t.isLt N_0
/-- A point's group. -/
abbrev tg (t : Fin cfg0.N) : Fin 4 := ⟨t.val, t_lt t⟩

/-- The program's arguments, named. -/
abbrev q0 : (⟨S32x1x1024, .f32⟩ : BufTy).Contents (Elt Ideal) := m ((c : Thread nD τ).loc main_arg0)
abbrev q1 : (⟨S32x1x1024, .f32⟩ : BufTy).Contents (Elt Ideal) := m ((c : Thread nD τ).loc main_arg1)
abbrev q2 : (⟨S32x1x1024, .f32⟩ : BufTy).Contents (Elt Ideal) := m ((c : Thread nD τ).loc main_arg2)
abbrev q3 : (⟨S32x1x1024, .f32⟩ : BufTy).Contents (Elt Ideal) := m ((c : Thread nD τ).loc main_arg3)
abbrev q4 : (⟨S32x1x1024, .f32⟩ : BufTy).Contents (Elt Ideal) := m ((c : Thread nD τ).loc main_arg4)
abbrev q5 : (⟨S32x1x1024, .f32⟩ : BufTy).Contents (Elt Ideal) := m ((c : Thread nD τ).loc main_arg5)
abbrev q6 : (⟨S32x16x64x64, .f32⟩ : BufTy).Contents (Elt Ideal) := m ((c : Thread nD τ).loc main_arg6)
abbrev q7 : (⟨S1024, .f32⟩ : BufTy).Contents (Elt Ideal) := m ((c : Thread nD τ).loc main_arg7)
abbrev q8 : (⟨S1024, .f32⟩ : BufTy).Contents (Elt Ideal) := m ((c : Thread nD τ).loc main_arg8)
abbrev q9 : (⟨S1024, .f32⟩ : BufTy).Contents (Elt Ideal) := m ((c : Thread nD τ).loc main_arg9)

/-! ## The blocks -/

theorem blk0 (t : Fin cfg0.N) (j : Fin 64) (l : Fin 128) : iblk m c 0 t (ix4 0 0 j l) = q0 m c (ix3 (lb (tg t) l) 0 (lc l j)) := by
  have e : iblk m c 0 t (ix4 0 0 j l) = V m c main_v4 (ix4 (tg t) 0 j l) := by blk_ext [iblk, idx t]
  rw [e, V_4]
  exact layX_at _ _ _ _
theorem blk1 (t : Fin cfg0.N) (j : Fin 64) (l : Fin 128) : iblk m c 1 t (ix4 0 0 j l) = q1 m c (ix3 (lb (tg t) l) 0 (lc l j)) := by
  have e : iblk m c 1 t (ix4 0 0 j l) = V m c main_v9 (ix4 (tg t) 0 j l) := by blk_ext [iblk, idx t]
  rw [e, V_9]
  exact layX_at _ _ _ _
theorem blk2 (t : Fin cfg0.N) (j : Fin 64) (l : Fin 128) : iblk m c 2 t (ix4 0 0 j l) = q2 m c (ix3 (lb (tg t) l) 0 (lc l j)) := by
  have e : iblk m c 2 t (ix4 0 0 j l) = V m c main_v14 (ix4 (tg t) 0 j l) := by blk_ext [iblk, idx t]
  rw [e, V_14]
  exact layX_at _ _ _ _
theorem blk3 (t : Fin cfg0.N) (j : Fin 64) (l : Fin 128) : iblk m c 3 t (ix4 0 0 j l) = q3 m c (ix3 (lb (tg t) l) 0 (lc l j)) := by
  have e : iblk m c 3 t (ix4 0 0 j l) = V m c main_v19 (ix4 (tg t) 0 j l) := by blk_ext [iblk, idx t]
  rw [e, V_19]
  exact layX_at _ _ _ _
theorem blk4 (t : Fin cfg0.N) (j : Fin 64) (l : Fin 128) : iblk m c 4 t (ix4 0 0 j l) = q4 m c (ix3 (lb (tg t) l) 0 (lc l j)) := by
  have e : iblk m c 4 t (ix4 0 0 j l) = V m c main_v24 (ix4 (tg t) 0 j l) := by blk_ext [iblk, idx t]
  rw [e, V_24]
  exact layX_at _ _ _ _
theorem blk5 (t : Fin cfg0.N) (j : Fin 64) (l : Fin 128) : iblk m c 5 t (ix4 0 0 j l) = q5 m c (ix3 (lb (tg t) l) 0 (lc l j)) := by
  have e : iblk m c 5 t (ix4 0 0 j l) = V m c main_v28 (ix4 (tg t) 0 j l) := by blk_ext [iblk, idx t]
  rw [e, V_28]
  exact layV_at _ _ _ _
theorem blk6 (t : Fin cfg0.N) (i j : Fin 64) (l : Fin 128) : iblk m c 6 t (ix4 0 i j l) = q6 m c (ix4 (lb (tg t) l) (lh l) i j) := by
  have e : iblk m c 6 t (ix4 0 i j l) = V m c main_v30 (ix4 (tg t) i j l) := by blk_ext [iblk, idx t]
  rw [e, V_30]
  exact layS_at _ _ _ _ _
theorem blk7 (t : Fin cfg0.N) (j : Fin 64) (l : Fin 128) : iblk m c 7 t (ix3 0 j l) = q7 m c (ix1 (lc l j)) := by
  have e : iblk m c 7 t (ix3 0 j l) = V m c main_v36 (ix3 (tg t) j l) := by blk_ext [iblk, idx t]
  rw [e, V_36]
  exact layK_at _ _ _ _
theorem blk8 (t : Fin cfg0.N) (j : Fin 64) (l : Fin 128) : iblk m c 8 t (ix3 0 j l) = q8 m c (ix1 (lc l j)) := by
  have e : iblk m c 8 t (ix3 0 j l) = V m c main_v41 (ix3 (tg t) j l) := by blk_ext [iblk, idx t]
  rw [e, V_41]
  exact layW_at _ _ _ _
theorem blk9 (t : Fin cfg0.N) (j : Fin 64) (l : Fin 128) : iblk m c 9 t (ix3 0 j l) = q9 m c (ix1 (lc l j)) := by
  have e : iblk m c 9 t (ix3 0 j l) = V m c main_v46 (ix3 (tg t) j l) := by blk_ext [iblk, idx t]
  rw [e, V_46]
  exact layW_at _ _ _ _

/-! ## The two result arrays -/

/-- The reference's output and state over the program's arguments. -/
abbrev refO : (⟨S32x1x1024, .f32⟩ : BufTy).Contents (Elt Ideal) := val_main_v68 (F := Ideal) (q0 m c) (q1 m c) (q2 m c) (q3 m c) (q4 m c) (q5 m c) (q6 m c) (q7 m c) (q8 m c) (q9 m c)
@[inherit_doc refO] abbrev refS : (⟨S32x16x64x64, .f32⟩ : BufTy).Contents (Elt Ideal) := val_main_v31 (F := Ideal) (q1 m c) (q2 m c) (q3 m c) (q4 m c) (q5 m c) (q6 m c)

/-- The outputs' array, an entry at a time. -/
def oArr : (⟨S4x1x64x128, .f32⟩ : BufTy).Contents (Elt Ideal) := fun y => refO m c (ix3 (lb (y 0) (y 3)) 0 (hj (lh (y 3)) (y 2)))
/-- The final state's array, an entry at a time. -/
def sArr : (⟨S4x64x64x128, .f32⟩ : BufTy).Contents (Elt Ideal) := fun y => refS m c (ix4 (lb (y 0) (y 3)) (lh (y 3)) (y 1) (y 2))

theorem oBlk_at (t : Fin cfg0.N) (y : S1x1x64x128.Idx) : (outsAt0 m c t).1 y = oArr m c (ix4 (tg t) 0 (y 2) (y 3)) := by
  have hy : y = ix4 0 0 (y 2) (y 3) := by
    funext a
    have h0 : (y 0 : ℕ) < 1 := (y 0).isLt
    have h1 : (y 1 : ℕ) < 1 := (y 1).isLt
    fin_cases a
    · exact Fin.ext (Nat.lt_one_iff.1 h0)
    · exact Fin.ext (Nat.lt_one_iff.1 h1)
    · rfl
    · rfl
  rw [outs10]
  exact (congrArg _ hy).trans (simO (blk0 m c t) (blk1 m c t) (blk2 m c t) (blk3 m c t) (blk4 m c t) (blk5 m c t) (blk6 m c t)
    (blk7 m c t) (blk8 m c t) (blk9 m c t) (y 2) (y 3))

theorem sBlk_at (t : Fin cfg0.N) (y : S1x64x64x128.Idx) : (outsAt0 m c t).2 y = sArr m c (ix4 (tg t) (y 1) (y 2) (y 3)) := by
  have hy : y = ix4 0 (y 1) (y 2) (y 3) := by
    funext a
    have h0 : (y 0 : ℕ) < 1 := (y 0).isLt
    fin_cases a
    · exact Fin.ext (Nat.lt_one_iff.1 h0)
    · rfl
    · rfl
    · rfl
  rw [outs11]
  exact (congrArg _ hy).trans ((pay2_at _ (y 1) (y 2) (y 3)).trans
    (simS (blk1 m c t) (blk2 m c t) (blk3 m c t) (blk4 m c t) (blk5 m c t) (blk6 m c t) (y 1) (y 2) (y 3)))

/-- THE OUTPUTS' ARRAY after the last point. -/
theorem final10 : (dats m 0 c).arrAt 10 (cfgs 0).N = oArr m c := by
  refine (dats m 0 c).arrAt_eq_of_covers 10 _ (by decide +kernel) fun t hf y => ?_
  blk_simp
  rw [after0_10, oBlk_at m c t]
  congr 1
  blk_ext [idx t]

/-- THE FINAL STATE'S ARRAY after the last point. -/
theorem final11 : (dats m 0 c).arrAt 11 (cfgs 0).N = sArr m c := by
  refine (dats m 0 c).arrAt_eq_of_covers 11 _ (by decide +kernel) fun t hf y => ?_
  blk_simp
  rw [after0_11, sBlk_at m c t]
  congr 1
  blk_ext [idx t]

/-! ## The lines after the region -/

theorem lb_ln (b : Fin 32) (h : Fin 16) : lb (gl b) (ln b h) = b :=
  Fin.ext (by show b.val / 8 * 8 + (b.val % 8 * 16 + h.val) / 16 = b.val; have := b.isLt; have := h.isLt; omega)
theorem lh_ln (b : Fin 32) (h : Fin 16) : lh (ln b h) = h :=
  Fin.ext (by show (b.val % 8 * 16 + h.val) % 16 = h.val; have := b.isLt; have := h.isLt; omega)

/-- An index of the outputs is a batch entry and a column of a head. -/
theorem ix_col (y : S32x1x1024.Idx) : ∃ (b : Fin 32) (h : Fin 16) (i : Fin 64), y = ix3 b 0 (⟨h.val * 64 + i.val, by omega⟩ : Fin 1024) := by
  have h1 : (y 1 : ℕ) < 1 := (y 1).isLt
  have h2 : (y 2 : ℕ) < 1024 := (y 2).isLt
  refine ⟨y 0, ⟨(y 2 : ℕ) / 64, by omega⟩, ⟨(y 2 : ℕ) % 64, by omega⟩, ?_⟩
  funext a
  fin_cases a
  · rfl
  · exact Fin.ext (Nat.lt_one_iff.1 h1)
  · exact Fin.ext (by show (y 2 : ℕ) = (y 2 : ℕ) / 64 * 64 + (y 2 : ℕ) % 64; omega)

/-- An index of the state, by its four coordinates. -/
theorem ix_four (y : S32x16x64x64.Idx) : ∃ (b : Fin 32) (h : Fin 16) (i j : Fin 64), y = ix4 b h i j :=
  ⟨y 0, y 1, y 2, y 3, by funext a; fin_cases a <;> rfl⟩

theorem tail51 : Pipeline.afterTail₀ cfgs (dats m) 0 (V0 m) [hostOps1] c main_v51 = backO ((dats m 0 c).arrAt 10 (cfgs 0).N) := by
  have e := Pipeline.withArrays_arr spec0 launch0.win.arr_inj c (V0 m c) (fun w => (dats m 0 c).arrAt w (cfgs 0).N) 10
  unfold Pipeline.afterTail₀
  show StableHlo.after hostOps1 _ (Proc.devRef .tc main_v51) = _
  unfold hostOps1
  after_results
  exact congrArg backO e

theorem tail53 : Pipeline.afterTail₀ cfgs (dats m) 0 (V0 m) [hostOps1] c main_v53 = backS ((dats m 0 c).arrAt 11 (cfgs 0).N) := by
  have e := Pipeline.withArrays_arr spec0 launch0.win.arr_inj c (V0 m c) (fun w => (dats m 0 c).arrAt w (cfgs 0).N) 11
  unfold Pipeline.afterTail₀
  show StableHlo.after hostOps1 _ (Proc.devRef .tc main_v53) = _
  unfold hostOps1
  after_results
  exact congrArg backS e

theorem out51 : Pipeline.afterTail₀ cfgs (dats m) 0 (V0 m) [hostOps1] c main_v51 = refO m c := by
  rw [tail51, final10]
  funext y
  obtain ⟨b, h, i, rfl⟩ := ix_col y
  refine (backO_at _ b h i).trans ?_
  show refO m c (ix3 (lb (gl b) (ln b h)) 0 (hj (lh (ln b h)) i)) = _
  rw [lb_ln, lh_ln]

theorem out53 : Pipeline.afterTail₀ cfgs (dats m) 0 (V0 m) [hostOps1] c main_v53 = refS m c := by
  rw [tail53, final11]
  funext y
  obtain ⟨b, h, i, j, rfl⟩ := ix_four y
  refine (backS_at _ b h i j).trans ?_
  show refS m c (ix4 (lb (gl b) (ln b h)) (lh (ln b h)) i j) = _
  rw [lb_ln, lh_ln]

/-- THE KERNEL'S RUN: its two results are the reference's. -/
theorem run_value (g : Dev nD → PrngReg) :
    θ_run (defs (F := Ideal)) (onTc (τ := τ) (main (F := Ideal))) ⟨m, fun _ => 0, g⟩ (fun r => ∀ c : Dev nD,
      r.2.mem ((c.tc : Thread nD τ).loc main_v51) = refO m c ∧ r.2.mem ((c.tc : Thread nD τ).loc main_v53) = refS m c) := by
  refine (θ_run defs _ _).mono (fun r h c => ⟨?_, ?_⟩) (run_main (F := Ideal) m g)
  · exact ((h c).2 main_v51 (Pipeline.mem_restRefs_of main_v51 (by decide) (by decide))).trans (out51 m c)
  · exact ((h c).2 main_v53 (Pipeline.mem_restRefs_of main_v53 (by decide) (by decide))).trans (out53 m c)

end Cert.Kernel8Ideal.SScan

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.Kernel8
public import proofs.«01_k».proof.Proof.Gen.Kernel8Ideal
public import proofs.«01_k».proof.Proof.Gen.Reference8Ideal
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal.Run
public import proofs.«01_k».proof.Proof.Gen.Reference8Ideal.Read
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.ReferenceIdeal.Run
public import proofs.«01_k».proof.Proof.Gen.ReferenceIdeal.Step
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel9
public import proofs.«01_k».proof.Proof.Gen.Kernel9Ideal
public import proofs.«01_k».proof.Proof.Gen.Reference9Ideal
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal.Run
public import proofs.«01_k».proof.Proof.Gen.Reference9Ideal.Read
public import proofs.«01_k».proof.Proof.Gen.Kernel10
public import proofs.«01_k».proof.Proof.Gen.Kernel10Ideal
public import proofs.«01_k».proof.Proof.Gen.Reference10Ideal
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal.Run
public import proofs.«01_k».proof.Proof.Gen.Reference10Ideal.Read
public import proofs.«01_k».proof.Proof.Gen.Kernel11
public import proofs.«01_k».proof.Proof.Gen.Kernel11Ideal
public import proofs.«01_k».proof.Proof.Gen.Reference11Ideal
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal.Run
public import proofs.«01_k».proof.Proof.Gen.Reference11Ideal.Read
public import proofs.«01_k».proof.Proof.Gen.Kernel9Ideal.Value
public import proofs.«01_k».proof.Proof.Gen.Kernel11Ideal.Value
public import proofs.«01_k».proof.Proof.FfnValue
public import proofs.«01_k».proof.Proof.SampleOutValue
public import proofs.«01_k».proof.Proof.CombineValue
public import proofs.«01_k».proof.Proof.CmpPartValue
public import proofs.«01_k».proof.Proof.ScanRefRun
public import proofs.«01_k».proof.Proof.ScanFinal
public import proofs.«01_k».proof.Proof.WordFrame
public import Idealize.ShloMosaic.Lib.Quiescent
public import Idealize.ShloMosaic.Adequacy
public import Idealize.ShloMosaic.Init

public import proofs.«01_k».proof.Proof.ProjValue
public import proofs.«01_k».proof.Proof.ShiftValue
public import proofs.«01_k».proof.Proof.SampleProjValue
public import proofs.«01_k».proof.Proof.SampleFfnValue
public import proofs.«01_k».proof.Proof.OutValue
public import proofs.«01_k».proof.Proof.SampleScanValue
@[expose] public section

noncomputable section

namespace Cert.Proof

open Idealize.ShloMosaic Idealize.SL.Sem Cert.Kernel

/-- The scan's reference runs and leaves its arguments unchanged. -/
theorem quiescent_ReferenceIdeal : quiescent_ReferenceIdeal := fun m ρ _ =>
  (θ_run Cert.ReferenceIdeal.defs _ _).mono (fun r h => ⟨fun c => (h c).2.2, sem_eq_zero_of_no_sems (by decide) r.2⟩)
    (Cert.ReferenceIdeal.StepRun.run_iter (F := Ideal) m ρ
      (fun c => Cert.KernelIdeal.Scan.trips (Cert.ReferenceIdeal.StepRun.initState m c)) (fun _ => rfl) (fun _ _ => rfl))

/-- The scan's kernel and its reference end with the same outputs and the same final state. -/
theorem algebraic_KernelIdeal_ReferenceIdeal : algebraic_KernelIdeal_ReferenceIdeal := by
  intro m ρ m' ρ' _ hagree
  have hframe := (θ_run Cert.KernelIdeal.defs _ _).mono (fun _ h => h.1) (Cert.KernelIdeal.Scan.frame (F := Ideal) m ρ)
  have hval := Cert.KernelIdeal.Scan.run_value m ρ
    (fun c => Cert.KernelIdeal.Scan.trips (Cert.ReferenceIdeal.Step.init (Cert.KernelIdeal.Scan.q6 m c) (Cert.KernelIdeal.Scan.q0 m c) (Cert.KernelIdeal.Scan.q1 m c)
      (Cert.KernelIdeal.Scan.q2 m c) (Cert.KernelIdeal.Scan.q3 m c) (Cert.KernelIdeal.Scan.q4 m c) (Cert.KernelIdeal.Scan.q5 m c)))
    (fun c => ⟨rfl, fun _ => rfl⟩)
  refine ⟨_, _, (θ_run Cert.KernelIdeal.defs _ _).mono (fun _ h c => ⟨(h.1 c).1, (h.1 c).2, h.2 c⟩) (θ_run_and hval hframe), ?_⟩
  refine (θ_run Cert.ReferenceIdeal.defs _ _).mono (fun _ h c => ⟨(h c).1.trans ?_, (h c).2⟩)
    (Cert.ReferenceIdeal.StepRun.run_iter (F := Ideal) m' ρ' _ (fun c => ?_) (fun _ _ => rfl))
  · obtain ⟨e0, e1, e2, e3, e4, e5, e6, e7, e8, e9⟩ := hagree c
    unfold Cert.ReferenceIdeal.StepRun.initState
    rw [e0, e1, e2, e3, e4, e5, e6]
    rfl
  · obtain ⟨e0, e1, e2, e3, e4, e5, e6, e7, e8, e9⟩ := hagree c
    rw [e0, e2, e5, e7, e8, e9]

/-- The feed-forward part's reference runs and leaves its arguments unchanged. -/
theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The feed-forward part's kernel and its reference end with the same output. -/
theorem algebraic_Kernel2Ideal_Reference2Ideal : algebraic_Kernel2Ideal_Reference2Ideal := by
  intro m ρ m' ρ' _ hagree
  refine ⟨_, Cert.Kernel2Ideal.Value.run (F := Ideal) m ρ, ?_⟩
  refine (θ_run Cert.Reference2Ideal.defs _ _).mono (fun _ h c => ⟨?_, (h c).2⟩) (Cert.Reference2Ideal.Value.run (F := Ideal) m' ρ')
  rw [(h c).1]
  rw [Cert.Reference2Ideal.Read.val_main_v31_eq, ← Cert.Kernel2Ideal.Value.final6, Cert.Kernel2Ideal.Ffn.final]
  simp only [hagree c]

/-- The input projection of the prompt: the reference runs and leaves its arguments unchanged. -/
theorem quiescent_Reference3Ideal : quiescent_Reference3Ideal := fun m ρ _ =>
  (θ_run Cert.Reference3Ideal.defs _ _).mono (fun r h => ⟨fun c => (h c).2.2.2.2.2.2.2, sem_eq_zero_of_no_sems (by decide) r.2⟩)
    (Cert.Reference3Ideal.Value.run (F := Ideal) m ρ)

/-- The input projection of the prompt: the kernel and its reference end with the same results. -/
theorem algebraic_Kernel3Ideal_Reference3Ideal : algebraic_Kernel3Ideal_Reference3Ideal := by
  intro m ρ m' ρ' _ hagree
  have hframe := Cert.Kernel3Ideal.Gen.unchanged (F := Ideal) m ρ
  have hval := Cert.Kernel3Ideal.Proj.run_value m ρ
  refine ⟨_, _, _, _, _, _, _, (θ_run Cert.Kernel3Ideal.defs _ _).mono (fun _ h c => ⟨(h.1 c).1, (h.1 c).2.1, (h.1 c).2.2.1, (h.1 c).2.2.2.1, (h.1 c).2.2.2.2.1, (h.1 c).2.2.2.2.2.1, (h.1 c).2.2.2.2.2.2, h.2 c⟩) (θ_run_and hval hframe), ?_⟩
  refine (θ_run Cert.Reference3Ideal.defs _ _).mono (fun _ h c => ⟨?_, ?_, ?_, ?_, ?_, ?_, ?_, (h c).2.2.2.2.2.2.2⟩) (Cert.Reference3Ideal.Value.run (F := Ideal) m' ρ')
  · rw [(h c).1, Cert.Reference3Ideal.Read.val_main_v18_eq]
    simp only [hagree c]
  · rw [(h c).2.1, Cert.Reference3Ideal.Read.val_main_v20_eq]
    simp only [hagree c]
  · rw [(h c).2.2.1, Cert.Reference3Ideal.Read.val_main_v23_eq]
    simp only [hagree c]
  · rw [(h c).2.2.2.1, Cert.Reference3Ideal.Read.val_main_v24_eq]
    simp only [hagree c]
  · rw [(h c).2.2.2.2.1, Cert.Reference3Ideal.Read.val_main_v25_eq]
    simp only [hagree c]
  · rw [(h c).2.2.2.2.2.1, Cert.Reference3Ideal.Read.val_main_v26_eq]
    simp only [hagree c]
  · rw [(h c).2.2.2.2.2.2.1, Cert.Reference3Ideal.Read.val_main_v27_eq]
    simp only [hagree c]

/-- The shift state: the reference runs and leaves its arguments unchanged. -/
theorem quiescent_Reference4Ideal : quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

/-- The shift state: the kernel and its reference end with the same results. -/
theorem algebraic_Kernel4Ideal_Reference4Ideal : algebraic_Kernel4Ideal_Reference4Ideal := by
  intro m ρ m' ρ' _ hagree
  have hframe := Cert.Kernel4Ideal.Gen.unchanged (F := Ideal) m ρ
  have hval := Cert.Kernel4Ideal.Shift.run_value m ρ
  refine ⟨_, _, (θ_run Cert.Kernel4Ideal.defs _ _).mono (fun _ h c => ⟨(h.1 c).1, (h.1 c).2, h.2 c⟩) (θ_run_and hval hframe), ?_⟩
  refine (θ_run Cert.Reference4Ideal.defs _ _).mono (fun _ h c => ⟨?_, ?_, (h c).2.2⟩) (Cert.Reference4Ideal.Value.run (F := Ideal) m' ρ')
  · rw [(h c).1, Cert.Reference4Ideal.Read.val_main_v13_eq]
    simp only [hagree c]
  · rw [(h c).2.1, Cert.Reference4Ideal.Read.val_main_v28_eq]
    simp only [hagree c]

/-- The input projection of the sample step: the reference runs and leaves its arguments unchanged. -/
theorem quiescent_Reference5Ideal : quiescent_Reference5Ideal := fun m ρ _ =>
  (θ_run Cert.Reference5Ideal.defs _ _).mono (fun r h => ⟨fun c => (h c).2.2.2.2.2.2.2.2.2, sem_eq_zero_of_no_sems (by decide) r.2⟩)
    (Cert.Reference5Ideal.Value.run (F := Ideal) m ρ)

/-- The input projection of the sample step: the kernel and its reference end with the same results. -/
theorem algebraic_Kernel5Ideal_Reference5Ideal : algebraic_Kernel5Ideal_Reference5Ideal := by
  intro m ρ m' ρ' _ hagree
  have hframe := Cert.Kernel5Ideal.Gen.unchanged (F := Ideal) m ρ
  have hval := Cert.Kernel5Ideal.SProj.run_value m ρ
  refine ⟨_, _, _, _, _, _, _, _, _, (θ_run Cert.Kernel5Ideal.defs _ _).mono (fun _ h c => ⟨(h.1 c).1, (h.1 c).2.1, (h.1 c).2.2.1, (h.1 c).2.2.2.1, (h.1 c).2.2.2.2.1, (h.1 c).2.2.2.2.2.1, (h.1 c).2.2.2.2.2.2.1, (h.1 c).2.2.2.2.2.2.2.1, (h.1 c).2.2.2.2.2.2.2.2, h.2 c⟩) (θ_run_and hval hframe), ?_⟩
  refine (θ_run Cert.Reference5Ideal.defs _ _).mono (fun _ h c => ⟨?_, ?_, ?_, ?_, ?_, ?_, ?_, ?_, ?_, (h c).2.2.2.2.2.2.2.2.2⟩) (Cert.Reference5Ideal.Value.run (F := Ideal) m' ρ')
  · rw [(h c).1, Cert.Reference5Ideal.Read.val_main_v7_eq]
    simp only [hagree c]
  · rw [(h c).2.1, Cert.Reference5Ideal.Read.val_main_v9_eq]
    simp only [hagree c]
  · rw [(h c).2.2.1, Cert.Reference5Ideal.Read.val_main_v13_eq]
    simp only [hagree c]
  · rw [(h c).2.2.2.1, Cert.Reference5Ideal.Read.val_main_v14_eq]
    simp only [hagree c]
  · rw [(h c).2.2.2.2.1, Cert.Reference5Ideal.Read.val_main_v15_eq]
    simp only [hagree c]
  · rw [(h c).2.2.2.2.2.1, Cert.Reference5Ideal.Read.val_main_v16_eq]
    simp only [hagree c]
  · rw [(h c).2.2.2.2.2.2.1, Cert.Reference5Ideal.Read.val_main_v17_eq]
    simp only [hagree c]
  · rw [(h c).2.2.2.2.2.2.2.1, Cert.Reference5Ideal.Read.val_main_v18_eq]
    simp only [hagree c]
  · rw [(h c).2.2.2.2.2.2.2.2.1, Cert.Reference5Ideal.Read.val_main_v19_eq]
    simp only [hagree c]

/-- The feed-forward part of the sample step: the reference runs and leaves its arguments unchanged. -/
theorem quiescent_Reference6Ideal : quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The feed-forward part of the sample step: the kernel and its reference end with the same result. -/
theorem algebraic_Kernel6Ideal_Reference6Ideal : algebraic_Kernel6Ideal_Reference6Ideal := by
  intro m ρ m' ρ' _ hagree
  refine ⟨_, Cert.Kernel6Ideal.Value.run (F := Ideal) m ρ, ?_⟩
  refine (θ_run Cert.Reference6Ideal.defs _ _).mono (fun _ h c => ⟨?_, (h c).2⟩) (Cert.Reference6Ideal.Value.run (F := Ideal) m' ρ')
  rw [(h c).1]
  rw [Cert.Reference6Ideal.Read.val_main_v31_eq, ← Cert.Kernel6Ideal.Value.final6, Cert.Kernel6Ideal.Ffn.final]
  simp only [hagree c]

/-- The output projection: the reference runs and leaves its arguments unchanged. -/
theorem quiescent_Reference7Ideal : quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The output projection: the kernel and its reference end with the same result. -/
theorem algebraic_Kernel7Ideal_Reference7Ideal : algebraic_Kernel7Ideal_Reference7Ideal := by
  intro m ρ m' ρ' _ hagree
  refine ⟨_, Cert.Kernel7Ideal.Value.run (F := Ideal) m ρ, ?_⟩
  refine (θ_run Cert.Reference7Ideal.defs _ _).mono (fun _ h c => ⟨?_, (h c).2⟩) (Cert.Reference7Ideal.Value.run (F := Ideal) m' ρ')
  rw [(h c).1]
  rw [Cert.Reference7Ideal.Read.val_main_v4_eq, ← Cert.Kernel7Ideal.Value.final5, Cert.Kernel7Ideal.Out.final]
  simp only [hagree c]

/-- The sample step's recurrence: the reference runs and leaves its arguments unchanged. -/
theorem quiescent_Reference8Ideal : quiescent_Reference8Ideal := fun m ρ _ =>
  (θ_run Cert.Reference8Ideal.defs _ _).mono (fun r h => ⟨fun c => (h c).2.2, sem_eq_zero_of_no_sems (by decide) r.2⟩)
    (Cert.Reference8Ideal.Value.run (F := Ideal) m ρ)

/-- The sample step's recurrence: the kernel and its reference end with the same output and the same state. -/
theorem algebraic_Kernel8Ideal_Reference8Ideal : algebraic_Kernel8Ideal_Reference8Ideal := by
  intro m ρ m' ρ' _ hagree
  have hframe := Cert.Kernel8Ideal.Gen.unchanged (F := Ideal) m ρ
  have hval := Cert.Kernel8Ideal.SScan.run_value m ρ
  refine ⟨_, _, (θ_run Cert.Kernel8Ideal.defs _ _).mono (fun _ h c => ⟨(h.1 c).1, (h.1 c).2, h.2 c⟩) (θ_run_and hval hframe), ?_⟩
  refine (θ_run Cert.Reference8Ideal.defs _ _).mono (fun _ h c => ⟨?_, ?_, (h c).2.2⟩) (Cert.Reference8Ideal.Value.run (F := Ideal) m' ρ')
  · rw [(h c).1, Cert.Reference8Ideal.Read.val_main_v68_eq]
    simp only [hagree c]
  · rw [(h c).2.1, Cert.Reference8Ideal.Read.val_main_v31_eq]
    simp only [hagree c]

/-- The output projection of the sample step: the reference runs and leaves its arguments unchanged. -/
theorem quiescent_Reference9Ideal : quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- The output projection of the sample step: the kernel and its reference end with the same result. -/
theorem algebraic_Kernel9Ideal_Reference9Ideal : algebraic_Kernel9Ideal_Reference9Ideal := by
  intro m ρ m' ρ' _ hagree
  refine ⟨_, Cert.Kernel9Ideal.Value.run (F := Ideal) m ρ, ?_⟩
  refine (θ_run Cert.Reference9Ideal.defs _ _).mono (fun _ h c => ⟨?_, (h c).2⟩) (Cert.Reference9Ideal.Value.run (F := Ideal) m' ρ')
  rw [(h c).1]
  rw [Cert.Reference9Ideal.Read.val_main_v4_eq, ← Cert.Kernel9Ideal.Value.final5, Cert.Kernel9Ideal.Out.final]
  simp only [hagree c]

/-- The gates of the sample step: the reference runs and leaves its arguments unchanged. -/
theorem quiescent_Reference10Ideal : quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

/-- The gates of the sample step: the kernel and its reference end with the same result. -/
theorem algebraic_Kernel10Ideal_Reference10Ideal : algebraic_Kernel10Ideal_Reference10Ideal := by
  intro m ρ m' ρ' _ hagree
  have hframe := Cert.Kernel10Ideal.Gen.unchanged (F := Ideal) m ρ
  have hval := Cert.Kernel10Ideal.Combine.run_value m ρ
  refine ⟨_, (θ_run Cert.Kernel10Ideal.defs _ _).mono (fun _ h c => ⟨h.1 c, h.2 c⟩) (θ_run_and hval hframe), ?_⟩
  refine (θ_run Cert.Reference10Ideal.defs _ _).mono (fun _ h c => ⟨?_, (h c).2⟩) (Cert.Reference10Ideal.Value.run (F := Ideal) m' ρ')
  rw [(h c).1, Cert.Reference10Ideal.Read.val_main_v22_eq]
  simp only [hagree c]

/-- The compression's first product: the reference runs and leaves its arguments unchanged. -/
theorem quiescent_Reference11Ideal : quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

/-- The compression's first product: the kernel and its reference end with the same result. -/
theorem algebraic_Kernel11Ideal_Reference11Ideal : algebraic_Kernel11Ideal_Reference11Ideal := by
  intro m ρ m' ρ' _ hagree
  refine ⟨_, Cert.Kernel11Ideal.Value.run_blocks (F := Ideal) m ρ, ?_⟩
  refine (θ_run Cert.Reference11Ideal.defs _ _).mono (fun _ h c => ⟨?_, (h c).2⟩) (Cert.Reference11Ideal.Value.run (F := Ideal) m' ρ')
  rw [(h c).1, Cert.Reference11Ideal.Read.val_main_v5_eq]
  refine Eq.trans ?_ (Cert.Kernel11Ideal.CmpPart.final m c).symm
  simp only [hagree c]

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts,
  fun m ρ _ => Cert.Kernel.Scan.frame (F := Bits) m ρ, fun m ρ _ => Cert.KernelIdeal.Scan.frame (F := Ideal) m ρ, quiescent_ReferenceIdeal,
  fun m ρ _ => Cert.Kernel2.Gen.frame m ρ, fun m ρ _ => Cert.Kernel2Ideal.Gen.frame m ρ, quiescent_Reference2Ideal,
  fun m ρ _ => Cert.Kernel3.Gen.frame m ρ, fun m ρ _ => Cert.Kernel3Ideal.Gen.frame m ρ, quiescent_Reference3Ideal,
  fun m ρ _ => Cert.Kernel4.Gen.frame m ρ, fun m ρ _ => Cert.Kernel4Ideal.Gen.frame m ρ, quiescent_Reference4Ideal,
  fun m ρ _ => Cert.Kernel5.Gen.frame m ρ, fun m ρ _ => Cert.Kernel5Ideal.Gen.frame m ρ, quiescent_Reference5Ideal,
  fun m ρ _ => Cert.Kernel6.Gen.frame m ρ, fun m ρ _ => Cert.Kernel6Ideal.Gen.frame m ρ, quiescent_Reference6Ideal,
  fun m ρ _ => Cert.Kernel7.Gen.frame m ρ, fun m ρ _ => Cert.Kernel7Ideal.Gen.frame m ρ, quiescent_Reference7Ideal,
  fun m ρ _ => Cert.Kernel8.Gen.frame m ρ, fun m ρ _ => Cert.Kernel8Ideal.Gen.frame m ρ, quiescent_Reference8Ideal,
  fun m ρ _ => Cert.Kernel9.Gen.frame m ρ, fun m ρ _ => Cert.Kernel9Ideal.Gen.frame m ρ, quiescent_Reference9Ideal,
  fun m ρ _ => Cert.Kernel10.Gen.frame m ρ, fun m ρ _ => Cert.Kernel10Ideal.Gen.frame m ρ, quiescent_Reference10Ideal,
  fun m ρ _ => Cert.Kernel11.Gen.frame m ρ, fun m ρ _ => Cert.Kernel11Ideal.Gen.frame m ρ, quiescent_Reference11Ideal,
  (trivial : preserves_Kernel_KernelIdeal), algebraic_KernelIdeal_ReferenceIdeal,
  (trivial : preserves_Kernel2_Kernel2Ideal), algebraic_Kernel2Ideal_Reference2Ideal,
  (trivial : preserves_Kernel3_Kernel3Ideal), algebraic_Kernel3Ideal_Reference3Ideal,
  (trivial : preserves_Kernel4_Kernel4Ideal), algebraic_Kernel4Ideal_Reference4Ideal,
  (trivial : preserves_Kernel5_Kernel5Ideal), algebraic_Kernel5Ideal_Reference5Ideal,
  (trivial : preserves_Kernel6_Kernel6Ideal), algebraic_Kernel6Ideal_Reference6Ideal,
  (trivial : preserves_Kernel7_Kernel7Ideal), algebraic_Kernel7Ideal_Reference7Ideal,
  (trivial : preserves_Kernel8_Kernel8Ideal), algebraic_Kernel8Ideal_Reference8Ideal,
  (trivial : preserves_Kernel9_Kernel9Ideal), algebraic_Kernel9Ideal_Reference9Ideal,
  (trivial : preserves_Kernel10_Kernel10Ideal), algebraic_Kernel10Ideal_Reference10Ideal,
  (trivial : preserves_Kernel11_Kernel11Ideal), algebraic_Kernel11Ideal_Reference11Ideal⟩

end Cert.Proof

end
